-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3)
      ∧ r.2.mem ((c.tc : Thread Cert.MemKernel.nD Cert.MemKernel.τ).loc Cert.MemKernel.main_arg4) = m ((c.tc : Thread Cert.MemKernel.nD Cert.MemKernel.τ).loc Cert.MemKernel.main_arg4))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
      ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def preserves_Kernel_KernelIdeal : Prop :=
  IdealRules.named_const.Statement Cert.KernelIdeal.κ "scale_log2e" .f32 0x3E16C740#32 ((((Real.sqrt 96) * (Real.log 2))⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)
      ∧ m' ((c.tc : Thread Cert.MemReferenceIdeal.nD Cert.MemReferenceIdeal.τ).loc Cert.MemReferenceIdeal.main_arg4) = m ((c.tc : Thread Cert.MemKernelIdeal.nD Cert.MemKernelIdeal.τ).loc Cert.MemKernelIdeal.main_arg4)) →
    ∃ (v0 : (c : Dev Cert.MemKernelIdeal.nD) → Buf (Elt Ideal) ((c.tc : Thread Cert.MemKernelIdeal.nD Cert.MemKernelIdeal.τ).loc Cert.MemKernelIdeal.main_v11)) (v1 : (c : Dev Cert.MemKernelIdeal.nD) → Buf (Elt Ideal) ((c.tc : Thread Cert.MemKernelIdeal.nD Cert.MemKernelIdeal.τ).loc Cert.MemKernelIdeal.main_v13)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v11) = v0 c
          ∧ r.2.mem ((c.tc : Thread Cert.MemKernelIdeal.nD Cert.MemKernelIdeal.τ).loc Cert.MemKernelIdeal.main_v13) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
          ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v34) = v0 c
          ∧ r.2.mem ((c.tc : Thread Cert.MemReferenceIdeal.nD Cert.MemReferenceIdeal.τ).loc Cert.MemReferenceIdeal.main_v35) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4))

def preserves_InKernel_InKernelIdeal : Prop :=
  IdealRules.named_const.Statement Cert.InKernelIdeal.κ "sqrt_half" .f32 0x3F3504F3#32 (((Real.sqrt 2)⁻¹ : ℝ) : EReal)

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)) →
    ∃ (v0 : (c : Dev Cert.InKernelIdeal.nD) → Buf (Elt Ideal) ((c.tc : Thread Cert.InKernelIdeal.nD Cert.InKernelIdeal.τ).loc Cert.InKernelIdeal.main_v64)) (v1 : (c : Dev Cert.InKernelIdeal.nD) → Buf (Elt Ideal) ((c.tc : Thread Cert.InKernelIdeal.nD Cert.InKernelIdeal.τ).loc Cert.InKernelIdeal.main_v66)) (v2 : (c : Dev Cert.InKernelIdeal.nD) → Buf (Elt Ideal) ((c.tc : Thread Cert.InKernelIdeal.nD Cert.InKernelIdeal.τ).loc Cert.InKernelIdeal.main_v69)) (v3 : (c : Dev Cert.InKernelIdeal.nD) → Buf (Elt Ideal) ((c.tc : Thread Cert.InKernelIdeal.nD Cert.InKernelIdeal.τ).loc Cert.InKernelIdeal.main_v70)) (v4 : (c : Dev Cert.InKernelIdeal.nD) → Buf (Elt Ideal) ((c.tc : Thread Cert.InKernelIdeal.nD Cert.InKernelIdeal.τ).loc Cert.InKernelIdeal.main_v71)) (v5 : (c : Dev Cert.InKernelIdeal.nD) → Buf (Elt Ideal) ((c.tc : Thread Cert.InKernelIdeal.nD Cert.InKernelIdeal.τ).loc Cert.InKernelIdeal.main_v72)) (v6 : (c : Dev Cert.InKernelIdeal.nD) → Buf (Elt Ideal) ((c.tc : Thread Cert.InKernelIdeal.nD Cert.InKernelIdeal.τ).loc Cert.InKernelIdeal.main_v73)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v64) = v0 c
          ∧ r.2.mem ((c.tc : Thread Cert.InKernelIdeal.nD Cert.InKernelIdeal.τ).loc Cert.InKernelIdeal.main_v66) = v1 c
          ∧ r.2.mem ((c.tc : Thread Cert.InKernelIdeal.nD Cert.InKernelIdeal.τ).loc Cert.InKernelIdeal.main_v69) = v2 c
          ∧ r.2.mem ((c.tc : Thread Cert.InKernelIdeal.nD Cert.InKernelIdeal.τ).loc Cert.InKernelIdeal.main_v70) = v3 c
          ∧ r.2.mem ((c.tc : Thread Cert.InKernelIdeal.nD Cert.InKernelIdeal.τ).loc Cert.InKernelIdeal.main_v71) = v4 c
          ∧ r.2.mem ((c.tc : Thread Cert.InKernelIdeal.nD Cert.InKernelIdeal.τ).loc Cert.InKernelIdeal.main_v72) = v5 c
          ∧ r.2.mem ((c.tc : Thread Cert.InKernelIdeal.nD Cert.InKernelIdeal.τ).loc Cert.InKernelIdeal.main_v73) = v6 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v38) = v0 c
          ∧ r.2.mem ((c.tc : Thread Cert.InReferenceIdeal.nD Cert.InReferenceIdeal.τ).loc Cert.InReferenceIdeal.main_v53) = v1 c
          ∧ r.2.mem ((c.tc : Thread Cert.InReferenceIdeal.nD Cert.InReferenceIdeal.τ).loc Cert.InReferenceIdeal.main_v97) = v2 c
          ∧ r.2.mem ((c.tc : Thread Cert.InReferenceIdeal.nD Cert.InReferenceIdeal.τ).loc Cert.InReferenceIdeal.main_v107) = v3 c
          ∧ r.2.mem ((c.tc : Thread Cert.InReferenceIdeal.nD Cert.InReferenceIdeal.τ).loc Cert.InReferenceIdeal.main_v131) = v4 c
          ∧ r.2.mem ((c.tc : Thread Cert.InReferenceIdeal.nD Cert.InReferenceIdeal.τ).loc Cert.InReferenceIdeal.main_v138) = v5 c
          ∧ r.2.mem ((c.tc : Thread Cert.InReferenceIdeal.nD Cert.InReferenceIdeal.τ).loc Cert.InReferenceIdeal.main_v145) = v6 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v18)) (v1 : (c : Dev Cert.MergeKernelIdeal.nD) → Buf (Elt Ideal) ((c.tc : Thread Cert.MergeKernelIdeal.nD Cert.MergeKernelIdeal.τ).loc Cert.MergeKernelIdeal.main_v19)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v18) = v0 c
          ∧ r.2.mem ((c.tc : Thread Cert.MergeKernelIdeal.nD Cert.MergeKernelIdeal.τ).loc Cert.MergeKernelIdeal.main_v19) = v1 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v6) = v0 c
          ∧ r.2.mem ((c.tc : Thread Cert.MergeReferenceIdeal.nD Cert.MergeReferenceIdeal.τ).loc Cert.MergeReferenceIdeal.main_v38) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v10)) (v1 : (c : Dev Cert.OutKernelIdeal.nD) → Buf (Elt Ideal) ((c.tc : Thread Cert.OutKernelIdeal.nD Cert.OutKernelIdeal.τ).loc Cert.OutKernelIdeal.main_v11)) (v2 : (c : Dev Cert.OutKernelIdeal.nD) → Buf (Elt Ideal) ((c.tc : Thread Cert.OutKernelIdeal.nD Cert.OutKernelIdeal.τ).loc Cert.OutKernelIdeal.main_v12)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v10) = v0 c
          ∧ r.2.mem ((c.tc : Thread Cert.OutKernelIdeal.nD Cert.OutKernelIdeal.τ).loc Cert.OutKernelIdeal.main_v11) = v1 c
          ∧ r.2.mem ((c.tc : Thread Cert.OutKernelIdeal.nD Cert.OutKernelIdeal.τ).loc Cert.OutKernelIdeal.main_v12) = v2 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_v17) = v1 c
          ∧ r.2.mem ((c.tc : Thread Cert.OutReferenceIdeal.nD Cert.OutReferenceIdeal.τ).loc Cert.OutReferenceIdeal.main_v20) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def Claim : Prop :=
  ∃ (hKernel : Cert.Kernel.Facts) (hKernelIdeal : Cert.KernelIdeal.Facts) (hReferenceIdeal : Cert.ReferenceIdeal.Facts) (hMemKernel : Cert.MemKernel.Facts) (hMemKernelIdeal : Cert.MemKernelIdeal.Facts) (hMemReferenceIdeal : Cert.MemReferenceIdeal.Facts) (hInKernel : Cert.InKernel.Facts) (hInKernelIdeal : Cert.InKernelIdeal.Facts) (hInReferenceIdeal : Cert.InReferenceIdeal.Facts) (hMergeKernel : Cert.MergeKernel.Facts) (hMergeKernelIdeal : Cert.MergeKernelIdeal.Facts) (hMergeReferenceIdeal : Cert.MergeReferenceIdeal.Facts) (hOutKernel : Cert.OutKernel.Facts) (hOutKernelIdeal : Cert.OutKernelIdeal.Facts) (hOutReferenceIdeal : Cert.OutReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MemKernel_MemKernelIdeal
    ∧ algebraic_MemKernelIdeal_MemReferenceIdeal (hMemKernelIdeal := hMemKernelIdeal) (hMemReferenceIdeal := hMemReferenceIdeal)
    ∧ preserves_InKernel_InKernelIdeal
    ∧ algebraic_InKernelIdeal_InReferenceIdeal (hInKernelIdeal := hInKernelIdeal) (hInReferenceIdeal := hInReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_OutKernel_OutKernelIdeal
    ∧ algebraic_OutKernelIdeal_OutReferenceIdeal (hOutKernelIdeal := hOutKernelIdeal) (hOutReferenceIdeal := hOutReferenceIdeal)
-- ==== Pre_finite.lean ====
abbrev S4x4096x16x64 : Shape := ⟨4, ![4, 4096, 16, 64]⟩
abbrev S4x4096x16x32 : Shape := ⟨4, ![4, 4096, 16, 32]⟩
abbrev S4x4096x32 : Shape := ⟨3, ![4, 4096, 32]⟩
abbrev S64 : Shape := ⟨1, ![64]⟩
abbrev S32 : Shape := ⟨1, ![32]⟩
abbrev S_ : Shape := ⟨0, ![]⟩

class Facts : Prop where
  bcast_S_S4x4096x16x64 : S_.BroadcastsInDim S4x4096x16x64 (![] : Fin 0 → Fin S4x4096x16x64.rank)
  bcast_S_S4x4096x16x32 : S_.BroadcastsInDim S4x4096x16x32 (![] : Fin 0 → Fin S4x4096x16x32.rank)
  bcast_S_S4x4096x32 : S_.BroadcastsInDim S4x4096x32 (![] : Fin 0 → Fin S4x4096x32.rank)
  bcast_S_S64 : S_.BroadcastsInDim S64 (![] : Fin 0 → Fin S64.rank)
  bcast_S_S32 : S_.BroadcastsInDim S32 (![] : Fin 0 → Fin S32.rank)

variable [Facts]

def fn_part1 {F : FTy → Type} [FloatOps F] (main_arg6 : FVec F S32 .f32) (main_arg7 : FVec F S64 .f32) (main_arg8 : FVec F S32 .f32) (main_v2 : IVec S4x4096x16x64 1) (main_v5 : IVec S4x4096x16x32 1) (main_v8 : IVec S4x4096x16x64 1) (main_v11 : IVec S4x4096x32 1) (main_v14 : IVec S4x4096x16x64 1) (main_v17 : IVec S64 1) : IVec S4x4096x16x64 1 × IVec S4x4096x16x32 1 × IVec S4x4096x16x64 1 × IVec S4x4096x32 1 × IVec S4x4096x16x64 1 × IVec S64 1 × IVec S32 1 × IVec S64 1 × IVec S32 1 :=
  let main_v18 : FVec F S32 .f32 := Host.absf main_arg6
  let main_cst_5 : FVec F S_ .f32 := constant S_ .f32 0x7F800000#32
  let main_v19 : FVec F S32 .f32 := broadcastInDim S32 ![] bcast_S_S32 main_cst_5
  let main_v20 : IVec S32 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S32 .f32 := Host.absf main_arg8
  let main_cst_7 : FVec F S_ .f32 := constant S_ .f32 0x7F800000#32
  let main_v25 : FVec F S32 .f32 := broadcastInDim S32 ![] bcast_S_S32 main_cst_7
  let main_v26 : IVec S32 1 := cmpf .olt main_v24 main_v25
  (main_v2, main_v5, main_v8, main_v11, main_v14, main_v17, main_v20, main_v23, main_v26)

def fn {F : FTy → Type} [FloatOps F] (main_arg0 : FVec F S4x4096x16x64 .f32) (main_arg1 : FVec F S4x4096x16x32 .f32) (main_arg2 : FVec F S4x4096x16x64 .f32) (main_arg3 : FVec F S4x4096x32 .f32) (main_arg4 : FVec F S4x4096x16x64 .f32) (main_arg5 : FVec F S64 .f32) (main_arg6 : FVec F S32 .f32) (main_arg7 : FVec F S64 .f32) (main_arg8 : FVec F S32 .f32) : IVec S4x4096x16x64 1 × IVec S4x4096x16x32 1 × IVec S4x4096x16x64 1 × IVec S4x4096x32 1 × IVec S4x4096x16x64 1 × IVec S64 1 × IVec S32 1 × IVec S64 1 × IVec S32 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_v3 : FVec F S4x4096x16x32 .f32 := Host.absf main_arg1
  let main_cst_0 : FVec F S_ .f32 := constant S_ .f32 0x7F800000#32
  let main_v4 : FVec F S4x4096x16x32 .f32 := broadcastInDim S4x4096x16x32 ![] bcast_S_S4x4096x16x32 main_cst_0
  let main_v5 : IVec S4x4096x16x32 1 := cmpf .olt main_v3 main_v4
  let main_v6 : FVec F S4x4096x16x64 .f32 := Host.absf main_arg2
  let main_cst_1 : FVec F S_ .f32 := constant S_ .f32 0x7F800000#32
  let main_v7 : FVec F S4x4096x16x64 .f32 := broadcastInDim S4x4096x16x64 ![] bcast_S_S4x4096x16x64 main_cst_1
  let main_v8 : IVec S4x4096x16x64 1 := cmpf .olt main_v6 main_v7
  let main_v9 : FVec F S4x4096x32 .f32 := Host.absf main_arg3
  let main_cst_2 : FVec F S_ .f32 := constant S_ .f32 0x7F800000#32
  let main_v10 : FVec F S4x4096x32 .f32 := broadcastInDim S4x4096x32 ![] bcast_S_S4x4096x32 main_cst_2
  let main_v11 : IVec S4x4096x32 1 := cmpf .olt main_v9 main_v10
  let main_v12 : FVec F S4x4096x16x64 .f32 := Host.absf main_arg4
  let main_cst_3 : FVec F S_ .f32 := constant S_ .f32 0x7F800000#32
  let main_v13 : FVec F S4x4096x16x64 .f32 := broadcastInDim S4x4096x16x64 ![] bcast_S_S4x4096x16x64 main_cst_3
  let main_v14 : IVec S4x4096x16x64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_v2 main_v5 main_v8 main_v11 main_v14 main_v17
-- ==== Kernel.lean ====
abbrev S4x4096x16x64 : Shape := ⟨4, ![4, 4096, 16, 64]⟩
abbrev S4x4096x16x32 : Shape := ⟨4, ![4, 4096, 16, 32]⟩
abbrev S4x4096x32 : Shape := ⟨3, ![4, 4096, 32]⟩
abbrev S64 : Shape := ⟨1, ![64]⟩
abbrev S32 : Shape := ⟨1, ![32]⟩
abbrev S_ : Shape := ⟨0, ![]⟩
abbrev S128 : Shape := ⟨1, ![128]⟩
abbrev S1x128 : Shape := ⟨2, ![1, 128]⟩
abbrev S4x4096x16x128 : Shape := ⟨4, ![4, 4096, 16, 128]⟩
abbrev S4x4096x2048 : Shape := ⟨3, ![4, 4096, 2048]⟩
abbrev S4x4096x1x32 : Shape := ⟨4, ![4, 4096, 1, 32]⟩
abbrev S4x4096x8x2x64 : Shape := ⟨5, ![4, 4096, 8, 2, 64]⟩
abbrev S4x4096x8x64 : Shape := ⟨4, ![4, 4096, 8, 64]⟩
abbrev S4x4096x8x1x64 : Shape := ⟨5, ![4, 4096, 8, 1, 64]⟩
abbrev S4x4096x8x256 : Shape := ⟨4, ![4, 4096, 8, 256]⟩
abbrev S1x64 : Shape := ⟨2, ![1, 64]⟩
abbrev S1x32 : Shape := ⟨2, ![1, 32]⟩
abbrev S1 : Shape := ⟨1, ![1]⟩
abbrev S4x4096x1024 : Shape := ⟨3, ![4, 4096, 1024]⟩
abbrev S1x4096x256 : Shape := ⟨3, ![1, 4096, 256]⟩
abbrev S1x4096x128 : Shape := ⟨3, ![1, 4096, 128]⟩
abbrev S512x512 : Shape := ⟨2, ![512, 512]⟩
abbrev S1x512x256 : Shape := ⟨3, ![1, 512, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 77
  | .vmem => 8
  | .smem => 1
  | _ => 0

abbrev bufTy : (tb : Table) → Fin (tcTables nBuf tb) → BufTy
  | .hbm, ⟨0, _⟩ => ⟨S4x4096x16x64, .f32⟩
  | .hbm, ⟨1, _⟩ => ⟨S4x4096x16x32, .f32⟩
  | .hbm, ⟨2, _⟩ => ⟨S4x4096x16x64, .f32⟩
  | .hbm, ⟨3, _⟩ => ⟨S4x4096x32, .f32⟩
  | .hbm, ⟨4, _⟩ => ⟨S4x4096x16x64, .f32⟩
  | .hbm, ⟨5, _⟩ => ⟨S64, .f32⟩
  | .hbm, ⟨6, _⟩ => ⟨S32, .f32⟩
  | .hbm, ⟨7, _⟩ => ⟨S64, .f32⟩
  | .hbm, ⟨8, _⟩ => ⟨S32, .f32⟩
  | .hbm, ⟨9, _⟩ => ⟨S_, .f32⟩
  | .hbm, ⟨10, _⟩ => ⟨S128, .f32⟩
  | .hbm, ⟨11, _⟩ => ⟨S_, .i32⟩
  | .hbm, ⟨12, _⟩ => ⟨S128, .f32⟩
  | .hbm, ⟨13, _⟩ => ⟨S_, .i32⟩
  | .hbm, ⟨14, _⟩ => ⟨S128, .f32⟩
  | .hbm, ⟨15, _⟩ => ⟨S1x128, .f32⟩
  | .hbm, ⟨16, _⟩ => ⟨S_, .f32⟩
  | .hbm, ⟨17, _⟩ => ⟨S128, .f32⟩
  | .hbm, ⟨18, _⟩ => ⟨S_, .i32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S128, .f32⟩
  | .hbm, ⟨23, _⟩ => ⟨S_, .i32⟩
  | .hbm, ⟨24, _⟩ => ⟨S128, .f32⟩
  | .hbm, ⟨25, _⟩ => ⟨S1x128, .f32⟩
  | .hbm, ⟨26, _⟩ => ⟨S_, .f32⟩
  | .hbm, ⟨27, _⟩ => ⟨S4x4096x16x32, .f32⟩
  | .hbm, ⟨28, _⟩ => ⟨S4x4096x16x128, .f32⟩
  | .hbm, ⟨29, _⟩ => ⟨S4x4096x2048, .f32⟩
  | .hbm, ⟨30, _⟩ => ⟨S4x4096x2048, .bf16⟩
  | .hbm, ⟨31, _⟩ => ⟨S4x4096x1x32, .f32⟩
  | .hbm, ⟨32, _⟩ => ⟨S4x4096x16x32, .f32⟩
  | .hbm, ⟨33, _⟩ => ⟨S4x4096x16x128, .f32⟩
  | .hbm, ⟨34, _⟩ => ⟨S4x4096x2048, .f32⟩
  | .hbm, ⟨35, _⟩ => ⟨S4x4096x2048, .bf16⟩
  | .hbm, ⟨36, _⟩ => ⟨S4x4096x8x2x64, .f32⟩
  | .hbm, ⟨37, _⟩ => ⟨S_, .f32⟩
  | .hbm, ⟨38, _⟩ => ⟨S4x4096x8x64, .f32⟩
  | .hbm, ⟨39, _⟩ => ⟨S4x4096x8x1x64, .f32⟩
  | .hbm, ⟨40, _⟩ => ⟨S4x4096x8x64, .f32⟩
  | .hbm, ⟨41, _⟩ => ⟨S4x4096x8x1x64, .f32⟩
  | .hbm, ⟨42, _⟩ => ⟨S4x4096x8x64, .f32⟩
  | .hbm, ⟨43, _⟩ => ⟨S4x4096x8x256, .f32⟩
  | .hbm, ⟨44, _⟩ => ⟨S4x4096x2048, .f32⟩
  | .hbm, ⟨45, _⟩ => ⟨S4x4096x2048, .bf16⟩
  | .hbm, ⟨46, _⟩ => ⟨S1x64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1x64, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1x32, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1x32, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S4x4096x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x128, .bf16⟩
  | .local _ .vmem, ⟨7, _⟩ => ⟨S1x4096x128, .bf16⟩
  | .local _ .smem, ⟨0, _⟩ => ⟨S1, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_c_4 : Ref sig .tc := ⟨.hbm, 23, rfl⟩
abbrev main_v8 : Ref sig .tc := ⟨.hbm, 24, rfl⟩
abbrev main_v9 : Ref sig .tc := ⟨.hbm, 25, rfl⟩
abbrev main_cst_5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_15 : BitVec 32 := 0#32
  let c8_i32 : BitVec 32 := 8#32
  let v61 : BitVec 32 := Scalar.addi c0_i32_15 c8_i32
  let c1_i32_16 : BitVec 32 := 1#32
  ⟨c0_i32_15, v61, c1_i32_16⟩
def k0_mult1 (k0_t1 : Fin k0_t1_loop.trips) : BitVec 32 :=
  let c0_i32_15 : BitVec 32 := 0#32
  let c1_i32_16 : BitVec 32 := 1#32
  let arg7 : BitVec 32 := Scf.iv c0_i32_15 c1_i32_16 k0_t1
  let c512_i32 : BitVec 32 := 512#32
  let v62 : BitVec 32 := Scalar.muli arg7 c512_i32
  v62
def k0_off1 (k0_t1 : Fin k0_t1_loop.trips) : Fin 3 → Nat :=
  let c0_18 : Index := 0#32
  let c0_i32_15 : BitVec 32 := 0#32
  let c1_i32_16 : BitVec 32 := 1#32
  let arg7 : BitVec 32 := Scf.iv c0_i32_15 c1_i32_16 k0_t1
  let c512_i32 : BitVec 32 := 512#32
  let v62 : BitVec 32 := Scalar.muli arg7 c512_i32
  let v63 : BitVec 32 := v62
  let v64 : Index := Scalar.indexCast v63
  let c0_19 : Index := 0#32
  ![0, v64.toNat, 0]
@[reducible] def k0_t2_loop (k0_t1 : Fin k0_t1_loop.trips) : Scf.Loop 32 :=
  let c0_i32_27 : BitVec 32 := 0#32
  let c0_i32_15 : BitVec 32 := 0#32
  let c1_i32_16 : BitVec 32 := 1#32
  let arg7 : BitVec 32 := Scf.iv c0_i32_15 c1_i32_16 k0_t1
  let c0_i32_21 : BitVec 32 := 0#32
  let v69 : BitVec 1 := Scalar.cmpi .sgt arg7 c0_i32_21
  let v70 : BitVec 32 := Scalar.extui v69
  let c0_i32_22 : BitVec 32 := 0#32
  let v71 : BitVec 1 := Scalar.cmpi .slt arg7 c0_i32_22
  let v72 : BitVec 32 := Scalar.extui v71
  let v73 : BitVec 32 := Scalar.subi v70 v72
  let c2_i32 : BitVec 32 := 2#32
  let c0_i32_23 : BitVec 32 := 0#32
  let v74 : BitVec 1 := Scalar.cmpi .sgt c2_i32 c0_i32_23
  let v75 : BitVec 32 := Scalar.extui v74
  let c0_i32_24 : BitVec 32 := 0#32
  let v76 : BitVec 1 := Scalar.cmpi .slt c2_i32 c0_i32_24
  let v77 : BitVec 32 := Scalar.extui v76
  let v78 : BitVec 32 := Scalar.subi v75 v77
  let v79 : BitVec 1 := Scalar.cmpi .ne v73 v78
  let v80 : BitVec 32 := Scalar.remsi arg7 c2_i32
  let c0_i32_25 : BitVec 32 := 0#32
  let v81 : BitVec 1 := Scalar.cmpi .ne v80 c0_i32_25
  let v82 : BitVec 1 := Scalar.andi v79 v81
  let v68 : BitVec 32 := Scalar.divsi arg7 c2_i32
  let c1_i32_26 : BitVec 32 := 1#32
  let v83 : BitVec 32 := Scalar.subi v68 c1_i32_26
  let v84 : BitVec 32 := Scalar.select v82 v83 v68
  let v85 : BitVec 32 := Scalar.subi v84 c0_i32_27
  let c1_i32_28 : BitVec 32 := 1#32
  let v87 : BitVec 32 := Scalar.divsi v85 c1_i32_28
  let v88 : BitVec 32 := Scalar.muli v87 c1_i32_28
  let v89 : BitVec 32 := Scalar.addi c0_i32_27 v88
  let c1_i32_29 : BitVec 32 := 1#32
  ⟨c0_i32_27, v89, c1_i32_29⟩
def k0_mult2 (k0_t1 : Fin k0_t1_loop.trips) (k0_t2 : Fin (k0_t2_loop k0_t1).trips) : BitVec 32 :=
  let c2_i32_43 : BitVec 32 := 2#32
  let c0_i32_27 : BitVec 32 := 0#32
  let c1_i32_29 : BitVec 32 := 1#32
  let arg8 : BitVec 32 := Scf.iv c0_i32_27 c1_i32_29 k0_t2
  let v123 : BitVec 32 := Scalar.muli c2_i32_43 arg8
  let c512_i32_44 : BitVec 32 := 512#32
  let v124 : BitVec 32 := Scalar.muli v123 c512_i32_44
  v124
def k0_off2 (k0_t1 : Fin k0_t1_loop.trips) (k0_t2 : Fin (k0_t2_loop k0_t1).trips) : Fin 3 → Nat :=
  let c0_45 : Index := 0#32
  let c2_i32_43 : BitVec 32 := 2#32
  let c0_i32_27 : BitVec 32 := 0#32
  let c1_i32_29 : BitVec 32 := 1#32
  let arg8 : BitVec 32 := Scf.iv c0_i32_27 c1_i32_29 k0_t2
  let v123 : BitVec 32 := Scalar.muli c2_i32_43 arg8
  let c512_i32_44 : BitVec 32 := 512#32
  let v124 : BitVec 32 := Scalar.muli v123 c512_i32_44
  let v125 : BitVec 32 := v124
  let v126 : Index := Scalar.indexCast v125
  let c0_46 : Index := 0#32
  ![0, v126.toNat, 0]
def k0_mult3 (k0_t1 : Fin k0_t1_loop.trips) (k0_t2 : Fin (k0_t2_loop k0_t1).trips) : BitVec 32 :=
  let c2_i32_55 : BitVec 32 := 2#32
  let c0_i32_27 : BitVec 32 := 0#32
  let c1_i32_29 : BitVec 32 := 1#32
  let arg8 : BitVec 32 := Scf.iv c0_i32_27 c1_i32_29 k0_t2
  let v172 : BitVec 32 := Scalar.muli c2_i32_55 arg8
  let c1_i32_56 : BitVec 32 := 1#32
  let v173 : BitVec 32 := Scalar.addi v172 c1_i32_56
  let c512_i32_57 : BitVec 32 := 512#32
  let v174 : BitVec 32 := Scalar.muli v173 c512_i32_57
  v174
def k0_off3 (k0_t1 : Fin k0_t1_loop.trips) (k0_t2 : Fin (k0_t2_loop k0_t1).trips) : Fin 3 → Nat :=
  let c0_58 : Index := 0#32
  let c2_i32_55 : BitVec 32 := 2#32
  let c0_i32_27 : BitVec 32 := 0#32
  let c1_i32_29 : BitVec 32 := 1#32
  let arg8 : BitVec 32 := Scf.iv c0_i32_27 c1_i32_29 k0_t2
  let v172 : BitVec 32 := Scalar.muli c2_i32_55 arg8
  let c1_i32_56 : BitVec 32 := 1#32
  let v173 : BitVec 32 := Scalar.addi v172 c1_i32_56
  let c512_i32_57 : BitVec 32 := 512#32
  let v174 : BitVec 32 := Scalar.muli v173 c512_i32_57
  let v175 : BitVec 32 := v174
  let v176 : Index := Scalar.indexCast v175
  let c0_59 : Index := 0#32
  ![0, v176.toNat, 0]
@[reducible] def k0_t3_loop (k0_t1 : Fin k0_t1_loop.trips) : Scf.Loop 32 :=
  let c0_i32_27 : BitVec 32 := 0#32
  let c0_i32_15 : BitVec 32 := 0#32
  let c1_i32_16 : BitVec 32 := 1#32
  let arg7 : BitVec 32 := Scf.iv c0_i32_15 c1_i32_16 k0_t1
  let c0_i32_21 : BitVec 32 := 0#32
  let v69 : BitVec 1 := Scalar.cmpi .sgt arg7 c0_i32_21
  let v70 : BitVec 32 := Scalar.extui v69
  let c0_i32_22 : BitVec 32 := 0#32
  let v71 : BitVec 1 := Scalar.cmpi .slt arg7 c0_i32_22
  let v72 : BitVec 32 := Scalar.extui v71
  let v73 : BitVec 32 := Scalar.subi v70 v72
  let c2_i32 : BitVec 32 := 2#32
  let c0_i32_23 : BitVec 32 := 0#32
  let v74 : BitVec 1 := Scalar.cmpi .sgt c2_i32 c0_i32_23
  let v75 : BitVec 32 := Scalar.extui v74
  let c0_i32_24 : BitVec 32 := 0#32
  let v76 : BitVec 1 := Scalar.cmpi .slt c2_i32 c0_i32_24
  let v77 : BitVec 32 := Scalar.extui v76
  let v78 : BitVec 32 := Scalar.subi v75 v77
  let v79 : BitVec 1 := Scalar.cmpi .ne v73 v78
  let v80 : BitVec 32 := Scalar.remsi arg7 c2_i32
  let c0_i32_25 : BitVec 32 := 0#32
  let v81 : BitVec 1 := Scalar.cmpi .ne v80 c0_i32_25
  let v82 : BitVec 1 := Scalar.andi v79 v81
  let v68 : BitVec 32 := Scalar.divsi arg7 c2_i32
  let c1_i32_26 : BitVec 32 := 1#32
  let v83 : BitVec 32 := Scalar.subi v68 c1_i32_26
  let v84 : BitVec 32 := Scalar.select v82 v83 v68
  let v85 : BitVec 32 := Scalar.subi v84 c0_i32_27
  let c1_i32_28 : BitVec 32 := 1#32
  let v87 : BitVec 32 := Scalar.divsi v85 c1_i32_28
  let v88 : BitVec 32 := Scalar.muli v87 c1_i32_28
  let v89 : BitVec 32 := Scalar.addi c0_i32_27 v88
  let v86 : BitVec 32 := Scalar.addi c0_i32_27 v85
  let c1_i32_30 : BitVec 32 := 1#32
  ⟨v89, v86, c1_i32_30⟩
def k0_mult4 (k0_t1 : Fin k0_t1_loop.trips) (k0_t3 : Fin (k0_t3_loop k0_t1).trips) : BitVec 32 :=
  let c2_i32_43 : BitVec 32 := 2#32
  let c0_i32_27 : BitVec 32 := 0#32
  let c0_i32_15 : BitVec 32 := 0#32
  let c1_i32_16 : BitVec 32 := 1#32
  let arg7 : BitVec 32 := Scf.iv c0_i32_15 c1_i32_16 k0_t1
  let c0_i32_21 : BitVec 32 := 0#32
  let v69 : BitVec 1 := Scalar.cmpi .sgt arg7 c0_i32_21
  let v70 : BitVec 32 := Scalar.extui v69
  let c0_i32_22 : BitVec 32 := 0#32
  let v71 : BitVec 1 := Scalar.cmpi .slt arg7 c0_i32_22
  let v72 : BitVec 32 := Scalar.extui v71
  let v73 : BitVec 32 := Scalar.subi v70 v72
  let c2_i32 : BitVec 32 := 2#32
  let c0_i32_23 : BitVec 32 := 0#32
  let v74 : BitVec 1 := Scalar.cmpi .sgt c2_i32 c0_i32_23
  let v75 : BitVec 32 := Scalar.extui v74
  let c0_i32_24 : BitVec 32 := 0#32
  let v76 : BitVec 1 := Scalar.cmpi .slt c2_i32 c0_i32_24
  let v77 : BitVec 32 := Scalar.extui v76
  let v78 : BitVec 32 := Scalar.subi v75 v77
  let v79 : BitVec 1 := Scalar.cmpi .ne v73 v78
  let v80 : BitVec 32 := Scalar.remsi arg7 c2_i32
  let c0_i32_25 : BitVec 32 := 0#32
  let v81 : BitVec 1 := Scalar.cmpi .ne v80 c0_i32_25
  let v82 : BitVec 1 := Scalar.andi v79 v81
  let v68 : BitVec 32 := Scalar.divsi arg7 c2_i32
  let c1_i32_26 : BitVec 32 := 1#32
  let v83 : BitVec 32 := Scalar.subi v68 c1_i32_26
  let v84 : BitVec 32 := Scalar.select v82 v83 v68
  let v85 : BitVec 32 := Scalar.subi v84 c0_i32_27
  let c1_i32_28 : BitVec 32 := 1#32
  let v87 : BitVec 32 := Scalar.divsi v85 c1_i32_28
  let v88 : BitVec 32 := Scalar.muli v87 c1_i32_28
  let v89 : BitVec 32 := Scalar.addi c0_i32_27 v88
  let c1_i32_30 : BitVec 32 := 1#32
  let arg8 : BitVec 32 := Scf.iv v89 c1_i32_30 k0_t3
  let v123 : BitVec 32 := Scalar.muli c2_i32_43 arg8
  let c512_i32_44 : BitVec 32 := 512#32
  let v124 : BitVec 32 := Scalar.muli v123 c512_i32_44
  v124
def k0_off4 (k0_t1 : Fin k0_t1_loop.trips) (k0_t3 : Fin (k0_t3_loop k0_t1).trips) : Fin 3 → Nat :=
  let c0_45 : Index := 0#32
  let c2_i32_43 : BitVec 32 := 2#32
  let c0_i32_27 : BitVec 32 := 0#32
  let c0_i32_15 : BitVec 32 := 0#32
  let c1_i32_16 : BitVec 32 := 1#32
  let arg7 : BitVec 32 := Scf.iv c0_i32_15 c1_i32_16 k0_t1
  let c0_i32_21 : BitVec 32 := 0#32
  let v69 : BitVec 1 := Scalar.cmpi .sgt arg7 c0_i32_21
  let v70 : BitVec 32 := Scalar.extui v69
  let c0_i32_22 : BitVec 32 := 0#32
  let v71 : BitVec 1 := Scalar.cmpi .slt arg7 c0_i32_22
  let v72 : BitVec 32 := Scalar.extui v71
  let v73 : BitVec 32 := Scalar.subi v70 v72
  let c2_i32 : BitVec 32 := 2#32
  let c0_i32_23 : BitVec 32 := 0#32
  let v74 : BitVec 1 := Scalar.cmpi .sgt c2_i32 c0_i32_23
  let v75 : BitVec 32 := Scalar.extui v74
  let c0_i32_24 : BitVec 32 := 0#32
  let v76 : BitVec 1 := Scalar.cmpi .slt c2_i32 c0_i32_24
  let v77 : BitVec 32 := Scalar.extui v76
  let v78 : BitVec 32 := Scalar.subi v75 v77
  let v79 : BitVec 1 := Scalar.cmpi .ne v73 v78
  let v80 : BitVec 32 := Scalar.remsi arg7 c2_i32
  let c0_i32_25 : BitVec 32 := 0#32
  let v81 : BitVec 1 := Scalar.cmpi .ne v80 c0_i32_25
  let v82 : BitVec 1 := Scalar.andi v79 v81
  let v68 : BitVec 32 := Scalar.divsi arg7 c2_i32
  let c1_i32_26 : BitVec 32 := 1#32
  let v83 : BitVec 32 := Scalar.subi v68 c1_i32_26
  let v84 : BitVec 32 := Scalar.select v82 v83 v68
  let v85 : BitVec 32 := Scalar.subi v84 c0_i32_27
  let c1_i32_28 : BitVec 32 := 1#32
  let v87 : BitVec 32 := Scalar.divsi v85 c1_i32_28
  let v88 : BitVec 32 := Scalar.muli v87 c1_i32_28
  let v89 : BitVec 32 := Scalar.addi c0_i32_27 v88
  let c1_i32_30 : BitVec 32 := 1#32
  let arg8 : BitVec 32 := Scf.iv v89 c1_i32_30 k0_t3
  let v123 : BitVec 32 := Scalar.muli c2_i32_43 arg8
  let c512_i32_44 : BitVec 32 := 512#32
  let v124 : BitVec 32 := Scalar.muli v123 c512_i32_44
  let v125 : BitVec 32 := v124
  let v126 : Index := Scalar.indexCast v125
  let c0_46 : Index := 0#32
  ![0, v126.toNat, 0]
def k0_mult5 (k0_t1 : Fin k0_t1_loop.trips) (k0_t3 : Fin (k0_t3_loop k0_t1).trips) : BitVec 32 :=
  let c2_i32_55 : BitVec 32 := 2#32
  let c0_i32_27 : BitVec 32 := 0#32
  let c0_i32_15 : BitVec 32 := 0#32
  let c1_i32_16 : BitVec 32 := 1#32
  let arg7 : BitVec 32 := Scf.iv c0_i32_15 c1_i32_16 k0_t1
  let c0_i32_21 : BitVec 32 := 0#32
  let v69 : BitVec 1 := Scalar.cmpi .sgt arg7 c0_i32_21
  let v70 : BitVec 32 := Scalar.extui v69
  let c0_i32_22 : BitVec 32 := 0#32
  let v71 : BitVec 1 := Scalar.cmpi .slt arg7 c0_i32_22
  let v72 : BitVec 32 := Scalar.extui v71
  let v73 : BitVec 32 := Scalar.subi v70 v72
  let c2_i32 : BitVec 32 := 2#32
  let c0_i32_23 : BitVec 32 := 0#32
  let v74 : BitVec 1 := Scalar.cmpi .sgt c2_i32 c0_i32_23
  let v75 : BitVec 32 := Scalar.extui v74
  let c0_i32_24 : BitVec 32 := 0#32
  let v76 : BitVec 1 := Scalar.cmpi .slt c2_i32 c0_i32_24
  let v77 : BitVec 32 := Scalar.extui v76
  let v78 : BitVec 32 := Scalar.subi v75 v77
  let v79 : BitVec 1 := Scalar.cmpi .ne v73 v78
  let v80 : BitVec 32 := Scalar.remsi arg7 c2_i32
  let c0_i32_25 : BitVec 32 := 0#32
  let v81 : BitVec 1 := Scalar.cmpi .ne v80 c0_i32_25
  let v82 : BitVec 1 := Scalar.andi v79 v81
  let v68 : BitVec 32 := Scalar.divsi arg7 c2_i32
  let c1_i32_26 : BitVec 32 := 1#32
  let v83 : BitVec 32 := Scalar.subi v68 c1_i32_26
  let v84 : BitVec 32 := Scalar.select v82 v83 v68
  let v85 : BitVec 32 := Scalar.subi v84 c0_i32_27
  let c1_i32_28 : BitVec 32 := 1#32
  let v87 : BitVec 32 := Scalar.divsi v85 c1_i32_28
  let v88 : BitVec 32 := Scalar.muli v87 c1_i32_28
  let v89 : BitVec 32 := Scalar.addi c0_i32_27 v88
  let c1_i32_30 : BitVec 32 := 1#32
  let arg8 : BitVec 32 := Scf.iv v89 c1_i32_30 k0_t3
  let v172 : BitVec 32 := Scalar.muli c2_i32_55 arg8
  let c1_i32_56 : BitVec 32 := 1#32
  let v173 : BitVec 32 := Scalar.addi v172 c1_i32_56
  let c512_i32_57 : BitVec 32 := 512#32
  let v174 : BitVec 32 := Scalar.muli v173 c512_i32_57
  v174
def k0_off5 (k0_t1 : Fin k0_t1_loop.trips) (k0_t3 : Fin (k0_t3_loop k0_t1).trips) : Fin 3 → Nat :=
  let c0_58 : Index := 0#32
  let c2_i32_55 : BitVec 32 := 2#32
  let c0_i32_27 : BitVec 32 := 0#32
  let c0_i32_15 : BitVec 32 := 0#32
  let c1_i32_16 : BitVec 32 := 1#32
  let arg7 : BitVec 32 := Scf.iv c0_i32_15 c1_i32_16 k0_t1
  let c0_i32_21 : BitVec 32 := 0#32
  let v69 : BitVec 1 := Scalar.cmpi .sgt arg7 c0_i32_21
  let v70 : BitVec 32 := Scalar.extui v69
  let c0_i32_22 : BitVec 32 := 0#32
  let v71 : BitVec 1 := Scalar.cmpi .slt arg7 c0_i32_22
  let v72 : BitVec 32 := Scalar.extui v71
  let v73 : BitVec 32 := Scalar.subi v70 v72
  let c2_i32 : BitVec 32 := 2#32
  let c0_i32_23 : BitVec 32 := 0#32
  let v74 : BitVec 1 := Scalar.cmpi .sgt c2_i32 c0_i32_23
  let v75 : BitVec 32 := Scalar.extui v74
  let c0_i32_24 : BitVec 32 := 0#32
  let v76 : BitVec 1 := Scalar.cmpi .slt c2_i32 c0_i32_24
  let v77 : BitVec 32 := Scalar.extui v76
  let v78 : BitVec 32 := Scalar.subi v75 v77
  let v79 : BitVec 1 := Scalar.cmpi .ne v73 v78
  let v80 : BitVec 32 := Scalar.remsi arg7 c2_i32
  let c0_i32_25 : BitVec 32 := 0#32
  let v81 : BitVec 1 := Scalar.cmpi .ne v80 c0_i32_25
  let v82 : BitVec 1 := Scalar.andi v79 v81
  let v68 : BitVec 32 := Scalar.divsi arg7 c2_i32
  let c1_i32_26 : BitVec 32 := 1#32
  let v83 : BitVec 32 := Scalar.subi v68 c1_i32_26
  let v84 : BitVec 32 := Scalar.select v82 v83 v68
  let v85 : BitVec 32 := Scalar.subi v84 c0_i32_27
  let c1_i32_28 : BitVec 32 := 1#32
  let v87 : BitVec 32 := Scalar.divsi v85 c1_i32_28
  let v88 : BitVec 32 := Scalar.muli v87 c1_i32_28
  let v89 : BitVec 32 := Scalar.addi c0_i32_27 v88
  let c1_i32_30 : BitVec 32 := 1#32
  let arg8 : BitVec 32 := Scf.iv v89 c1_i32_30 k0_t3
  let v172 : BitVec 32 := Scalar.muli c2_i32_55 arg8
  let c1_i32_56 : BitVec 32 := 1#32
  let v173 : BitVec 32 := Scalar.addi v172 c1_i32_56
  let c512_i32_57 : BitVec 32 := 512#32
  let v174 : BitVec 32 := Scalar.muli v173 c512_i32_57
  let v175 : BitVec 32 := v174
  let v176 : Index := Scalar.indexCast v175
  let c0_59 : Index := 0#32
  ![0, v176.toNat, 0]
def k0_cond2 (k0_t1 : Fin k0_t1_loop.trips) : BitVec 1 :=
  let c0_i32_15 : BitVec 32 := 0#32
  let c1_i32_16 : BitVec 32 := 1#32
  let arg7 : BitVec 32 := Scf.iv c0_i32_15 c1_i32_16 k0_t1
  let c2_i32_31 : BitVec 32 := 2#32
  let c0_i32_32 : BitVec 32 := 0#32
  let v92 : BitVec 1 := Scalar.cmpi .eq c2_i32_31 c0_i32_32
  let c1_i32_33 : BitVec 32 := 1#32
  let v93 : BitVec 32 := Scalar.select v92 c1_i32_33 c2_i32_31
  let v94 : BitVec 32 := Scalar.remsi arg7 v93
  let c0_i32_35 : BitVec 32 := 0#32
  let v96 : BitVec 1 := Scalar.cmpi .slt v94 c0_i32_35
  let c0_i32_36 : BitVec 32 := 0#32
  let v97 : BitVec 1 := Scalar.cmpi .slt v93 c0_i32_36
  let v98 : BitVec 1 := Scalar.xori v96 v97
  let c0_i32_34 : BitVec 32 := 0#32
  let v95 : BitVec 1 := Scalar.cmpi .ne v94 c0_i32_34
  let v99 : BitVec 1 := Scalar.andi v98 v95
  let v100 : BitVec 32 := Scalar.addi v94 v93
  let v101 : BitVec 32 := Scalar.select v99 v100 v94
  let c1_i32_37 : BitVec 32 := 1#32
  let v102 : BitVec 1 := Scalar.cmpi .eq v101 c1_i32_37
  let v103 : BitVec 32 := Scalar.extui v102
  let c0_i32_38 : BitVec 32 := 0#32
  let v104 : BitVec 1 := Scalar.cmpi .ne v103 c0_i32_38
  v104

def k0_mult6 (k0_t1 : Fin k0_t1_loop.trips) : BitVec 32 :=
  let c0_i32_15 : BitVec 32 := 0#32
  let c1_i32_16 : BitVec 32 := 1#32
  let arg7 : BitVec 32 := Scf.iv c0_i32_15 c1_i32_16 k0_t1
  let c1_i32_44 : BitVec 32 := 1#32
  let v124 : BitVec 32 := Scalar.subi arg7 c1_i32_44
  let c512_i32_45 : BitVec 32 := 512#32
  let v125 : BitVec 32 := Scalar.muli v124 c512_i32_45
  v125
def k0_off6 (k0_t1 : Fin k0_t1_loop.trips) : Fin 3 → Nat :=
  let c0_46 : Index := 0#32
  let c0_i32_15 : BitVec 32 := 0#32
  let c1_i32_16 : BitVec 32 := 1#32
  let arg7 : BitVec 32 := Scf.iv c0_i32_15 c1_i32_16 k0_t1
  let c1_i32_44 : BitVec 32 := 1#32
  let v124 : BitVec 32 := Scalar.subi arg7 c1_i32_44
  let c512_i32_45 : BitVec 32 := 512#32
  let v125 : BitVec 32 := Scalar.muli v124 c512_i32_45
  let v126 : BitVec 32 := v125
  let v127 : Index := Scalar.indexCast v126
  let c0_47 : Index := 0#32
  ![0, v127.toNat, 0]
def k0_mult7 (k0_t1 : Fin k0_t1_loop.trips) : BitVec 32 :=
  let c0_i32_15 : BitVec 32 := 0#32
  let c1_i32_16 : BitVec 32 := 1#32
  let arg7 : BitVec 32 := Scf.iv c0_i32_15 c1_i32_16 k0_t1
  let c512_i32_43 : BitVec 32 := 512#32
  let v123 : BitVec 32 := Scalar.muli arg7 c512_i32_43
  v123
def k0_off7 (k0_t1 : Fin k0_t1_loop.trips) : Fin 3 → Nat :=
  let c0_56 : Index := 0#32
  let c0_i32_15 : BitVec 32 := 0#32
  let c1_i32_16 : BitVec 32 := 1#32
  let arg7 : BitVec 32 := Scf.iv c0_i32_15 c1_i32_16 k0_t1
  let c512_i32_43 : BitVec 32 := 512#32
  let v123 : BitVec 32 := Scalar.muli arg7 c512_i32_43
  let v173 : BitVec 32 := v123
  let v174 : Index := Scalar.indexCast v173
  let c0_57 : Index := 0#32
  ![0, v174.toNat, 0]
def k0_mult8 (k0_t1 : Fin k0_t1_loop.trips) : BitVec 32 :=
  let c0_i32_15 : BitVec 32 := 0#32
  let c1_i32_16 : BitVec 32 := 1#32
  let arg7 : BitVec 32 := Scf.iv c0_i32_15 c1_i32_16 k0_t1
  let c512_i32_43 : BitVec 32 := 512#32
  let v123 : BitVec 32 := Scalar.muli arg7 c512_i32_43
  v123
def k0_off8 (k0_t1 : Fin k0_t1_loop.trips) : Fin 3 → Nat :=
  let c0_44 : Index := 0#32
  let c0_i32_15 : BitVec 32 := 0#32
  let c1_i32_16 : BitVec 32 := 1#32
  let arg7 : BitVec 32 := Scf.iv c0_i32_15 c1_i32_16 k0_t1
  let c512_i32_43 : BitVec 32 := 512#32
  let v123 : BitVec 32 := Scalar.muli arg7 c512_i32_43
  let v124 : BitVec 32 := v123
  let v125 : Index := Scalar.indexCast v124
  let c0_45 : Index := 0#32
  ![0, v125.toNat, 0]
def k0_off9 (k0_t1 : Fin k0_t1_loop.trips) : Fin 3 → Nat :=
  let c0_41 : Index := 0#32
  let c0_i32_15 : BitVec 32 := 0#32
  let c1_i32_16 : BitVec 32 := 1#32
  let arg7 : BitVec 32 := Scf.iv c0_i32_15 c1_i32_16 k0_t1
  let c512_i32 : BitVec 32 := 512#32
  let v62 : BitVec 32 := Scalar.muli arg7 c512_i32
  let v63 : BitVec 32 := v62
  let v119 : Index := Scalar.indexCast v63
  let c0_42 : Index := 0#32
  ![0, v119.toNat, 0]
@[reducible] def k0_t4_loop : Scf.Loop 32 :=
  let c0_i32_15 : BitVec 32 := 0#32
  let c8_i32 : BitVec 32 := 8#32
  let v61 : BitVec 32 := Scalar.addi c0_i32_15 c8_i32
  let c1_i32_16 : BitVec 32 := 1#32
  ⟨c0_i32_15, v61, c1_i32_16⟩
def k0_mult9 (k0_t4 : Fin k0_t4_loop.trips) : BitVec 32 :=
  let c0_i32_15 : BitVec 32 := 0#32
  let c1_i32_16 : BitVec 32 := 1#32
  let arg7 : BitVec 32 := Scf.iv c0_i32_15 c1_i32_16 k0_t4
  let c512_i32 : BitVec 32 := 512#32
  let v62 : BitVec 32 := Scalar.muli arg7 c512_i32
  v62
def k0_off10 (k0_t4 : Fin k0_t4_loop.trips) : Fin 3 → Nat :=
  let c0_18 : Index := 0#32
  let c0_i32_15 : BitVec 32 := 0#32
  let c1_i32_16 : BitVec 32 := 1#32
  let arg7 : BitVec 32 := Scf.iv c0_i32_15 c1_i32_16 k0_t4
  let c512_i32 : BitVec 32 := 512#32
  let v62 : BitVec 32 := Scalar.muli arg7 c512_i32
  let v63 : BitVec 32 := v62
  let v64 : Index := Scalar.indexCast v63
  let c0_19 : Index := 0#32
  ![0, v64.toNat, 0]
@[reducible] def k0_t5_loop (k0_t4 : Fin k0_t4_loop.trips) : Scf.Loop 32 :=
  let c0_i32_23 : BitVec 32 := 0#32
  let c0_i32_15 : BitVec 32 := 0#32
  let c1_i32_16 : BitVec 32 := 1#32
  let arg7 : BitVec 32 := Scf.iv c0_i32_15 c1_i32_16 k0_t4
  let v70 : BitVec 32 := Scalar.subi arg7 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_25 : BitVec 32 := 1#32
  ⟨c0_i32_23, v74, c1_i32_25⟩
def k0_mult10 (k0_t4 : Fin k0_t4_loop.trips) (k0_t5 : Fin (k0_t5_loop k0_t4).trips) : BitVec 32 :=
  let c0_i32_23 : BitVec 32 := 0#32
  let c1_i32_25 : BitVec 32 := 1#32
  let arg8 : BitVec 32 := Scf.iv c0_i32_23 c1_i32_25 k0_t5
  let c512_i32_46 : BitVec 32 := 512#32
  let v152 : BitVec 32 := Scalar.muli arg8 c512_i32_46
  v152
def k0_off11 (k0_t4 : Fin k0_t4_loop.trips) (k0_t5 : Fin (k0_t5_loop k0_t4).trips) : Fin 3 → Nat :=
  let c0_47 : Index := 0#32
  let c0_i32_23 : BitVec 32 := 0#32
  let c1_i32_25 : BitVec 32 := 1#32
  let arg8 : BitVec 32 := Scf.iv c0_i32_23 c1_i32_25 k0_t5
  let c512_i32_46 : BitVec 32 := 512#32
  let v152 : BitVec 32 := Scalar.muli arg8 c512_i32_46
  let v153 : BitVec 32 := v152
  let v154 : Index := Scalar.indexCast v153
  let c0_48 : Index := 0#32
  ![0, v154.toNat, 0]
@[reducible] def k0_t6_loop (k0_t4 : Fin k0_t4_loop.trips) : Scf.Loop 32 :=
  let c0_i32_23 : BitVec 32 := 0#32
  let c0_i32_15 : BitVec 32 := 0#32
  let c1_i32_16 : BitVec 32 := 1#32
  let arg7 : BitVec 32 := Scf.iv c0_i32_15 c1_i32_16 k0_t4
  let v70 : BitVec 32 := Scalar.subi arg7 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let v71 : BitVec 32 := Scalar.addi c0_i32_23 v70
  let c1_i32_26 : BitVec 32 := 1#32
  ⟨v74, v71, c1_i32_26⟩
def k0_mult11 (k0_t4 : Fin k0_t4_loop.trips) (k0_t6 : Fin (k0_t6_loop k0_t4).trips) : BitVec 32 :=
  let c0_i32_23 : BitVec 32 := 0#32
  let c0_i32_15 : BitVec 32 := 0#32
  let c1_i32_16 : BitVec 32 := 1#32
  let arg7 : BitVec 32 := Scf.iv c0_i32_15 c1_i32_16 k0_t4
  let v70 : BitVec 32 := Scalar.subi arg7 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg8 : BitVec 32 := Scf.iv v74 c1_i32_26 k0_t6
  let c512_i32_46 : BitVec 32 := 512#32
  let v152 : BitVec 32 := Scalar.muli arg8 c512_i32_46
  v152
def k0_off12 (k0_t4 : Fin k0_t4_loop.trips) (k0_t6 : Fin (k0_t6_loop k0_t4).trips) : Fin 3 → Nat :=
  let c0_47 : Index := 0#32
  let c0_i32_23 : BitVec 32 := 0#32
  let c0_i32_15 : BitVec 32 := 0#32
  let c1_i32_16 : BitVec 32 := 1#32
  let arg7 : BitVec 32 := Scf.iv c0_i32_15 c1_i32_16 k0_t4
  let v70 : BitVec 32 := Scalar.subi arg7 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg8 : BitVec 32 := Scf.iv v74 c1_i32_26 k0_t6
  let c512_i32_46 : BitVec 32 := 512#32
  let v152 : BitVec 32 := Scalar.muli arg8 c512_i32_46
  let v153 : BitVec 32 := v152
  let v154 : Index := Scalar.indexCast v153
  let c0_48 : Index := 0#32
  ![0, v154.toNat, 0]
def k0_mult12 (k0_t4 : Fin k0_t4_loop.trips) : BitVec 32 :=
  let c0_i32_15 : BitVec 32 := 0#32
  let c1_i32_16 : BitVec 32 := 1#32
  let arg7 : BitVec 32 := Scf.iv c0_i32_15 c1_i32_16 k0_t4
  let c512_i32_27 : BitVec 32 := 512#32
  let v77 : BitVec 32 := Scalar.muli arg7 c512_i32_27
  v77
def k0_off13 (k0_t4 : Fin k0_t4_loop.trips) : Fin 3 → Nat :=
  let c0_44 : Index := 0#32
  let c0_i32_15 : BitVec 32 := 0#32
  let c1_i32_16 : BitVec 32 := 1#32
  let arg7 : BitVec 32 := Scf.iv c0_i32_15 c1_i32_16 k0_t4
  let c512_i32 : BitVec 32 := 512#32
  let v62 : BitVec 32 := Scalar.muli arg7 c512_i32
  let v63 : BitVec 32 := v62
  let v148 : Index := Scalar.indexCast v63
  let c0_45 : Index := 0#32
  ![0, v148.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "scale_log2e" => some ((((Real.sqrt 96) * (Real.log 2))⁻¹ : ℝ) : EReal)
  | _ => none
-- ==== ReferenceIdeal.lean ====
abbrev S4x4096x16x64 : Shape := ⟨4, ![4, 4096, 16, 64]⟩
abbrev S4x4096x16x32 : Shape := ⟨4, ![4, 4096, 16, 32]⟩
abbrev S4x4096x32 : Shape := ⟨3, ![4, 4096, 32]⟩
abbrev S64 : Shape := ⟨1, ![64]⟩
abbrev S32 : Shape := ⟨1, ![32]⟩
abbrev S4x16x4096x4096 : Shape := ⟨4, ![4, 16, 4096, 4096]⟩
abbrev S4x4096x4096x16 : Shape := ⟨4, ![4, 4096, 4096, 16]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S4x4096x1024 : Shape := ⟨3, ![4, 4096, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x32, .f32⟩
  | .hbm, ⟨2, _⟩ => ⟨S4x4096x16x64, .f32⟩
  | .hbm, ⟨3, _⟩ => ⟨S4x4096x32, .f32⟩
  | .hbm, ⟨4, _⟩ => ⟨S4x4096x16x64, .f32⟩
  | .hbm, ⟨5, _⟩ => ⟨S64, .f32⟩
  | .hbm, ⟨6, _⟩ => ⟨S32, .f32⟩
  | .hbm, ⟨7, _⟩ => ⟨S64, .f32⟩
  | .hbm, ⟨8, _⟩ => ⟨S32, .f32⟩
  | .hbm, ⟨9, _⟩ => ⟨S4x16x4096x4096, .f32⟩
  | .hbm, ⟨10, _⟩ => ⟨S4x4096x4096x16, .f32⟩
  | .hbm, ⟨11, _⟩ => ⟨S4x16x4096x4096, .f32⟩
  | .hbm, ⟨12, _⟩ => ⟨S4x16x4096x4096, .f32⟩
  | .hbm, ⟨13, _⟩ => ⟨S_, .f32⟩
  | .hbm, ⟨14, _⟩ => ⟨S_, .f32⟩
  | .hbm, ⟨15, _⟩ => ⟨S4x16x4096x4096, .f32⟩
  | .hbm, ⟨16, _⟩ => ⟨S4x16x4096x4096, .f32⟩
  | .hbm, ⟨17, _⟩ => ⟨S4096, .i32⟩
  | .hbm, ⟨18, _⟩ => ⟨S_, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S1x4096, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S1x1x4096x4096, .i1⟩
  | .hbm, ⟨42, _⟩ => ⟨S_, .f32⟩
  | .hbm, ⟨43, _⟩ => ⟨S_, .f32⟩
  | .hbm, ⟨44, _⟩ => ⟨S4x16x4096x4096, .i1⟩
  | .hbm, ⟨45, _⟩ => ⟨S4x16x4096x4096, .f32⟩
  | .hbm, ⟨46, _⟩ => ⟨S4x16x4096x4096, .f32⟩
  | .hbm, ⟨47, _⟩ => ⟨S_, .f32⟩
  | .hbm, ⟨48, _⟩ => ⟨S4x16x4096, .f32⟩
  | .hbm, ⟨49, _⟩ => ⟨S_, .f32⟩
  | .hbm, ⟨50, _⟩ => ⟨S4x16x4096, .f32⟩
  | .hbm, ⟨51, _⟩ => ⟨S4x16x4096, .f32⟩
  | .hbm, ⟨52, _⟩ => ⟨S4x16x4096x1, .f32⟩
  | .hbm, ⟨53, _⟩ => ⟨S4x16x4096x4096, .f32⟩
  | .hbm, ⟨54, _⟩ => ⟨S4x16x4096x4096, .f32⟩
  | .hbm, ⟨55, _⟩ => ⟨S4x16x4096x4096, .f32⟩
  | .hbm, ⟨56, _⟩ => ⟨S_, .f32⟩
  | .hbm, ⟨57, _⟩ => ⟨S4x16x4096, .f32⟩
  | .hbm, ⟨58, _⟩ => ⟨S4x16x4096x1, .f32⟩
  | .hbm, ⟨59, _⟩ => ⟨S4x16x4096x4096, .f32⟩
  | .hbm, ⟨60, _⟩ => ⟨S4x16x4096x4096, .f32⟩
  | .hbm, ⟨61, _⟩ => ⟨S4x16x64x4096, .f32⟩
  | .hbm, ⟨62, _⟩ => ⟨S4x4096x16x64, .f32⟩
  | .hbm, ⟨63, _⟩ => ⟨S4x4096x1024, .f32⟩
  | .hbm, ⟨64, _⟩ => ⟨S4x4096x1024, .bf16⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v15 : Ref sig .tc := ⟨.hbm, 46, rfl⟩
abbrev main_cst_1 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩

abbrev nD : Nat := 1
abbrev τ : Topo := Topo.v7x

variable {F : FTy → Type} [FloatOps F]
-- ==== MemKernel.lean ====
abbrev S4x256x1024 : Shape := ⟨3, ![4, 256, 1024]⟩
abbrev S1x1024 : Shape := ⟨2, ![1, 1024]⟩
abbrev S1x1024x512 : Shape := ⟨3, ![1, 1024, 512]⟩
abbrev S1x128 : Shape := ⟨2, ![1, 128]⟩
abbrev S1024 : Shape := ⟨1, ![1024]⟩
abbrev S1024x512 : Shape := ⟨2, ![1024, 512]⟩
abbrev S128 : Shape := ⟨1, ![128]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S4x256x4x128 : Shape := ⟨4, ![4, 256, 4, 128]⟩
abbrev S1x4x256x4x128 : Shape := ⟨5, ![1, 4, 256, 4, 128]⟩

abbrev nBuf : Space → Nat
  | .hbm => 20
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x512, .f32⟩
  | .hbm, ⟨3, _⟩ => ⟨S1x128, .f32⟩
  | .hbm, ⟨4, _⟩ => ⟨S1x1024x512, .f32⟩
  | .hbm, ⟨5, _⟩ => ⟨S1024, .f32⟩
  | .hbm, ⟨6, _⟩ => ⟨S1x1024, .f32⟩
  | .hbm, ⟨7, _⟩ => ⟨S1024x512, .f32⟩
  | .hbm, ⟨8, _⟩ => ⟨S1024x512, .bf16⟩
  | .hbm, ⟨9, _⟩ => ⟨S128, .f32⟩
  | .hbm, ⟨10, _⟩ => ⟨S1x128, .f32⟩
  | .hbm, ⟨11, _⟩ => ⟨S1024x512, .f32⟩
  | .hbm, ⟨12, _⟩ => ⟨S1024x512, .bf16⟩
  | .hbm, ⟨13, _⟩ => ⟨S1024x1024, .f32⟩
  | .hbm, ⟨14, _⟩ => ⟨S1024x512, .f32⟩
  | .hbm, ⟨15, _⟩ => ⟨S1024x512, .f32⟩
  | .hbm, ⟨16, _⟩ => ⟨S4x256x4x128, .f32⟩
  | .hbm, ⟨17, _⟩ => ⟨S1x4x256x4x128, .f32⟩
  | .hbm, ⟨18, _⟩ => ⟨S4x256x4x128, .f32⟩
  | .hbm, ⟨19, _⟩ => ⟨S1x4x256x4x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x128, .f32⟩
  | .local _ .vmem, ⟨5, _⟩ => ⟨S1024x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemReferenceIdeal.lean ====
abbrev S4x256x1024 : Shape := ⟨3, ![4, 256, 1024]⟩
abbrev S1x1024 : Shape := ⟨2, ![1, 1024]⟩
abbrev S1x1024x512 : Shape := ⟨3, ![1, 1024, 512]⟩
abbrev S1x128 : Shape := ⟨2, ![1, 128]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x512 : Shape := ⟨2, ![1024, 512]⟩
abbrev S4x256x512 : Shape := ⟨3, ![4, 256, 512]⟩
abbrev S4x256x4x128 : Shape := ⟨4, ![4, 256, 4, 128]⟩
abbrev S128 : Shape := ⟨1, ![128]⟩
abbrev S4x256x4 : Shape := ⟨3, ![4, 256, 4]⟩
abbrev S4x256x4x1 : Shape := ⟨4, ![4, 256, 4, 1]⟩
abbrev S1x1x1x128 : Shape := ⟨4, ![1, 1, 1, 128]⟩
abbrev S1x4x256x4x128 : Shape := ⟨5, ![1, 4, 256, 4, 128]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x512, .f32⟩
  | .hbm, ⟨3, _⟩ => ⟨S1x128, .f32⟩
  | .hbm, ⟨4, _⟩ => ⟨S1x1024x512, .f32⟩
  | .hbm, ⟨5, _⟩ => ⟨S1024, .f32⟩
  | .hbm, ⟨6, _⟩ => ⟨S4x256x1024, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S4x256x1, .f32⟩
  | .hbm, ⟨17, _⟩ => ⟨S4x256x1024, .f32⟩
  | .hbm, ⟨18, _⟩ => ⟨S4x256x1024, .f32⟩
  | .hbm, ⟨19, _⟩ => ⟨S1x1x1024, .f32⟩
  | .hbm, ⟨20, _⟩ => ⟨S4x256x1024, .f32⟩
  | .hbm, ⟨21, _⟩ => ⟨S4x256x1024, .f32⟩
  | .hbm, ⟨22, _⟩ => ⟨S1024x512, .f32⟩
  | .hbm, ⟨23, _⟩ => ⟨S4x256x512, .f32⟩
  | .hbm, ⟨24, _⟩ => ⟨S4x256x4x128, .f32⟩
  | .hbm, ⟨25, _⟩ => ⟨S128, .f32⟩
  | .hbm, ⟨26, _⟩ => ⟨S4x256x4x128, .f32⟩
  | .hbm, ⟨27, _⟩ => ⟨S_, .f32⟩
  | .hbm, ⟨28, _⟩ => ⟨S4x256x4, .f32⟩
  | .hbm, ⟨29, _⟩ => ⟨S4x256x4x1, .f32⟩
  | .hbm, ⟨30, _⟩ => ⟨S_, .f32⟩
  | .hbm, ⟨31, _⟩ => ⟨S4x256x4x1, .f32⟩
  | .hbm, ⟨32, _⟩ => ⟨S4x256x4x1, .f32⟩
  | .hbm, ⟨33, _⟩ => ⟨S_, .f32⟩
  | .hbm, ⟨34, _⟩ => ⟨S4x256x4x1, .f32⟩
  | .hbm, ⟨35, _⟩ => ⟨S4x256x4x1, .f32⟩
  | .hbm, ⟨36, _⟩ => ⟨S4x256x4x1, .f32⟩
  | .hbm, ⟨37, _⟩ => ⟨S4x256x4x128, .f32⟩
  | .hbm, ⟨38, _⟩ => ⟨S4x256x4x128, .f32⟩
  | .hbm, ⟨39, _⟩ => ⟨S1x1x1x128, .f32⟩
  | .hbm, ⟨40, _⟩ => ⟨S4x256x4x128, .f32⟩
  | .hbm, ⟨41, _⟩ => ⟨S4x256x4x128, .f32⟩
  | .hbm, ⟨42, _⟩ => ⟨S1024x512, .f32⟩
  | .hbm, ⟨43, _⟩ => ⟨S4x256x512, .f32⟩
  | .hbm, ⟨44, _⟩ => ⟨S4x256x4x128, .f32⟩
  | .hbm, ⟨45, _⟩ => ⟨S1x4x256x4x128, .f32⟩
  | .hbm, ⟨46, _⟩ => ⟨S1x4x256x4x128, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== InKernel.lean ====
abbrev S4x4096x1024 : Shape := ⟨3, ![4, 4096, 1024]⟩
abbrev S1x1024 : Shape := ⟨2, ![1, 1024]⟩
abbrev S1x1024x4768 : Shape := ⟨3, ![1, 1024, 4768]⟩
abbrev S1x384 : Shape := ⟨2, ![1, 384]⟩
abbrev S1x256 : Shape := ⟨2, ![1, 256]⟩
abbrev S1x32 : Shape := ⟨2, ![1, 32]⟩
abbrev S4096 : Shape := ⟨1, ![4096]⟩
abbrev S1024 : Shape := ⟨1, ![1024]⟩
abbrev S1024x4768 : Shape := ⟨2, ![1024, 4768]⟩
abbrev S1024x384 : Shape := ⟨2, ![1024, 384]⟩
abbrev S1024x256 : Shape := ⟨2, ![1024, 256]⟩
abbrev S1024x32 : Shape := ⟨2, ![1024, 32]⟩
abbrev S_ : Shape := ⟨0, ![]⟩
abbrev S1024x128 : Shape := ⟨2, ![1024, 128]⟩
abbrev S1024x1024 : Shape := ⟨2, ![1024, 1024]⟩
abbrev S384 : Shape := ⟨1, ![384]⟩
abbrev S256 : Shape := ⟨1, ![256]⟩
abbrev S32 : Shape := ⟨1, ![32]⟩
abbrev S128 : Shape := ⟨1, ![128]⟩
abbrev S1x128 : Shape := ⟨2, ![1, 128]⟩
abbrev S1x4096 : Shape := ⟨2, ![1, 4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S4096x80 : Shape := ⟨2, ![4096, 80]⟩
abbrev S4096x48 : Shape := ⟨2, ![4096, 48]⟩
abbrev S16384x1024 : Shape := ⟨2, ![16384, 1024]⟩
abbrev S16384x384 : Shape := ⟨2, ![16384, 384]⟩
abbrev S16384x256 : Shape := ⟨2, ![16384, 256]⟩
abbrev S16384x128 : Shape := ⟨2, ![16384, 128]⟩
abbrev S512x1024 : Shape := ⟨2, ![512, 1024]⟩
abbrev S512x128 : Shape := ⟨2, ![512, 128]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S4x4096x384 : Shape := ⟨3, ![4, 4096, 384]⟩
abbrev S4x4096x256 : Shape := ⟨3, ![4, 4096, 256]⟩
abbrev S1x4x4096x256 : Shape := ⟨4, ![1, 4, 4096, 256]⟩
abbrev S16384x32 : Shape := ⟨2, ![16384, 32]⟩
abbrev S4x4096x32 : Shape := ⟨3, ![4, 4096, 32]⟩
abbrev S1x4x4096x32 : Shape := ⟨4, ![1, 4, 4096, 32]⟩

abbrev nBuf : Space → Nat
  | .hbm => 99
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4768, .f32⟩
  | .hbm, ⟨3, _⟩ => ⟨S1x384, .f32⟩
  | .hbm, ⟨4, _⟩ => ⟨S1x256, .f32⟩
  | .hbm, ⟨5, _⟩ => ⟨S1x32, .f32⟩
  | .hbm, ⟨6, _⟩ => ⟨S1x1024, .f32⟩
  | .hbm, ⟨7, _⟩ => ⟨S4096, .i32⟩
  | .hbm, ⟨8, _⟩ => ⟨S1024, .f32⟩
  | .hbm, ⟨9, _⟩ => ⟨S1x1024, .f32⟩
  | .hbm, ⟨10, _⟩ => ⟨S1024x4768, .f32⟩
  | .hbm, ⟨11, _⟩ => ⟨S1024x384, .f32⟩
  | .hbm, ⟨12, _⟩ => ⟨S1024x384, .bf16⟩
  | .hbm, ⟨13, _⟩ => ⟨S1024x4768, .f32⟩
  | .hbm, ⟨14, _⟩ => ⟨S1024x256, .f32⟩
  | .hbm, ⟨15, _⟩ => ⟨S1024x256, .bf16⟩
  | .hbm, ⟨16, _⟩ => ⟨S1024x4768, .f32⟩
  | .hbm, ⟨17, _⟩ => ⟨S1024x32, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S1024x4768, .f32⟩
  | .hbm, ⟨23, _⟩ => ⟨S1024x1024, .f32⟩
  | .hbm, ⟨24, _⟩ => ⟨S1024x1024, .bf16⟩
  | .hbm, ⟨25, _⟩ => ⟨S1024x4768, .f32⟩
  | .hbm, ⟨26, _⟩ => ⟨S1024x1024, .f32⟩
  | .hbm, ⟨27, _⟩ => ⟨S1024x1024, .bf16⟩
  | .hbm, ⟨28, _⟩ => ⟨S1024x4768, .f32⟩
  | .hbm, ⟨29, _⟩ => ⟨S1024x1024, .f32⟩
  | .hbm, ⟨30, _⟩ => ⟨S1024x1024, .bf16⟩
  | .hbm, ⟨31, _⟩ => ⟨S1024x4768, .f32⟩
  | .hbm, ⟨32, _⟩ => ⟨S1024x1024, .f32⟩
  | .hbm, ⟨33, _⟩ => ⟨S1024x1024, .bf16⟩
  | .hbm, ⟨34, _⟩ => ⟨S384, .f32⟩
  | .hbm, ⟨35, _⟩ => ⟨S1x384, .f32⟩
  | .hbm, ⟨36, _⟩ => ⟨S256, .f32⟩
  | .hbm, ⟨37, _⟩ => ⟨S1x256, .f32⟩
  | .hbm, ⟨38, _⟩ => ⟨S32, .f32⟩
  | .hbm, ⟨39, _⟩ => ⟨S_, .f32⟩
  | .hbm, ⟨40, _⟩ => ⟨S128, .f32⟩
  | .hbm, ⟨41, _⟩ => ⟨S_, .i32⟩
  | .hbm, ⟨42, _⟩ => ⟨S128, .f32⟩
  | .hbm, ⟨43, _⟩ => ⟨S1x128, .f32⟩
  | .hbm, ⟨44, _⟩ => ⟨S1024, .f32⟩
  | .hbm, ⟨45, _⟩ => ⟨S1x1024, .f32⟩
  | .hbm, ⟨46, _⟩ => ⟨S1x4096, .i32⟩
  | .hbm, ⟨47, _⟩ => ⟨S1x4096, .i32⟩
  | .hbm, ⟨48, _⟩ => ⟨S4096, .i32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S4096, .f32⟩
  | .hbm, ⟨58, _⟩ => ⟨S4096x1, .f32⟩
  | .hbm, ⟨59, _⟩ => ⟨S1x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S_, .f32⟩
  | .hbm, ⟨66, _⟩ => ⟨S4096x64, .f32⟩
  | .hbm, ⟨67, _⟩ => ⟨S_, .f32⟩
  | .hbm, ⟨68, _⟩ => ⟨S4096x32, .f32⟩
  | .hbm, ⟨69, _⟩ => ⟨S4096x128, .f32⟩
  | .hbm, ⟨70, _⟩ => ⟨S_, .f32⟩
  | .hbm, ⟨71, _⟩ => ⟨S4096x80, .f32⟩
  | .hbm, ⟨72, _⟩ => ⟨S_, .f32⟩
  | .hbm, ⟨73, _⟩ => ⟨S4096x32, .f32⟩
  | .hbm, ⟨74, _⟩ => ⟨S4096x128, .f32⟩
  | .hbm, ⟨75, _⟩ => ⟨S_, .f32⟩
  | .hbm, ⟨76, _⟩ => ⟨S4096x64, .f32⟩
  | .hbm, ⟨77, _⟩ => ⟨S4096x16, .f32⟩
  | .hbm, ⟨78, _⟩ => ⟨S_, .f32⟩
  | .hbm, ⟨79, _⟩ => ⟨S4096x48, .f32⟩
  | .hbm, ⟨80, _⟩ => ⟨S4096x128, .f32⟩
  | .hbm, ⟨81, _⟩ => ⟨S16384x1024, .f32⟩
  | .hbm, ⟨82, _⟩ => ⟨S16384x384, .bf16⟩
  | .hbm, ⟨83, _⟩ => ⟨S16384x256, .f32⟩
  | .hbm, ⟨84, _⟩ => ⟨S16384x128, .f32⟩
  | .hbm, ⟨85, _⟩ => ⟨S16384x1024, .bf16⟩
  | .hbm, ⟨86, _⟩ => ⟨S16384x1024, .bf16⟩
  | .hbm, ⟨87, _⟩ => ⟨S16384x1024, .bf16⟩
  | .hbm, ⟨88, _⟩ => ⟨S16384x1024, .bf16⟩
  | .hbm, ⟨89, _⟩ => ⟨S4x4096x384, .bf16⟩
  | .hbm, ⟨90, _⟩ => ⟨S4x4096x256, .f32⟩
  | .hbm, ⟨91, _⟩ => ⟨S1x4x4096x256, .f32⟩
  | .hbm, ⟨92, _⟩ => ⟨S16384x32, .f32⟩
  | .hbm, ⟨93, _⟩ => ⟨S4x4096x32, .f32⟩
  | .hbm, ⟨94, _⟩ => ⟨S1x4x4096x32, .f32⟩
  | .hbm, ⟨95, _⟩ => ⟨S4x4096x1024, .bf16⟩
  | .hbm, ⟨96, _⟩ => ⟨S4x4096x1024, .bf16⟩
  | .hbm, ⟨97, _⟩ => ⟨S4x4096x1024, .bf16⟩
  | .hbm, ⟨98, _⟩ => ⟨S4x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x384, .bf16⟩
  | .local _ .vmem, ⟨4, _⟩ => ⟨S1024x256, .bf16⟩
  | .local _ .vmem, ⟨5, _⟩ => ⟨S1024x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x384, .f32⟩
  | .local _ .vmem, ⟨11, _⟩ => ⟨S1x256, .f32⟩
  | .local _ .vmem, ⟨12, _⟩ => ⟨S1x128, .f32⟩
  | .local _ .vmem, ⟨13, _⟩ => ⟨S1x1024, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x384, .bf16⟩
  | .local _ .vmem, ⟨21, _⟩ => ⟨S512x384, .bf16⟩
  | .local _ .vmem, ⟨22, _⟩ => ⟨S512x256, .f32⟩
  | .local _ .vmem, ⟨23, _⟩ => ⟨S512x256, .f32⟩
  | .local _ .vmem, ⟨24, _⟩ => ⟨S512x128, .f32⟩
  | .local _ .vmem, ⟨25, _⟩ => ⟨S512x128, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_c_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_1 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63_0 : Ref sig .tc := ⟨.hbm, 82, rfl⟩
abbrev main_v63_1 : Ref sig .tc := ⟨.hbm, 83, rfl⟩
abbrev main_v63_2 : Ref sig .tc := ⟨.hbm, 84, rfl⟩
abbrev main_v63_3 : Ref sig .tc := ⟨.hbm, 85, rfl⟩
abbrev main_v63_4 : Ref sig .tc := ⟨.hbm, 86, rfl⟩
abbrev main_v63_5 : Ref sig .tc := ⟨.hbm, 87, rfl⟩
abbrev main_v63_6 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InKernelIdeal.lean ====
variable {F : FTy → Type} [FloatOps F] [Named F]
def κ : String → Option EReal := fun
  | "sqrt_half" => some (((Real.sqrt 2)⁻¹ : ℝ) : EReal)
  | _ => none
-- ==== InReferenceIdeal.lean ====
abbrev S4x4096x1024 : Shape := ⟨3, ![4, 4096, 1024]⟩
abbrev S1x1024 : Shape := ⟨2, ![1, 1024]⟩
abbrev S1x1024x4768 : Shape := ⟨3, ![1, 1024, 4768]⟩
abbrev S1x384 : Shape := ⟨2, ![1, 384]⟩
abbrev S1x256 : Shape := ⟨2, ![1, 256]⟩
abbrev S1x32 : Shape := ⟨2, ![1, 32]⟩
abbrev S4096 : Shape := ⟨1, ![4096]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4768 : Shape := ⟨2, ![1024, 4768]⟩
abbrev S4x4096x4768 : Shape := ⟨3, ![4, 4096, 4768]⟩
abbrev S4x4096x384 : Shape := ⟨3, ![4, 4096, 384]⟩
abbrev S4x4096x256 : Shape := ⟨3, ![4, 4096, 256]⟩
abbrev S4x4096x32 : Shape := ⟨3, ![4, 4096, 32]⟩
abbrev S384 : Shape := ⟨1, ![384]⟩
abbrev S1x1x384 : Shape := ⟨3, ![1, 1, 384]⟩
abbrev S256 : Shape := ⟨1, ![256]⟩
abbrev S1x1x256 : Shape := ⟨3, ![1, 1, 256]⟩
abbrev S1x4x4096x256 : Shape := ⟨4, ![1, 4, 4096, 256]⟩
abbrev S32 : Shape := ⟨1, ![32]⟩
abbrev S1x1x32 : Shape := ⟨3, ![1, 1, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x16 : Shape := ⟨3, ![1, 4096, 16]⟩
abbrev S4x4096x16 : Shape := ⟨3, ![4, 4096, 16]⟩
abbrev S1x4x4096x32 : Shape := ⟨4, ![1, 4, 4096, 32]⟩

abbrev nBuf : Space → Nat
  | .hbm => 180
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x4768, .f32⟩
  | 3 => ⟨S1x384, .f32⟩
  | 4 => ⟨S1x256, .f32⟩
  | 5 => ⟨S1x32, .f32⟩
  | 6 => ⟨S1x1024, .f32⟩
  | 7 => ⟨S4096, .i32⟩
  | 8 => ⟨S1024, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S1024x4768, .f32⟩
  | 26 => ⟨S4x4096x4768, .f32⟩
  | 27 => ⟨S4x4096x384, .f32⟩
  | 28 => ⟨S4x4096x256, .f32⟩
  | 29 => ⟨S4x4096x32, .f32⟩
  | 30 => ⟨S4x4096x1024, .f32⟩
  | 31 => ⟨S4x4096x1024, .f32⟩
  | 32 => ⟨S4x4096x1024, .f32⟩
  | 33 => ⟨S4x4096x1024, .f32⟩
  | 34 => ⟨S384, .f32⟩
  | 35 => ⟨S4x4096x384, .f32⟩
  | 36 => ⟨S_, .f32⟩
  | 37 => ⟨S4x4096, .f32⟩
  | 38 => ⟨S4x4096x1, .f32⟩
  | 39 => ⟨S_, .f32⟩
  | 40 => ⟨S4x4096x1, .f32⟩
  | 41 => ⟨S4x4096x1, .f32⟩
  | 42 => ⟨S_, .f32⟩
  | 43 => ⟨S4x4096x1, .f32⟩
  | 44 => ⟨S4x4096x1, .f32⟩
  | 45 => ⟨S4x4096x1, .f32⟩
  | 46 => ⟨S4x4096x384, .f32⟩
  | 47 => ⟨S4x4096x384, .f32⟩
  | 48 => ⟨S1x1x384, .f32⟩
  | 49 => ⟨S4x4096x384, .f32⟩
  | 50 => ⟨S4x4096x384, .f32⟩
  | 51 => ⟨S4x4096x384, .bf16⟩
  | 52 => ⟨S256, .f32⟩
  | 53 => ⟨S4x4096x256, .f32⟩
  | 54 => ⟨S_, .f32⟩
  | 55 => ⟨S4x4096, .f32⟩
  | 56 => ⟨S4x4096x1, .f32⟩
  | 57 => ⟨S_, .f32⟩
  | 58 => ⟨S4x4096x1, .f32⟩
  | 59 => ⟨S4x4096x1, .f32⟩
  | 60 => ⟨S_, .f32⟩
  | 61 => ⟨S4x4096x1, .f32⟩
  | 62 => ⟨S4x4096x1, .f32⟩
  | 63 => ⟨S4x4096x1, .f32⟩
  | 64 => ⟨S4x4096x256, .f32⟩
  | 65 => ⟨S4x4096x256, .f32⟩
  | 66 => ⟨S1x1x256, .f32⟩
  | 67 => ⟨S4x4096x256, .f32⟩
  | 68 => ⟨S4x4096x256, .f32⟩
  | 69 => ⟨S1x4x4096x256, .f32⟩
  | 70 => ⟨S32, .f32⟩
  | 71 => ⟨S4x4096x32, .f32⟩
  | 72 => ⟨S_, .f32⟩
  | 73 => ⟨S4x4096, .f32⟩
  | 74 => ⟨S4x4096x1, .f32⟩
  | 75 => ⟨S_, .f32⟩
  | 76 => ⟨S4x4096x1, .f32⟩
  | 77 => ⟨S4x4096x1, .f32⟩
  | 78 => ⟨S_, .f32⟩
  | 79 => ⟨S4x4096x1, .f32⟩
  | 80 => ⟨S4x4096x1, .f32⟩
  | 81 => ⟨S4x4096x1, .f32⟩
  | 82 => ⟨S4x4096x32, .f32⟩
  | 83 => ⟨S4x4096x32, .f32⟩
  | 84 => ⟨S1x1x32, .f32⟩
  | 85 => ⟨S4x4096x32, .f32⟩
  | 86 => ⟨S4x4096x32, .f32⟩
  | 87 => ⟨S16, .f32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S4096, .f32⟩
  | 96 => ⟨S4096x1, .f32⟩
  | 97 => ⟨S1x16, .f32⟩
  | 98 => ⟨S4096x16, .f32⟩
  | 99 => ⟨S4096x16, .f32⟩
  | 100 => ⟨S4096x16, .f32⟩
  | 101 => ⟨S4096x16, .f32⟩
  | 102 => ⟨S1x4096x16, .f32⟩
  | 103 => ⟨S4096x16, .f32⟩
  | 104 => ⟨S1x4096x16, .f32⟩
  | 105 => ⟨S4x4096x16, .f32⟩
  | 106 => ⟨S4x4096x16, .f32⟩
  | 107 => ⟨S4x4096x16, .f32⟩
  | 108 => ⟨S4x4096x16, .f32⟩
  | 109 => ⟨S4x4096x16, .f32⟩
  | 110 => ⟨S4x4096x16, .f32⟩
  | 111 => ⟨S4x4096x16, .f32⟩
  | 112 => ⟨S4x4096x16, .f32⟩
  | 113 => ⟨S4x4096x16, .f32⟩
  | 114 => ⟨S4x4096x16, .f32⟩
  | 115 => ⟨S4x4096x16, .f32⟩
  | 116 => ⟨S4x4096x16, .f32⟩
  | 117 => ⟨S4x4096x32, .f32⟩
  | 118 => ⟨S1x4x4096x32, .f32⟩
  | 119 => ⟨S_, .f32⟩
  | 120 => ⟨S4x4096x1024, .f32⟩
  | 121 => ⟨S4x4096x1024, .f32⟩
  | 122 => ⟨S_, .f32⟩
  | 123 => ⟨S_, .f32⟩
  | 124 => ⟨S4x4096x1024, .f32⟩
  | 125 => ⟨S4x4096x1024, .f32⟩
  | 126 => ⟨S4x4096x1024, .f32⟩
  | 127 => ⟨S_, .f32⟩
  | _ => ⟨S4x4096x1024, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S4x4096x1024, .bf16⟩
  | 4 => ⟨S_, .f32⟩
  | 5 => ⟨S4x4096x1024, .f32⟩
  | 6 => ⟨S4x4096x1024, .f32⟩
  | 7 => ⟨S_, .f32⟩
  | 8 => ⟨S_, .f32⟩
  | 9 => ⟨S4x4096x1024, .f32⟩
  | 10 => ⟨S4x4096x1024, .f32⟩
  | 11 => ⟨S4x4096x1024, .f32⟩
  | 12 => ⟨S_, .f32⟩
  | 13 => ⟨S4x4096x1024, .f32⟩
  | 14 => ⟨S4x4096x1024, .f32⟩
  | 15 => ⟨S4x4096x1024, .f32⟩
  | 16 => ⟨S1024, .f32⟩
  | 17 => ⟨S4x4096x1024, .f32⟩
  | 18 => ⟨S_, .f32⟩
  | 19 => ⟨S4x4096, .f32⟩
  | 20 => ⟨S4x4096x1, .f32⟩
  | 21 => ⟨S_, .f32⟩
  | 22 => ⟨S4x4096x1, .f32⟩
  | 23 => ⟨S4x4096x1, .f32⟩
  | 24 => ⟨S_, .f32⟩
  | 25 => ⟨S4x4096x1, .f32⟩
  | 26 => ⟨S4x4096x1, .f32⟩
  | 27 => ⟨S4x4096x1, .f32⟩
  | 28 => ⟨S4x4096x1024, .f32⟩
  | 29 => ⟨S4x4096x1024, .f32⟩
  | 30 => ⟨S1x1x1024, .f32⟩
  | 31 => ⟨S4x4096x1024, .f32⟩
  | 32 => ⟨S4x4096x1024, .f32⟩
  | 33 => ⟨S4x4096x1024, .bf16⟩
  | 34 => ⟨S4x4096x1024, .f32⟩
  | 35 => ⟨S4x4096x1024, .f32⟩
  | 36 => ⟨S_, .f32⟩
  | 37 => ⟨S4x4096x1024, .f32⟩
  | 38 => ⟨S4x4096x1024, .f32⟩
  | 39 => ⟨S_, .f32⟩
  | 40 => ⟨S4x4096x1024, .f32⟩
  | 41 => ⟨S4x4096x1024, .f32⟩
  | 42 => ⟨S4x4096x1024, .bf16⟩
  | 43 => ⟨S4x4096x1024, .f32⟩
  | 44 => ⟨S4x4096x1024, .f32⟩
  | 45 => ⟨S_, .f32⟩
  | 46 => ⟨S4x4096x1024, .f32⟩
  | 47 => ⟨S4x4096x1024, .f32⟩
  | 48 => ⟨S_, .f32⟩
  | 49 => ⟨S4x4096x1024, .f32⟩
  | 50 => ⟨S4x4096x1024, .f32⟩
  | 51 => ⟨S4x4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_13 : Ref sig .tc := ⟨.hbm, 119, rfl⟩
abbrev main_v98 : Ref sig .tc := ⟨.hbm, 120, rfl⟩
abbrev main_v99 : Ref sig .tc := ⟨.hbm, 121, rfl⟩
abbrev main_cst_14 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_15 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_16 : Ref sig .tc := ⟨.hbm, 132, rfl⟩
abbrev main_v108 : Ref sig .tc := ⟨.hbm, 133, rfl⟩
abbrev main_v109 : Ref sig .tc := ⟨.hbm, 134, rfl⟩
abbrev main_cst_17 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_18 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_19 : Ref sig .tc := ⟨.hbm, 146, rfl⟩
abbrev main_v119 : Ref sig .tc := ⟨.hbm, 147, rfl⟩
abbrev main_v120 : Ref sig .tc := ⟨.hbm, 148, rfl⟩
abbrev main_cst_20 : Ref sig .tc := ⟨.hbm, 149, rfl⟩
abbrev main_v121 : Ref sig .tc := ⟨.hbm, 150, rfl⟩
abbrev main_v122 : Ref sig .tc := ⟨.hbm, 151, rfl⟩
abbrev main_cst_21 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_22 : Ref sig .tc := ⟨.hbm, 164, rfl⟩
abbrev main_v134 : Ref sig .tc := ⟨.hbm, 165, rfl⟩
abbrev main_v135 : Ref sig .tc := ⟨.hbm, 166, rfl⟩
abbrev main_cst_23 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_cst_24 : Ref sig .tc := ⟨.hbm, 173, rfl⟩
abbrev main_v141 : Ref sig .tc := ⟨.hbm, 174, rfl⟩
abbrev main_v142 : Ref sig .tc := ⟨.hbm, 175, rfl⟩
abbrev main_cst_25 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩

abbrev nD : Nat := 1
abbrev τ : Topo := Topo.v7x

variable {F : FTy → Type} [FloatOps F]
-- ==== MergeKernel.lean ====
abbrev S4x4096x1024 : Shape := ⟨3, ![4, 4096, 1024]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1024x1024 : Shape := ⟨2, ![1024, 1024]⟩
abbrev S1024 : Shape := ⟨1, ![1024]⟩
abbrev S1024x512 : Shape := ⟨2, ![1024, 512]⟩
abbrev S128 : Shape := ⟨1, ![128]⟩
abbrev S16384x1024 : Shape := ⟨2, ![16384, 1024]⟩
abbrev S16384x512 : Shape := ⟨2, ![16384, 512]⟩
abbrev S1024x1 : Shape := ⟨2, ![1024, 1]⟩
abbrev S1024x128 : Shape := ⟨2, ![1024, 128]⟩
abbrev S4x4096x4x128 : Shape := ⟨4, ![4, 4096, 4, 128]⟩

abbrev nBuf : Space → Nat
  | .hbm => 30
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x128, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x512, .f32⟩
  | .hbm, ⟨16, _⟩ => ⟨S1024x512, .bf16⟩
  | .hbm, ⟨17, _⟩ => ⟨S128, .f32⟩
  | .hbm, ⟨18, _⟩ => ⟨S1x128, .f32⟩
  | .hbm, ⟨19, _⟩ => ⟨S16384x1024, .f32⟩
  | .hbm, ⟨20, _⟩ => ⟨S16384x1024, .f32⟩
  | .hbm, ⟨21, _⟩ => ⟨S16384x1024, .bf16⟩
  | .hbm, ⟨22, _⟩ => ⟨S16384x1024, .f32⟩
  | .hbm, ⟨23, _⟩ => ⟨S16384x1024, .bf16⟩
  | .hbm, ⟨24, _⟩ => ⟨S16384x1024, .f32⟩
  | .hbm, ⟨25, _⟩ => ⟨S16384x1024, .bf16⟩
  | .hbm, ⟨26, _⟩ => ⟨S16384x1024, .f32⟩
  | .hbm, ⟨27, _⟩ => ⟨S16384x512, .bf16⟩
  | .hbm, ⟨28, _⟩ => ⟨S4x4096x1024, .f32⟩
  | .hbm, ⟨29, _⟩ => ⟨S4x4096x4x128, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x512, .bf16⟩
  | .local _ .vmem, ⟨12, _⟩ => ⟨S1x128, .f32⟩
  | .local _ .vmem, ⟨13, _⟩ => ⟨S1024x1024, .f32⟩
  | .local _ .vmem, ⟨14, _⟩ => ⟨S1024x1024, .f32⟩
  | .local _ .vmem, ⟨15, _⟩ => ⟨S1024x512, .bf16⟩
  | .local _ .vmem, ⟨16, _⟩ => ⟨S1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S4x4096x1024 : Shape := ⟨3, ![4, 4096, 1024]⟩
abbrev S1x1024x1024 : Shape := ⟨3, ![1, 1024, 1024]⟩
abbrev S1x1024 : Shape := ⟨2, ![1, 1024]⟩
abbrev S1x1024x512 : Shape := ⟨3, ![1, 1024, 512]⟩
abbrev S1x128 : Shape := ⟨2, ![1, 128]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x512 : Shape := ⟨2, ![1024, 512]⟩
abbrev S4x4096x512 : Shape := ⟨3, ![4, 4096, 512]⟩
abbrev S4x4096x4x128 : Shape := ⟨4, ![4, 4096, 4, 128]⟩
abbrev S128 : Shape := ⟨1, ![128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x128, .f32⟩
  | .hbm, ⟨9, _⟩ => ⟨S1024x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S1024x1024, .f32⟩
  | .hbm, ⟨14, _⟩ => ⟨S4x4096x1024, .f32⟩
  | .hbm, ⟨15, _⟩ => ⟨S4x4096x1024, .f32⟩
  | .hbm, ⟨16, _⟩ => ⟨S1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S1024x512, .f32⟩
  | .hbm, ⟨34, _⟩ => ⟨S4x4096x512, .f32⟩
  | .hbm, ⟨35, _⟩ => ⟨S4x4096x4x128, .f32⟩
  | .hbm, ⟨36, _⟩ => ⟨S128, .f32⟩
  | .hbm, ⟨37, _⟩ => ⟨S4x4096x4x128, .f32⟩
  | .hbm, ⟨38, _⟩ => ⟨S_, .f32⟩
  | .hbm, ⟨39, _⟩ => ⟨S4x4096x4, .f32⟩
  | .hbm, ⟨40, _⟩ => ⟨S4x4096x4x1, .f32⟩
  | .hbm, ⟨41, _⟩ => ⟨S_, .f32⟩
  | .hbm, ⟨42, _⟩ => ⟨S4x4096x4x1, .f32⟩
  | .hbm, ⟨43, _⟩ => ⟨S4x4096x4x1, .f32⟩
  | .hbm, ⟨44, _⟩ => ⟨S_, .f32⟩
  | .hbm, ⟨45, _⟩ => ⟨S4x4096x4x1, .f32⟩
  | .hbm, ⟨46, _⟩ => ⟨S4x4096x4x1, .f32⟩
  | .hbm, ⟨47, _⟩ => ⟨S4x4096x4x1, .f32⟩
  | .hbm, ⟨48, _⟩ => ⟨S4x4096x4x128, .f32⟩
  | .hbm, ⟨49, _⟩ => ⟨S4x4096x4x128, .f32⟩
  | .hbm, ⟨50, _⟩ => ⟨S1x1x1x128, .f32⟩
  | .hbm, ⟨51, _⟩ => ⟨S4x4096x4x128, .f32⟩
  | .hbm, ⟨52, _⟩ => ⟨S4x4096x4x128, .f32⟩
  | .hbm, ⟨53, _⟩ => ⟨S4x4096x4x128, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== OutKernel.lean ====
abbrev S4x4096x1024 : Shape := ⟨3, ![4, 4096, 1024]⟩
abbrev S4x4096x512 : Shape := ⟨3, ![4, 4096, 512]⟩
abbrev S1x512x1024 : Shape := ⟨3, ![1, 512, 1024]⟩
abbrev S1x1024 : Shape := ⟨2, ![1, 1024]⟩
abbrev S1x1024x2048 : Shape := ⟨3, ![1, 1024, 2048]⟩
abbrev S512x1024 : Shape := ⟨2, ![512, 1024]⟩
abbrev S1024 : Shape := ⟨1, ![1024]⟩
abbrev S1024x2048 : Shape := ⟨2, ![1024, 2048]⟩
abbrev S16384x1024 : Shape := ⟨2, ![16384, 1024]⟩
abbrev S16384x512 : Shape := ⟨2, ![16384, 512]⟩
abbrev S16384x2048 : Shape := ⟨2, ![16384, 2048]⟩
abbrev S1024x1024 : Shape := ⟨2, ![1024, 1024]⟩
abbrev S1024x512 : Shape := ⟨2, ![1024, 512]⟩
abbrev S1024x1 : Shape := ⟨2, ![1024, 1]⟩
abbrev S4x4096x2048 : Shape := ⟨3, ![4, 4096, 2048]⟩

abbrev nBuf : Space → Nat
  | .hbm => 20
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S1x512x1024, .f32⟩
  | .hbm, ⟨3, _⟩ => ⟨S1x1024, .f32⟩
  | .hbm, ⟨4, _⟩ => ⟨S1x1024x2048, .f32⟩
  | .hbm, ⟨5, _⟩ => ⟨S512x1024, .f32⟩
  | .hbm, ⟨6, _⟩ => ⟨S512x1024, .bf16⟩
  | .hbm, ⟨7, _⟩ => ⟨S1024, .f32⟩
  | .hbm, ⟨8, _⟩ => ⟨S1x1024, .f32⟩
  | .hbm, ⟨9, _⟩ => ⟨S1024x2048, .f32⟩
  | .hbm, ⟨10, _⟩ => ⟨S1024x2048, .bf16⟩
  | .hbm, ⟨11, _⟩ => ⟨S16384x1024, .f32⟩
  | .hbm, ⟨12, _⟩ => ⟨S16384x512, .f32⟩
  | .hbm, ⟨13, _⟩ => ⟨S16384x512, .bf16⟩
  | .hbm, ⟨14, _⟩ => ⟨S16384x1024, .f32⟩
  | .hbm, ⟨15, _⟩ => ⟨S16384x1024, .bf16⟩
  | .hbm, ⟨16, _⟩ => ⟨S16384x2048, .bf16⟩
  | .hbm, ⟨17, _⟩ => ⟨S4x4096x1024, .f32⟩
  | .hbm, ⟨18, _⟩ => ⟨S4x4096x1024, .bf16⟩
  | .hbm, ⟨19, _⟩ => ⟨S4x4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S1x1024, .f32⟩
  | .local _ .vmem, ⟨6, _⟩ => ⟨S1024x2048, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S1024x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S4x4096x1024 : Shape := ⟨3, ![4, 4096, 1024]⟩
abbrev S4x4096x512 : Shape := ⟨3, ![4, 4096, 512]⟩
abbrev S1x512x1024 : Shape := ⟨3, ![1, 512, 1024]⟩
abbrev S1x1024 : Shape := ⟨2, ![1, 1024]⟩
abbrev S1x1024x2048 : Shape := ⟨3, ![1, 1024, 2048]⟩
abbrev S512x1024 : Shape := ⟨2, ![512, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2048 : Shape := ⟨2, ![1024, 2048]⟩
abbrev S4x4096x2048 : Shape := ⟨3, ![4, 4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S1x512x1024, .f32⟩
  | .hbm, ⟨3, _⟩ => ⟨S1x1024, .f32⟩
  | .hbm, ⟨4, _⟩ => ⟨S1x1024x2048, .f32⟩
  | .hbm, ⟨5, _⟩ => ⟨S512x1024, .f32⟩
  | .hbm, ⟨6, _⟩ => ⟨S4x4096x1024, .f32⟩
  | .hbm, ⟨7, _⟩ => ⟨S4x4096x1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x1024, .bf16⟩
  | .hbm, ⟨26, _⟩ => ⟨S1024x2048, .f32⟩
  | .hbm, ⟨27, _⟩ => ⟨S4x4096x2048, .f32⟩
  | .hbm, ⟨28, _⟩ => ⟨S4x4096x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.KI.Body.lean ====
module

public import proofs.«01_k».proof.Proof.Gen.KernelIdeal.Frame
public import proofs.«01_k».proof.Proof.Gen.KernelIdeal.Loops
public import Idealize.ShloMosaic.Lib.Exec
public import Idealize.ShloMosaic.Lib.Tactic

/-!
# The body of the prompt attention (KernelIdeal): its loops over query tiles and its triple

Each query tile (a trip of one of the two counted loops) reads the query, key and value blocks and stores one piece
of the output block. Here: the triples of one trip, the loops' invariants (the output block at the pieces of the
trips run so far), and the triple of the whole body, for any float values.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The four vector buffers a query tile touches, held whole. -/
abbrev Trip (c : Dev nD) (arg3 : Memref sig .tc .vmem S1x4096x256 .bf16) (arg4 : Memref sig .tc .vmem S1x4096x256 .bf16) (arg5 : Memref sig .tc .vmem S1x4096x256 .bf16) (arg6 : Memref sig .tc .vmem S1x4096x128 .bf16)
    (X3 : BufTy.Contents (Elt F) arg3.view.ty) (X4 : BufTy.Contents (Elt F) arg4.view.ty) (X5 : BufTy.Contents (Elt F) arg5.view.ty) (f : BufTy.Contents (Elt F) arg6.view.ty) : sProp 𝕄G :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} f))

/-- One query tile of the loop that subtracts the bound, an even tile: the pieces it stores, and its triple. -/
@[irreducible] def trip1e (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) (k : Fin k0_t1_loop.trips) (h : ¬ k0_cond2 k = 1#1) :
    {L : List (View.Piece (Elt F) S1x4096x128 .bf16) // ∀ (f : BufTy.Contents (Elt F) arg6.view.ty) (E : Set ℕ),
      Trip (F := F) c arg3 arg4 arg5 arg6 X3 X4 X5 f
      ⊢ wp frame (wpE (defs₀ (F := F)) Variants.none (c : Thread nD τ) none) E (k0_t1_body (F := F) i arg2 harg2 arg3 harg3 arg4 harg4 arg5 harg5 arg6 harg6 v0 v3 v28 v29 c64_i32_5 v31 v38 v43 k ())
          (fun _ => Trip (F := F) c arg3 arg4 arg5 arg6 X3 X4 X5 (arg6.view.writes (Elt F) f L))} := by
  refine ⟨?_, fun f E => ?run⟩
  case run =>
    unfold k0_t1_body
    iintro ⟨H3, H4, H5, H6⟩
    simp only [dif_neg h]
    sl_exec
    sl_step
    sl_close

/-- One query tile of the loop that subtracts the bound, an odd tile (one key tile more before the masked one). -/
@[irreducible] def trip1o (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) (k : Fin k0_t1_loop.trips) (h : k0_cond2 k = 1#1) :
    {L : List (View.Piece (Elt F) S1x4096x128 .bf16) // ∀ (f : BufTy.Contents (Elt F) arg6.view.ty) (E : Set ℕ),
      Trip (F := F) c arg3 arg4 arg5 arg6 X3 X4 X5 f
      ⊢ wp frame (wpE (defs₀ (F := F)) Variants.none (c : Thread nD τ) none) E (k0_t1_body (F := F) i arg2 harg2 arg3 harg3 arg4 harg4 arg5 harg5 arg6 harg6 v0 v3 v28 v29 c64_i32_5 v31 v38 v43 k ())
          (fun _ => Trip (F := F) c arg3 arg4 arg5 arg6 X3 X4 X5 (arg6.view.writes (Elt F) f L))} := by
  refine ⟨?_, fun f E => ?run⟩
  case run =>
    unfold k0_t1_body
    iintro ⟨H3, H4, H5, H6⟩
    simp only [dif_pos h]
    sl_exec
    sl_step
    sl_close

/-- One query tile of the loop that keeps a running maximum: the pieces it stores, and its triple. -/
@[irreducible] def trip4 (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) (k : Fin k0_t4_loop.trips)  :
    {L : List (View.Piece (Elt F) S1x4096x128 .bf16) // ∀ (f : BufTy.Contents (Elt F) arg6.view.ty) (E : Set ℕ),
      Trip (F := F) c arg3 arg4 arg5 arg6 X3 X4 X5 f
      ⊢ wp frame (wpE (defs₀ (F := F)) Variants.none (c : Thread nD τ) none) E (k0_t4_body (F := F) i arg2 harg2 arg3 harg3 arg4 harg4 arg5 harg5 arg6 harg6 v3 v28 v29 c64_i32_5 v31 v38 v43 k ())
          (fun _ => Trip (F := F) c arg3 arg4 arg5 arg6 X3 X4 X5 (arg6.view.writes (Elt F) f L))} := by
  refine ⟨?_, fun f E => ?run⟩
  case run =>
    unfold k0_t4_body
    iintro ⟨H3, H4, H5, H6⟩
    skip
    sl_exec
    sl_step
    sl_close

/-- The pieces of tile `k` in the loop that subtracts the bound. -/
def tripL1 (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) (k : Fin k0_t1_loop.trips) : List (View.Piece (Elt F) S1x4096x128 .bf16) :=
  if h : k0_cond2 k = 1#1 then (trip1o (F := F) c i arg2 harg2 arg3 harg3 arg4 harg4 arg5 harg5 arg6 harg6 v0 v3 v28 v29 c64_i32_5 v31 v38 v43 X3 X4 X5 k h).1
  else (trip1e (F := F) c i arg2 harg2 arg3 harg3 arg4 harg4 arg5 harg5 arg6 harg6 v0 v3 v28 v29 c64_i32_5 v31 v38 v43 X3 X4 X5 k h).1

/-- A tile's triple, whichever its parity. -/
theorem tripL1_run (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) (k : Fin k0_t1_loop.trips) (f : BufTy.Contents (Elt F) arg6.view.ty) (E : Set ℕ) :
    Trip (F := F) c arg3 arg4 arg5 arg6 X3 X4 X5 f
      ⊢ wp frame (wpE (defs₀ (F := F)) Variants.none (c : Thread nD τ) none) E (k0_t1_body (F := F) i arg2 harg2 arg3 harg3 arg4 harg4 arg5 harg5 arg6 harg6 v0 v3 v28 v29 c64_i32_5 v31 v38 v43 k ())
          (fun _ => Trip (F := F) c arg3 arg4 arg5 arg6 X3 X4 X5 (arg6.view.writes (Elt F) f (tripL1 (F := F) c i arg2 harg2 arg3 harg3 arg4 harg4 arg5 harg5 arg6 harg6 v0 v3 v28 v29 c64_i32_5 v31 v38 v43 X3 X4 X5 k))) := by
  unfold tripL1
  by_cases h : k0_cond2 k = 1#1
  · rw [dif_pos h]; exact (trip1o (F := F) c i arg2 harg2 arg3 harg3 arg4 harg4 arg5 harg5 arg6 harg6 v0 v3 v28 v29 c64_i32_5 v31 v38 v43 X3 X4 X5 k h).2 f E
  · rw [dif_neg h]; exact (trip1e (F := F) c i arg2 harg2 arg3 harg3 arg4 harg4 arg5 harg5 arg6 harg6 v0 v3 v28 v29 c64_i32_5 v31 v38 v43 X3 X4 X5 k h).2 f E

/-- The pieces of tile `k` in the loop that keeps a running maximum. -/
def tripL4 (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) (k : Fin k0_t4_loop.trips) : List (View.Piece (Elt F) S1x4096x128 .bf16) :=
  (trip4 (F := F) c i arg2 harg2 arg3 harg3 arg4 harg4 arg5 harg5 arg6 harg6 v3 v28 v29 c64_i32_5 v31 v38 v43 X3 X4 X5 k).1

/-- The pieces of the tiles before `k`, the last one first. -/
def pb1 (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) : ℕ → List (View.Piece (Elt F) S1x4096x128 .bf16)
  | 0 => []
  | k + 1 => if h : k < k0_t1_loop.trips then tripL1 (F := F) c i arg2 harg2 arg3 harg3 arg4 harg4 arg5 harg5 arg6 harg6 v0 v3 v28 v29 c64_i32_5 v31 v38 v43 X3 X4 X5 ⟨k, h⟩ ++ pb1 c i arg2 harg2 arg3 harg3 arg4 harg4 arg5 harg5 arg6 harg6 v0 v3 v28 v29 c64_i32_5 v31 v38 v43 X3 X4 X5 k
      else pb1 c i arg2 harg2 arg3 harg3 arg4 harg4 arg5 harg5 arg6 harg6 v0 v3 v28 v29 c64_i32_5 v31 v38 v43 X3 X4 X5 k

/-- One tile more. -/
theorem pb1_succ (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) (k : Fin k0_t1_loop.trips) :
    pb1 (F := F) c i arg2 harg2 arg3 harg3 arg4 harg4 arg5 harg5 arg6 harg6 v0 v3 v28 v29 c64_i32_5 v31 v38 v43 X3 X4 X5 (k + 1)
      = tripL1 (F := F) c i arg2 harg2 arg3 harg3 arg4 harg4 arg5 harg5 arg6 harg6 v0 v3 v28 v29 c64_i32_5 v31 v38 v43 X3 X4 X5 k ++ pb1 (F := F) c i arg2 harg2 arg3 harg3 arg4 harg4 arg5 harg5 arg6 harg6 v0 v3 v28 v29 c64_i32_5 v31 v38 v43 X3 X4 X5 k := by
  rw [pb1, dif_pos k.2]

set_option warn.classDefReducibility false in
/-- The loop's invariant: before tile `k` the output block holds the pieces of the tiles before it. -/
@[sl_loop] def loopInv_k0_t1 (c : Dev nD) (E : Set ℕ) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) (f₀ : BufTy.Contents (Elt F) arg6.view.ty) :
    Gen.LoopInvTy_k0_t1 (F := F) (Ix := Unit) ℕ (UR sig nD τ) ℕ Variants.none c none E i arg2 harg2 arg3 harg3 arg4 harg4 arg5 harg5 arg6 harg6 v0 v3 v28 v29 c64_i32_5 v31 v38 v43 where
  inv k _ := iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5)
    ∗ (∃ f, (arg6.view.loc (c : Thread nD τ) ↦[arg6.view.set]{fullShare} f) ∗ ⌜f = arg6.view.writes (Elt F) f₀ (pb1 (F := F) c i arg2 harg2 arg3 harg3 arg4 harg4 arg5 harg5 arg6 harg6 v0 v3 v28 v29 c64_i32_5 v31 v38 v43 X3 X4 X5 k)⌝))
  step k acc := by
    iintro ⟨H3, H4, H5, ⟨%f, H6, %hf⟩⟩
    subst hf
    iapply (wp_wand_r Idealize.ShloMosaic.frame (wpE (defs₀ (F := F)) Variants.none (c : Thread nD τ) none) E)
    isplitl [H3 H4 H5 H6]
    · iapply (tripL1_run (F := F) c i arg2 harg2 arg3 harg3 arg4 harg4 arg5 harg5 arg6 harg6 v0 v3 v28 v29 c64_i32_5 v31 v38 v43 X3 X4 X5 k _ E)
      isplitl [H3]; · iexact H3
      isplitl [H4]; · iexact H4
      isplitl [H5]; · iexact H5
      iexact H6
    · iintro %yld ⟨H3, H4, H5, H6⟩
      isplitl [H3]; · iexact H3
      isplitl [H4]; · iexact H4
      isplitl [H5]; · iexact H5
      iexists _
      isplitl [H6]; · iexact H6
      ipureintro
      rw [pb1_succ, View.writes_append]

/-- The pieces of the tiles before `k`, the last one first. -/
def pb4 (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) : ℕ → List (View.Piece (Elt F) S1x4096x128 .bf16)
  | 0 => []
  | k + 1 => if h : k < k0_t4_loop.trips then tripL4 (F := F) c i arg2 harg2 arg3 harg3 arg4 harg4 arg5 harg5 arg6 harg6 v3 v28 v29 c64_i32_5 v31 v38 v43 X3 X4 X5 ⟨k, h⟩ ++ pb4 c i arg2 harg2 arg3 harg3 arg4 harg4 arg5 harg5 arg6 harg6 v3 v28 v29 c64_i32_5 v31 v38 v43 X3 X4 X5 k
      else pb4 c i arg2 harg2 arg3 harg3 arg4 harg4 arg5 harg5 arg6 harg6 v3 v28 v29 c64_i32_5 v31 v38 v43 X3 X4 X5 k

/-- One tile more. -/
theorem pb4_succ (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) (k : Fin k0_t4_loop.trips) :
    pb4 (F := F) c i arg2 harg2 arg3 harg3 arg4 harg4 arg5 harg5 arg6 harg6 v3 v28 v29 c64_i32_5 v31 v38 v43 X3 X4 X5 (k + 1)
      = tripL4 (F := F) c i arg2 harg2 arg3 harg3 arg4 harg4 arg5 harg5 arg6 harg6 v3 v28 v29 c64_i32_5 v31 v38 v43 X3 X4 X5 k ++ pb4 (F := F) c i arg2 harg2 arg3 harg3 arg4 harg4 arg5 harg5 arg6 harg6 v3 v28 v29 c64_i32_5 v31 v38 v43 X3 X4 X5 k := by
  rw [pb4, dif_pos k.2]

set_option warn.classDefReducibility false in
/-- The loop's invariant: before tile `k` the output block holds the pieces of the tiles before it. -/
@[sl_loop] def loopInv_k0_t4 (c : Dev nD) (E : Set ℕ) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v28 v29 : IVec S512x512 32) (c64_i32_5 : BitVec 32) (v31 v38 : IVec S512x512 32) (v43 : BitVec 32)
    (X3 : BufTy.Contents (Elt F) arg3.view.ty) (X4 : BufTy.Contents (Elt F) arg4.view.ty) (X5 : BufTy.Contents (Elt F) arg5.view.ty) (f₀ : BufTy.Contents (Elt F) arg6.view.ty) :
    Gen.LoopInvTy_k0_t4 (F := F) (Ix := Unit) ℕ (UR sig nD τ) ℕ Variants.none c none E i arg2 harg2 arg3 harg3 arg4 harg4 arg5 harg5 arg6 harg6 v3 v28 v29 c64_i32_5 v31 v38 v43 where
  inv k _ := iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5)
    ∗ (∃ f, (arg6.view.loc (c : Thread nD τ) ↦[arg6.view.set]{fullShare} f) ∗ ⌜f = arg6.view.writes (Elt F) f₀ (pb4 (F := F) c i arg2 harg2 arg3 harg3 arg4 harg4 arg5 harg5 arg6 harg6 v3 v28 v29 c64_i32_5 v31 v38 v43 X3 X4 X5 k)⌝))
  step k acc := by
    iintro ⟨H3, H4, H5, ⟨%f, H6, %hf⟩⟩
    subst hf
    iapply (wp_wand_r Idealize.ShloMosaic.frame (wpE (defs₀ (F := F)) Variants.none (c : Thread nD τ) none) E)
    isplitl [H3 H4 H5 H6]
    · iapply ((trip4 (F := F) c i arg2 harg2 arg3 harg3 arg4 harg4 arg5 harg5 arg6 harg6 v3 v28 v29 c64_i32_5 v31 v38 v43 X3 X4 X5 k).2 _ E)
      isplitl [H3]; · iexact H3
      isplitl [H4]; · iexact H4
      isplitl [H5]; · iexact H5
      iexact H6
    · iintro %yld ⟨H3, H4, H5, H6⟩
      isplitl [H3]; · iexact H3
      isplitl [H4]; · iexact H4
      isplitl [H5]; · iexact H5
      iexists _
      isplitl [H6]; · iexact H6
      ipureintro
      rw [pb4_succ, View.writes_append]
      rfl

/-- The bound the body reads from scalar memory. -/
def bnd (arg2 : Memref sig .tc .smem S1 .f32) (X2 : BufTy.Contents (Elt F) arg2.view.ty) : Elt F .f32 :=
  View.readAt (Elt F) arg2.view (Rect.unit (s := S1) ![0] S1.size inb_S1_S1_0).toLoadRect X2 (Shape.Idx.first (numel1_S1.symm ▸ Nat.one_pos))

/-- The word the first branch tests: the bound is below 48. -/
def low (v : Elt F .f32) : BitVec 1 :=
  Scalar.cmpi .ne (Scalar.extui (Scalar.cmpf .olt v (Scalar.ofBits .f32 0x42400000#32)) : BitVec 32) 0#32

/-- The word the second branch tests: the bound is 48 or more. -/
def high (v : Elt F .f32) : BitVec 1 :=
  Scalar.cmpi .ne (Scalar.extui (Scalar.cmpf .oge v (Scalar.ofBits .f32 0x42400000#32)) : BitVec 32) 0#32

/-- The column numbers of a 512 by 512 tile. -/
def cols : IVec S512x512 32 := iota .tc S512x512 32 [1] iota_S512x512_d1_w32

/-- The output block after the loop that subtracts the bound. -/
def after1 (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (X2 : BufTy.Contents (Elt F) arg2.view.ty)
    (X3 : BufTy.Contents (Elt F) arg3.view.ty) (X4 : BufTy.Contents (Elt F) arg4.view.ty) (X5 : BufTy.Contents (Elt F) arg5.view.ty) (f : BufTy.Contents (Elt F) arg6.view.ty) : BufTy.Contents (Elt F) arg6.view.ty :=
  if low (bnd arg2 X2) = 1#1 then
    arg6.view.writes (Elt F) f (pb1 (F := F) c i arg2 harg2 arg3 harg3 arg4 harg4 arg5 harg5 arg6 harg6 (bnd arg2 X2) k0_pay106 k0_pay107 cols 64#32 k0_pay108 k0_pay109 1#32 X3 X4 X5 k0_t1_loop.trips)
  else f

/-- The output block at the body's end. -/
def after4 (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (X2 : BufTy.Contents (Elt F) arg2.view.ty)
    (X3 : BufTy.Contents (Elt F) arg3.view.ty) (X4 : BufTy.Contents (Elt F) arg4.view.ty) (X5 : BufTy.Contents (Elt F) arg5.view.ty) (f : BufTy.Contents (Elt F) arg6.view.ty) : BufTy.Contents (Elt F) arg6.view.ty :=
  if high (bnd arg2 X2) = 1#1 then
    arg6.view.writes (Elt F) (after1 (F := F) c i arg2 harg2 arg3 harg3 arg4 harg4 arg5 harg5 arg6 harg6 X2 X3 X4 X5 f)
      (pb4 (F := F) c i arg2 harg2 arg3 harg3 arg4 harg4 arg5 harg5 arg6 harg6 k0_pay106 k0_pay107 cols 64#32 k0_pay108 k0_pay109 1#32 X3 X4 X5 k0_t4_loop.trips)
  else after1 (F := F) c i arg2 harg2 arg3 harg3 arg4 harg4 arg5 harg5 arg6 harg6 X2 X3 X4 X5 f

/-- The triple of the body: the five buffers come back, the inputs unchanged and the output block at `after4`. -/
theorem body_run (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (X2 : BufTy.Contents (Elt F) arg2.view.ty)
    (X3 : BufTy.Contents (Elt F) arg3.view.ty) (X4 : BufTy.Contents (Elt F) arg4.view.ty) (X5 : BufTy.Contents (Elt F) arg5.view.ty) (f : BufTy.Contents (Elt F) arg6.view.ty) (E : Set ℕ) :
    iprop((arg2.view.loc (c : Thread nD τ) ↦[arg2.view.set]{fullShare} X2) ∗ Trip (F := F) c arg3 arg4 arg5 arg6 X3 X4 X5 f)
      ⊢ wp frame (wpE (defs₀ (F := F)) Variants.none (c : Thread nD τ) none) E (cc0_attn_prompt (F := F) i arg2 harg2 arg3 harg3 arg4 harg4 arg5 harg5 arg6 harg6)
          (fun _ => iprop((arg2.view.loc (c : Thread nD τ) ↦[arg2.view.set]{fullShare} X2)
            ∗ Trip (F := F) c arg3 arg4 arg5 arg6 X3 X4 X5 (after4 (F := F) c i arg2 harg2 arg3 harg3 arg4 harg4 arg5 harg5 arg6 harg6 X2 X3 X4 X5 f))) := by
  rw [cc0_attn_prompt_eq_skeleton]
  unfold cc0_attn_prompt_skel
  iintro ⟨H2, H3, H4, H5, H6⟩
  by_cases h1 : low (bnd arg2 X2) = 1#1
  · by_cases h4 : high (bnd arg2 X2) = 1#1
    · have e : after4 (F := F) c i arg2 harg2 arg3 harg3 arg4 harg4 arg5 harg5 arg6 harg6 X2 X3 X4 X5 f = arg6.view.writes (Elt F) (arg6.view.writes (Elt F) f (pb1 (F := F) c i arg2 harg2 arg3 harg3 arg4 harg4 arg5 harg5 arg6 harg6 (bnd arg2 X2) k0_pay106 k0_pay107 cols 64#32 k0_pay108 k0_pay109 1#32 X3 X4 X5 k0_t1_loop.trips))
          (pb4 (F := F) c i arg2 harg2 arg3 harg3 arg4 harg4 arg5 harg5 arg6 harg6 k0_pay106 k0_pay107 cols 64#32 k0_pay108 k0_pay109 1#32 X3 X4 X5 k0_t4_loop.trips) := by
        rw [after4, after1, if_pos h1, if_pos h4]
      rw [e, ← View.writes_append]
      sl_exec
      sl_step
      isplitl [H2]; · iexact H2
      isplitl [H3]; · iexact H3
      isplitl [H4]; · iexact H4
      isplitl [H5]; · iexact H5
      iexact H6
    · have e : after4 (F := F) c i arg2 harg2 arg3 harg3 arg4 harg4 arg5 harg5 arg6 harg6 X2 X3 X4 X5 f = arg6.view.writes (Elt F) f (pb1 (F := F) c i arg2 harg2 arg3 harg3 arg4 harg4 arg5 harg5 arg6 harg6 (bnd arg2 X2) k0_pay106 k0_pay107 cols 64#32 k0_pay108 k0_pay109 1#32 X3 X4 X5 k0_t1_loop.trips) := by
        rw [after4, after1, if_pos h1, if_neg h4]
      rw [e]
      sl_exec
      sl_step
      isplitl [H2]; · iexact H2
      isplitl [H3]; · iexact H3
      isplitl [H4]; · iexact H4
      isplitl [H5]; · iexact H5
      iexact H6
  · by_cases h4 : high (bnd arg2 X2) = 1#1
    · have e : after4 (F := F) c i arg2 harg2 arg3 harg3 arg4 harg4 arg5 harg5 arg6 harg6 X2 X3 X4 X5 f = arg6.view.writes (Elt F) f
          (pb4 (F := F) c i arg2 harg2 arg3 harg3 arg4 harg4 arg5 harg5 arg6 harg6 k0_pay106 k0_pay107 cols 64#32 k0_pay108 k0_pay109 1#32 X3 X4 X5 k0_t4_loop.trips) := by
        rw [after4, after1, if_neg h1, if_pos h4]
      rw [e]
      sl_exec
      sl_step
      isplitl [H2]; · iexact H2
      isplitl [H3]; · iexact H3
      isplitl [H4]; · iexact H4
      isplitl [H5]; · iexact H5
      iexact H6
    · have e : after4 (F := F) c i arg2 harg2 arg3 harg3 arg4 harg4 arg5 harg5 arg6 harg6 X2 X3 X4 X5 f = f := by
        rw [after4, after1, if_neg h1, if_neg h4]
      rw [e]
      sl_exec
      sl_step
      isplitl [H2]; · iexact H2
      isplitl [H3]; · iexact H3
      isplitl [H4]; · iexact H4
      isplitl [H5]; · iexact H5
      iexact H6

end Cert.KernelIdeal.Body
end
-- ==== Proof.KI.Forget.lean ====
module

public import proofs.«01_k».proof.Proof.KI.Body

/-!
# The frame of KernelIdeal: the run with the output block forgotten

The frame says nothing of what the call writes, so the output window's relation is forgotten here: when the bound is
not a number neither branch of the body runs, and the block written back is whatever the buffer held.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose RDat cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The window whose contents the frame forgets: the output. -/
def fgt : Fin cfg0.W → Bool := fun w => w == 4

/-- The proof data of the frame: every input's buffer at its block, nothing said of the output's. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => default
  Φ _ := Pipeline.ΦA spec0 c
  q _ := fullShare
  owed _ := 0

theorem datsF_A (c : Dev nD) (w : Fin cfg0.W) : (datsF m 0 c).A w = V m c (Pipeline.arrRef spec0 w) := by
  dsimp only [datsF]
theorem datsF_after0 (c : Dev nD) (t : Fin cfg0.N) : (datsF m 0 c).after 0 t = iblk m c 0 t := by dsimp only [datsF]
theorem datsF_before0 (c : Dev nD) (t : Fin cfg0.N) (d) : (datsF m 0 c).before 0 t d = iblk m c 0 t :=
  before0_0_of m (datsF m 0 c) (datsF_A m c 0) (datsF_after0 m c) t d
theorem datsF_after1 (c : Dev nD) (t : Fin cfg0.N) : (datsF m 0 c).after 1 t = iblk m c 1 t := by dsimp only [datsF]
theorem datsF_before1 (c : Dev nD) (t : Fin cfg0.N) (d) : (datsF m 0 c).before 1 t d = iblk m c 1 t :=
  before0_1_of m (datsF m 0 c) (datsF_A m c 1) (datsF_after1 m c) t d
theorem datsF_after2 (c : Dev nD) (t : Fin cfg0.N) : (datsF m 0 c).after 2 t = iblk m c 2 t := by dsimp only [datsF]
theorem datsF_before2 (c : Dev nD) (t : Fin cfg0.N) (d) : (datsF m 0 c).before 2 t d = iblk m c 2 t :=
  before0_2_of m (datsF m 0 c) (datsF_A m c 2) (datsF_after2 m c) t d
theorem datsF_after3 (c : Dev nD) (t : Fin cfg0.N) : (datsF m 0 c).after 3 t = iblk m c 3 t := by dsimp only [datsF]
theorem datsF_before3 (c : Dev nD) (t : Fin cfg0.N) (d) : (datsF m 0 c).before 3 t d = iblk m c 3 t :=
  before0_3_of m (datsF m 0 c) (datsF_A m c 3) (datsF_after3 m c) t d

/-- The body at any point, from the inputs' blocks and any output buffer to the same with some output buffer. -/
theorem bodyF (c : Dev nD) (t : Fin cfg0.N) :
    iprop((datsF m 0 c).Φ t.castSucc ∗ (datsF m 0 c).owesAt () t.castSucc
      ∗ (∃ d, owns (c : Thread nD τ) (st0_0 t) fullShare ((datsF m 0 c).before 0 t d))
      ∗ (∃ d, owns (c : Thread nD τ) (st0_1 t) fullShare ((datsF m 0 c).before 1 t d))
      ∗ (∃ d, owns (c : Thread nD τ) (st0_2 t) fullShare ((datsF m 0 c).before 2 t d))
      ∗ (∃ d, owns (c : Thread nD τ) (st0_3 t) fullShare ((datsF m 0 c).before 3 t d))
      ∗ (∃ X, owns (c : Thread nD τ) (st0_4 t) fullShare X))
    ⊢ wp frame (wpE (defs₀ (F := F)) Variants.none c none) Set.univ (bodyAt0 t) (fun _ =>
      iprop((datsF m 0 c).Φ t.succ ∗ (datsF m 0 c).owesAt () t.succ
      ∗ owns (c : Thread nD τ) (st0_0 t) fullShare ((datsF m 0 c).after 0 t)
      ∗ owns (c : Thread nD τ) (st0_1 t) fullShare ((datsF m 0 c).after 1 t)
      ∗ owns (c : Thread nD τ) (st0_2 t) fullShare ((datsF m 0 c).after 2 t)
      ∗ owns (c : Thread nD τ) (st0_3 t) fullShare ((datsF m 0 c).after 3 t)
      ∗ (∃ X, owns (c : Thread nD τ) (st0_4 t) fullShare X))) := by
  unfold bodyAt0
  simp only [datsF_before0, datsF_before1, datsF_before2, datsF_before3]
  rw [show (datsF m 0 c).Φ t.succ = (datsF m 0 c).Φ t.castSucc from rfl,
    show (datsF m 0 c).owesAt () t.succ = (datsF m 0 c).owesAt () t.castSucc from rfl,
    datsF_after0, datsF_after1, datsF_after2, datsF_after3]
  unfold owns
  iintro ⟨HΦ, Ho, ⟨%d0, %f0, %e0, H0⟩, ⟨%d1, %f1, %e1, H1⟩, ⟨%d2, %f2, %e2, H2⟩, ⟨%d3, %f3, %e3, H3⟩, ⟨%X, %f4, %e4, H4⟩⟩
  iapply (wp_wand_r Idealize.ShloMosaic.frame (wpE (defs₀ (F := F)) Variants.none (c : Thread nD τ) none) Set.univ)
  isplitl [H0 H1 H2 H3 H4]
  · iapply (body_run (F := F) c (grid0.coords t) _ _ _ _ _ _ _ _ _ _ f0 f1 f2 f3 f4 Set.univ)
    isplitl [H0]; · iexact H0
    isplitl [H1]; · iexact H1
    isplitl [H2]; · iexact H2
    isplitl [H3]; · iexact H3
    iexact H4
  · iintro %_ ⟨H0, H1, H2, H3, H4⟩
    isplitl [HΦ]; · iexact HΦ
    isplitl [Ho]; · iexact Ho
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    iexists _; iexists _; isplitr
    swap; · iexact H4
    ipureintro; exact rfl

/-- The body table's row at a point's slots is the body on the point's buffers. -/
theorem row (t : Fin cfg0.N) :
    defs₀ (F := F) .tc cfg0.body (cfg0.bodyArgs t (cfg0.slots t)) = bodyAt0 t := by
  unfold defs₀; rw [Defs.onTc_tc]

/-- The library's body obligation with the output forgotten. -/
theorem obligationF (c : Dev nD) : BodyObligation (datsF (F := F) m 0 c) (defs₀ (F := F)) Variants.none () Set.univ fgt := fun t => by
  rw [bigSep_W0, bigSep_W0, row]
  exact triple_restated (bodyF m c t) rfl .rfl fun _ => .rfl

set_option backward.isDefEq.respectTransparency.types false in
/-- The run: the arrays the windows do not write, and every buffer no window stages, are as the region found them. -/
theorem runF : θ_run defs (onTc (τ := τ) (main (F := F))) (s₀ m ρ)
    (fun r => RDat.FramePost cfg0 (fun c => (datsF m 0 c).toRForget fgt) (V m) r ∧ r.2.sem = fun _ => 0) :=
  Pipeline.θ_run_frame_forget (Q' := _) cfgs (datsF m) (0 : Fin 1) launch0 defs₀ Variants.none fgt m ρ main
    (hbody := fun c => (obligationF m c).loose) (hshare := fun c => (datsF m 0 c).share_full fun _ => rfl)
    (howed := fun _ _ => rfl) (V := V m) (hmain := hmain m Variants.none) (hA := datsF_A m) (hΦ := fun _ _ => rfl)

/-- The frame: the argument arrays end as they began, and every counter is zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (runF m ρ)

end Cert.KernelIdeal.Body

end
-- ==== Proof.KI.Steps.lean ====
module

public import proofs.«01_k».proof.Proof.KI.Body
public import Idealize.ShloMosaic.Lib.Pointwise

/-!
# One step of the prompt attention over a key tile

The two ways a query tile takes one more key tile into what it carries, written once: `stU` and `stM` (the bound is
subtracted; the second one masks) and `onU` and `onM` (a running maximum is kept). Then a whole query tile, by
recursion over the key tiles before it.
-/

@[expose] public section

set_option maxRecDepth 16384

noncomputable section

namespace Cert.KernelIdeal.Body

open Cert.KernelIdeal Cert.KernelIdeal.Gen
open Idealize.ShloMosaic

variable {F : FTy → Type} [FloatOps F] [Named F]

/-- 512 rows of a block, from row `512 t` on. -/
def rows (X : Vec F S1x4096x256 .bf16) (t : ℕ) : Vec F S1x512x256 .bf16 :=
  fun j => X (ix3 (0 : Fin 1) (⟨(512 * t + (j 1).val) % 4096, Nat.mod_lt _ (by decide)⟩ : Fin 4096) (j 2))

/-- A tile as a matrix. -/
def mat (v : Vec F S1x512x256 .bf16) : FVec F S512x256 .bf16 := shapeCast S512x256 v shapeCasts_S1x512x256_S512x256

/-- The even head's scores, times the scale. -/
def sc0 (q k : FVec F S512x256 .bf16) : FVec F S512x512 .f32 :=
  mulf (matmul dot_S512x128_S512x128_S512x512_1_1_0_0_n_n none (extractStridedSlice S512x128 ![0, 0] q slices_S512x256_o0_0_S512x128)
      (extractStridedSlice S512x128 ![0, 0] k slices_S512x256_o0_0_S512x128) (constant S512x512 .f32 0x00000000#32))
    (broadcast S512x512 (Named.named κ "scale_log2e" 0x3E16C740#32 : F .f32))
/-- The odd head's. -/
def sc1 (q k : FVec F S512x256 .bf16) : FVec F S512x512 .f32 :=
  mulf (matmul dot_S512x128_S512x128_S512x512_1_1_0_0_n_n none (extractStridedSlice S512x128 ![0, 128] q slices_S512x256_o0_128_S512x128)
      (extractStridedSlice S512x128 ![0, 128] k slices_S512x256_o0_128_S512x128) (constant S512x512 .f32 0x00000000#32))
    (broadcast S512x512 (Named.named κ "scale_log2e" 0x3E16C740#32 : F .f32))

/-- Scores with the invisible ones masked. -/
def msk (vis : IVec S512x512 1) (s : FVec F S512x512 .f32) : FVec F S512x512 .f32 :=
  select vis s (broadcast S512x512 (Named.named κ "mask" 0xF149F2CA#32 : F .f32))
/-- Scores less the bound. -/
def shf (b : Elt F .f32) (s : FVec F S512x512 .f32) : FVec F S512x512 .f32 := subf s (broadcast S512x512 b)

/-- Four slices of 128 lanes added to a running sum. -/
def addS (a : FVec F S512x128 .f32) (p : FVec F S512x512 .f32) : FVec F S512x128 .f32 :=
  addf (addf (addf (addf a (extractStridedSlice S512x128 ![0, 0] p slices_S512x512_o0_0_S512x128))
    (extractStridedSlice S512x128 ![0, 128] p slices_S512x512_o0_128_S512x128))
    (extractStridedSlice S512x128 ![0, 256] p slices_S512x512_o0_256_S512x128))
    (extractStridedSlice S512x128 ![0, 384] p slices_S512x512_o0_384_S512x128)

/-- Weights by the even head's values. -/
def pv0 (p : FVec F S512x512 .f32) (v : FVec F S512x256 .bf16) : FVec F S512x128 .f32 :=
  matmul dot_S512x512_S512x128_S512x128_1_0_0_1_n_n none (truncf .bf16 p bitsLt_bf16_f32)
    (extractStridedSlice S512x128 ![0, 0] v slices_S512x256_o0_0_S512x128) (constant S512x128 .f32 0x00000000#32)
/-- Weights by the odd head's values. -/
def pv1 (p : FVec F S512x512 .f32) (v : FVec F S512x256 .bf16) : FVec F S512x128 .f32 :=
  matmul dot_S512x512_S512x128_S512x128_1_0_0_1_n_n none (truncf .bf16 p bitsLt_bf16_f32)
    (extractStridedSlice S512x128 ![0, 128] v slices_S512x256_o0_128_S512x128) (constant S512x128 .f32 0x00000000#32)

/-- What a query tile carries when the bound is subtracted: the two heads' sums of weights, lane by lane, and the
    weighted values. -/
abbrev StS (F : FTy → Type) := FVec F S512x128 .f32 × FVec F S512x128 .f32 × FVec F S512x128 .f32

/-- One step with the weights of the two heads at hand. -/
def stP (p0 p1 : FVec F S512x512 .f32) (v : FVec F S512x256 .bf16) (a : StS F) : StS F :=
  (addS a.1 p0, addS a.2.1 p1, addf (addf a.2.2 (pv0 p0 v)) (pv1 p1 v))

/-- One key tile before the query tile. -/
def stU (b : Elt F .f32) (q k v : Vec F S1x512x256 .bf16) (a : StS F) : StS F :=
  stP (exp2 (shf b (sc0 (mat q) (mat k)))) (exp2 (shf b (sc1 (mat q) (mat k)))) (mat v) a

/-- The query tile's own key tile. -/
def stM (b : Elt F .f32) (vis : IVec S512x512 1) (q k v : Vec F S1x512x256 .bf16) (a : StS F) : StS F :=
  stP (exp2 (msk vis (shf b (sc0 (mat q) (mat k))))) (exp2 (msk vis (shf b (sc1 (mat q) (mat k))))) (mat v) a

/-- What is carried after the first `n` key tiles. -/
def foldU (b : Elt F .f32) (q : Vec F S1x512x256 .bf16) (K V : Vec F S1x4096x256 .bf16) : ℕ → StS F
  | 0 => (k0_pay63, k0_pay63, k0_pay63)
  | n + 1 => stU b q (rows K n) (rows V n) (foldU b q K V n)

/-- A query tile's result when the bound is subtracted. -/
def tileS (b : Elt F .f32) (lan : IVec S1x128 1) (vis : IVec S512x512 1) (Q K V : Vec F S1x4096x256 .bf16) (t : ℕ) : FVec F S1x512x128 .bf16 :=
  let a := stM b vis (rows Q t) (rows K t) (rows V t) (foldU b (rows Q t) K V t)
  k0_pay5 lan a.1 a.2.1 a.2.2

/-- What a query tile carries when a running maximum is kept: the two heads' maxima, their sums of weights, and the
    weighted values. -/
abbrev StO (F : FTy → Type) := FVec F S512x1 .f32 × FVec F S512x1 .f32 × FVec F S512x1 .f32 × FVec F S512x1 .f32 × FVec F S512x128 .f32

/-- The new maximum. -/
def mx (m : FVec F S512x1 .f32) (s : FVec F S512x512 .f32) : FVec F S512x1 .f32 :=
  maximumf m (shapeCast S512x1 (multiReduction .maximumf [1] S512 s 0xFF800000#32 reduces_S512x512_S512 (.inl rfl) rfl) shapeCasts_S512_S512x1)
/-- The factor what was carried is scaled by. -/
def al (m : FVec F S512x1 .f32) (s : FVec F S512x512 .f32) : FVec F S512x1 .f32 := exp2 (subf m (mx m s))
/-- The weights. -/
def pw (m : FVec F S512x1 .f32) (s : FVec F S512x512 .f32) : FVec F S512x512 .f32 :=
  exp2 (subf s (broadcastTo S512x512 (mx m s) broadcasts_S512x1_S512x512))
/-- The new sum of weights. -/
def nl (m l : FVec F S512x1 .f32) (s : FVec F S512x512 .f32) : FVec F S512x1 .f32 :=
  addf (mulf (al m s) l) (shapeCast S512x1 (multiReduction .add [1] S512 (pw m s) 0x00000000#32 reduces_S512x512_S512 (.inl rfl) rfl) shapeCasts_S512_S512x1)
/-- A column for the lanes of the even head, another for the lanes of the odd head. -/
def twoCols (lan : IVec S1x128 1) (x y : FVec F S512x1 .f32) : FVec F S512x128 .f32 :=
  select (broadcastTo S512x128 (shapeCast S1x128 lan shapeCasts_S1x128_S1x128) broadcasts_S1x128_S512x128)
    (broadcastTo S512x128 (shapeCast S512x1 x shapeCasts_S512x1_S512x1) broadcasts_S512x1_S512x128)
    (broadcastTo S512x128 (shapeCast S512x1 y shapeCasts_S512x1_S512x1) broadcasts_S512x1_S512x128)

/-- One step with the scores of the two heads at hand. -/
def onP (lan : IVec S1x128 1) (s0 s1 : FVec F S512x512 .f32) (v : FVec F S512x256 .bf16) (a : StO F) : StO F :=
  (mx a.1 s0, mx a.2.1 s1, nl a.1 a.2.2.1 s0, nl a.2.1 a.2.2.2.1 s1,
    addf (addf (mulf a.2.2.2.2 (twoCols lan (al a.1 s0) (al a.2.1 s1))) (pv0 (pw a.1 s0) v)) (pv1 (pw a.2.1 s1) v))

/-- One key tile before the query tile. -/
def onU (lan : IVec S1x128 1) (q k v : Vec F S1x512x256 .bf16) (a : StO F) : StO F :=
  onP lan (sc0 (mat q) (mat k)) (sc1 (mat q) (mat k)) (mat v) a
/-- The query tile's own key tile. -/
def onM (lan : IVec S1x128 1) (vis : IVec S512x512 1) (q k v : Vec F S1x512x256 .bf16) (a : StO F) : StO F :=
  onP lan (msk vis (sc0 (mat q) (mat k))) (msk vis (sc1 (mat q) (mat k))) (mat v) a

/-- What is carried after the first `n` key tiles. -/
def foldO (lan : IVec S1x128 1) (q : Vec F S1x512x256 .bf16) (K V : Vec F S1x4096x256 .bf16) : ℕ → StO F
  | 0 => (k0_pay93, k0_pay93, k0_pay94, k0_pay94, k0_pay95)
  | n + 1 => onU lan q (rows K n) (rows V n) (foldO lan q K V n)

/-- The carried sums and values, divided. -/
def fin (lan : IVec S1x128 1) (l0 l1 : FVec F S512x1 .f32) (a : FVec F S512x128 .f32) : FVec F S1x512x128 .bf16 :=
  shapeCast S1x512x128 (truncf .bf16 (divf a (twoCols lan l0 l1)) bitsLt_bf16_f32) shapeCasts_S512x128_S1x512x128

/-- A query tile's result when a running maximum is kept. -/
def tileO (lan : IVec S1x128 1) (vis : IVec S512x512 1) (Q K V : Vec F S1x4096x256 .bf16) (t : ℕ) : FVec F S1x512x128 .bf16 :=
  let a := onM lan vis (rows Q t) (rows K t) (rows V t) (foldO lan (rows Q t) K V t)
  fin lan a.2.2.1 a.2.2.2.1 a.2.2.2.2

/-- A row's sum over its 128 lanes. -/
def rsum (a : FVec F S512x128 .f32) : FVec F S512x1 .f32 :=
  shapeCast S512x1 (multiReduction .add [1] S512 a 0x00000000#32 reduces_S512x128_S512 (.inl rfl) rfl) shapeCasts_S512_S512x1

theorem pay5_eq (lan : IVec S1x128 1) (a b c : FVec F S512x128 .f32) : k0_pay5 lan a b c = fin lan (rsum a) (rsum b) c := rfl

end Cert.KernelIdeal.Body

end
-- ==== Proof.KI.Link.lean ====
module

public import proofs.«01_k».proof.Proof.KI.Steps

/-!
# The pieces a run of the body stores are the query tiles of Steps.lean
-/

@[expose] public section

set_option maxRecDepth 16384

noncomputable section

namespace Cert.KernelIdeal.Body

open Cert.KernelIdeal Cert.KernelIdeal.Gen
open Idealize.ShloMosaic

variable {F : FTy → Type} [FloatOps F] [Named F]

/-- The words `k` of a loop over eight tiles, as the offsets and the trip counts use them. -/
theorem trips1 : k0_t1_loop.trips = 8 := by decide +kernel
theorem trips4 : k0_t4_loop.trips = 8 := by decide +kernel
theorem trips2 : ∀ k : Fin k0_t1_loop.trips, (k0_t2_loop k).trips = k.val / 2 := by decide +kernel
theorem trips3 : ∀ k : Fin k0_t1_loop.trips, (k0_t3_loop k).trips = 0 := by decide +kernel
theorem trips5 : ∀ k : Fin k0_t4_loop.trips, (k0_t5_loop k).trips = k.val := by decide +kernel
theorem trips6 : ∀ k : Fin k0_t4_loop.trips, (k0_t6_loop k).trips = 0 := by decide +kernel
theorem odd2 : ∀ k : Fin k0_t1_loop.trips, (k0_cond2 k = 1#1 ↔ k.val % 2 = 1) := by decide +kernel
theorem off1 : ∀ k : Fin k0_t1_loop.trips, k0_off1 k = ![0, 512 * k.val, 0] := by decide +kernel
theorem off2 : ∀ (k : Fin k0_t1_loop.trips) (j : Fin (k0_t2_loop k).trips), k0_off2 k j = ![0, 512 * (2 * j.val), 0] := by decide +kernel
theorem off3 : ∀ (k : Fin k0_t1_loop.trips) (j : Fin (k0_t2_loop k).trips), k0_off3 k j = ![0, 512 * (2 * j.val + 1), 0] := by decide +kernel
theorem off6 : ∀ (k : Fin k0_t1_loop.trips), k0_cond2 k = 1#1 → k0_off6 k = ![0, 512 * (k.val - 1), 0] := by decide +kernel
theorem off7 : ∀ (k : Fin k0_t1_loop.trips), k0_off7 k = ![0, 512 * k.val, 0] := by decide +kernel
theorem off8 : ∀ (k : Fin k0_t1_loop.trips), k0_off8 k = ![0, 512 * k.val, 0] := by decide +kernel
theorem off9 : ∀ (k : Fin k0_t1_loop.trips), k0_off9 k = ![0, 512 * k.val, 0] := by decide +kernel
theorem off10 : ∀ (k : Fin k0_t4_loop.trips), k0_off10 k = ![0, 512 * k.val, 0] := by decide +kernel
theorem off11 : ∀ (k : Fin k0_t4_loop.trips) (j : Fin (k0_t5_loop k).trips), k0_off11 k j = ![0, 512 * j.val, 0] := by decide +kernel
theorem off13 : ∀ (k : Fin k0_t4_loop.trips), k0_off13 k = ![0, 512 * k.val, 0] := by decide +kernel

/-- A load of 512 rows from row `512 t` on is `rows` of what the view reads. -/
theorem ld_rows (arg : Memref sig .tc .vmem S1x4096x256 .bf16) (X : BufTy.Contents (Elt F) arg.view.ty) (off : Fin 3 → ℕ) (inb : ∀ a, off a + S1x512x256.size a ≤ S1x4096x256.size a) (t : ℕ)
    (h : off = ![0, 512 * t, 0]) : View.readAt (Elt F) arg.view (Rect.unit (s := S1x4096x256) off S1x512x256.size inb).toLoadRect X = rows (arg.view.read (Elt F) X) t := by
  subst h
  have hb : 512 * t + 512 ≤ 4096 := inb 1
  funext j
  rw [View.readAt_apply]
  unfold rows
  congr 1
  funext a
  apply Fin.ext
  have h1 : (j 1).val < 512 := (j 1).isLt
  have h0 : (j 0).val < 1 := (j 0).isLt
  fin_cases a
  · show 0 + 1 * (j 0).val = 0; omega
  · show 512 * t + 1 * (j 1).val = (512 * t + (j 1).val) % 4096; omega
  · show 0 + 1 * (j 2).val = (j 2).val; omega

set_option maxHeartbeats 1000000 in
/-- A trip of the loop over pairs of key tiles takes two steps. -/
theorem trip2_eq (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (c0 c1 : BitVec 32) (k : Fin k0_t1_loop.trips) (v65 : Vec F S1x512x256 .bf16) (X4 : BufTy.Contents (Elt F) arg4.view.ty) (X5 : BufTy.Contents (Elt F) arg5.view.ty) (j : Fin (k0_t2_loop k).trips) (a : StS F) :
    tripR_k0_t2 (F := F) Variants.none c none i arg2 harg2 arg3 harg3 arg4 harg4 arg5 harg5 arg6 harg6 v0 c0 c1 k v65 X4 X5 j a
      = stU v0 v65 (rows (arg4.view.read (Elt F) X4) (2 * j.val + 1)) (rows (arg5.view.read (Elt F) X5) (2 * j.val + 1))
          (stU v0 v65 (rows (arg4.view.read (Elt F) X4) (2 * j.val)) (rows (arg5.view.read (Elt F) X5) (2 * j.val)) a) := by
  rw [← ld_rows arg4 X4 _ (k0_off2_inb k j) _ (off2 k j), ← ld_rows arg5 X5 _ (k0_off2_inb k j) _ (off2 k j), ← ld_rows arg4 X4 _ (k0_off3_inb k j) _ (off3 k j), ← ld_rows arg5 X5 _ (k0_off3_inb k j) _ (off3 k j)]
  unfold tripR_k0_t2 trip_k0_t2
  rfl

/-- What is carried before trip `j` of the loop over pairs. -/
theorem st2_eq (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (c0 c1 : BitVec 32) (k : Fin k0_t1_loop.trips) (v65 : Vec F S1x512x256 .bf16) (X4 : BufTy.Contents (Elt F) arg4.view.ty) (X5 : BufTy.Contents (Elt F) arg5.view.ty) :
    ∀ j : ℕ, j ≤ (k0_t2_loop k).trips → st_k0_t2 (F := F) Variants.none c none i arg2 harg2 arg3 harg3 arg4 harg4 arg5 harg5 arg6 harg6 v0 c0 c1 k v65 X4 X5 (k0_pay63, k0_pay63, k0_pay63) j
      = foldU v0 v65 (arg4.view.read (Elt F) X4) (arg5.view.read (Elt F) X5) (2 * j)
  | 0, _ => rfl
  | j + 1, h => by
    have e := st_k0_t2_succ (F := F) Variants.none c none i arg2 harg2 arg3 harg3 arg4 harg4 arg5 harg5 arg6 harg6 v0 c0 c1 k v65 X4 X5 (k0_pay63, k0_pay63, k0_pay63) ⟨j, h⟩
    dsimp only at e
    rw [e, trip2_eq, st2_eq c i arg2 harg2 arg3 harg3 arg4 harg4 arg5 harg5 arg6 harg6 v0 c0 c1 k v65 X4 X5 j (by omega)]
    rfl

set_option maxHeartbeats 1000000 in
/-- A trip of the loop over key tiles that keeps a running maximum takes one step. -/
theorem trip5_eq (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v54 : IVec S512x512 1) (c0 c1 : BitVec 32) (k : Fin k0_t4_loop.trips) (v65 : Vec F S1x512x256 .bf16) (X4 : BufTy.Contents (Elt F) arg4.view.ty) (X5 : BufTy.Contents (Elt F) arg5.view.ty) (j : Fin (k0_t5_loop k).trips) (a : StO F) :
    tripR_k0_t5 (F := F) Variants.none c none i arg2 harg2 arg3 harg3 arg4 harg4 arg5 harg5 arg6 harg6 v3 v54 c0 c1 k v65 X4 X5 j a
      = onU v3 v65 (rows (arg4.view.read (Elt F) X4) j.val) (rows (arg5.view.read (Elt F) X5) j.val) a := by
  rw [← ld_rows arg4 X4 _ (k0_off11_inb k j) _ (off11 k j), ← ld_rows arg5 X5 _ (k0_off11_inb k j) _ (off11 k j)]
  unfold tripR_k0_t5 trip_k0_t5
  rfl

/-- What is carried before trip `j` of that loop. -/
theorem st5_eq (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v54 : IVec S512x512 1) (c0 c1 : BitVec 32) (k : Fin k0_t4_loop.trips) (v65 : Vec F S1x512x256 .bf16) (X4 : BufTy.Contents (Elt F) arg4.view.ty) (X5 : BufTy.Contents (Elt F) arg5.view.ty) :
    ∀ j : ℕ, j ≤ (k0_t5_loop k).trips → st_k0_t5 (F := F) Variants.none c none i arg2 harg2 arg3 harg3 arg4 harg4 arg5 harg5 arg6 harg6 v3 v54 c0 c1 k v65 X4 X5 (k0_pay93, k0_pay93, k0_pay94, k0_pay94, k0_pay95) j
      = foldO v3 v65 (arg4.view.read (Elt F) X4) (arg5.view.read (Elt F) X5) j
  | 0, _ => rfl
  | j + 1, h => by
    have e := st_k0_t5_succ (F := F) Variants.none c none i arg2 harg2 arg3 harg3 arg4 harg4 arg5 harg5 arg6 harg6 v3 v54 c0 c1 k v65 X4 X5 (k0_pay93, k0_pay93, k0_pay94, k0_pay94, k0_pay95) ⟨j, h⟩
    dsimp only at e
    rw [e, trip5_eq, st5_eq c i arg2 harg2 arg3 harg3 arg4 harg4 arg5 harg5 arg6 harg6 v3 v54 c0 c1 k v65 X4 X5 j (by omega)]
    rfl

end Cert.KernelIdeal.Body

end
-- ==== Proof.KI.Pieces.lean ====
module

public import proofs.«01_k».proof.Proof.KI.Link
public import Idealize.ShloMosaic.Lib.WritesUnit

/-!
# The output block after a run of the body: row by row, the query tiles of Steps.lean
-/

@[expose] public section

set_option maxRecDepth 16384

noncomputable section

namespace Cert.KernelIdeal.Body

open Cert.KernelIdeal Cert.KernelIdeal.Gen
open Idealize.ShloMosaic

variable {F : FTy → Type} [FloatOps F] [Named F]

/-- A loop of no trips leaves the carried value. -/
theorem st3_eq (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (c0 c1 : BitVec 32) (k : Fin k0_t1_loop.trips) (v65 : Vec F S1x512x256 .bf16) (v89 : BitVec 32) (X4 : BufTy.Contents (Elt F) arg4.view.ty) (X5 : BufTy.Contents (Elt F) arg5.view.ty) (a : StS F) :
    st_k0_t3 (F := F) Variants.none c none i arg2 harg2 arg3 harg3 arg4 harg4 arg5 harg5 arg6 harg6 v0 c0 c1 k v65 v89 X4 X5 a (k0_t3_loop k).trips = a := by
  rw [trips3 k]; rfl
/-- The same of the other loop of no trips. -/
theorem st6_eq (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v54 : IVec S512x512 1) (c0 c1 : BitVec 32) (k : Fin k0_t4_loop.trips) (v65 : Vec F S1x512x256 .bf16) (v74 : BitVec 32) (X4 : BufTy.Contents (Elt F) arg4.view.ty) (X5 : BufTy.Contents (Elt F) arg5.view.ty) (a : StO F) :
    st_k0_t6 (F := F) Variants.none c none i arg2 harg2 arg3 harg3 arg4 harg4 arg5 harg5 arg6 harg6 v3 v54 c0 c1 k v65 v74 X4 X5 a (k0_t6_loop k).trips = a := by
  rw [trips6 k]; rfl

set_option maxHeartbeats 1000000 in
/-- The piece an even tile stores. -/
theorem trip1e_raw (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32) (X3 : BufTy.Contents (Elt F) arg3.view.ty) (X4 : BufTy.Contents (Elt F) arg4.view.ty) (X5 : BufTy.Contents (Elt F) arg5.view.ty) (k : Fin k0_t1_loop.trips) (h : ¬ k0_cond2 k = 1#1) :
    (trip1e (F := F) c i arg2 harg2 arg3 harg3 arg4 harg4 arg5 harg5 arg6 harg6 v0 v3 v28 v29 c64_i32_5 v31 v38 v43 X3 X4 X5 k h).1
      = [⟨Rect.unit (s := S1x4096x128) (k0_off9 k) S1x512x128.size (k0_off9_inb k),
          let a := stM v0 (k0_pay1 v28 v29 c64_i32_5 v31 v38 v43) (View.readAt (Elt F) arg3.view (Rect.unit (s := S1x4096x256) (k0_off1 k) S1x512x256.size (k0_off1_inb k)).toLoadRect X3) (View.readAt (Elt F) arg4.view (Rect.unit (s := S1x4096x256) (k0_off8 k) S1x512x256.size (k0_off8_inb k h)).toLoadRect X4) (View.readAt (Elt F) arg5.view (Rect.unit (s := S1x4096x256) (k0_off8 k) S1x512x256.size (k0_off8_inb k h)).toLoadRect X5) (st_k0_t3 (F := F) Variants.none c none i arg2 harg2 arg3 harg3 arg4 harg4 arg5 harg5 arg6 harg6 v0 0#32 1#32 k (View.readAt (Elt F) arg3.view (Rect.unit (s := S1x4096x256) (k0_off1 k) S1x512x256.size (k0_off1_inb k)).toLoadRect X3) (trip1e.sl.v89 k) X4 X5 (st_k0_t2 (F := F) Variants.none c none i arg2 harg2 arg3 harg3 arg4 harg4 arg5 harg5 arg6 harg6 v0 0#32 1#32 k (View.readAt (Elt F) arg3.view (Rect.unit (s := S1x4096x256) (k0_off1 k) S1x512x256.size (k0_off1_inb k)).toLoadRect X3) X4 X5 (k0_pay63, k0_pay63, k0_pay63) (k0_t2_loop k).trips) (k0_t3_loop k).trips)
          k0_pay5 v3 a.1 a.2.1 a.2.2⟩] := by
  unfold trip1e
  rfl

set_option maxHeartbeats 1000000 in
/-- The piece an odd tile stores. -/
theorem trip1o_raw (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32) (X3 : BufTy.Contents (Elt F) arg3.view.ty) (X4 : BufTy.Contents (Elt F) arg4.view.ty) (X5 : BufTy.Contents (Elt F) arg5.view.ty) (k : Fin k0_t1_loop.trips) (h : k0_cond2 k = 1#1) :
    (trip1o (F := F) c i arg2 harg2 arg3 harg3 arg4 harg4 arg5 harg5 arg6 harg6 v0 v3 v28 v29 c64_i32_5 v31 v38 v43 X3 X4 X5 k h).1
      = [⟨Rect.unit (s := S1x4096x128) (k0_off9 k) S1x512x128.size (k0_off9_inb k),
          let a := stM v0 (k0_pay1 v28 v29 c64_i32_5 v31 v38 v43) (View.readAt (Elt F) arg3.view (Rect.unit (s := S1x4096x256) (k0_off1 k) S1x512x256.size (k0_off1_inb k)).toLoadRect X3) (View.readAt (Elt F) arg4.view (Rect.unit (s := S1x4096x256) (k0_off7 k) S1x512x256.size (k0_off7_inb k h)).toLoadRect X4) (View.readAt (Elt F) arg5.view (Rect.unit (s := S1x4096x256) (k0_off7 k) S1x512x256.size (k0_off7_inb k h)).toLoadRect X5) (stU v0 (View.readAt (Elt F) arg3.view (Rect.unit (s := S1x4096x256) (k0_off1 k) S1x512x256.size (k0_off1_inb k)).toLoadRect X3) (View.readAt (Elt F) arg4.view (Rect.unit (s := S1x4096x256) (k0_off6 k) S1x512x256.size (k0_off6_inb k h)).toLoadRect X4) (View.readAt (Elt F) arg5.view (Rect.unit (s := S1x4096x256) (k0_off6 k) S1x512x256.size (k0_off6_inb k h)).toLoadRect X5) (st_k0_t3 (F := F) Variants.none c none i arg2 harg2 arg3 harg3 arg4 harg4 arg5 harg5 arg6 harg6 v0 0#32 1#32 k (View.readAt (Elt F) arg3.view (Rect.unit (s := S1x4096x256) (k0_off1 k) S1x512x256.size (k0_off1_inb k)).toLoadRect X3) (trip1o.sl.v89 k) X4 X5 (st_k0_t2 (F := F) Variants.none c none i arg2 harg2 arg3 harg3 arg4 harg4 arg5 harg5 arg6 harg6 v0 0#32 1#32 k (View.readAt (Elt F) arg3.view (Rect.unit (s := S1x4096x256) (k0_off1 k) S1x512x256.size (k0_off1_inb k)).toLoadRect X3) X4 X5 (k0_pay63, k0_pay63, k0_pay63) (k0_t2_loop k).trips) (k0_t3_loop k).trips))
          k0_pay5 v3 a.1 a.2.1 a.2.2⟩] := by
  unfold trip1o
  rfl

set_option maxHeartbeats 1000000 in
/-- The piece a tile stores in the loop that keeps a running maximum. -/
theorem trip4_raw (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v28 v29 : IVec S512x512 32) (c64_i32_5 : BitVec 32) (v31 v38 : IVec S512x512 32) (v43 : BitVec 32) (X3 : BufTy.Contents (Elt F) arg3.view.ty) (X4 : BufTy.Contents (Elt F) arg4.view.ty) (X5 : BufTy.Contents (Elt F) arg5.view.ty) (k : Fin k0_t4_loop.trips) :
    (trip4 (F := F) c i arg2 harg2 arg3 harg3 arg4 harg4 arg5 harg5 arg6 harg6 v3 v28 v29 c64_i32_5 v31 v38 v43 X3 X4 X5 k).1
      = [⟨Rect.unit (s := S1x4096x128) (k0_off13 k) S1x512x128.size (k0_off13_inb k),
          let a := onM v3 (k0_pay1 v28 v29 c64_i32_5 v31 v38 v43) (View.readAt (Elt F) arg3.view (Rect.unit (s := S1x4096x256) (k0_off10 k) S1x512x256.size (k0_off10_inb k)).toLoadRect X3) (View.readAt (Elt F) arg4.view (Rect.unit (s := S1x4096x256) (k0_off10 k) S1x512x256.size (k0_off10_inb k)).toLoadRect X4) (View.readAt (Elt F) arg5.view (Rect.unit (s := S1x4096x256) (k0_off10 k) S1x512x256.size (k0_off10_inb k)).toLoadRect X5) (st_k0_t6 (F := F) Variants.none c none i arg2 harg2 arg3 harg3 arg4 harg4 arg5 harg5 arg6 harg6 v3 (k0_pay1 v28 v29 c64_i32_5 v31 v38 v43) 0#32 1#32 k (View.readAt (Elt F) arg3.view (Rect.unit (s := S1x4096x256) (k0_off10 k) S1x512x256.size (k0_off10_inb k)).toLoadRect X3) (trip4.sl.v74 k) X4 X5 (st_k0_t5 (F := F) Variants.none c none i arg2 harg2 arg3 harg3 arg4 harg4 arg5 harg5 arg6 harg6 v3 (k0_pay1 v28 v29 c64_i32_5 v31 v38 v43) 0#32 1#32 k (View.readAt (Elt F) arg3.view (Rect.unit (s := S1x4096x256) (k0_off10 k) S1x512x256.size (k0_off10_inb k)).toLoadRect X3) X4 X5 (k0_pay93, k0_pay93, k0_pay94, k0_pay94, k0_pay95) (k0_t5_loop k).trips) (k0_t6_loop k).trips)
          fin v3 a.2.2.1 a.2.2.2.1 a.2.2.2.2⟩] := by
  unfold trip4
  rfl

/-- The pieces of tile `k` in the loop that subtracts the bound. -/
theorem tripL1_eq (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32) (X3 : BufTy.Contents (Elt F) arg3.view.ty) (X4 : BufTy.Contents (Elt F) arg4.view.ty) (X5 : BufTy.Contents (Elt F) arg5.view.ty) (k : Fin k0_t1_loop.trips) :
    tripL1 (F := F) c i arg2 harg2 arg3 harg3 arg4 harg4 arg5 harg5 arg6 harg6 v0 v3 v28 v29 c64_i32_5 v31 v38 v43 X3 X4 X5 k
      = [⟨Rect.unit (s := S1x4096x128) (k0_off9 k) S1x512x128.size (k0_off9_inb k), tileS v0 v3 (k0_pay1 v28 v29 c64_i32_5 v31 v38 v43) (arg3.view.read (Elt F) X3) (arg4.view.read (Elt F) X4) (arg5.view.read (Elt F) X5) k.val⟩] := by
  have hk : k.val < 8 := lt_of_lt_of_eq k.isLt trips1
  unfold tripL1
  by_cases h : k0_cond2 k = 1#1
  · have ho := (odd2 k).mp h
    obtain ⟨n, hn⟩ : ∃ n, k.val = n + 1 := ⟨k.val - 1, by omega⟩
    rw [dif_pos h, trip1o_raw, st3_eq, ld_rows arg3 X3 _ (k0_off1_inb k) _ (off1 k), ld_rows arg4 X4 _ (k0_off7_inb k h) _ (off7 k), ld_rows arg5 X5 _ (k0_off7_inb k h) _ (off7 k),
      ld_rows arg4 X4 _ (k0_off6_inb k h) _ (off6 k h), ld_rows arg5 X5 _ (k0_off6_inb k h) _ (off6 k h), st2_eq _ _ _ _ _ _ _ _ _ _ _ _ _ _ _ _ _ _ _ _ le_rfl, trips2 k]
    have e : foldU v0 (rows (arg3.view.read (Elt F) X3) k.val) (arg4.view.read (Elt F) X4) (arg5.view.read (Elt F) X5) k.val = stU v0 (rows (arg3.view.read (Elt F) X3) k.val) (rows (arg4.view.read (Elt F) X4) (k.val - 1)) (rows (arg5.view.read (Elt F) X5) (k.val - 1)) (foldU v0 (rows (arg3.view.read (Elt F) X3) k.val) (arg4.view.read (Elt F) X4) (arg5.view.read (Elt F) X5) (2 * (k.val / 2))) := by
      have e2 : 2 * (k.val / 2) = n := by omega
      rw [e2, hn]; rfl
    unfold tileS
    rw [e]
  · have ho : k.val % 2 = 0 := by
      have := mt (odd2 k).mpr h
      omega
    rw [dif_neg h, trip1e_raw, st3_eq, ld_rows arg3 X3 _ (k0_off1_inb k) _ (off1 k), ld_rows arg4 X4 _ (k0_off8_inb k h) _ (off8 k), ld_rows arg5 X5 _ (k0_off8_inb k h) _ (off8 k),
      st2_eq _ _ _ _ _ _ _ _ _ _ _ _ _ _ _ _ _ _ _ _ le_rfl, trips2 k, show 2 * (k.val / 2) = k.val by omega]
    rfl

/-- The pieces of tile `k` in the loop that keeps a running maximum. -/
theorem tripL4_eq (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v28 v29 : IVec S512x512 32) (c64_i32_5 : BitVec 32) (v31 v38 : IVec S512x512 32) (v43 : BitVec 32) (X3 : BufTy.Contents (Elt F) arg3.view.ty) (X4 : BufTy.Contents (Elt F) arg4.view.ty) (X5 : BufTy.Contents (Elt F) arg5.view.ty) (k : Fin k0_t4_loop.trips) :
    tripL4 (F := F) c i arg2 harg2 arg3 harg3 arg4 harg4 arg5 harg5 arg6 harg6 v3 v28 v29 c64_i32_5 v31 v38 v43 X3 X4 X5 k
      = [⟨Rect.unit (s := S1x4096x128) (k0_off13 k) S1x512x128.size (k0_off13_inb k), tileO v3 (k0_pay1 v28 v29 c64_i32_5 v31 v38 v43) (arg3.view.read (Elt F) X3) (arg4.view.read (Elt F) X4) (arg5.view.read (Elt F) X5) k.val⟩] := by
  unfold tripL4
  rw [trip4_raw, st6_eq, ld_rows arg3 X3 _ (k0_off10_inb k) _ (off10 k), ld_rows arg4 X4 _ (k0_off10_inb k) _ (off10 k), ld_rows arg5 X5 _ (k0_off10_inb k) _ (off10 k),
    st5_eq _ _ _ _ _ _ _ _ _ _ _ _ _ _ _ _ _ _ _ _ _ le_rfl, trips5 k]
  rfl

/-- Row `y` of the output block out of the tiles: tile `y / 512`, row `y % 512`. -/
def glue (T : ℕ → FVec F S1x512x128 .bf16) : Vec F S1x4096x128 .bf16 :=
  fun y => T ((y 1).val / 512) (ix3 (0 : Fin 1) (⟨(y 1).val % 512, Nat.mod_lt _ (by decide)⟩ : Fin 512) (y 2))

/-- A list of pieces, one per tile, the last one first: read row by row. -/
theorem read_tiles (arg6 : Memref sig .tc .vmem S1x4096x128 .bf16) (f : BufTy.Contents (Elt F) arg6.view.ty) (T : ℕ → FVec F S1x512x128 .bf16)
    (L : ℕ → List (View.Piece (Elt F) S1x4096x128 .bf16)) (off : ℕ → Fin 3 → ℕ) (inb : ∀ k, k < 8 → ∀ a, off k a + S1x512x128.size a ≤ S1x4096x128.size a)
    (hoff : ∀ k, k < 8 → off k = ![0, 512 * k, 0])
    (hL : ∀ k (h : k < 8), L (k + 1) = (⟨Rect.unit (s := S1x4096x128) (off k) S1x512x128.size (inb k h), T k⟩ : View.Piece (Elt F) S1x4096x128 .bf16) :: L k) :
    ∀ n, n ≤ 8 → ∀ y : S1x4096x128.Idx, (y 1).val < 512 * n → arg6.view.read (Elt F) (arg6.view.writes (Elt F) f (L n)) y = glue T y
  | 0, _, y, h => absurd h (by omega)
  | n + 1, hn, y, h => by
    have h0 : (y 0).val < 1 := (y 0).isLt
    rw [hL n (by omega)]
    by_cases hy : (y 1).val < 512 * n
    · rw [View.read_writes_cons_unit_of_not_mem (v := arg6.view) (f := f) (inb n (by omega)) (T n) (L n) y (hoff n (by omega)) (1 : Fin 3) (Or.inl hy)]
      exact read_tiles arg6 f T L off inb hoff hL n (by omega) y hy
    · have e1 : (y 1).val / 512 = n := by omega
      rw [View.read_writes_cons_unit_of_mem (v := arg6.view) (f := f) (inb n (by omega)) (T n) (L n) y (ix3 (0 : Fin 1) (⟨(y 1).val % 512, Nat.mod_lt _ (by decide)⟩ : Fin 512) (y 2)) (hoff n (by omega))
        (by intro a; fin_cases a
            · show (y 0).val = 0 + 0; omega
            · show (y 1).val = 512 * n + (y 1).val % 512; omega
            · show (y 2).val = 0 + (y 2).val; omega)]
      unfold glue
      rw [e1]

/-- The output block after the loop that subtracts the bound. -/
theorem read_pb1 (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v0 : Elt F .f32) (v3 : IVec S1x128 1) (v28 v29 : IVec S512x512 32) (c64_i32_5 : BitVec 32) (v31 v38 : IVec S512x512 32) (v43 : BitVec 32) (X3 : BufTy.Contents (Elt F) arg3.view.ty) (X4 : BufTy.Contents (Elt F) arg4.view.ty) (X5 : BufTy.Contents (Elt F) arg5.view.ty) (f : BufTy.Contents (Elt F) arg6.view.ty) :
    arg6.view.read (Elt F) (arg6.view.writes (Elt F) f (pb1 (F := F) c i arg2 harg2 arg3 harg3 arg4 harg4 arg5 harg5 arg6 harg6 v0 v3 v28 v29 c64_i32_5 v31 v38 v43 X3 X4 X5 k0_t1_loop.trips))
      = glue (tileS v0 v3 (k0_pay1 v28 v29 c64_i32_5 v31 v38 v43) (arg3.view.read (Elt F) X3) (arg4.view.read (Elt F) X4) (arg5.view.read (Elt F) X5)) := by
  funext y
  rw [trips1]
  refine read_tiles arg6 f _ (pb1 (F := F) c i arg2 harg2 arg3 harg3 arg4 harg4 arg5 harg5 arg6 harg6 v0 v3 v28 v29 c64_i32_5 v31 v38 v43 X3 X4 X5) (fun k => if h : k < k0_t1_loop.trips then k0_off9 ⟨k, h⟩ else fun _ => 0) ?_ ?_ ?_ 8 le_rfl y (y 1).isLt
  · intro k h; rw [← trips1] at h; simp only [dif_pos h]; exact k0_off9_inb ⟨k, h⟩
  · intro k h; rw [← trips1] at h; simp only [dif_pos h]; exact off9 ⟨k, h⟩
  · intro k h
    have h' : k < k0_t1_loop.trips := by rw [trips1]; exact h
    have e := pb1_succ (F := F) c i arg2 harg2 arg3 harg3 arg4 harg4 arg5 harg5 arg6 harg6 v0 v3 v28 v29 c64_i32_5 v31 v38 v43 X3 X4 X5 ⟨k, h'⟩
    dsimp only at e
    rw [e, tripL1_eq, List.singleton_append]
    congr 2
    simp only [dif_pos h']

/-- The output block after the loop that keeps a running maximum. -/
theorem read_pb4 (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (v3 : IVec S1x128 1) (v28 v29 : IVec S512x512 32) (c64_i32_5 : BitVec 32) (v31 v38 : IVec S512x512 32) (v43 : BitVec 32) (X3 : BufTy.Contents (Elt F) arg3.view.ty) (X4 : BufTy.Contents (Elt F) arg4.view.ty) (X5 : BufTy.Contents (Elt F) arg5.view.ty) (f : BufTy.Contents (Elt F) arg6.view.ty) :
    arg6.view.read (Elt F) (arg6.view.writes (Elt F) f (pb4 (F := F) c i arg2 harg2 arg3 harg3 arg4 harg4 arg5 harg5 arg6 harg6 v3 v28 v29 c64_i32_5 v31 v38 v43 X3 X4 X5 k0_t4_loop.trips))
      = glue (tileO v3 (k0_pay1 v28 v29 c64_i32_5 v31 v38 v43) (arg3.view.read (Elt F) X3) (arg4.view.read (Elt F) X4) (arg5.view.read (Elt F) X5)) := by
  funext y
  rw [trips4]
  refine read_tiles arg6 f _ (pb4 (F := F) c i arg2 harg2 arg3 harg3 arg4 harg4 arg5 harg5 arg6 harg6 v3 v28 v29 c64_i32_5 v31 v38 v43 X3 X4 X5) (fun k => if h : k < k0_t4_loop.trips then k0_off13 ⟨k, h⟩ else fun _ => 0) ?_ ?_ ?_ 8 le_rfl y (y 1).isLt
  · intro k h; rw [← trips4] at h; simp only [dif_pos h]; exact k0_off13_inb ⟨k, h⟩
  · intro k h; rw [← trips4] at h; simp only [dif_pos h]; exact off13 ⟨k, h⟩
  · intro k h
    have h' : k < k0_t4_loop.trips := by rw [trips4]; exact h
    have e := pb4_succ (F := F) c i arg2 harg2 arg3 harg3 arg4 harg4 arg5 harg5 arg6 harg6 v3 v28 v29 c64_i32_5 v31 v38 v43 X3 X4 X5 ⟨k, h'⟩
    dsimp only at e
    rw [e, tripL4_eq, List.singleton_append]
    congr 2
    simp only [dif_pos h']

/-- The visible keys of the query tile's own key tile. -/
def vis : IVec S512x512 1 := k0_pay1 k0_pay107 cols 64#32 k0_pay108 k0_pay109 1#32

/-- The output block as a function of the bound and the blocks of queries, keys and values. -/
def blkOut (b : Elt F .f32) (Q K V : Vec F S1x4096x256 .bf16) : Vec F S1x4096x128 .bf16 :=
  if high b = 1#1 then glue (tileO k0_pay106 vis Q K V) else glue (tileS b k0_pay106 vis Q K V)

/-- After the body the output block is that function, once one of the two loops has run. -/
theorem read_after (c : Dev nD) (i : grid0.Coords) (arg2 : Memref sig .tc .smem S1 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .bf16) (harg6 : arg6.IsWhole) (X2 : BufTy.Contents (Elt F) arg2.view.ty) (X3 : BufTy.Contents (Elt F) arg3.view.ty) (X4 : BufTy.Contents (Elt F) arg4.view.ty) (X5 : BufTy.Contents (Elt F) arg5.view.ty) (f : BufTy.Contents (Elt F) arg6.view.ty)
    (hb : ¬ high (bnd arg2 X2) = 1#1 → low (bnd arg2 X2) = 1#1) :
    arg6.view.read (Elt F) (after4 (F := F) c i arg2 harg2 arg3 harg3 arg4 harg4 arg5 harg5 arg6 harg6 X2 X3 X4 X5 f) = blkOut (bnd arg2 X2) (arg3.view.read (Elt F) X3) (arg4.view.read (Elt F) X4) (arg5.view.read (Elt F) X5) := by
  unfold after4 blkOut
  by_cases h : high (bnd arg2 X2) = 1#1
  · rw [if_pos h, if_pos h, read_pb4]; rfl
  · rw [if_neg h, if_neg h, after1, if_pos (hb h), read_pb1]; rfl

end Cert.KernelIdeal.Body

end
-- ==== Proof.KI.Exact.lean ====
module

public import proofs.«01_k».proof.Proof.KI.Pieces
public import proofs.«01_k».proof.Proof.KI.Forget
public import Idealize.ShloMosaic.Lib.Pipeline.ValueKit

/-!
# The run of KernelIdeal at the ideal values, with what it leaves in the output array

At the ideal values a bound is below 48 or it is not, so one of the body's two loops runs and the output block is
`blkOut` of the input blocks whatever it held before.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose RDat cellOf)

local notation "𝕄" => MT nD τ sig Unit (Elt Ideal) ℕ (UR sig nD τ) ℕ

variable (m : (ℓ : Loc nD τ sig) → Buf (Elt Ideal) ℓ) (ρ : Dev nD → PrngReg)

/-- One of the two branches runs. -/
theorem low_of_not_high (b : EReal) (h : ¬ high (F := Ideal) b = 1#1) : low (F := Ideal) b = 1#1 := by
  by_cases hb : b < Ideal.ofBits .f32 0x42400000#32
  · have e : Ideal.cmp .olt b (Ideal.ofBits .f32 0x42400000#32) = 1#1 := by simp [Ideal.cmp, hb]
    show Scalar.cmpi .ne (Scalar.extui (Ideal.cmp .olt b (Ideal.ofBits .f32 0x42400000#32)) : BitVec 32) 0#32 = 1#1
    rw [e]; decide
  · exfalso; apply h
    have e : Ideal.cmp .oge b (Ideal.ofBits .f32 0x42400000#32) = 1#1 := by simp [Ideal.cmp, not_lt.mp hb]
    show Scalar.cmpi .ne (Scalar.extui (Ideal.cmp .oge b (Ideal.ofBits .f32 0x42400000#32)) : BitVec 32) 0#32 = 1#1
    rw [e]; decide

/-- The output block after the body at a point, from the blocks of its inputs. -/
def outAt (c : Dev nD) (t : Fin cfg0.N) : Vec Ideal S1x4096x128 .bf16 :=
  blkOut (F := Ideal) ((iblk m c 0 t : S1.Idx → EReal) (ix1 (0 : Fin 1))) (iblk m c 1 t) (iblk m c 2 t) (iblk m c 3 t)

/-- The proof data: every input's buffer at its block, the output's at `outAt`. -/
def datsE (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem datsE_A (c : Dev nD) (w : Fin cfg0.W) : (datsE m 0 c).A w = V m c (Pipeline.arrRef spec0 w) := by
  dsimp only [datsE]
theorem datsE_after0 (c : Dev nD) (t : Fin cfg0.N) : (datsE m 0 c).after 0 t = iblk m c 0 t := by dsimp only [datsE]
theorem datsE_before0 (c : Dev nD) (t : Fin cfg0.N) (d) : (datsE m 0 c).before 0 t d = iblk m c 0 t :=
  before0_0_of m (datsE m 0 c) (datsE_A m c 0) (datsE_after0 m c) t d
theorem datsE_after1 (c : Dev nD) (t : Fin cfg0.N) : (datsE m 0 c).after 1 t = iblk m c 1 t := by dsimp only [datsE]
theorem datsE_before1 (c : Dev nD) (t : Fin cfg0.N) (d) : (datsE m 0 c).before 1 t d = iblk m c 1 t :=
  before0_1_of m (datsE m 0 c) (datsE_A m c 1) (datsE_after1 m c) t d
theorem datsE_after2 (c : Dev nD) (t : Fin cfg0.N) : (datsE m 0 c).after 2 t = iblk m c 2 t := by dsimp only [datsE]
theorem datsE_before2 (c : Dev nD) (t : Fin cfg0.N) (d) : (datsE m 0 c).before 2 t d = iblk m c 2 t :=
  before0_2_of m (datsE m 0 c) (datsE_A m c 2) (datsE_after2 m c) t d
theorem datsE_after3 (c : Dev nD) (t : Fin cfg0.N) : (datsE m 0 c).after 3 t = iblk m c 3 t := by dsimp only [datsE]
theorem datsE_before3 (c : Dev nD) (t : Fin cfg0.N) (d) : (datsE m 0 c).before 3 t d = iblk m c 3 t :=
  before0_3_of m (datsE m 0 c) (datsE_A m c 3) (datsE_after3 m c) t d
theorem datsE_after4 (c : Dev nD) (t : Fin cfg0.N) : (datsE m 0 c).after 4 t = outAt m c t := by dsimp only [datsE]

/-- The bound the body reads is its block's one element. -/
theorem bnd_eq (arg2 : Memref sig .tc .smem S1 .f32) (X2 : BufTy.Contents (Elt Ideal) arg2.view.ty) :
    bnd (F := Ideal) arg2 X2 = (arg2.view.read (Elt Ideal) X2 : S1.Idx → EReal) (ix1 (0 : Fin 1)) := by
  unfold bnd
  rw [View.readAt_apply]
  congr 1
  funext a
  apply Fin.ext
  fin_cases a
  have h : ((Shape.Idx.first (numel1_S1.symm ▸ Nat.one_pos) : S1.Idx) 0).val < 1 := Fin.isLt _
  show 0 + 1 * ((Shape.Idx.first (numel1_S1.symm ▸ Nat.one_pos) : S1.Idx) 0).val = 0
  omega

set_option maxHeartbeats 1000000 in
/-- The body at any point, from the inputs' blocks and any output buffer to the same with the output at `outAt`. -/
theorem bodyE (c : Dev nD) (t : Fin cfg0.N) :
    iprop((datsE m 0 c).Φ t.castSucc ∗ (datsE m 0 c).owesAt () t.castSucc
      ∗ (∃ d, owns (c : Thread nD τ) (st0_0 t) fullShare ((datsE m 0 c).before 0 t d))
      ∗ (∃ d, owns (c : Thread nD τ) (st0_1 t) fullShare ((datsE m 0 c).before 1 t d))
      ∗ (∃ d, owns (c : Thread nD τ) (st0_2 t) fullShare ((datsE m 0 c).before 2 t d))
      ∗ (∃ d, owns (c : Thread nD τ) (st0_3 t) fullShare ((datsE m 0 c).before 3 t d))
      ∗ (∃ d, owns (c : Thread nD τ) (st0_4 t) fullShare ((datsE m 0 c).before 4 t d)))
    ⊢ wp frame (wpE (defs₀ (F := Ideal)) Variants.none c none) Set.univ (bodyAt0 t) (fun _ =>
      iprop((datsE m 0 c).Φ t.succ ∗ (datsE m 0 c).owesAt () t.succ
      ∗ owns (c : Thread nD τ) (st0_0 t) fullShare ((datsE m 0 c).after 0 t)
      ∗ owns (c : Thread nD τ) (st0_1 t) fullShare ((datsE m 0 c).after 1 t)
      ∗ owns (c : Thread nD τ) (st0_2 t) fullShare ((datsE m 0 c).after 2 t)
      ∗ owns (c : Thread nD τ) (st0_3 t) fullShare ((datsE m 0 c).after 3 t)
      ∗ owns (c : Thread nD τ) (st0_4 t) fullShare ((datsE m 0 c).after 4 t))) := by
  unfold bodyAt0
  simp only [datsE_before0, datsE_before1, datsE_before2, datsE_before3]
  rw [show (datsE m 0 c).Φ t.succ = (datsE m 0 c).Φ t.castSucc from rfl,
    show (datsE m 0 c).owesAt () t.succ = (datsE m 0 c).owesAt () t.castSucc from rfl,
    datsE_after0, datsE_after1, datsE_after2, datsE_after3, datsE_after4]
  unfold owns
  iintro ⟨HΦ, Ho, ⟨%d0, %f0, %e0, H0⟩, ⟨%d1, %f1, %e1, H1⟩, ⟨%d2, %f2, %e2, H2⟩, ⟨%d3, %f3, %e3, H3⟩, ⟨%d4, %f4, %e4, H4⟩⟩
  iapply (wp_wand_r Idealize.ShloMosaic.frame (wpE (defs₀ (F := Ideal)) Variants.none (c : Thread nD τ) none) Set.univ)
  isplitl [H0 H1 H2 H3 H4]
  · iapply (body_run (F := Ideal) c (grid0.coords t) _ _ _ _ _ _ _ _ _ _ f0 f1 f2 f3 f4 Set.univ)
    isplitl [H0]; · iexact H0
    isplitl [H1]; · iexact H1
    isplitl [H2]; · iexact H2
    isplitl [H3]; · iexact H3
    iexact H4
  · iintro %_ ⟨H0, H1, H2, H3, H4⟩
    isplitl [HΦ]; · iexact HΦ
    isplitl [Ho]; · iexact Ho
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    iexists _; isplitr
    swap; · iexact H4
    ipureintro
    refine (read_after (F := Ideal) c (grid0.coords t) _ _ _ _ _ _ _ _ _ _ f0 f1 f2 f3 f4 (low_of_not_high _)).trans ?_
    rw [bnd_eq, e0, e1, e2, e3]
    rfl

/-- The library's body obligation. -/
theorem obligationE (c : Dev nD) : BodyObligation (datsE m 0 c) (defs₀ (F := Ideal)) Variants.none () Set.univ := fun t => by
  rw [bigSep_W0, bigSep_W0, row]
  exact triple_restated (bodyE m c t) rfl .rfl fun _ => .rfl

set_option backward.isDefEq.respectTransparency.types false in
/-- The run: every array at what the proof data says, every buffer no window stages as the region found it. -/
theorem runE : θ_run defs (onTc (τ := τ) (main (F := Ideal))) (s₀ m ρ) (fun r => (Pipeline.FramePost cfgs (datsE m) 0 (V m)) r ∧ r.2.sem = fun _ => 0) :=
  Pipeline.θ_run_frame (Q' := _) cfgs (datsE m) (0 : Fin 1) launch0 defs₀ Variants.none m ρ main
    (hbody := fun c => (obligationE m c).loose) (hshare := fun c => (datsE m 0 c).share_full fun _ => rfl)
    (howed := fun _ _ => rfl) (V := V m) (hmain := hmain m Variants.none) (hA := datsE_A m) (hΦ := fun _ _ => rfl)

/-- A block of an operand: batch `b`, the 256 lanes from `256 p` on. -/
def blkOf (X : Vec Ideal S4x4096x2048 .bf16) (b : Fin 4) (p : Fin 8) : Vec Ideal S1x4096x256 .bf16 :=
  fun y => X (ix3 b (y 1) (⟨256 * p.val + (y 2).val, by have h1 := p.isLt; have h2 : (y 2).val < 256 := (y 2).isLt; omega⟩ : Fin 2048))

/-- What the call leaves in its result, from its four operands. -/
def callOut (bound : Vec Ideal S1 .f32) (q k v : Vec Ideal S4x4096x2048 .bf16) : Vec Ideal S4x4096x1024 .bf16 :=
  fun i => blkOut (F := Ideal) (bound (ix1 (0 : Fin 1)))
    (blkOf q (i 0) ⟨(i 2).val / 128, by have h : (i 2).val < 1024 := (i 2).isLt; omega⟩)
    (blkOf k (i 0) ⟨(i 2).val / 128, by have h : (i 2).val < 1024 := (i 2).isLt; omega⟩)
    (blkOf v (i 0) ⟨(i 2).val / 128, by have h : (i 2).val < 1024 := (i 2).isLt; omega⟩)
    (ix3 (0 : Fin 1) (i 1) (⟨(i 2).val % 128, Nat.mod_lt _ (by decide)⟩ : Fin 128))

theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx3 : ∀ t : Fin cfg0.N, win0_3.index t = ![(grid0.coords t 0).val, 0, (grid0.coords t 1).val] :=
  (by decide +kernel : ∀ t : Fin grid0.N, _)
theorem idx4 : ∀ t : Fin cfg0.N, win0_4.index t = ![(grid0.coords t 0).val, 0, (grid0.coords t 1).val] :=
  (by decide +kernel : ∀ t : Fin grid0.N, _)
theorem idx0 : ∀ t : Fin cfg0.N, win0_0.index t = ![0] := (by decide +kernel : ∀ t : Fin grid0.N, _)

theorem blk0 (c : Dev nD) (t : Fin cfg0.N) :
    (iblk m c 0 t : S1.Idx → EReal) (ix1 (0 : Fin 1)) = (V m c main_v50 : S1.Idx → EReal) (ix1 (0 : Fin 1)) := by
  blk_simp [iblk]
  blk_ext [idx0 t]

end Cert.KernelIdeal.Body

end
-- ==== Proof.KI.Final.lean ====
module

public import proofs.«01_k».proof.Proof.KI.Exact
public import Idealize.ShloMosaic.Lib.Pipeline.ValueKit

/-!
# What the run leaves in the output array, from the call's four operands
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose RDat cellOf)

local notation "𝕄" => MT nD τ sig Unit (Elt Ideal) ℕ (UR sig nD τ) ℕ

variable (m : (ℓ : Loc nD τ sig) → Buf (Elt Ideal) ℓ) (ρ : Dev nD → PrngReg)

theorem emb1 (t : Fin cfg0.N) (b : Fin 4) (p : Fin 8) (hb : b.val = (grid0.coords t 0).val)
    (hp : p.val = (grid0.coords t 1).val) (y : S1x4096x256.Idx) :
    ((win0_1.blk t).view.emb y : S4x4096x2048.Idx)
      = ix3 b (y 1) (⟨256 * p.val + (y 2).val, by have h1 := p.isLt; have h2 : (y 2).val < 256 := (y 2).isLt; omega⟩ : Fin 2048) := by
  have h0 : (((win0_1.blk t).view.emb y : S4x4096x2048.Idx) 0).val = b.val := by
    idx_bounds y
    blk_simp [idx1 t]
    omega
  have h1 : (((win0_1.blk t).view.emb y : S4x4096x2048.Idx) 1).val = (y 1).val := by
    blk_simp [idx1 t]
  have h2 : (((win0_1.blk t).view.emb y : S4x4096x2048.Idx) 2).val = 256 * p.val + (y 2).val := by
    blk_simp [idx1 t]
    omega
  funext a
  apply Fin.ext
  match a with
  | ⟨0, _⟩ => exact h0
  | ⟨1, _⟩ => exact h1
  | ⟨2, _⟩ => exact h2

/-- The window's block of any contents of its array. -/
theorem rd1 (X : Vec Ideal S4x4096x2048 .bf16) (t : Fin cfg0.N) (b : Fin 4) (p : Fin 8) (hb : b.val = (grid0.coords t 0).val)
    (hp : p.val = (grid0.coords t 1).val) : (win0_1.blk t).view.read (Elt Ideal) X = blkOf X b p := by
  funext y
  exact congrArg X (emb1 t b p hb hp y)

theorem blk1 (c : Dev nD) (t : Fin cfg0.N) (b : Fin 4) (p : Fin 8) (hb : b.val = (grid0.coords t 0).val)
    (hp : p.val = (grid0.coords t 1).val) : (iblk m c 1 t : Vec Ideal S1x4096x256 .bf16) = blkOf (V m c main_v13) b p :=
  rd1 (V m c main_v13) t b p hb hp

theorem emb2 (t : Fin cfg0.N) (b : Fin 4) (p : Fin 8) (hb : b.val = (grid0.coords t 0).val)
    (hp : p.val = (grid0.coords t 1).val) (y : S1x4096x256.Idx) :
    ((win0_2.blk t).view.emb y : S4x4096x2048.Idx)
      = ix3 b (y 1) (⟨256 * p.val + (y 2).val, by have h1 := p.isLt; have h2 : (y 2).val < 256 := (y 2).isLt; omega⟩ : Fin 2048) := by
  have h0 : (((win0_2.blk t).view.emb y : S4x4096x2048.Idx) 0).val = b.val := by
    idx_bounds y
    blk_simp [idx2 t]
    omega
  have h1 : (((win0_2.blk t).view.emb y : S4x4096x2048.Idx) 1).val = (y 1).val := by
    blk_simp [idx2 t]
  have h2 : (((win0_2.blk t).view.emb y : S4x4096x2048.Idx) 2).val = 256 * p.val + (y 2).val := by
    blk_simp [idx2 t]
    omega
  funext a
  apply Fin.ext
  match a with
  | ⟨0, _⟩ => exact h0
  | ⟨1, _⟩ => exact h1
  | ⟨2, _⟩ => exact h2

/-- The window's block of any contents of its array. -/
theorem rd2 (X : Vec Ideal S4x4096x2048 .bf16) (t : Fin cfg0.N) (b : Fin 4) (p : Fin 8) (hb : b.val = (grid0.coords t 0).val)
    (hp : p.val = (grid0.coords t 1).val) : (win0_2.blk t).view.read (Elt Ideal) X = blkOf X b p := by
  funext y
  exact congrArg X (emb2 t b p hb hp y)

theorem blk2 (c : Dev nD) (t : Fin cfg0.N) (b : Fin 4) (p : Fin 8) (hb : b.val = (grid0.coords t 0).val)
    (hp : p.val = (grid0.coords t 1).val) : (iblk m c 2 t : Vec Ideal S1x4096x256 .bf16) = blkOf (V m c main_v18) b p :=
  rd2 (V m c main_v18) t b p hb hp

theorem emb3 (t : Fin cfg0.N) (b : Fin 4) (p : Fin 8) (hb : b.val = (grid0.coords t 0).val)
    (hp : p.val = (grid0.coords t 1).val) (y : S1x4096x256.Idx) :
    ((win0_3.blk t).view.emb y : S4x4096x2048.Idx)
      = ix3 b (y 1) (⟨256 * p.val + (y 2).val, by have h1 := p.isLt; have h2 : (y 2).val < 256 := (y 2).isLt; omega⟩ : Fin 2048) := by
  have h0 : (((win0_3.blk t).view.emb y : S4x4096x2048.Idx) 0).val = b.val := by
    idx_bounds y
    blk_simp [idx3 t]
    omega
  have h1 : (((win0_3.blk t).view.emb y : S4x4096x2048.Idx) 1).val = (y 1).val := by
    blk_simp [idx3 t]
  have h2 : (((win0_3.blk t).view.emb y : S4x4096x2048.Idx) 2).val = 256 * p.val + (y 2).val := by
    blk_simp [idx3 t]
    omega
  funext a
  apply Fin.ext
  match a with
  | ⟨0, _⟩ => exact h0
  | ⟨1, _⟩ => exact h1
  | ⟨2, _⟩ => exact h2

/-- The window's block of any contents of its array. -/
theorem rd3 (X : Vec Ideal S4x4096x2048 .bf16) (t : Fin cfg0.N) (b : Fin 4) (p : Fin 8) (hb : b.val = (grid0.coords t 0).val)
    (hp : p.val = (grid0.coords t 1).val) : (win0_3.blk t).view.read (Elt Ideal) X = blkOf X b p := by
  funext y
  exact congrArg X (emb3 t b p hb hp y)

theorem blk3 (c : Dev nD) (t : Fin cfg0.N) (b : Fin 4) (p : Fin 8) (hb : b.val = (grid0.coords t 0).val)
    (hp : p.val = (grid0.coords t 1).val) : (iblk m c 3 t : Vec Ideal S1x4096x256 .bf16) = blkOf (V m c main_v27) b p :=
  rd3 (V m c main_v27) t b p hb hp

/-- The result array after the run. -/
theorem finalE (c : Dev nD) : (datsE m 0 c).arrAt 4 (cfgs 0).N
    = callOut (V m c main_v50) (V m c main_v13) (V m c main_v18) (V m c main_v27) := by
  refine (datsE m 0 c).arrAt_eq_of_covers 4 _ (by decide +kernel) fun t hf y => ?_
  blk_simp
  rw [datsE_after4]
  have h0 : (((win0_4.blk t).view.emb y : S4x4096x1024.Idx) 0).val = (grid0.coords t 0).val := by
    idx_bounds y
    blk_simp [idx4 t]
  have h1 : (((win0_4.blk t).view.emb y : S4x4096x1024.Idx) 1).val = ((y : S1x4096x128.Idx) 1).val := by
    blk_simp [idx4 t]
  have h2 : (((win0_4.blk t).view.emb y : S4x4096x1024.Idx) 2).val = (grid0.coords t 1).val * 128 + ((y : S1x4096x128.Idx) 2).val := by
    blk_simp [idx4 t]
  have hy : ((y : S1x4096x128.Idx) 2).val < 128 := ((y : S1x4096x128.Idx) 2).isLt
  have h3 : (((win0_4.blk t).view.emb y : S4x4096x1024.Idx) 2).val / 128 = (grid0.coords t 1).val := by rw [h2]; omega
  have h4 : (((win0_4.blk t).view.emb y : S4x4096x1024.Idx) 2).val % 128 = ((y : S1x4096x128.Idx) 2).val := by rw [h2]; omega
  have h5 : ((y : S1x4096x128.Idx) 0).val = 0 := by
    have : ((y : S1x4096x128.Idx) 0).val < 1 := ((y : S1x4096x128.Idx) 0).isLt
    omega
  generalize ((win0_4.blk t).view.emb y : S4x4096x1024.Idx) = i at h0 h1 h2 h3 h4 ⊢
  unfold outAt callOut
  rw [blk0, blk1 m c t (i 0) ⟨(i 2).val / 128, by have h : (i 2).val < 1024 := (i 2).isLt; omega⟩ h0 h3,
    blk2 m c t (i 0) ⟨(i 2).val / 128, by have h : (i 2).val < 1024 := (i 2).isLt; omega⟩ h0 h3,
    blk3 m c t (i 0) ⟨(i 2).val / 128, by have h : (i 2).val < 1024 := (i 2).isLt; omega⟩ h0 h3]
  refine congrArg (blkOut (F := Ideal) _ _ _ _) ?_
  funext a
  apply Fin.ext
  match a with
  | ⟨0, _⟩ => exact h5
  | ⟨1, _⟩ => exact h1.symm
  | ⟨2, _⟩ => exact h4.symm

end Cert.KernelIdeal.Body

end
-- ==== Proof.KI.Val.lean ====
module

public import proofs.«01_k».proof.Proof.KI.Pieces
public import Idealize.ShloMosaic.Lib.Pointwise

/-!
# The steps' operations, read at an index, at the ideal values
-/

@[expose] public section

set_option maxRecDepth 16384

noncomputable section

namespace Cert.KernelIdeal.Body

open Cert.KernelIdeal Cert.KernelIdeal.Gen
open Idealize.ShloMosaic Idealize.ShloMosaic.Tactic

/-- The scale. -/
def scl : ℝ := (Real.sqrt 96 * Real.log 2)⁻¹

theorem named_scale : (Named.named κ "scale_log2e" 0x3E16C740#32 : Ideal .f32) = (scl : EReal) := rfl
theorem named_mask : (Named.named κ "mask" 0xF149F2CA#32 : Ideal .f32) = (⊥ : EReal) := rfl
theorem bits_bot : (Ideal.ofBits .f32 0xFF800000#32 : EReal) = ⊥ := by simp [Ideal.ofBits, Ideal.ieee]

theorem sc0_at (q k : FVec Ideal S512x256 .bf16) (r s : Fin 512) :
    sc0 q k (ix2 r s) = (∑ x : Fin 128, q (ix2 r (⟨x.val, by omega⟩ : Fin 256)) * k (ix2 s (⟨x.val, by omega⟩ : Fin 256))) * (scl : EReal) := by
  pointwise [sc0]
  rfl
theorem sc1_at (q k : FVec Ideal S512x256 .bf16) (r s : Fin 512) :
    sc1 q k (ix2 r s) = (∑ x : Fin 128, q (ix2 r (⟨128 + x.val, by omega⟩ : Fin 256)) * k (ix2 s (⟨128 + x.val, by omega⟩ : Fin 256))) * (scl : EReal) := by
  pointwise [sc1]
  rfl
theorem mat_at (v : Vec Ideal S1x512x256 .bf16) (r : Fin 512) (d : Fin 256) :
    mat v (ix2 r d) = v (ix3 (0 : Fin 1) r d) := by
  pointwise [mat]
theorem rows_at (X : Vec Ideal S1x4096x256 .bf16) (t : ℕ) (r : Fin 512) (d : Fin 256) :
    rows X t (ix3 (0 : Fin 1) r d) = X (ix3 (0 : Fin 1) (⟨(512 * t + r.val) % 4096, Nat.mod_lt _ (by decide)⟩ : Fin 4096) d) := rfl
theorem msk_at (v : IVec S512x512 1) (x : FVec Ideal S512x512 .f32) (r s : Fin 512) :
    msk v x (ix2 r s) = if v (ix2 r s) = 1#1 then x (ix2 r s) else (⊥ : EReal) := by
  pointwise [msk]
  rfl
theorem shf_at (b : EReal) (x : FVec Ideal S512x512 .f32) (r s : Fin 512) :
    shf (F := Ideal) b x (ix2 r s) = x (ix2 r s) - b := by
  pointwise [shf]
theorem addS_at (a : FVec Ideal S512x128 .f32) (p : FVec Ideal S512x512 .f32) (r : Fin 512) (l : Fin 128) :
    addS a p (ix2 r l) = a (ix2 r l) + p (ix2 r (⟨l.val, by omega⟩ : Fin 512)) + p (ix2 r (⟨128 + l.val, by omega⟩ : Fin 512))
      + p (ix2 r (⟨256 + l.val, by omega⟩ : Fin 512)) + p (ix2 r (⟨384 + l.val, by omega⟩ : Fin 512)) := by
  pointwise [addS]
theorem pv0_at (p : FVec Ideal S512x512 .f32) (v : FVec Ideal S512x256 .bf16) (r : Fin 512) (l : Fin 128) :
    pv0 p v (ix2 r l) = ∑ x : Fin 512, p (ix2 r x) * v (ix2 x (⟨l.val, by omega⟩ : Fin 256)) := by
  pointwise [pv0]
theorem pv1_at (p : FVec Ideal S512x512 .f32) (v : FVec Ideal S512x256 .bf16) (r : Fin 512) (l : Fin 128) :
    pv1 p v (ix2 r l) = ∑ x : Fin 512, p (ix2 r x) * v (ix2 x (⟨128 + l.val, by omega⟩ : Fin 256)) := by
  pointwise [pv1]
theorem mx_at (m : FVec Ideal S512x1 .f32) (s : FVec Ideal S512x512 .f32) (r : Fin 512) :
    mx m s (ix2 r (0 : Fin 1)) = max (m (ix2 r (0 : Fin 1)) : EReal) (Finset.univ.fold max (⊥ : EReal) fun x : Fin 512 => s (ix2 r x)) := by
  pointwise [mx]
  rw [bits_bot]
theorem al_at (m : FVec Ideal S512x1 .f32) (s : FVec Ideal S512x512 .f32) (r : Fin 512) :
    al m s (ix2 r (0 : Fin 1)) = Ideal.exp2 (m (ix2 r (0 : Fin 1)) - mx m s (ix2 r (0 : Fin 1))) := by
  pointwise [al]
  rfl
theorem nl_at (m l : FVec Ideal S512x1 .f32) (s : FVec Ideal S512x512 .f32) (r : Fin 512) :
    nl m l s (ix2 r (0 : Fin 1)) = al m s (ix2 r (0 : Fin 1)) * l (ix2 r (0 : Fin 1)) + ∑ x : Fin 512, pw m s (ix2 r x) := by
  pointwise [nl]
theorem pw_at (m : FVec Ideal S512x1 .f32) (s : FVec Ideal S512x512 .f32) (r t : Fin 512) :
    pw m s (ix2 r t) = Ideal.exp2 (s (ix2 r t) - mx m s (ix2 r (0 : Fin 1))) := by
  pointwise [pw]
  rfl
theorem twoCols_at (lan : IVec S1x128 1) (x y : FVec Ideal S512x1 .f32) (r : Fin 512) (l : Fin 128) :
    twoCols lan x y (ix2 r l) = if lan (ix2 (0 : Fin 1) l) = 1#1 then x (ix2 r (0 : Fin 1)) else y (ix2 r (0 : Fin 1)) := by
  pointwise [twoCols]
  rfl
theorem rsum_at (a : FVec Ideal S512x128 .f32) (r : Fin 512) :
    rsum a (ix2 r (0 : Fin 1)) = ∑ x : Fin 128, a (ix2 r x) := by
  pointwise [rsum]
theorem fin_at (lan : IVec S1x128 1) (x y : FVec Ideal S512x1 .f32) (a : FVec Ideal S512x128 .f32) (r : Fin 512) (l : Fin 128) :
    fin lan x y a (ix3 (0 : Fin 1) r l) = Ideal.div (a (ix2 r l)) (twoCols lan x y (ix2 r l)) := by
  pointwise [fin]
theorem exp2_at (a : FVec Ideal S512x512 .f32) (r l : Fin 512) :
    exp2 a (ix2 r l) = Ideal.exp2 (a (ix2 r l)) := rfl

theorem pay63_at (r : Fin 512) (l : Fin 128) : (k0_pay63 : FVec Ideal S512x128 .f32) (ix2 r l) = (0 : EReal) := by
  pointwise [k0_pay63]
theorem pay93_at (r : Fin 512) : (k0_pay93 : FVec Ideal S512x1 .f32) (ix2 r (0 : Fin 1)) = (⊥ : EReal) := rfl
theorem pay94_at (r : Fin 512) : (k0_pay94 : FVec Ideal S512x1 .f32) (ix2 r (0 : Fin 1)) = (0 : EReal) := by
  pointwise [k0_pay94]
theorem pay95_at (r : Fin 512) (l : Fin 128) : (k0_pay95 : FVec Ideal S512x128 .f32) (ix2 r l) = (0 : EReal) := by
  pointwise [k0_pay95]

/-- A word's floor quotient by 64, as the body computes the columns' chunks. -/
def chunkC (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        1#32)
      (IntOp.cmpi CmpIPredicate.ne (IntOp.remsi ArithUnit.vector w 64#32) 0#32))
    (IntOp.subi (IntOp.divsi ArithUnit.vector w 64#32) 1#32)
    (IntOp.divsi ArithUnit.vector w 64#32)
/-- The same for the rows'. -/
def chunkR (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem chunkC_eq : ∀ s : Fin 512, chunkC (BitVec.ofNat 32 s.val) = BitVec.ofNat 32 (s.val / 64) := by decide +kernel
theorem chunkR_eq : ∀ s : Fin 512, chunkR (BitVec.ofNat 32 s.val) = BitVec.ofNat 32 (s.val / 64) := by decide +kernel
theorem sle_eq : ∀ a b : Fin 8, (IntOp.cmpi CmpIPredicate.sle (BitVec.ofNat 32 a.val) (BitVec.ofNat 32 b.val) = 1#1) ↔ a.val ≤ b.val := by
  decide +kernel

/-- The keys a query of the same tile sees. -/
theorem vis_at (r s : Fin 512) : vis (ix2 r s) = 1#1 ↔ s.val / 64 ≤ r.val / 64 := by
  pointwise [vis, k0_pay1, k0_pay107, k0_pay108, k0_pay109, cols]
  show IntOp.cmpi CmpIPredicate.sle (chunkC (BitVec.ofNat 32 s.val)) (chunkR (BitVec.ofNat 32 r.val)) = 1#1 ↔ _
  rw [chunkC_eq, chunkR_eq]
  exact sle_eq ⟨s.val / 64, by omega⟩ ⟨r.val / 64, by omega⟩
theorem lan_eq : ∀ l : Fin 128, (IntOp.cmpi CmpIPredicate.slt (BitVec.ofNat 32 l.val) 64#32 = 1#1) ↔ l.val < 64 := by decide +kernel
/-- The even head's lanes. -/
theorem lan_at (l : Fin 128) : k0_pay106 (ix2 (0 : Fin 1) l) = 1#1 ↔ l.val < 64 := by
  pointwise [k0_pay106]
  exact lan_eq l

end Cert.KernelIdeal.Body

end
-- ==== Proof.Math.Soft.lean ====
module

public import Idealize.ShloMosaic.PureOps.Ideal
public import Mathlib.Analysis.SpecialFunctions.Pow.Real

/-!
# Softmax averages over the extended reals

Scores are extended reals below `⊤`, a masked score is `⊥` and weighs nothing. Three ways to one average: subtracting a
fixed bound, keeping a running maximum over tiles, subtracting the maximum of a whole row.
-/

@[expose] public section

noncomputable section

namespace Cert.Soft

open Idealize.ShloMosaic

theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- The weight of a score in base 2. -/
def wt (s : EReal) : ℝ := (Ideal.exp2 s).toReal
/-- The weight of a score in base e. -/
def we (s : EReal) : ℝ := (Ideal.exp s).toReal

theorem wt_bot : wt ⊥ = 0 := by simp [wt]
theorem wt_coe (x : ℝ) : wt (x : EReal) = (2 : ℝ) ^ x := by simp [wt]
theorem we_bot : we ⊥ = 0 := by simp [we]
theorem we_coe (x : ℝ) : we (x : EReal) = Real.exp x := by simp [we]

theorem wt_nonneg (s : EReal) : 0 ≤ wt s := by
  induction s using EReal.rec with
  | bot => rw [wt_bot]
  | top => simp [wt]
  | coe x => rw [wt_coe]; positivity
theorem we_nonneg (s : EReal) : 0 ≤ we s := by
  induction s using EReal.rec with
  | bot => rw [we_bot]
  | top => simp [we]
  | coe x => rw [we_coe]; positivity
theorem wt_pos (s : EReal) (h : s ≠ ⊥) (h' : s ≠ ⊤) : 0 < wt s := by
  induction s using EReal.rec with
  | bot => exact absurd rfl h
  | top => exact absurd rfl h'
  | coe x => rw [wt_coe]; positivity
theorem we_pos (s : EReal) (h : s ≠ ⊥) (h' : s ≠ ⊤) : 0 < we s := by
  induction s using EReal.rec with
  | bot => exact absurd rfl h
  | top => exact absurd rfl h'
  | coe x => rw [we_coe]; positivity

/-- A score less a real bound weighs the score's weight times one factor. -/
theorem exp2_sub (s : EReal) (h : s ≠ ⊤) (β : ℝ) : Ideal.exp2 (s - (β : EReal)) = (((2 : ℝ) ^ (-β) * wt s : ℝ) : EReal) := by
  induction s using EReal.rec with
  | bot => rw [EReal.bot_sub, Ideal.exp2_bot, wt_bot, mul_zero, EReal.coe_zero]
  | top => exact absurd rfl h
  | coe x =>
    rw [← EReal.coe_sub, Ideal.exp2_coe, wt_coe, ← Real.rpow_add two_pos]
    show (((2 : ℝ) ^ (x - β) : ℝ) : EReal) = _
    rw [show x - β = -β + x by ring]
theorem exp_sub (s : EReal) (h : s ≠ ⊤) (β : ℝ) : Ideal.exp (s - (β : EReal)) = ((Real.exp (-β) * we s : ℝ) : EReal) := by
  induction s using EReal.rec with
  | bot => rw [EReal.bot_sub, Ideal.exp_bot, we_bot, mul_zero, EReal.coe_zero]
  | top => exact absurd rfl h
  | coe x => rw [← EReal.coe_sub, Ideal.exp_coe, we_coe, ← Real.exp_add, show x - β = -β + x by ring]

/-- The maximum of finitely many scores below `⊤`, one above `⊥`, is a real. -/
theorem max_real {ι : Type*} [Fintype ι] (s : ι → EReal) (hs : ∀ c, s c ≠ ⊤) (c0 : ι) (hc : s c0 ≠ ⊥) (m : EReal) (hm : m ≠ ⊤) :
    ∃ μ : ℝ, max m (Finset.univ.fold max ⊥ s) = (μ : EReal) := by
  have h1 : max m (Finset.univ.fold max ⊥ s) < ⊤ :=
    max_lt (lt_top_iff_ne_top.mpr hm) ((Finset.fold_max_lt _).mpr ⟨bot_lt_top, fun c _ => lt_top_iff_ne_top.mpr (hs c)⟩)
  have h2 : ⊥ < max m (Finset.univ.fold max ⊥ s) :=
    lt_of_lt_of_le (bot_lt_iff_ne_bot.mpr hc) (le_max_of_le_right ((Finset.le_fold_max _).mpr (Or.inr ⟨c0, Finset.mem_univ _, le_rfl⟩)))
  exact ⟨_, (EReal.coe_toReal h1.ne h2.ne').symm⟩

/-- What a running maximum `m`, sum `l` and weighted sum `a` say of the total weight `L` and the weighted total `A`. -/
def Inv (m l a : EReal) (L A : ℝ) : Prop :=
  (m = ⊥ ∧ l = 0 ∧ a = 0 ∧ L = 0 ∧ A = 0)
    ∨ ∃ μ : ℝ, m = (μ : EReal) ∧ l = (((2 : ℝ) ^ (-μ) * L : ℝ) : EReal) ∧ a = (((2 : ℝ) ^ (-μ) * A : ℝ) : EReal)

/-- One more tile, at least one of its scores not masked. -/
theorem Inv.step {ι : Type*} [Fintype ι] {m l a : EReal} {L A : ℝ} (h : Inv m l a L A) (s : ι → EReal) (v : ι → ℝ)
    (hs : ∀ c, s c ≠ ⊤) (c0 : ι) (hc : s c0 ≠ ⊥) :
    Inv (max m (Finset.univ.fold max ⊥ s))
      (Ideal.exp2 (m - max m (Finset.univ.fold max ⊥ s)) * l + ∑ c, Ideal.exp2 (s c - max m (Finset.univ.fold max ⊥ s)))
      (a * Ideal.exp2 (m - max m (Finset.univ.fold max ⊥ s)) + ∑ c, Ideal.exp2 (s c - max m (Finset.univ.fold max ⊥ s)) * (v c : EReal))
      (L + ∑ c, wt (s c)) (A + ∑ c, wt (s c) * v c) := by
  have hm : m ≠ ⊤ := by
    rcases h with h | ⟨μ, h, -⟩
    · rw [h.1]; exact bot_ne_top
    · rw [h]; exact EReal.coe_ne_top μ
  obtain ⟨μ', e⟩ := max_real s hs c0 hc m hm
  refine Or.inr ⟨μ', e, ?_, ?_⟩
  · rw [e, Finset.sum_congr rfl fun c _ => exp2_sub (s c) (hs c) μ', ← coe_sum, ← Finset.mul_sum]
    rcases h with ⟨h1, h2, h3, h4, h5⟩ | ⟨μ, h1, h2, h3⟩
    · rw [h2, h4, mul_zero, zero_add, zero_add]
    · rw [h1, h2, exp2_sub _ (EReal.coe_ne_top μ), wt_coe, ← EReal.coe_mul, ← EReal.coe_add]
      congr 1
      have : (2 : ℝ) ^ μ * (2 : ℝ) ^ (-μ) = 1 := by rw [← Real.rpow_add two_pos, add_neg_cancel, Real.rpow_zero]
      linear_combination (2 : ℝ) ^ (-μ') * L * this
  · rw [e, Finset.sum_congr rfl fun c _ => show Ideal.exp2 (s c - (μ' : EReal)) * (v c : EReal) = (((2 : ℝ) ^ (-μ') * (wt (s c) * v c) : ℝ) : EReal) by
      rw [exp2_sub (s c) (hs c) μ', ← EReal.coe_mul, mul_assoc], ← coe_sum, ← Finset.mul_sum]
    rcases h with ⟨h1, h2, h3, h4, h5⟩ | ⟨μ, h1, h2, h3⟩
    · rw [h3, h5, zero_mul, zero_add, zero_add]
    · rw [h1, h3, exp2_sub _ (EReal.coe_ne_top μ), wt_coe, ← EReal.coe_mul, ← EReal.coe_add]
      congr 1
      have : (2 : ℝ) ^ μ * (2 : ℝ) ^ (-μ) = 1 := by rw [← Real.rpow_add two_pos, add_neg_cancel, Real.rpow_zero]
      linear_combination (2 : ℝ) ^ (-μ') * A * this

theorem div_real (f A L : ℝ) (hf : f ≠ 0) (hL : L ≠ 0) :
    Ideal.div ((f * A : ℝ) : EReal) ((f * L : ℝ) : EReal) = ((A / L : ℝ) : EReal) := by
  rw [Ideal.div_coe (mul_ne_zero hf hL), ← EReal.coe_mul]
  congr 1
  field_simp

/-- The quotient at the end, when the total weight is not zero. -/
theorem Inv.div {m l a : EReal} {L A : ℝ} (h : Inv m l a L A) (hL : L ≠ 0) : Ideal.div a l = ((A / L : ℝ) : EReal) := by
  rcases h with ⟨-, -, -, h4, -⟩ | ⟨μ, -, h2, h3⟩
  · exact absurd h4 hL
  · rw [h2, h3, div_real _ _ _ (by positivity) hL]

/-- The average a whole row at once gives, its maximum subtracted. -/
theorem row_softmax {ι : Type*} [Fintype ι] (y : ι → EReal) (hy : ∀ k, y k ≠ ⊤) (k0 : ι) (hk : y k0 ≠ ⊥) (v : ι → ℝ) :
    ∑ k, (v k : EReal) * Ideal.div (Ideal.exp (y k - max ⊥ (Finset.univ.fold max ⊥ y))) (∑ k, Ideal.exp (y k - max ⊥ (Finset.univ.fold max ⊥ y)))
      = (((∑ k, we (y k) * v k) / ∑ k, we (y k) : ℝ) : EReal) := by
  obtain ⟨μ, e⟩ := max_real y hy k0 hk ⊥ bot_ne_top
  have hW : 0 < ∑ k, we (y k) :=
    Finset.sum_pos' (fun k _ => we_nonneg _) ⟨k0, Finset.mem_univ _, we_pos _ hk (hy k0)⟩
  rw [e, Finset.sum_congr rfl fun k _ => exp_sub (y k) (hy k) μ, ← coe_sum, ← Finset.mul_sum,
    Finset.sum_div, coe_sum]
  refine Finset.sum_congr rfl fun k _ => ?_
  rw [exp_sub (y k) (hy k) μ, div_real _ _ _ (Real.exp_ne_zero _) hW.ne', ← EReal.coe_mul]
  congr 1
  ring

/-- The two bases agree once a score is scaled. -/
theorem we_eq_wt (x r : ℝ) : we ((x * (1 / r) : ℝ) : EReal) = wt ((x * (r * Real.log 2)⁻¹ : ℝ) : EReal) := by
  rw [we_coe, wt_coe, Real.rpow_def_of_pos two_pos]
  congr 1
  have h : Real.log 2 ≠ 0 := (Real.log_pos one_lt_two).ne'
  by_cases hr : r = 0
  · simp [hr]
  · field_simp

/-- A sum over 4096 places is eight sums over 512. -/
theorem sum_tiles {M : Type*} [AddCommMonoid M] (f : ℕ → M) (n : ℕ) (hn : n ≤ 8) (h0 : ∀ k, 512 * n ≤ k → k < 4096 → f k = 0) :
    ∑ k : Fin 4096, f k.val = ∑ i ∈ Finset.range n, ∑ c : Fin 512, f (512 * i + c.val) := by
  rw [Fin.sum_univ_eq_sum_range f 4096]
  have h1 : ∀ j, ∑ k ∈ Finset.range (512 * j), f k = ∑ i ∈ Finset.range j, ∑ c : Fin 512, f (512 * i + c.val) := by
    intro j
    induction j with
    | zero => simp
    | succ j ih =>
      rw [Finset.sum_range_succ, ← ih, Nat.mul_succ, Finset.sum_range_add, Fin.sum_univ_eq_sum_range (fun c => f (512 * j + c)) 512]
  rw [← h1]
  have e : 4096 = 512 * n + (4096 - 512 * n) := by omega
  rw [e, Finset.sum_range_add]
  rw [Finset.sum_eq_zero (s := Finset.range (4096 - 512 * n)), add_zero]
  intro k hk
  have := Finset.mem_range.mp hk
  exact h0 _ (by omega) (by omega)

end Cert.Soft

end
-- ==== Proof.KI.Slots.lean ====
module

public import proofs.«01_k».proof.Proof.KI.Val
public import proofs.«01_k».proof.Proof.Math.Soft
public import Idealize.ShloMosaic.Lib.Pointwise

/-!
# The host operations before the call, as functions, and at an index
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

/-- The queries' slots: a head's 64 lanes, its 32 rotary lanes, 32 zeros. -/
def slotQ (a0 : FVec Ideal S4x4096x16x64 .f32) (a1 : FVec Ideal S4x4096x16x32 .f32) : FVec Ideal S4x4096x2048 .bf16 :=
  truncf .bf16 (shapeCast S4x4096x2048 (concatenate S4x4096x16x128 3 [⟨S4x4096x16x64, a0⟩, ⟨S4x4096x16x32, a1⟩,
    ⟨S4x4096x16x32, (broadcastInDim S4x4096x16x32 ![] bcast_S_S4x4096x16x32 (constant (F := Ideal) S_ .f32 0x00000000#32) : FVec Ideal S4x4096x16x32 .f32)⟩]
    concatenates_S4x4096x16x64_S4x4096x16x32_S4x4096x16x32_S4x4096x16x128_d3) shapeCasts_S4x4096x16x128_S4x4096x2048) bitsLt_bf16_f32

/-- The keys' slots, the rotary lanes shared by the heads. -/
def slotK (a2 : FVec Ideal S4x4096x16x64 .f32) (a3 : FVec Ideal S4x4096x32 .f32) : FVec Ideal S4x4096x2048 .bf16 :=
  slotQ a2 (broadcastInDim S4x4096x16x32 ![0, 1, 2, 3] bcast_S4x4096x1x32_S4x4096x16x32_0_1_2_3
    (broadcastInDim S4x4096x1x32 ![0, 1, 3] bcast_S4x4096x32_S4x4096x1x32_0_1_3 a3))

/-- One head of every pair of heads' values. -/
def halfV0 (a4 : FVec Ideal S4x4096x16x64 .f32) : FVec Ideal S4x4096x8x64 .f32 :=
  shapeCast S4x4096x8x64 (extractStridedSlice S4x4096x8x1x64 ![0, 0, 0, 0, 0] (shapeCast S4x4096x8x2x64 a4 shapeCasts_S4x4096x16x64_S4x4096x8x2x64)
    slices_S4x4096x8x2x64_S4x4096x8x1x64_0_0_0_0_0) shapeCasts_S4x4096x8x1x64_S4x4096x8x64
/-- The other one. -/
def halfV1 (a4 : FVec Ideal S4x4096x16x64 .f32) : FVec Ideal S4x4096x8x64 .f32 :=
  shapeCast S4x4096x8x64 (extractStridedSlice S4x4096x8x1x64 ![0, 0, 0, 1, 0] (shapeCast S4x4096x8x2x64 a4 shapeCasts_S4x4096x16x64_S4x4096x8x2x64)
    slices_S4x4096x8x2x64_S4x4096x8x1x64_0_0_0_1_0) shapeCasts_S4x4096x8x1x64_S4x4096x8x64

/-- The values: a pair of heads' 256 lanes, the even head's 64, 128 zeros, the odd head's 64. -/
def slotV (a4 : FVec Ideal S4x4096x16x64 .f32) : FVec Ideal S4x4096x2048 .bf16 :=
  truncf .bf16 (shapeCast S4x4096x2048 (concatenate S4x4096x8x256 3 [⟨S4x4096x8x64, halfV0 a4⟩,
    ⟨S4x4096x8x64, (broadcastInDim S4x4096x8x64 ![] bcast_S_S4x4096x8x64 (constant (F := Ideal) S_ .f32 0x00000000#32) : FVec Ideal S4x4096x8x64 .f32)⟩,
    ⟨S4x4096x8x64, (broadcastInDim S4x4096x8x64 ![] bcast_S_S4x4096x8x64 (constant (F := Ideal) S_ .f32 0x00000000#32) : FVec Ideal S4x4096x8x64 .f32)⟩,
    ⟨S4x4096x8x64, halfV1 a4⟩]
    concatenates_S4x4096x8x64_S4x4096x8x64_S4x4096x8x64_S4x4096x8x64_S4x4096x8x256_d3) shapeCasts_S4x4096x8x256_S4x4096x2048) bitsLt_bf16_f32

/-- A gain's slot, whatever the places its two parts are put at. -/
def slotG (i j : Fin 1 → ℤ) (g : FVec Ideal S64 .f32) (r : FVec Ideal S32 .f32) : FVec Ideal S1x128 .f32 :=
  broadcastInDim S1x128 ![1] bcast_S128_S1x128_1 (Host.dynamicUpdateSlice (Host.dynamicUpdateSlice
    (broadcastInDim S128 ![] bcast_S_S128 (constant (F := Ideal) S_ .f32 0x00000000#32)) g i updateFits_S128_S64) r j updateFits_S128_S32)
/-- The same with one part. -/
def slotG1 (i : Fin 1 → ℤ) (g : FVec Ideal S64 .f32) : FVec Ideal S1x128 .f32 :=
  broadcastInDim S1x128 ![1] bcast_S128_S1x128_1 (Host.dynamicUpdateSlice
    (broadcastInDim S128 ![] bcast_S_S128 (constant (F := Ideal) S_ .f32 0x00000000#32)) g i updateFits_S128_S64)
def slotG2 (i : Fin 1 → ℤ) (g : FVec Ideal S32 .f32) : FVec Ideal S1x128 .f32 :=
  broadcastInDim S1x128 ![1] bcast_S128_S1x128_1 (Host.dynamicUpdateSlice
    (broadcastInDim S128 ![] bcast_S_S128 (constant (F := Ideal) S_ .f32 0x00000000#32)) g i updateFits_S128_S32)
/-- The greatest magnitude in a slot's first 64 lanes. -/
def top64 (x : FVec Ideal S1x128 .f32) : FVec Ideal S_ .f32 :=
  Host.reduce FloatOps.maximumf (Host.absf (shapeCast S64 (extractStridedSlice S1x64 ![0, 0] x slices_S1x128_S1x64_0_0) shapeCasts_S1x64_S64))
    (constant (F := Ideal) S_ .f32 0xFF800000#32) reducesTo_S64_S_d0 h_S_
/-- The greatest magnitude in the 32 lanes after them. -/
def top32 (x : FVec Ideal S1x128 .f32) : FVec Ideal S_ .f32 :=
  Host.reduce FloatOps.maximumf (Host.absf (shapeCast S32 (extractStridedSlice S1x32 ![0, 64] x slices_S1x128_S1x32_0_64) shapeCasts_S1x32_S32))
    (constant (F := Ideal) S_ .f32 0xFF800000#32) reducesTo_S32_S_d0 h_S_
/-- The bound on a score, from the gains' slots. -/
def boundG (x y z : FVec Ideal S1x128 .f32) : FVec Ideal S1 .f32 :=
  shapeCast S1 (mulf (constant (F := Ideal) S_ .f32 0x3E19CB3C#32)
    (addf (mulf (mulf (constant (F := Ideal) S_ .f32 0x42800000#32) (top64 x)) (top64 y))
      (mulf (mulf (constant (F := Ideal) S_ .f32 0x42000000#32) (top32 x)) (top32 z)))) shapeCasts_S_S1

/-! ## At an index -/

theorem castQ_at (x : FVec Ideal S4x4096x16x128 .f32) (b : Fin 4) (R : Fin 4096) (j : Fin 2048) :
    (shapeCast S4x4096x2048 x shapeCasts_S4x4096x16x128_S4x4096x2048 (ix3 b R j) : EReal)
      = x (ix4 b R (⟨j.val / 128, by omega⟩ : Fin 16) (⟨j.val % 128, Nat.mod_lt _ (by decide)⟩ : Fin 128)) := by
  pointwise

theorem catQ_at (x : FVec Ideal S4x4096x16x64 .f32) (y z : FVec Ideal S4x4096x16x32 .f32) (b : Fin 4) (R : Fin 4096) (h : Fin 16) (d : Fin 128) :
    (concatenate S4x4096x16x128 3 [⟨S4x4096x16x64, x⟩, ⟨S4x4096x16x32, y⟩, ⟨S4x4096x16x32, z⟩]
    concatenates_S4x4096x16x64_S4x4096x16x32_S4x4096x16x32_S4x4096x16x128_d3 (ix4 b R h d) : EReal)
      = if h' : d.val < 64 then x (ix4 b R h (⟨d.val, h'⟩ : Fin 64)) else if h' : d.val - 64 < 32 then y (ix4 b R h (⟨d.val - 64, h'⟩ : Fin 32)) else z (ix4 b R h (⟨d.val - 64 - 32, by omega⟩ : Fin 32)) := by
  pointwise

theorem castV_at (x : FVec Ideal S4x4096x8x256 .f32) (b : Fin 4) (R : Fin 4096) (j : Fin 2048) :
    (shapeCast S4x4096x2048 x shapeCasts_S4x4096x8x256_S4x4096x2048 (ix3 b R j) : EReal)
      = x (ix4 b R (⟨j.val / 256, by omega⟩ : Fin 8) (⟨j.val % 256, Nat.mod_lt _ (by decide)⟩ : Fin 256)) := by
  pointwise

theorem catV_at (x y z w : FVec Ideal S4x4096x8x64 .f32) (b : Fin 4) (R : Fin 4096) (h : Fin 8) (d : Fin 256) :
    (concatenate S4x4096x8x256 3 [⟨S4x4096x8x64, x⟩, ⟨S4x4096x8x64, y⟩, ⟨S4x4096x8x64, z⟩, ⟨S4x4096x8x64, w⟩]
    concatenates_S4x4096x8x64_S4x4096x8x64_S4x4096x8x64_S4x4096x8x64_S4x4096x8x256_d3 (ix4 b R h d) : EReal)
      = if h' : d.val < 64 then x (ix4 b R h (⟨d.val, h'⟩ : Fin 64)) else if h' : d.val - 64 < 64 then y (ix4 b R h (⟨d.val - 64, h'⟩ : Fin 64))
        else if h' : d.val - 64 - 64 < 64 then z (ix4 b R h (⟨d.val - 64 - 64, h'⟩ : Fin 64)) else w (ix4 b R h (⟨d.val - 64 - 64 - 64, by omega⟩ : Fin 64)) := by
  pointwise

theorem halfV0_at (a4 : FVec Ideal S4x4096x16x64 .f32) (b : Fin 4) (R : Fin 4096) (h : Fin 8) (d : Fin 64) :
    (halfV0 a4 (ix4 b R h d) : EReal) = a4 (ix4 b R (⟨h.val * 2, by omega⟩ : Fin 16) d) := by
  pointwise [halfV0]
theorem halfV1_at (a4 : FVec Ideal S4x4096x16x64 .f32) (b : Fin 4) (R : Fin 4096) (h : Fin 8) (d : Fin 64) :
    (halfV1 a4 (ix4 b R h d) : EReal) = a4 (ix4 b R (⟨h.val * 2 + 1, by omega⟩ : Fin 16) d) := by
  pointwise [halfV1]

theorem zero32_at (b : Fin 4) (R : Fin 4096) (h : Fin 16) (d : Fin 32) :
    ((broadcastInDim S4x4096x16x32 ![] bcast_S_S4x4096x16x32 (constant (F := Ideal) S_ .f32 0x00000000#32) : FVec Ideal S4x4096x16x32 .f32) (ix4 b R h d) : EReal) = 0 := by
  pointwise
theorem zero64_at (b : Fin 4) (R : Fin 4096) (h : Fin 8) (d : Fin 64) :
    ((broadcastInDim S4x4096x8x64 ![] bcast_S_S4x4096x8x64 (constant (F := Ideal) S_ .f32 0x00000000#32) : FVec Ideal S4x4096x8x64 .f32) (ix4 b R h d) : EReal) = 0 := by
  pointwise
theorem share_at (a3 : FVec Ideal S4x4096x32 .f32) (b : Fin 4) (R : Fin 4096) (h : Fin 16) (d : Fin 32) :
    ((broadcastInDim S4x4096x16x32 ![0, 1, 2, 3] bcast_S4x4096x1x32_S4x4096x16x32_0_1_2_3
    (broadcastInDim S4x4096x1x32 ![0, 1, 3] bcast_S4x4096x32_S4x4096x1x32_0_1_3 a3) : FVec Ideal S4x4096x16x32 .f32) (ix4 b R h d) : EReal) = a3 (ix3 b R d) := by
  pointwise

/-- An array of rank four as a total table of reals. -/
def tab4 {n h d : ℕ} (x : (⟨4, ![4, n, h, d]⟩ : Shape).Idx → EReal) (b : Fin 4) (R H D : ℕ) : ℝ :=
  if h' : R < n ∧ H < h ∧ D < d then (x (ix4 b (⟨R, h'.1⟩ : Fin n) (⟨H, h'.2.1⟩ : Fin h) (⟨D, h'.2.2⟩ : Fin d))).toReal else 0

/-- Every element is a real. -/
def AllReal {s : Shape} (x : s.Idx → EReal) : Prop := ∀ i, ∃ r : ℝ, x i = (r : EReal)

theorem tab4_eq {n h d : ℕ} {x : (⟨4, ![4, n, h, d]⟩ : Shape).Idx → EReal} (hx : AllReal x) (b : Fin 4) (R : Fin n) (H : Fin h) (D : Fin d) :
    x (ix4 b R H D) = ((tab4 x b R.val H.val D.val : ℝ) : EReal) := by
  unfold tab4
  rw [dif_pos ⟨R.isLt, H.isLt, D.isLt⟩]
  obtain ⟨r, hr⟩ := hx (ix4 b R H D)
  show x (ix4 b R H D) = (((x (ix4 b R H D)).toReal : ℝ) : EReal)
  rw [hr, EReal.toReal_coe]

/-- A row's reals in the slots, from its two parts'. -/
def rowR (A0 A1 : ℕ → ℕ → ℕ → ℝ) (R j : ℕ) : ℝ :=
  if j % 128 < 64 then A0 R (j / 128) (j % 128) else if j % 128 - 64 < 32 then A1 R (j / 128) (j % 128 - 64) else 0
/-- A slot's reals, from its two parts'. -/
def slotR (A0 A1 : ℕ → ℕ → ℕ → ℝ) (p R d : ℕ) : ℝ := rowR A0 A1 R (256 * p + d)
/-- The values' reals. -/
def valR (A4 : ℕ → ℕ → ℕ → ℝ) (p R d : ℕ) : ℝ :=
  if d < 64 then A4 R (p * 2) d else if d - 64 < 64 then 0 else if d - 64 - 64 < 64 then 0 else A4 R (p * 2 + 1) (d - 64 - 64 - 64)

/-- The two parts of a slot and the padding. -/
def catQ (a0 : FVec Ideal S4x4096x16x64 .f32) (a1 : FVec Ideal S4x4096x16x32 .f32) : FVec Ideal S4x4096x16x128 .f32 :=
  concatenate S4x4096x16x128 3 [⟨S4x4096x16x64, a0⟩, ⟨S4x4096x16x32, a1⟩, ⟨S4x4096x16x32, broadcastInDim S4x4096x16x32 ![] bcast_S_S4x4096x16x32 (constant (F := Ideal) S_ .f32 0x00000000#32)⟩]
    concatenates_S4x4096x16x64_S4x4096x16x32_S4x4096x16x32_S4x4096x16x128_d3
/-- The values of a pair of heads and the padding between them. -/
def catV (a4 : FVec Ideal S4x4096x16x64 .f32) : FVec Ideal S4x4096x8x256 .f32 :=
  concatenate S4x4096x8x256 3 [⟨S4x4096x8x64, halfV0 a4⟩, ⟨S4x4096x8x64, broadcastInDim S4x4096x8x64 ![] bcast_S_S4x4096x8x64 (constant (F := Ideal) S_ .f32 0x00000000#32)⟩,
    ⟨S4x4096x8x64, broadcastInDim S4x4096x8x64 ![] bcast_S_S4x4096x8x64 (constant (F := Ideal) S_ .f32 0x00000000#32)⟩, ⟨S4x4096x8x64, halfV1 a4⟩]
    concatenates_S4x4096x8x64_S4x4096x8x64_S4x4096x8x64_S4x4096x8x64_S4x4096x8x256_d3

theorem catQ_real (a0 : FVec Ideal S4x4096x16x64 .f32) (a1 : FVec Ideal S4x4096x16x32 .f32) (h0 : AllReal (s := S4x4096x16x64) a0) (h1 : AllReal (s := S4x4096x16x32) a1)
    (b : Fin 4) (R : Fin 4096) (h : Fin 16) (d : Fin 128) :
    (catQ a0 a1 (ix4 b R h d) : EReal) = (((if d.val < 64 then tab4 a0 b R.val h.val d.val else if d.val - 64 < 32 then tab4 a1 b R.val h.val (d.val - 64) else 0 : ℝ)) : EReal) := by
  unfold catQ
  rw [catQ_at]
  split
  · exact tab4_eq h0 b R h _
  · split
    · exact tab4_eq h1 b R h _
    · exact zero32_at b R h _

theorem catV_real (a4 : FVec Ideal S4x4096x16x64 .f32) (h4 : AllReal (s := S4x4096x16x64) a4) (b : Fin 4) (R : Fin 4096) (p : Fin 8) (d : Fin 256) :
    (catV a4 (ix4 b R p d) : EReal) = ((valR (tab4 a4 b) p.val R.val d.val : ℝ) : EReal) := by
  unfold catV valR
  rw [catV_at]
  split
  · exact (halfV0_at a4 b R p _).trans (tab4_eq h4 b R _ _)
  · split
    · exact zero64_at b R p _
    · split
      · exact zero64_at b R p _
      · exact (halfV1_at a4 b R p _).trans (tab4_eq h4 b R _ _)

theorem truncf_at {s : Shape} (x : FVec Ideal s .f32) (i : s.Idx) : (truncf .bf16 x bitsLt_bf16_f32 i : EReal) = x i := rfl
theorem slotQ_is (a0 : FVec Ideal S4x4096x16x64 .f32) (a1 : FVec Ideal S4x4096x16x32 .f32) :
    slotQ a0 a1 = truncf .bf16 (shapeCast S4x4096x2048 (catQ a0 a1) shapeCasts_S4x4096x16x128_S4x4096x2048) bitsLt_bf16_f32 := by
  unfold slotQ catQ; rfl
theorem slotV_is (a4 : FVec Ideal S4x4096x16x64 .f32) :
    slotV a4 = truncf .bf16 (shapeCast S4x4096x2048 (catV a4) shapeCasts_S4x4096x8x256_S4x4096x2048) bitsLt_bf16_f32 := by
  unfold slotV catV; rfl
theorem slotQ_eq (a0 : FVec Ideal S4x4096x16x64 .f32) (a1 : FVec Ideal S4x4096x16x32 .f32) (i : S4x4096x2048.Idx) :
    (slotQ a0 a1 i : EReal) = shapeCast S4x4096x2048 (catQ a0 a1) shapeCasts_S4x4096x16x128_S4x4096x2048 i := by
  rw [slotQ_is, truncf_at]
theorem slotV_eq (a4 : FVec Ideal S4x4096x16x64 .f32) (i : S4x4096x2048.Idx) :
    (slotV a4 i : EReal) = shapeCast S4x4096x2048 (catV a4) shapeCasts_S4x4096x8x256_S4x4096x2048 i := by
  rw [slotV_is, truncf_at]

theorem slotQ_row (a0 : FVec Ideal S4x4096x16x64 .f32) (a1 : FVec Ideal S4x4096x16x32 .f32) (h0 : AllReal (s := S4x4096x16x64) a0) (h1 : AllReal (s := S4x4096x16x32) a1)
    (b : Fin 4) (R : Fin 4096) (j : Fin 2048) :
    (slotQ a0 a1 (ix3 b R j) : EReal) = ((rowR (tab4 a0 b) (tab4 a1 b) R.val j.val : ℝ) : EReal) := by
  rw [slotQ_eq, castQ_at, catQ_real a0 a1 h0 h1]
  unfold rowR
  rfl

theorem slotQ_at (a0 : FVec Ideal S4x4096x16x64 .f32) (a1 : FVec Ideal S4x4096x16x32 .f32) (h0 : AllReal (s := S4x4096x16x64) a0) (h1 : AllReal (s := S4x4096x16x32) a1)
    (b : Fin 4) (p : Fin 8) (R : Fin 4096) (d : Fin 256) :
    (slotQ a0 a1 (ix3 b R (⟨256 * p.val + d.val, by omega⟩ : Fin 2048)) : EReal) = ((slotR (tab4 a0 b) (tab4 a1 b) p.val R.val d.val : ℝ) : EReal) := by
  rw [slotQ_row a0 a1 h0 h1]
  unfold slotR
  rfl

theorem slotV_row (a4 : FVec Ideal S4x4096x16x64 .f32) (h4 : AllReal (s := S4x4096x16x64) a4) (b : Fin 4) (R : Fin 4096) (j : Fin 2048) :
    (slotV a4 (ix3 b R j) : EReal) = ((valR (tab4 a4 b) (j.val / 256) R.val (j.val % 256) : ℝ) : EReal) := by
  rw [slotV_eq, castV_at, catV_real a4 h4]

theorem slotV_at (a4 : FVec Ideal S4x4096x16x64 .f32) (h4 : AllReal (s := S4x4096x16x64) a4) (b : Fin 4) (p : Fin 8) (R : Fin 4096) (d : Fin 256) :
    (slotV a4 (ix3 b R (⟨256 * p.val + d.val, by omega⟩ : Fin 2048)) : EReal) = ((valR (tab4 a4 b) p.val R.val d.val : ℝ) : EReal) := by
  rw [slotV_row a4 h4]
  have e1 : (256 * p.val + d.val) / 256 = p.val := by omega
  have e2 : (256 * p.val + d.val) % 256 = d.val := by omega
  show ((valR _ ((256 * p.val + d.val) / 256) _ ((256 * p.val + d.val) % 256) : ℝ) : EReal) = _
  rw [e1, e2]

/-! ## The bound is a real when the gains are -/

theorem slotG_real (i j : Fin 1 → ℤ) (g : FVec Ideal S64 .f32) (r : FVec Ideal S32 .f32) (hg : AllReal (s := S64) g) (hr : AllReal (s := S32) r) (l : Fin 128) :
    ∃ x : ℝ, (slotG i j g r (ix2 (0 : Fin 1) l) : EReal) = x := by
  pointwise [slotG]
  split
  · exact hr _
  · split
    · exact hg _
    · exact ⟨0, rfl⟩
theorem slotG1_real (i : Fin 1 → ℤ) (g : FVec Ideal S64 .f32) (hg : AllReal (s := S64) g) (l : Fin 128) :
    ∃ x : ℝ, (slotG1 i g (ix2 (0 : Fin 1) l) : EReal) = x := by
  pointwise [slotG1]
  split
  · exact hg _
  · exact ⟨0, rfl⟩
theorem slotG2_real (i : Fin 1 → ℤ) (g : FVec Ideal S32 .f32) (hg : AllReal (s := S32) g) (l : Fin 128) :
    ∃ x : ℝ, (slotG2 i g (ix2 (0 : Fin 1) l) : EReal) = x := by
  pointwise [slotG2]
  split
  · exact hg _
  · exact ⟨0, rfl⟩

theorem max_abs_real {ι : Type} [Fintype ι] [Nonempty ι] (f : ι → EReal) (hf : ∀ k, ∃ x : ℝ, f k = x) :
    ∃ x : ℝ, Finset.univ.fold max (Ideal.ofBits .f32 0xFF800000#32) (fun k => (FloatOps.absf (F := Ideal) (φ := .f32) (f k) : EReal)) = x := by
  have ha : ∀ k, ∃ x : ℝ, (FloatOps.absf (F := Ideal) (φ := .f32) (f k) : EReal) = x := fun k => by
    obtain ⟨x, hx⟩ := hf k
    rw [hx]
    exact ⟨|x|, rfl⟩
  obtain ⟨μ, e⟩ := Cert.Soft.max_real (fun k => (FloatOps.absf (F := Ideal) (φ := .f32) (f k) : EReal))
    (fun k => by obtain ⟨x, hx⟩ := ha k; rw [hx]; exact EReal.coe_ne_top x) (Classical.arbitrary ι)
    (by obtain ⟨x, hx⟩ := ha (Classical.arbitrary ι); rw [hx]; exact EReal.coe_ne_bot x) ⊥ bot_ne_top
  refine ⟨μ, ?_⟩
  rw [bits_bot, ← e, max_eq_right bot_le]

theorem boundG_real (x y z : FVec Ideal S1x128 .f32) (hx : ∀ l : Fin 128, ∃ r : ℝ, (x (ix2 (0 : Fin 1) l) : EReal) = r)
    (hy : ∀ l : Fin 128, ∃ r : ℝ, (y (ix2 (0 : Fin 1) l) : EReal) = r) (hz : ∀ l : Fin 128, ∃ r : ℝ, (z (ix2 (0 : Fin 1) l) : EReal) = r) :
    ∃ β : ℝ, (boundG x y z (ix1 (0 : Fin 1)) : EReal) = β := by
  pointwise [boundG, top64, top32]
  obtain ⟨a, ha⟩ := max_abs_real (fun k : Fin 64 => x (ix2 (0 : Fin 1) (⟨k.val, by omega⟩ : Fin 128))) (fun k => hx _)
  obtain ⟨b, hb⟩ := max_abs_real (fun k : Fin 64 => y (ix2 (0 : Fin 1) (⟨k.val, by omega⟩ : Fin 128))) (fun k => hy _)
  obtain ⟨c, hc⟩ := max_abs_real (fun k : Fin 32 => x (ix2 (0 : Fin 1) (⟨64 + k.val, by omega⟩ : Fin 128))) (fun k => hx _)
  obtain ⟨d, hd⟩ := max_abs_real (fun k : Fin 32 => z (ix2 (0 : Fin 1) (⟨64 + k.val, by omega⟩ : Fin 128))) (fun k => hz _)
  obtain ⟨u, hu⟩ : ∃ r : ℝ, (Ideal.ofBits .f32 0x3E19CB3C#32 : EReal) = r := ⟨_, by simp [Ideal.ofBits, Ideal.ieee]; rfl⟩
  obtain ⟨v, hv⟩ : ∃ r : ℝ, (Ideal.ofBits .f32 0x42800000#32 : EReal) = r := ⟨_, by simp [Ideal.ofBits, Ideal.ieee]; rfl⟩
  obtain ⟨w, hw⟩ : ∃ r : ℝ, (Ideal.ofBits .f32 0x42000000#32 : EReal) = r := ⟨_, by simp [Ideal.ofBits, Ideal.ieee]; rfl⟩
  rw [ha, hb, hc, hd, hu, hv, hw]
  exact ⟨_, by simp only [← EReal.coe_mul, ← EReal.coe_add]; rfl⟩

end Cert.KernelIdeal.Body

end
-- ==== Proof.KI.Operands.lean ====
module

public import proofs.«01_k».proof.Proof.KI.Final
public import Idealize.ShloMosaic.Lib.Claim
public import proofs.«01_k».proof.Proof.KI.Slots

/-!
# The call's operands are what the host operations make of the arguments
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The first operand is the padded queries. -/
theorem V_q (c : Dev nD) : V m c main_v13 = slotQ (m ((c.tc : Thread nD τ).loc main_arg0)) (m ((c.tc : Thread nD τ).loc main_arg1)) := by
  unfold V
  unfold hostOps0
  after_results
  rfl
set_option maxHeartbeats 4000000 in
/-- The second operand is the padded keys. -/
theorem V_k (c : Dev nD) : V m c main_v18 = slotK (m ((c.tc : Thread nD τ).loc main_arg2)) (m ((c.tc : Thread nD τ).loc main_arg3)) := by
  unfold V
  unfold hostOps0
  after_results
  rfl
set_option maxHeartbeats 4000000 in
/-- The third operand is the values, laid out two heads to a slot. -/
theorem V_v (c : Dev nD) : V m c main_v27 = slotV (m ((c.tc : Thread nD τ).loc main_arg4)) := by
  unfold V
  unfold hostOps0
  after_results
  rfl
set_option maxHeartbeats 4000000 in
/-- The fourth operand is the bound the gains give. -/
theorem V_bound (c : Dev nD) : ∃ i j k l, V m c main_v50 = boundG
    (slotG i j (m ((c.tc : Thread nD τ).loc main_arg5)) (m ((c.tc : Thread nD τ).loc main_arg6)))
    (slotG1 k (m ((c.tc : Thread nD τ).loc main_arg7))) (slotG2 l (m ((c.tc : Thread nD τ).loc main_arg8))) := by
  entry_read
  exact ⟨_, _, _, _, rfl⟩

end Cert.KernelIdeal.Body

end
-- ==== Proof.KI.Tile.lean ====
module

public import proofs.«01_k».proof.Proof.KI.Val
public import proofs.«01_k».proof.Proof.Math.Soft

/-!
# A query tile's result over the reals

Both loops leave, at a row and a lane, the average of the lane's values weighed by the scores the row sees.
-/

@[expose] public section

set_option maxRecDepth 16384

noncomputable section

namespace Cert.KernelIdeal.Body

open Cert.KernelIdeal Cert.KernelIdeal.Gen Cert.Soft
open Idealize.ShloMosaic Idealize.ShloMosaic.Tactic

/-- A block that holds reals. -/
def IsR (X : Vec Ideal S1x4096x256 .bf16) (Xr : ℕ → ℕ → ℝ) : Prop :=
  ∀ (R : Fin 4096) (d : Fin 256), X (ix3 (0 : Fin 1) R d) = ((Xr R.val d.val : ℝ) : EReal)

/-- Where a head's lanes start in a block. -/
def off (h : Bool) : ℕ := bif h then 128 else 0
/-- The head a lane of the result belongs to. -/
def hd (l : Fin 128) : Bool := decide (64 ≤ l.val)
/-- A head's scores, times the scale. -/
def scH (h : Bool) (q k : FVec Ideal S512x256 .bf16) : FVec Ideal S512x512 .f32 := bif h then sc1 q k else sc0 q k

/-- A head's scaled score of a query row and a key row. -/
def scoreR (Qr Kr : ℕ → ℕ → ℝ) (h : Bool) (R C : ℕ) : ℝ := (∑ x : Fin 128, Qr R (off h + x.val) * Kr C (off h + x.val)) * scl
/-- The same, `⊥` where the query does not see the key. -/
def seen (Qr Kr : ℕ → ℕ → ℝ) (h : Bool) (R C : ℕ) : EReal := if C / 64 ≤ R / 64 then ((scoreR Qr Kr h R C : ℝ) : EReal) else ⊥

theorem seen_ne_top (Qr Kr : ℕ → ℕ → ℝ) (h : Bool) (R C : ℕ) : seen Qr Kr h R C ≠ ⊤ := by
  unfold seen; split
  · exact EReal.coe_ne_top _
  · exact bot_ne_top
theorem seen_ne_bot (Qr Kr : ℕ → ℕ → ℝ) (h : Bool) (R C : ℕ) (hc : C / 64 ≤ R / 64) : seen Qr Kr h R C ≠ ⊥ := by
  unfold seen; rw [if_pos hc]; exact EReal.coe_ne_bot _

variable {Q K V : Vec Ideal S1x4096x256 .bf16} {Qr Kr Vr : ℕ → ℕ → ℝ}

theorem mat_rows_at {X : Vec Ideal S1x4096x256 .bf16} {Xr : ℕ → ℕ → ℝ} (hX : IsR X Xr) {t : ℕ} (ht : t < 8) (r : Fin 512) (d : Fin 256) :
    mat (rows X t) (ix2 r d) = ((Xr (512 * t + r.val) d.val : ℝ) : EReal) := by
  rw [mat_at, rows_at, hX]
  show ((Xr ((512 * t + r.val) % 4096) d.val : ℝ) : EReal) = _
  rw [Nat.mod_eq_of_lt (by have := r.isLt; omega)]

theorem scH_rows (hQ : IsR Q Qr) (hK : IsR K Kr) {t i : ℕ} (ht : t < 8) (hi : i < 8) (h : Bool) (r c : Fin 512) :
    scH h (mat (rows Q t)) (mat (rows K i)) (ix2 r c) = ((scoreR Qr Kr h (512 * t + r.val) (512 * i + c.val) : ℝ) : EReal) := by
  unfold scoreR
  rw [EReal.coe_mul, coe_sum]
  cases h
  · show sc0 _ _ _ = _
    rw [sc0_at]
    congr 1
    refine Finset.sum_congr rfl fun x _ => ?_
    rw [mat_rows_at hQ ht, mat_rows_at hK hi, ← EReal.coe_mul]
    simp [off]
  · show sc1 _ _ _ = _
    rw [sc1_at]
    congr 1
    refine Finset.sum_congr rfl fun x _ => ?_
    rw [mat_rows_at hQ ht, mat_rows_at hK hi, ← EReal.coe_mul]
    simp [off]

/-- A key tile before the query tile is seen whole. -/
theorem scU (hQ : IsR Q Qr) (hK : IsR K Kr) {t i : ℕ} (ht : t < 8) (hi : i < t) (h : Bool) (r c : Fin 512) :
    scH h (mat (rows Q t)) (mat (rows K i)) (ix2 r c) = seen Qr Kr h (512 * t + r.val) (512 * i + c.val) := by
  rw [scH_rows hQ hK ht (by omega)]
  unfold seen
  rw [if_pos (by have := c.isLt; omega)]

/-- The query tile's own key tile is seen where the mask says. -/
theorem scM (hQ : IsR Q Qr) (hK : IsR K Kr) {t : ℕ} (ht : t < 8) (h : Bool) (r c : Fin 512) :
    msk vis (scH h (mat (rows Q t)) (mat (rows K t))) (ix2 r c) = seen Qr Kr h (512 * t + r.val) (512 * t + c.val) := by
  rw [msk_at, scH_rows hQ hK ht ht]
  unfold seen
  by_cases hv : c.val / 64 ≤ r.val / 64
  · rw [if_pos ((vis_at r c).mpr hv), if_pos (by omega)]
  · rw [if_neg (fun e => hv ((vis_at r c).mp e)), if_neg (by omega)]

/-- The values of a lane's own head; the other head's are zero there. -/
def ZeroOff (Vr : ℕ → ℕ → ℝ) : Prop := ∀ (R : ℕ) (l : Fin 128), Vr R (off (!hd l) + l.val) = 0

theorem pv_lane (hV : IsR V Vr) (hz : ZeroOff Vr) {i : ℕ} (hi : i < 8) (p : Bool → FVec Ideal S512x512 .f32) (r : Fin 512) (l : Fin 128) :
    pv0 (p false) (mat (rows V i)) (ix2 r l) + pv1 (p true) (mat (rows V i)) (ix2 r l)
      = ∑ c : Fin 512, (p (hd l) (ix2 r c) : EReal) * ((Vr (512 * i + c.val) (off (hd l) + l.val) : ℝ) : EReal) := by
  rw [pv0_at, pv1_at]
  have hl := l.isLt
  by_cases h : 64 ≤ l.val
  · have e : hd l = true := by simp [hd, h]
    rw [e, Finset.sum_eq_zero (s := (Finset.univ : Finset (Fin 512))) (f := fun x => p false (ix2 r x) * mat (rows V i) (ix2 x (⟨l.val, by omega⟩ : Fin 256))), zero_add]
    · refine Finset.sum_congr rfl fun c _ => ?_
      rw [mat_rows_at hV hi]; rfl
    · intro c _
      have := hz (512 * i + c.val) l
      rw [e] at this
      rw [mat_rows_at hV hi]
      simp only [off, Bool.not_true, cond_false, Nat.zero_add] at this
      rw [this, EReal.coe_zero, mul_zero]
  · have e : hd l = false := by simp [hd, h]
    rw [e, Finset.sum_eq_zero (s := (Finset.univ : Finset (Fin 512))) (f := fun x => p true (ix2 r x) * mat (rows V i) (ix2 x (⟨128 + l.val, by omega⟩ : Fin 256))), add_zero]
    · refine Finset.sum_congr rfl fun c _ => ?_
      rw [mat_rows_at hV hi]; simp [off]
    · intro c _
      have := hz (512 * i + c.val) l
      rw [e] at this
      rw [mat_rows_at hV hi]
      simp only [off, Bool.not_false, cond_true] at this
      rw [this, EReal.coe_zero, mul_zero]

theorem twoCols_lane (x y : FVec Ideal S512x1 .f32) (r : Fin 512) (l : Fin 128) :
    twoCols k0_pay106 x y (ix2 r l) = (bif hd l then y else x) (ix2 r (0 : Fin 1)) := by
  rw [twoCols_at]
  by_cases h : 64 ≤ l.val
  · rw [if_neg (fun e => absurd ((lan_at l).mp e) (by omega)), show hd l = true by simp [hd, h]]; rfl
  · rw [if_pos ((lan_at l).mpr (by omega)), show hd l = false by simp [hd, h]]; rfl

/-! ## The total weight and the weighted total of the first `n` key tiles -/

def wtot (Qr Kr : ℕ → ℕ → ℝ) (h : Bool) (R n : ℕ) : ℝ := ∑ i ∈ Finset.range n, ∑ c : Fin 512, wt (seen Qr Kr h R (512 * i + c.val))
def vtot (Qr Kr Vr : ℕ → ℕ → ℝ) (h : Bool) (R l n : ℕ) : ℝ :=
  ∑ i ∈ Finset.range n, ∑ c : Fin 512, wt (seen Qr Kr h R (512 * i + c.val)) * Vr (512 * i + c.val) (off h + l)

theorem wtot_succ (Qr Kr : ℕ → ℕ → ℝ) (h : Bool) (R n : ℕ) :
    wtot Qr Kr h R (n + 1) = wtot Qr Kr h R n + ∑ c : Fin 512, wt (seen Qr Kr h R (512 * n + c.val)) := Finset.sum_range_succ _ _
theorem vtot_succ (Qr Kr Vr : ℕ → ℕ → ℝ) (h : Bool) (R l n : ℕ) :
    vtot Qr Kr Vr h R l (n + 1) = vtot Qr Kr Vr h R l n + ∑ c : Fin 512, wt (seen Qr Kr h R (512 * n + c.val)) * Vr (512 * n + c.val) (off h + l) :=
  Finset.sum_range_succ _ _

theorem wtot_pos (Qr Kr : ℕ → ℕ → ℝ) (h : Bool) (t : ℕ) (r : Fin 512) : 0 < wtot Qr Kr h (512 * t + r.val) (t + 1) := by
  rw [wtot_succ]
  have h1 : 0 ≤ wtot Qr Kr h (512 * t + r.val) t := Finset.sum_nonneg fun i _ => Finset.sum_nonneg fun c _ => wt_nonneg _
  have h2 : 0 < ∑ c : Fin 512, wt (seen Qr Kr h (512 * t + r.val) (512 * t + c.val)) :=
    Finset.sum_pos' (fun c _ => wt_nonneg _) ⟨r, Finset.mem_univ _, wt_pos _ (seen_ne_bot _ _ _ _ _ le_rfl) (seen_ne_top _ _ _ _ _)⟩
  linarith

/-! ## The loop that keeps a running maximum -/

/-- A head's running maximum, and its sum. -/
def mH (h : Bool) (a : StO Ideal) : FVec Ideal S512x1 .f32 := bif h then a.2.1 else a.1
def lH (h : Bool) (a : StO Ideal) : FVec Ideal S512x1 .f32 := bif h then a.2.2.2.1 else a.2.2.1

/-- What the carried tuple says at a row and a lane. -/
def InvO (Qr Kr Vr : ℕ → ℕ → ℝ) (R n : ℕ) (r : Fin 512) (l : Fin 128) (a : StO Ideal) : Prop :=
  Inv (mH (hd l) a (ix2 r (0 : Fin 1))) (lH (hd l) a (ix2 r (0 : Fin 1))) (a.2.2.2.2 (ix2 r l)) (wtot Qr Kr (hd l) R n) (vtot Qr Kr Vr (hd l) R l.val n)

theorem InvO.step (hV : IsR V Vr) (hz : ZeroOff Vr) {R i : ℕ} (hi : i < 8) {r : Fin 512} {l : Fin 128} {a : StO Ideal}
    (h : InvO Qr Kr Vr R i r l a) (s : Bool → FVec Ideal S512x512 .f32)
    (hs : ∀ (h : Bool) (c : Fin 512), s h (ix2 r c) = seen Qr Kr h R (512 * i + c.val)) (c0 : Fin 512) (hc : (512 * i + c0.val) / 64 ≤ R / 64) :
    InvO Qr Kr Vr R (i + 1) r l (onP k0_pay106 (s false) (s true) (mat (rows V i)) a) := by
  have key := Inv.step h (fun c : Fin 512 => (s (hd l) (ix2 r c) : EReal)) (fun c => Vr (512 * i + c.val) (off (hd l) + l.val))
    (fun c => by rw [hs]; exact seen_ne_top _ _ _ _ _) c0 (by rw [hs]; exact seen_ne_bot _ _ _ _ _ hc)
  have e1 : mH (hd l) (onP k0_pay106 (s false) (s true) (mat (rows V i)) a) = mx (mH (hd l) a) (s (hd l)) := by
    unfold mH onP; cases hd l <;> rfl
  have e2 : lH (hd l) (onP k0_pay106 (s false) (s true) (mat (rows V i)) a) = nl (mH (hd l) a) (lH (hd l) a) (s (hd l)) := by
    unfold mH lH onP; cases hd l <;> rfl
  have e3 : (onP k0_pay106 (s false) (s true) (mat (rows V i)) a).2.2.2.2 (ix2 r l)
      = a.2.2.2.2 (ix2 r l) * al (mH (hd l) a) (s (hd l)) (ix2 r (0 : Fin 1))
        + ∑ c : Fin 512, (pw (mH (hd l) a) (s (hd l)) (ix2 r c) : EReal) * ((Vr (512 * i + c.val) (off (hd l) + l.val) : ℝ) : EReal) := by
    have p := pv_lane hV hz hi (fun h => pw (mH h a) (s h)) r l
    rw [← p, ← add_assoc]
    have q : (onP k0_pay106 (s false) (s true) (mat (rows V i)) a).2.2.2.2 (ix2 r l)
        = a.2.2.2.2 (ix2 r l) * twoCols k0_pay106 (al a.1 (s false)) (al a.2.1 (s true)) (ix2 r l)
          + pv0 (pw a.1 (s false)) (mat (rows V i)) (ix2 r l) + pv1 (pw a.2.1 (s true)) (mat (rows V i)) (ix2 r l) := rfl
    rw [q, twoCols_lane]
    have q' : (bif hd l then al a.2.1 (s true) else al a.1 (s false)) = al (mH (hd l) a) (s (hd l)) := by
      unfold mH; cases hd l <;> rfl
    rw [q']
    rfl
  unfold InvO
  rw [e1, e2, e3, nl_at, al_at, wtot_succ, vtot_succ]
  simp only [pw_at, mx_at]
  simp only [hs] at key ⊢
  exact key

theorem InvO.fold (hQ : IsR Q Qr) (hK : IsR K Kr) (hV : IsR V Vr) (hz : ZeroOff Vr) {t : ℕ} (ht : t < 8) (r : Fin 512) (l : Fin 128) :
    ∀ n, n ≤ t → InvO Qr Kr Vr (512 * t + r.val) n r l (foldO k0_pay106 (rows Q t) K V n)
  | 0, _ => by
    refine Or.inl ⟨?_, ?_, ?_, ?_, ?_⟩
    · unfold mH foldO; cases hd l <;> exact pay93_at r
    · unfold lH foldO; cases hd l <;> exact pay94_at r
    · exact pay95_at r l
    · rfl
    · rfl
  | n + 1, hn =>
    InvO.step hV hz (by omega) (InvO.fold hQ hK hV hz ht r l n (by omega)) (fun h => scH h (mat (rows Q t)) (mat (rows K n)))
      (fun h c => scU hQ hK ht (by omega) h r c) 0 (by show (512 * n + 0) / 64 ≤ _; omega)

/-- A tile's result when a running maximum is kept. -/
theorem tileO_at (hQ : IsR Q Qr) (hK : IsR K Kr) (hV : IsR V Vr) (hz : ZeroOff Vr) {t : ℕ} (ht : t < 8) (r : Fin 512) (l : Fin 128) :
    tileO k0_pay106 vis Q K V t (ix3 (0 : Fin 1) r l)
      = ((vtot Qr Kr Vr (hd l) (512 * t + r.val) l.val (t + 1) / wtot Qr Kr (hd l) (512 * t + r.val) (t + 1) : ℝ) : EReal) := by
  have h : InvO Qr Kr Vr (512 * t + r.val) (t + 1) r l (onM k0_pay106 vis (rows Q t) (rows K t) (rows V t) (foldO k0_pay106 (rows Q t) K V t)) :=
    InvO.step hV hz ht (InvO.fold hQ hK hV hz ht r l t le_rfl) (fun h => msk vis (scH h (mat (rows Q t)) (mat (rows K t))))
      (fun h c => scM hQ hK ht h r c) r le_rfl
  unfold tileO
  rw [fin_at, twoCols_lane]
  have e := Inv.div h (wtot_pos Qr Kr (hd l) t r).ne'
  rw [← e]
  congr 1

/-! ## The loop that subtracts a bound -/

theorem sum4 (f : Fin 512 → EReal) : ∑ c, f c
    = ∑ x : Fin 128, (f ⟨x.val, by omega⟩ + f ⟨128 + x.val, by omega⟩ + f ⟨256 + x.val, by omega⟩ + f ⟨384 + x.val, by omega⟩) := by
  simp only [Finset.sum_add_distrib]
  rw [show (∑ c, f c) = ∑ c : Fin (128 + 128 + 128 + 128), f c from rfl, Fin.sum_univ_add, Fin.sum_univ_add, Fin.sum_univ_add]
  rfl

theorem rsum_addS (a : FVec Ideal S512x128 .f32) (p : FVec Ideal S512x512 .f32) (r : Fin 512) :
    rsum (addS a p) (ix2 r (0 : Fin 1)) = rsum a (ix2 r (0 : Fin 1)) + ∑ c : Fin 512, (p (ix2 r c) : EReal) := by
  rw [rsum_at, rsum_at, sum4, ← Finset.sum_add_distrib]
  refine Finset.sum_congr rfl fun x _ => ?_
  rw [addS_at]
  simp only [add_assoc]

/-- A head's carried sums. -/
def sH (h : Bool) (a : StS Ideal) : FVec Ideal S512x128 .f32 := bif h then a.2.1 else a.1

/-- What the carried triple says at a row and a lane: the totals times one factor. -/
def InvS (β : ℝ) (Qr Kr Vr : ℕ → ℕ → ℝ) (R n : ℕ) (r : Fin 512) (l : Fin 128) (a : StS Ideal) : Prop :=
  rsum (sH (hd l) a) (ix2 r (0 : Fin 1)) = (((2 : ℝ) ^ (-β) * wtot Qr Kr (hd l) R n : ℝ) : EReal)
    ∧ a.2.2 (ix2 r l) = (((2 : ℝ) ^ (-β) * vtot Qr Kr Vr (hd l) R l.val n : ℝ) : EReal)

theorem InvS.step {β : ℝ} (hV : IsR V Vr) (hz : ZeroOff Vr) {R i : ℕ} (hi : i < 8) {r : Fin 512} {l : Fin 128} {a : StS Ideal}
    (h : InvS β Qr Kr Vr R i r l a) (p : Bool → FVec Ideal S512x512 .f32)
    (hp : ∀ (h : Bool) (c : Fin 512), p h (ix2 r c) = Ideal.exp2 (seen Qr Kr h R (512 * i + c.val) - (β : EReal))) :
    InvS β Qr Kr Vr R (i + 1) r l (stP (p false) (p true) (mat (rows V i)) a) := by
  have hp' : ∀ (h : Bool) (c : Fin 512), p h (ix2 r c) = (((2 : ℝ) ^ (-β) * wt (seen Qr Kr h R (512 * i + c.val)) : ℝ) : EReal) :=
    fun h c => by rw [hp, exp2_sub _ (seen_ne_top _ _ _ _ _)]
  constructor
  · have e : sH (hd l) (stP (p false) (p true) (mat (rows V i)) a) = addS (sH (hd l) a) (p (hd l)) := by
      unfold sH stP; cases hd l <;> rfl
    rw [e, rsum_addS, h.1, Finset.sum_congr rfl fun c _ => hp' (hd l) c, ← coe_sum, ← EReal.coe_add, ← Finset.mul_sum, ← mul_add, wtot_succ]
  · have e : (stP (p false) (p true) (mat (rows V i)) a).2.2 (ix2 r l)
        = a.2.2 (ix2 r l) + pv0 (p false) (mat (rows V i)) (ix2 r l) + pv1 (p true) (mat (rows V i)) (ix2 r l) := rfl
    rw [e, add_assoc, pv_lane hV hz hi p r l, h.2, Finset.sum_congr rfl fun c _ => show (p (hd l) (ix2 r c) : EReal) * ((Vr (512 * i + c.val) (off (hd l) + l.val) : ℝ) : EReal)
      = (((2 : ℝ) ^ (-β) * (wt (seen Qr Kr (hd l) R (512 * i + c.val)) * Vr (512 * i + c.val) (off (hd l) + l.val)) : ℝ) : EReal) by
        rw [hp', ← EReal.coe_mul, mul_assoc], ← coe_sum, ← EReal.coe_add, ← Finset.mul_sum, ← mul_add, vtot_succ]

theorem InvS.fold (β : ℝ) (hQ : IsR Q Qr) (hK : IsR K Kr) (hV : IsR V Vr) (hz : ZeroOff Vr) {t : ℕ} (ht : t < 8) (r : Fin 512) (l : Fin 128) :
    ∀ n, n ≤ t → InvS β Qr Kr Vr (512 * t + r.val) n r l (foldU (F := Ideal) (β : EReal) (rows Q t) K V n)
  | 0, _ => by
    constructor
    · have e : sH (hd l) (foldU (F := Ideal) (β : EReal) (rows Q t) K V 0) = k0_pay63 := by unfold sH foldU; cases hd l <;> rfl
      rw [e, rsum_at, Finset.sum_eq_zero fun x _ => pay63_at r x]
      simp [wtot]
    · show k0_pay63 (F := Ideal) (ix2 r l) = _
      rw [pay63_at]
      simp [vtot]
  | n + 1, hn =>
    InvS.step hV hz (by omega) (InvS.fold β hQ hK hV hz ht r l n (by omega))
      (fun h => exp2 (shf (F := Ideal) (β : EReal) (scH h (mat (rows Q t)) (mat (rows K n)))))
      (fun h c => by rw [exp2_at, shf_at, scU hQ hK ht (by omega) h r c])

/-- A tile's result when a real bound is subtracted. -/
theorem tileS_at (β : ℝ) (hQ : IsR Q Qr) (hK : IsR K Kr) (hV : IsR V Vr) (hz : ZeroOff Vr) {t : ℕ} (ht : t < 8) (r : Fin 512) (l : Fin 128) :
    tileS (F := Ideal) (β : EReal) k0_pay106 vis Q K V t (ix3 (0 : Fin 1) r l)
      = ((vtot Qr Kr Vr (hd l) (512 * t + r.val) l.val (t + 1) / wtot Qr Kr (hd l) (512 * t + r.val) (t + 1) : ℝ) : EReal) := by
  have h : InvS β Qr Kr Vr (512 * t + r.val) (t + 1) r l
      (stM (F := Ideal) (β : EReal) vis (rows Q t) (rows K t) (rows V t) (foldU (F := Ideal) (β : EReal) (rows Q t) K V t)) :=
    InvS.step hV hz ht (InvS.fold β hQ hK hV hz ht r l t le_rfl)
      (fun h => exp2 (msk vis (shf (F := Ideal) (β : EReal) (scH h (mat (rows Q t)) (mat (rows K t))))))
      (fun h c => by
        rw [exp2_at, ← scM hQ hK ht h r c, msk_at, msk_at, shf_at]
        split
        · rfl
        · rw [EReal.bot_sub])
  unfold tileS
  rw [pay5_eq, fin_at, twoCols_lane]
  have e : ∀ a : StS Ideal, (bif hd l then rsum a.2.1 else rsum a.1) = rsum (sH (hd l) a) := fun a => by unfold sH; cases hd l <;> rfl
  rw [e, h.1, h.2, div_real _ _ _ (by positivity) (wtot_pos Qr Kr (hd l) t r).ne']

/-! ## The whole block -/

/-- The average over the keys a query row sees. -/
def avg (Qr Kr Vr : ℕ → ℕ → ℝ) (h : Bool) (R l : ℕ) : ℝ :=
  (∑ k : Fin 4096, wt (seen Qr Kr h R k.val) * Vr k.val (off h + l)) / ∑ k : Fin 4096, wt (seen Qr Kr h R k.val)

theorem avg_eq (h : Bool) {t : ℕ} (ht : t < 8) (r : Fin 512) (l : ℕ) :
    vtot Qr Kr Vr h (512 * t + r.val) l (t + 1) / wtot Qr Kr h (512 * t + r.val) (t + 1) = avg Qr Kr Vr h (512 * t + r.val) l := by
  have hr := r.isLt
  have z : ∀ k, 512 * (t + 1) ≤ k → k < 4096 → wt (seen Qr Kr h (512 * t + r.val) k) = 0 := fun k h1 h2 => by
    unfold seen; rw [if_neg (by omega), wt_bot]
  unfold avg wtot vtot
  rw [sum_tiles (fun k => wt (seen Qr Kr h (512 * t + r.val) k)) (t + 1) (by omega) z,
    sum_tiles (fun k => wt (seen Qr Kr h (512 * t + r.val) k) * Vr k (off h + l)) (t + 1) (by omega) (fun k h1 h2 => by rw [z k h1 h2, zero_mul])]

/-- The output block: every row and lane the average of its head's values. -/
theorem blkOut_at (β : ℝ) (hQ : IsR Q Qr) (hK : IsR K Kr) (hV : IsR V Vr) (hz : ZeroOff Vr) (R : Fin 4096) (l : Fin 128) :
    blkOut (F := Ideal) (β : EReal) Q K V (ix3 (0 : Fin 1) R l) = ((avg Qr Kr Vr (hd l) R.val l.val : ℝ) : EReal) := by
  have hR := R.isLt
  have e : 512 * (R.val / 512) + R.val % 512 = R.val := Nat.div_add_mod _ _
  have a := avg_eq (Qr := Qr) (Kr := Kr) (Vr := Vr) (hd l) (t := R.val / 512) (by omega) ⟨R.val % 512, Nat.mod_lt _ (by decide)⟩ l.val
  dsimp only at a
  rw [e] at a
  unfold blkOut
  split
  · show tileO k0_pay106 vis Q K V (R.val / 512) (ix3 (0 : Fin 1) (⟨R.val % 512, _⟩ : Fin 512) l) = _
    rw [tileO_at hQ hK hV hz (by omega)]
    dsimp only
    rw [e, a]
  · show tileS (F := Ideal) (β : EReal) k0_pay106 vis Q K V (R.val / 512) (ix3 (0 : Fin 1) (⟨R.val % 512, _⟩ : Fin 512) l) = _
    rw [tileS_at β hQ hK hV hz (by omega)]
    dsimp only
    rw [e, a]

end Cert.KernelIdeal.Body

end
-- ==== Proof.RefAt.lean ====
module

public import proofs.«01_k».proof.Proof.Gen.ReferenceIdeal.Run
public import proofs.«01_k».proof.Proof.Math.Soft
public import Idealize.ShloMosaic.Lib.Pointwise

/-!
# The reference's result at an index
-/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

/-! ## The term in stages -/

/-- A position's chunk. -/
def chunk : IVec S4096 32 :=
  select (andi (cmpi .ne (signi (iotaInDim S4096 32 0)) (broadcastInDim S4096 ![] bcast_S_S4096 (signi (id (constantI S_ 32 64#32)))))
    (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))
/-- The mask: a key's chunk is not after the query's. -/
def keep : IVec S4x16x4096x4096 1 :=
  broadcastInDim S4x16x4096x4096 ![0, 1, 2, 3] bcast_S1x1x4096x4096_S4x16x4096x4096_0_1_2_3 (broadcastInDim S1x1x4096x4096 ![2, 3] bcast_S4096x4096_S1x1x4096x4096_2_3
    (cmpi .sle (broadcastInDim S4096x4096 ![0, 1] bcast_S1x4096_S4096x4096_0_1 (broadcastInDim S1x4096 ![1] bcast_S4096_S1x4096_1 chunk))
      (broadcastInDim S4096x4096 ![0, 1] bcast_S4096x1_S4096x4096_0_1 (broadcastInDim S4096x1 ![0] bcast_S4096_S4096x1_0 chunk))))
/-- The position-free part of the scores. -/
def nope (a0 a2 : FVec Ideal S4x4096x16x64 .f32) : FVec Ideal S4x16x4096x4096 .f32 :=
  Host.dotGeneral dot_S4x4096x16x64_S4x4096x16x64_S4x16x4096x4096_3_3_1_1_02_02 none a0 a2
/-- The rotary part, transposed into place. -/
def rope (a1 : FVec Ideal S4x4096x16x32 .f32) (a3 : FVec Ideal S4x4096x32 .f32) : FVec Ideal S4x16x4096x4096 .f32 :=
  transpose S4x16x4096x4096 [0, 3, 2, 1] (Host.dotGeneral dot_S4x4096x32_S4x4096x16x32_S4x4096x4096x16_2_3_1_12_0_0 none a3 a1 : FVec Ideal S4x4096x4096x16 .f32) transposes_S4x4096x4096x16_S4x16x4096x4096_0_3_2_1
/-- The scores. -/
def scores (n r : FVec Ideal S4x16x4096x4096 .f32) : FVec Ideal S4x16x4096x4096 .f32 :=
  Host.divf (addf n r) (broadcastInDim S4x16x4096x4096 ![] bcast_S_S4x16x4096x4096 (Host.sqrt (constant (F := Ideal) S_ .f32 0x42C00000#32)))
/-- The masked scores. -/
def masked (k : IVec S4x16x4096x4096 1) (s : FVec Ideal S4x16x4096x4096 .f32) : FVec Ideal S4x16x4096x4096 .f32 :=
  select k s (broadcastInDim S4x16x4096x4096 ![] bcast_S_S4x16x4096x4096 (id (constant (F := Ideal) S_ .f32 0xFF800000#32)))
/-- Each row's maximum. -/
def top (y : FVec Ideal S4x16x4096x4096 .f32) : FVec Ideal S4x16x4096 .f32 :=
  maximumf (broadcastInDim S4x16x4096 ![] bcast_S_S4x16x4096 (constant (F := Ideal) S_ .f32 0xFF800000#32))
    (Host.reduce FloatOps.maximumf y (constant (F := Ideal) S_ .f32 0xFF800000#32) reducesTo_S4x16x4096x4096_S4x16x4096_d3 h_S_)
/-- A row's number at each of its places. -/
def spread (t : FVec Ideal S4x16x4096 .f32) : FVec Ideal S4x16x4096x4096 .f32 :=
  broadcastInDim S4x16x4096x4096 ![0, 1, 2, 3] bcast_S4x16x4096x1_S4x16x4096x4096_0_1_2_3 (broadcastInDim S4x16x4096x1 ![0, 1, 2] bcast_S4x16x4096_S4x16x4096x1_0_1_2 t)
/-- The exponentials. -/
def expo (y t : FVec Ideal S4x16x4096x4096 .f32) : FVec Ideal S4x16x4096x4096 .f32 := Host.exp (subf y t)
/-- Their sums. -/
def total (e : FVec Ideal S4x16x4096x4096 .f32) : FVec Ideal S4x16x4096 .f32 :=
  Host.reduceAdd e (constant (F := Ideal) S_ .f32 0x00000000#32) reducesTo_S4x16x4096x4096_S4x16x4096_d3 h_S_
/-- The probabilities. -/
def prob (e t : FVec Ideal S4x16x4096x4096 .f32) : FVec Ideal S4x16x4096x4096 .f32 := Host.divf e t
/-- The averages of the values. -/
def mixed (a4 : FVec Ideal S4x4096x16x64 .f32) (p : FVec Ideal S4x16x4096x4096 .f32) : FVec Ideal S4x16x64x4096 .f32 :=
  Host.dotGeneral dot_S4x4096x16x64_S4x16x4096x4096_S4x16x64x4096_1_3_3_2_02_01 none a4 p
/-- The result, the heads side by side. -/
def flat (o : FVec Ideal S4x16x64x4096 .f32) : FVec Ideal S4x4096x1024 .f32 :=
  shapeCast S4x4096x1024 (transpose S4x4096x16x64 [0, 3, 1, 2] o transposes_S4x16x64x4096_S4x4096x16x64_0_3_1_2) shapeCasts_S4x4096x16x64_S4x4096x1024
/-- The stages in order. -/
def ref (a0 : FVec Ideal S4x4096x16x64 .f32) (a1 : FVec Ideal S4x4096x16x32 .f32) (a2 : FVec Ideal S4x4096x16x64 .f32) (a3 : FVec Ideal S4x4096x32 .f32)
    (a4 : FVec Ideal S4x4096x16x64 .f32) : FVec Ideal S4x4096x1024 .bf16 :=
  truncf .bf16 (flat (mixed a4 (prob (expo (masked keep (scores (nope a0 a2) (rope a1 a3))) (spread (top (masked keep (scores (nope a0 a2) (rope a1 a3))))))
    (spread (total (expo (masked keep (scores (nope a0 a2) (rope a1 a3))) (spread (top (masked keep (scores (nope a0 a2) (rope a1 a3)))))))))))
    bitsLt_bf16_f32

theorem bits_bot : Ideal.ofBits .f32 0xFF800000#32 = (⊥ : EReal) := by simp [Ideal.ofBits, Ideal.ieee]
theorem bits_96 : Ideal.ofBits .f32 0x42C00000#32 = ((96 : ℝ) : EReal) := by
  simp [Ideal.ofBits, Ideal.ieee, -EReal.coe_mul]; norm_num

variable (b : Fin 4) (h : Fin 16) (R C : Fin 4096)

/-! ## At an index -/

theorem res_ref (m : (ℓ : Loc nD τ sig) → Buf (Elt Ideal) ℓ) (c : Dev nD) :
    res_main_v30 m c = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v30 ref flat mixed prob total expo spread top masked scores rope nope keep chunk
  rfl
/-- A word's floor quotient by 64, as the reference computes the chunks. -/
def chunkW (w : BitVec 32) : BitVec 32 :=
  Scalar.select (IntOp.andi (IntOp.cmpi CmpIPredicate.ne (if w = 0 then (0 : BitVec 32) else if w.msb = true then -1 else 1)
      (if (64#32 : BitVec 32) = 0 then (0 : BitVec 32) else if (64#32 : BitVec 32).msb = true then -1 else 1))
    (IntOp.cmpi CmpIPredicate.ne (IntOp.remsi ArithUnit.host w 64#32) 0#32))
    (IntOp.subi (IntOp.divsi ArithUnit.host w 64#32) 1#32) (IntOp.divsi ArithUnit.host w 64#32)
theorem chunkW_eq : ∀ r : Fin 4096, chunkW (BitVec.ofNat 32 r.val) = BitVec.ofNat 32 (r.val / 64) := by decide +kernel
theorem chunk_at : chunk (ix1 R) = BitVec.ofNat 32 (R.val / 64) := by
  rw [← chunkW_eq R]
  pointwise [chunk]
  rfl
theorem sle_eq : ∀ a b : Fin 64, (IntOp.cmpi CmpIPredicate.sle (BitVec.ofNat 32 a.val) (BitVec.ofNat 32 b.val) = 1#1) ↔ a.val ≤ b.val := by
  decide +kernel
theorem keep_at : keep (ix4 b h R C) = IntOp.cmpi CmpIPredicate.sle (chunk (ix1 C)) (chunk (ix1 R)) := by
  pointwise [keep]
theorem keep_iff : keep (ix4 b h R C) = 1#1 ↔ C.val / 64 ≤ R.val / 64 := by
  rw [keep_at, chunk_at, chunk_at]
  exact sle_eq ⟨C.val / 64, by omega⟩ ⟨R.val / 64, by omega⟩
theorem nope_at (a0 a2 : FVec Ideal S4x4096x16x64 .f32) : (nope a0 a2 (ix4 b h R C) : EReal) = ∑ x : Fin 64, a0 (ix4 b R h x) * a2 (ix4 b C h x) := by
  pointwise [nope]
theorem rope_at (a1 : FVec Ideal S4x4096x16x32 .f32) (a3 : FVec Ideal S4x4096x32 .f32) : (rope a1 a3 (ix4 b h R C) : EReal) = ∑ x : Fin 32, a3 (ix3 b C x) * a1 (ix4 b R h x) := by
  pointwise [rope]
theorem scores_at (n r : FVec Ideal S4x16x4096x4096 .f32) : (scores n r (ix4 b h R C) : EReal) = Ideal.div (n (ix4 b h R C) + r (ix4 b h R C)) ((Real.sqrt 96 : ℝ) : EReal) := by
  pointwise [scores]
  rw [bits_96, Ideal.sqrt_coe, if_neg (by norm_num : ¬ (96 : ℝ) < 0)]
theorem masked_at (k : IVec S4x16x4096x4096 1) (s : FVec Ideal S4x16x4096x4096 .f32) : (masked k s (ix4 b h R C) : EReal) = if k (ix4 b h R C) = 1#1 then s (ix4 b h R C) else ⊥ := by
  pointwise [masked]
  show Scalar.select (k (ix4 b h R C)) (s (ix4 b h R C)) (Ideal.ofBits .f32 0xFF800000#32) = _
  rw [bits_bot]
  rfl
theorem max_bc (x : FVec Ideal S4x16x4096 .f32) (i : S4x16x4096.Idx) :
    (maximumf (broadcastInDim S4x16x4096 ![] bcast_S_S4x16x4096 (constant (F := Ideal) S_ .f32 0xFF800000#32)) x i : EReal) = max (Ideal.ofBits .f32 0xFF800000#32) (x i) := rfl
theorem fold_last {n0 n1 n2 n3 : ℕ} (hr : (⟨4, ![n0, n1, n2, n3]⟩ : Shape).ReducesTo [3] (⟨3, ![n0, n1, n2]⟩ : Shape)) (y : FVec Ideal ⟨4, ![n0, n1, n2, n3]⟩ .f32)
    (z : FVec Ideal S_ .f32) (i : Fin n0) (j : Fin n1) (k : Fin n2) :
    ((Host.reduce (FloatOps.maximumf (F := Ideal) (φ := .f32)) y z hr h_S_ : FVec Ideal ⟨3, ![n0, n1, n2]⟩ .f32) (ix3 i j k) : EReal) = Finset.univ.fold max (z ix0 : EReal) (fun l : Fin n3 => (y (ix4 i j k l) : EReal)) := by
  pointwise
  congr 1
  exact congrArg z (Subsingleton.elim _ _)
theorem top_read (y : FVec Ideal S4x16x4096x4096 .f32) : (top y (ix3 b h R) : EReal)
    = max (Ideal.ofBits .f32 0xFF800000#32) (Finset.univ.fold max (Ideal.ofBits .f32 0xFF800000#32) fun k : Fin 4096 => (y (ix4 b h R k) : EReal)) := by
  refine Eq.trans ?_ (congrArg (max (Ideal.ofBits .f32 0xFF800000#32)) (fold_last reducesTo_S4x16x4096x4096_S4x16x4096_d3 y (constant (F := Ideal) S_ .f32 0xFF800000#32) b h R))
  unfold top
  exact max_bc _ _
theorem top_at (y : FVec Ideal S4x16x4096x4096 .f32) : (top y (ix3 b h R) : EReal) = max ⊥ (Finset.univ.fold max ⊥ fun k : Fin 4096 => (y (ix4 b h R k) : EReal)) := by
  rw [top_read, bits_bot]
theorem spread_at (t : FVec Ideal S4x16x4096 .f32) : (spread t (ix4 b h R C) : EReal) = t (ix3 b h R) := by
  pointwise [spread]
theorem expo_at (y t : FVec Ideal S4x16x4096x4096 .f32) : (expo y t (ix4 b h R C) : EReal) = Ideal.exp (y (ix4 b h R C) - t (ix4 b h R C)) := by
  pointwise [expo]
theorem total_at (e : FVec Ideal S4x16x4096x4096 .f32) : (total e (ix3 b h R) : EReal) = ∑ k : Fin 4096, (e (ix4 b h R k) : EReal) := by
  pointwise [total]
theorem prob_at (e t : FVec Ideal S4x16x4096x4096 .f32) : (prob e t (ix4 b h R C) : EReal) = Ideal.div (e (ix4 b h R C)) (t (ix4 b h R C)) := by
  pointwise [prob]
theorem mixed_at (a4 : FVec Ideal S4x4096x16x64 .f32) (p : FVec Ideal S4x16x4096x4096 .f32) (d : Fin 64) :
    (mixed a4 p (ix4 b h d R) : EReal) = ∑ k : Fin 4096, a4 (ix4 b k h d) * p (ix4 b h R k) := by
  pointwise [mixed]
theorem flat_at (o : FVec Ideal S4x16x64x4096 .f32) (j : Fin 1024) :
    (flat o (ix3 b R j) : EReal) = o (ix4 b (⟨j.val / 64, by omega⟩ : Fin 16) (⟨j.val % 64, Nat.mod_lt _ (by decide)⟩ : Fin 64) R) := by
  pointwise [flat]
theorem truncf_at {s : Shape} (x : FVec Ideal s .f32) (i : s.Idx) : (truncf .bf16 x bitsLt_bf16_f32 i : EReal) = x i := rfl

/-! ## The whole -/

/-- A query's score at a key, the mask applied. -/
def seenAt (n r : ℝ) (R C : ℕ) : EReal := if C / 64 ≤ R / 64 then (((n + r) * (1 / Real.sqrt 96) : ℝ) : EReal) else ⊥

/-- The reference's result at an index, given the reals its arguments' rows hold. -/
theorem ref_at (a0 : FVec Ideal S4x4096x16x64 .f32) (a1 : FVec Ideal S4x4096x16x32 .f32) (a2 : FVec Ideal S4x4096x16x64 .f32) (a3 : FVec Ideal S4x4096x32 .f32)
    (a4 : FVec Ideal S4x4096x16x64 .f32) (j : Fin 1024) (h : Fin 16) (d : Fin 64) (hh : h = (⟨j.val / 64, by omega⟩ : Fin 16)) (hd : d = (⟨j.val % 64, Nat.mod_lt _ (by decide)⟩ : Fin 64))
    (n r v : Fin 4096 → ℝ) (hn : ∀ k : Fin 4096, ∑ x : Fin 64, (a0 (ix4 b R h x) : EReal) * a2 (ix4 b k h x) = (n k : EReal))
    (hr : ∀ k : Fin 4096, ∑ x : Fin 32, (a3 (ix3 b k x) : EReal) * a1 (ix4 b R h x) = (r k : EReal)) (hv : ∀ k : Fin 4096, (a4 (ix4 b k h d) : EReal) = (v k : EReal)) :
    (ref a0 a1 a2 a3 a4 (ix3 b R j) : EReal)
      = (((∑ k : Fin 4096, Cert.Soft.we (seenAt (n k) (r k) R.val k.val) * v k) / ∑ k : Fin 4096, Cert.Soft.we (seenAt (n k) (r k) R.val k.val) : ℝ) : EReal) := by
  have hy : ∀ k : Fin 4096, (masked keep (scores (nope a0 a2) (rope a1 a3)) (ix4 b h R k) : EReal) = seenAt (n k) (r k) R.val k.val := fun k => by
    rw [masked_at, scores_at, nope_at, rope_at, hn, hr]
    unfold seenAt
    by_cases hc : k.val / 64 ≤ R.val / 64
    · rw [if_pos hc, if_pos ((keep_iff b h R k).mpr hc), ← EReal.coe_add, Ideal.div_coe (Real.sqrt_ne_zero'.mpr (by norm_num)), ← EReal.coe_mul]
    · rw [if_neg hc, if_neg fun e => hc ((keep_iff b h R k).mp e)]
  unfold ref
  rw [truncf_at, flat_at, ← hh, ← hd, mixed_at]
  simp only [prob_at, expo_at, spread_at, total_at, top_at, hy, hv]
  refine Cert.Soft.row_softmax _ (fun k => ?_) R ?_ _
  · unfold seenAt
    split
    · exact EReal.coe_ne_top _
    · exact bot_ne_top
  · unfold seenAt
    rw [if_pos le_rfl]
    exact EReal.coe_ne_bot _

end Cert.ReferenceIdeal.Value

end
-- ==== Proof.Value.lean ====
module

public import proofs.«01_k».proof.Proof.KI.Exact
public import proofs.«01_k».proof.Proof.KI.Tile
public import proofs.«01_k».proof.Proof.KI.Slots
public import proofs.«01_k».proof.Proof.RefAt

/-!
# The call's result and the reference's are one array
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Cert.Soft

/-! ## The slots as reals -/

theorem slotR_lane (A0 A1 : ℕ → ℕ → ℕ → ℝ) (p R : ℕ) (l : Fin 128) {x : ℕ} (hx : x < 128) :
    slotR A0 A1 p R (off (hd l) + x) = if x < 64 then A0 R ((128 * p + l.val) / 64) x else if x - 64 < 32 then A1 R ((128 * p + l.val) / 64) (x - 64) else 0 := by
  have hl := l.isLt
  unfold slotR rowR
  have e1 : (256 * p + (off (hd l) + x)) / 128 = (128 * p + l.val) / 64 := by
    unfold off hd
    by_cases h : 64 ≤ l.val
    · rw [decide_eq_true h]; simp only [cond_true]; omega
    · rw [decide_eq_false h]; simp only [cond_false]; omega
  have e2 : (256 * p + (off (hd l) + x)) % 128 = x := by
    unfold off hd
    by_cases h : 64 ≤ l.val
    · rw [decide_eq_true h]; simp only [cond_true]; omega
    · rw [decide_eq_false h]; simp only [cond_false]; omega
  rw [e1, e2]

theorem valR_lane (A4 : ℕ → ℕ → ℕ → ℝ) (p R : ℕ) (l : Fin 128) :
    valR A4 p R (off (hd l) + l.val) = A4 R ((128 * p + l.val) / 64) ((128 * p + l.val) % 64) := by
  have hl := l.isLt
  unfold valR off hd
  by_cases h : 64 ≤ l.val
  · rw [decide_eq_true h]
    simp only [cond_true]
    rw [if_neg (by omega), if_neg (by omega), if_neg (by omega)]
    congr 1 <;> omega
  · rw [decide_eq_false h]
    simp only [cond_false]
    rw [if_pos (by omega)]
    congr 1 <;> omega

theorem valR_zero (A4 : ℕ → ℕ → ℕ → ℝ) (p : ℕ) : ZeroOff (valR A4 p) := by
  intro R l
  have hl := l.isLt
  unfold valR off hd
  by_cases h : 64 ≤ l.val
  · rw [decide_eq_true h]
    simp only [Bool.not_true, cond_false]
    rw [if_neg (by omega), if_pos (by omega)]
  · rw [decide_eq_false h]
    simp only [Bool.not_false, cond_true]
    rw [if_neg (by omega), if_neg (by omega), if_pos (by omega)]

/-- 128 lanes, of which the last 32 hold zeros. -/
theorem sum_lanes (F g h : ℕ → ℝ) (h1 : ∀ x, x < 64 → F x = g x) (h2 : ∀ x, x < 32 → F (64 + x) = h x) (h3 : ∀ x, x < 32 → F (64 + (32 + x)) = 0) :
    ∑ x : Fin 128, F x.val = (∑ x : Fin 64, g x.val) + ∑ x : Fin 32, h x.val := by
  rw [← Finset.sum_range F, ← Finset.sum_range g, ← Finset.sum_range h, show 128 = 64 + (32 + 32) from rfl, Finset.sum_range_add,
    Finset.sum_range_add (fun x => F (64 + x)), Finset.sum_congr rfl fun x hx => h1 x (Finset.mem_range.mp hx),
    Finset.sum_congr rfl fun x hx => h2 x (Finset.mem_range.mp hx), Finset.sum_congr rfl fun x hx => h3 x (Finset.mem_range.mp hx)]
  simp

/-- A head's score is the two parts' products. -/
theorem scoreR_parts (A0 A1 A2 A3 : ℕ → ℕ → ℕ → ℝ) (p R C : ℕ) (l : Fin 128) :
    scoreR (slotR A0 A1 p) (slotR A2 A3 p) (hd l) R C
      = ((∑ x : Fin 64, A0 R ((128 * p + l.val) / 64) x.val * A2 C ((128 * p + l.val) / 64) x.val)
          + ∑ x : Fin 32, A1 R ((128 * p + l.val) / 64) x.val * A3 C ((128 * p + l.val) / 64) x.val) * scl := by
  unfold scoreR
  refine congrArg (· * scl) (sum_lanes (fun x => slotR A0 A1 p R (off (hd l) + x) * slotR A2 A3 p C (off (hd l) + x))
    (fun x => A0 R ((128 * p + l.val) / 64) x * A2 C ((128 * p + l.val) / 64) x) (fun x => A1 R ((128 * p + l.val) / 64) x * A3 C ((128 * p + l.val) / 64) x)
    (fun x hx => ?_) (fun x hx => ?_) fun x hx => ?_)
  · rw [slotR_lane _ _ _ _ l (by omega), slotR_lane _ _ _ _ l (by omega), if_pos hx, if_pos hx]
  · rw [slotR_lane _ _ _ _ l (by omega), slotR_lane _ _ _ _ l (by omega), if_neg (by omega), if_pos (by omega), if_neg (by omega), if_pos (by omega),
      Nat.add_sub_cancel_left]
  · rw [slotR_lane _ _ _ _ l (by omega), slotR_lane _ _ _ _ l (by omega), if_neg (by omega), if_neg (by omega), zero_mul]

/-! ## The call at an index -/

theorem blk_slotQ (a0 : FVec Ideal S4x4096x16x64 .f32) (a1 : FVec Ideal S4x4096x16x32 .f32) (h0 : AllReal (s := S4x4096x16x64) a0) (h1 : AllReal (s := S4x4096x16x32) a1)
    (b : Fin 4) (p : Fin 8) : IsR (blkOf (slotQ a0 a1) b p) (slotR (tab4 a0 b) (tab4 a1 b) p.val) :=
  fun R d => slotQ_at a0 a1 h0 h1 b p R d
theorem blk_slotV (a4 : FVec Ideal S4x4096x16x64 .f32) (h4 : AllReal (s := S4x4096x16x64) a4) (b : Fin 4) (p : Fin 8) :
    IsR (blkOf (slotV a4) b p) (valR (tab4 a4 b) p.val) :=
  fun R d => slotV_at a4 h4 b p R d

theorem callOut_at (bound : Vec Ideal S1 .f32) (q k v : Vec Ideal S4x4096x2048 .bf16) (b : Fin 4) (R : Fin 4096) (j : Fin 1024) :
    callOut bound q k v (ix3 b R j) = blkOut (F := Ideal) (bound (ix1 (0 : Fin 1))) (blkOf q b ⟨j.val / 128, by omega⟩) (blkOf k b ⟨j.val / 128, by omega⟩)
      (blkOf v b ⟨j.val / 128, by omega⟩) (ix3 (0 : Fin 1) R (⟨j.val % 128, Nat.mod_lt _ (by decide)⟩ : Fin 128)) := rfl

/-- The rotary keys at every head. -/
def shared (a3 : FVec Ideal S4x4096x32 .f32) : FVec Ideal S4x4096x16x32 .f32 :=
  broadcastInDim S4x4096x16x32 ![0, 1, 2, 3] bcast_S4x4096x1x32_S4x4096x16x32_0_1_2_3 (broadcastInDim S4x4096x1x32 ![0, 1, 3] bcast_S4x4096x32_S4x4096x1x32_0_1_3 a3)

theorem shared_at (a3 : FVec Ideal S4x4096x32 .f32) (b : Fin 4) (R : Fin 4096) (h : Fin 16) (d : Fin 32) : (shared a3 (ix4 b R h d) : EReal) = a3 (ix3 b R d) := by
  unfold shared
  exact share_at a3 b R h d

theorem shared_real (a3 : FVec Ideal S4x4096x32 .f32) (h3 : AllReal (s := S4x4096x32) a3) : AllReal (s := S4x4096x16x32) (shared a3) := by
  have hr : ∀ (b : Fin 4) (R : Fin 4096) (h : Fin 16) (d : Fin 32), ∃ r : ℝ, (shared a3 (ix4 b R h d) : EReal) = r := fun b R h d => by
    rw [shared_at]
    exact h3 _
  intro i
  have e : i = ix4 (i 0) (i 1) (i 2) (i 3) := by
    funext a
    match a with
    | ⟨0, _⟩ => rfl
    | ⟨1, _⟩ => rfl
    | ⟨2, _⟩ => rfl
    | ⟨3, _⟩ => rfl
  rw [e]
  exact hr (i 0) (i 1) (i 2) (i 3)

theorem slotK_is (a2 : FVec Ideal S4x4096x16x64 .f32) (a3 : FVec Ideal S4x4096x32 .f32) : slotK a2 a3 = slotQ a2 (shared a3) := rfl

/-- The position-free and the rotary products, and the values, as reals. -/
theorem ref_reals (x y : FVec Ideal S4x4096x16x64 .f32) (hx : AllReal (s := S4x4096x16x64) x) (hy : AllReal (s := S4x4096x16x64) y) (b : Fin 4) (R k : Fin 4096) (h : Fin 16) :
    ∑ d : Fin 64, (x (ix4 b R h d) : EReal) * y (ix4 b k h d) = ((∑ d : Fin 64, tab4 x b R.val h.val d.val * tab4 y b k.val h.val d.val : ℝ) : EReal) := by
  rw [coe_sum]
  exact Finset.sum_congr rfl fun d _ => by rw [tab4_eq hx b R h d, tab4_eq hy b k h d, EReal.coe_mul]
theorem ref_reals32 (x : FVec Ideal S4x4096x16x32 .f32) (y : FVec Ideal S4x4096x32 .f32) (hx : AllReal (s := S4x4096x16x32) x) (hy : AllReal (s := S4x4096x32) y) (b : Fin 4) (R k : Fin 4096) (h : Fin 16) :
    ∑ d : Fin 32, (y (ix3 b k d) : EReal) * x (ix4 b R h d) = ((∑ d : Fin 32, tab4 x b R.val h.val d.val * tab4 (shared y) b k.val h.val d.val : ℝ) : EReal) := by
  rw [coe_sum]
  exact Finset.sum_congr rfl fun d _ => by
    rw [← shared_at y b k h d, tab4_eq hx b R h d, tab4_eq (shared_real y hy) b k h d, ← EReal.coe_mul, mul_comm]

theorem weights (A0 A1 A2 A3 : ℕ → ℕ → ℕ → ℝ) (p R C : ℕ) (l : Fin 128) (h : ℕ) (hh : h = (128 * p + l.val) / 64) :
    wt (seen (slotR A0 A1 p) (slotR A2 A3 p) (hd l) R C)
      = we (Cert.ReferenceIdeal.Value.seenAt (∑ x : Fin 64, A0 R h x.val * A2 C h x.val) (∑ x : Fin 32, A1 R h x.val * A3 C h x.val) R C) := by
  subst hh
  unfold seen Cert.ReferenceIdeal.Value.seenAt
  by_cases hc : C / 64 ≤ R / 64
  · rw [if_pos hc, if_pos hc, we_eq_wt, scoreR_parts]
    rfl
  · rw [if_neg hc, if_neg hc, wt_bot, we_bot]

/-- The two results at an index. -/
theorem value_at (bound : Vec Ideal S1 .f32) (β : ℝ) (hb : (bound (ix1 (0 : Fin 1)) : EReal) = β)
    (a0 : FVec Ideal S4x4096x16x64 .f32) (a1 : FVec Ideal S4x4096x16x32 .f32) (a2 : FVec Ideal S4x4096x16x64 .f32) (a3 : FVec Ideal S4x4096x32 .f32) (a4 : FVec Ideal S4x4096x16x64 .f32)
    (h0 : AllReal (s := S4x4096x16x64) a0) (h1 : AllReal (s := S4x4096x16x32) a1) (h2 : AllReal (s := S4x4096x16x64) a2) (h3 : AllReal (s := S4x4096x32) a3)
    (h4 : AllReal (s := S4x4096x16x64) a4) (b : Fin 4) (R : Fin 4096) (j : Fin 1024) :
    (callOut bound (slotQ a0 a1) (slotK a2 a3) (slotV a4) (ix3 b R j) : EReal) = Cert.ReferenceIdeal.Value.ref a0 a1 a2 a3 a4 (ix3 b R j) := by
  have hj := j.isLt
  have ej : 128 * (j.val / 128) + j.val % 128 = j.val := Nat.div_add_mod _ _
  rw [callOut_at, hb, slotK_is, blkOut_at β (blk_slotQ a0 a1 h0 h1 b _) (blk_slotQ a2 (shared a3) h2 (shared_real a3 h3) b _) (blk_slotV a4 h4 b _) (valR_zero _ _),
    Cert.ReferenceIdeal.Value.ref_at b R a0 a1 a2 a3 a4 j ⟨j.val / 64, by omega⟩ ⟨j.val % 64, Nat.mod_lt _ (by decide)⟩ rfl rfl _ _ _
      (fun k => ref_reals a0 a2 h0 h2 b R k _) (fun k => ref_reals32 a1 a3 h1 h3 b R k _) (fun k => tab4_eq h4 b k _ _)]
  refine congrArg _ ?_
  unfold avg
  refine congrArg₂ (· / ·) (Finset.sum_congr rfl fun k _ => ?_) (Finset.sum_congr rfl fun k _ => ?_)
  · refine congrArg₂ (· * ·) (weights _ _ _ _ _ _ _ _ _ ?_) ?_
    · show j.val / 64 = (128 * (j.val / 128) + j.val % 128) / 64
      rw [ej]
    · refine (valR_lane _ _ _ (⟨j.val % 128, Nat.mod_lt _ (by decide)⟩ : Fin 128)).trans ?_
      show tab4 a4 b k.val ((128 * (j.val / 128) + j.val % 128) / 64) ((128 * (j.val / 128) + j.val % 128) % 64) = _
      rw [ej]
  · refine weights _ _ _ _ _ _ _ _ _ ?_
    show j.val / 64 = (128 * (j.val / 128) + j.val % 128) / 64
    rw [ej]

/-- The two results. -/
theorem value_eq (bound : Vec Ideal S1 .f32) (β : ℝ) (hb : (bound (ix1 (0 : Fin 1)) : EReal) = β)
    (a0 : FVec Ideal S4x4096x16x64 .f32) (a1 : FVec Ideal S4x4096x16x32 .f32) (a2 : FVec Ideal S4x4096x16x64 .f32) (a3 : FVec Ideal S4x4096x32 .f32) (a4 : FVec Ideal S4x4096x16x64 .f32)
    (h0 : AllReal (s := S4x4096x16x64) a0) (h1 : AllReal (s := S4x4096x16x32) a1) (h2 : AllReal (s := S4x4096x16x64) a2) (h3 : AllReal (s := S4x4096x32) a3)
    (h4 : AllReal (s := S4x4096x16x64) a4) :
    callOut bound (slotQ a0 a1) (slotK a2 a3) (slotV a4) = Cert.ReferenceIdeal.Value.ref a0 a1 a2 a3 a4 := by
  funext i
  have e : i = ix3 (i 0) (i 1) (i 2) := by
    funext a
    match a with
    | ⟨0, _⟩ => rfl
    | ⟨1, _⟩ => rfl
    | ⟨2, _⟩ => rfl
  rw [e]
  exact value_at bound β hb a0 a1 a2 a3 a4 h0 h1 h2 h3 h4 (i 0) (i 1) (i 2)

end Cert.KernelIdeal.Body

end
-- ==== Proof.Finite.lean ====
module

public import proofs.«01_k».proof.Defs
public import proofs.«01_k».proof.Proof.KI.Slots

/-!
# What the precondition says of the arguments: every element is a real
-/

@[expose] public section

set_option maxRecDepth 16384

noncomputable section

namespace Cert.Finite

open Idealize.ShloMosaic Idealize.ShloMosaic.TcCoe Idealize.ShloMosaic.Tactic

/-- The side conditions of the precondition's operations. -/
theorem facts : Cert.Pre_finite.Facts := ⟨by decide, by decide, by decide, by decide, by decide⟩

/-- A magnitude below plus infinity is a real's. -/
theorem real_of_lt (x : EReal) (h : Ideal.cmp .olt (FloatOps.absf (F := Ideal) (φ := .f32) x : EReal) (Ideal.ofBits .f32 0x7F800000#32) = 1#1) : ∃ r : ℝ, x = r := by
  have e : Ideal.ofBits .f32 0x7F800000#32 = (⊤ : EReal) := by simp [Ideal.ofBits, Ideal.ieee]
  rw [e] at h
  induction x with
  | coe r => exact ⟨r, rfl⟩
  | bot => exact absurd h (by show Ideal.cmp .olt (max (⊥ : EReal) (-⊥)) ⊤ ≠ 1#1; simp [Ideal.cmp])
  | top => exact absurd h (by show Ideal.cmp .olt (max (⊤ : EReal) (-⊤)) ⊤ ≠ 1#1; simp [Ideal.cmp])

/-- The comparison at an index. -/
theorem allReal {s : Shape} (x : FVec Ideal s .f32) (h' : (⟨0, ![]⟩ : Shape).BroadcastsInDim s (![] : Fin 0 → Fin s.rank))
    (h : cmpf .olt (Host.absf x) (broadcastInDim s ![] h' (constant (F := Ideal) ⟨0, ![]⟩ .f32 0x7F800000#32)) = fun _ => 1#1) : Cert.KernelIdeal.Body.AllReal (s := s) x :=
  fun i => real_of_lt (x i) (congrFun h i)

variable [hPre_finite : Cert.Pre_finite.Facts]

/-- Under the precondition every argument's every element is a real. -/
theorem args (m : (ℓ : Loc Cert.KernelIdeal.nD Cert.KernelIdeal.τ Cert.KernelIdeal.sig) → Buf (Elt Ideal) ℓ) (h : Cert.Pre_KernelIdeal_finite m) (c : Dev Cert.KernelIdeal.nD) :
    Cert.KernelIdeal.Body.AllReal (s := Cert.KernelIdeal.S4x4096x16x64) (m ((c.tc : Thread Cert.KernelIdeal.nD Cert.KernelIdeal.τ).loc Cert.KernelIdeal.main_arg0))
    ∧ Cert.KernelIdeal.Body.AllReal (s := Cert.KernelIdeal.S4x4096x16x32) (m ((c.tc : Thread Cert.KernelIdeal.nD Cert.KernelIdeal.τ).loc Cert.KernelIdeal.main_arg1))
    ∧ Cert.KernelIdeal.Body.AllReal (s := Cert.KernelIdeal.S4x4096x16x64) (m ((c.tc : Thread Cert.KernelIdeal.nD Cert.KernelIdeal.τ).loc Cert.KernelIdeal.main_arg2))
    ∧ Cert.KernelIdeal.Body.AllReal (s := Cert.KernelIdeal.S4x4096x32) (m ((c.tc : Thread Cert.KernelIdeal.nD Cert.KernelIdeal.τ).loc Cert.KernelIdeal.main_arg3))
    ∧ Cert.KernelIdeal.Body.AllReal (s := Cert.KernelIdeal.S4x4096x16x64) (m ((c.tc : Thread Cert.KernelIdeal.nD Cert.KernelIdeal.τ).loc Cert.KernelIdeal.main_arg4))
    ∧ Cert.KernelIdeal.Body.AllReal (s := Cert.KernelIdeal.S64) (m ((c.tc : Thread Cert.KernelIdeal.nD Cert.KernelIdeal.τ).loc Cert.KernelIdeal.main_arg5))
    ∧ Cert.KernelIdeal.Body.AllReal (s := Cert.KernelIdeal.S32) (m ((c.tc : Thread Cert.KernelIdeal.nD Cert.KernelIdeal.τ).loc Cert.KernelIdeal.main_arg6))
    ∧ Cert.KernelIdeal.Body.AllReal (s := Cert.KernelIdeal.S64) (m ((c.tc : Thread Cert.KernelIdeal.nD Cert.KernelIdeal.τ).loc Cert.KernelIdeal.main_arg7))
    ∧ Cert.KernelIdeal.Body.AllReal (s := Cert.KernelIdeal.S32) (m ((c.tc : Thread Cert.KernelIdeal.nD Cert.KernelIdeal.τ).loc Cert.KernelIdeal.main_arg8)) := by
  obtain ⟨h0, h1, h2, h3, h4, h5, h6, h7, h8⟩ := h c
  exact ⟨allReal _ _ h0, allReal _ _ h1, allReal _ _ h2, allReal _ _ h3, allReal _ _ h4, allReal _ _ h5, allReal _ _ h6, allReal _ _ h7, allReal _ _ h8⟩

end Cert.Finite

end
-- ==== Proof.Math.Rows.lean ====
module

public import Idealize.ShloMosaic.Lib.Pointwise
public import Idealize.ShloMosaic.Lib.Pointwise.IndexVar

/-!
# Rows: the root-mean-square normalization of a row, as a kernel and as a host program compute it
-/

@[expose] public section

set_option maxRecDepth 16384

noncomputable section

namespace Cert.Rows

open Idealize.ShloMosaic Idealize.ShloMosaic.TcCoe Idealize.ShloMosaic.Tactic

/-- The normalization of a row `x`: each entry over the root of the mean of the squares plus a small number, times its gain. -/
def rn {n : ℕ} (N e : EReal) (x g : Fin n → EReal) (j : Fin n) : EReal :=
  x j * Ideal.rsqrt (Ideal.div (∑ k : Fin n, x k * x k) N + e) * g j
/-- A row times a column. -/
def dot {n : ℕ} (x w : Fin n → EReal) : EReal := ∑ k : Fin n, x k * w k

/-- The float 1024. -/
abbrev n1024 : EReal := Ideal.ofBits .f32 0x44800000#32
/-- The float 128. -/
abbrev n128 : EReal := Ideal.ofBits .f32 0x43000000#32
/-- The normalization's small number. -/
abbrev eps : EReal := Ideal.ofBits .f32 0x358637BD#32
/-- A row of 1024, normalized, times a column. -/
def pj (x g w : Fin 1024 → EReal) : EReal := dot (rn n1024 eps x g) w

/-- A broadcast's source coordinate: along an axis of one entry the only one. -/
theorem pick {n : ℕ} (b : Fin n) (H : n = 1 → 0 < n) : (if h : n = 1 then (⟨0, H h⟩ : Fin n) else b) = b := by
  by_cases h : n = 1
  · rw [dif_pos h]
    apply Fin.ext
    have := b.isLt
    show 0 = b.val
    omega
  · rw [dif_neg h]

/-- The same through two broadcasts. -/
theorem pick2 {n : ℕ} (b : Fin n) (H H' : n = 1 → 0 < n) : (if h : n = 1 then (⟨0, H h⟩ : Fin n) else if h : n = 1 then (⟨0, H' h⟩ : Fin n) else b) = b := by
  by_cases h : n = 1
  · rw [dif_pos h]
    apply Fin.ext
    have := b.isLt
    show 0 = b.val
    omega
  · rw [dif_neg h, dif_neg h]

/-! ## In the kernel -/

theorem sumK {M N : ℕ} (y : FVec Ideal ⟨2, ![M, N]⟩ .f32) (hr : (⟨2, ![M, N]⟩ : Shape).Reduces [1] ⟨1, ![M]⟩) (p : Fin M) :
    ((multiReduction .add [1] ⟨1, ![M]⟩ y 0x00000000#32 hr (.inl rfl) rfl : FVec Ideal ⟨1, ![M]⟩ .f32) (ix1 p) : EReal) = ∑ k : Fin N, (y (ix2 p k) : EReal) := by
  pointwise
theorem castK (y : FVec Ideal ⟨1, ![512]⟩ .f32) (hs : (⟨1, ![512]⟩ : Shape).ShapeCasts ⟨2, ![512, 1]⟩) (p : Fin 512) :
    (shapeCast ⟨2, ![512, 1]⟩ y hs : FVec Ideal ⟨2, ![512, 1]⟩ .f32) (ix2 p 0) = y (ix1 p) := by
  pointwise
theorem same {M N : ℕ} {φ : FTy} (y : FVec Ideal ⟨2, ![M, N]⟩ φ) (hs : (⟨2, ![M, N]⟩ : Shape).ShapeCasts ⟨2, ![M, N]⟩) :
    (shapeCast ⟨2, ![M, N]⟩ y hs : FVec Ideal ⟨2, ![M, N]⟩ φ) = y := by
  funext i
  pointwise
theorem colK {M N : ℕ} (y : FVec Ideal ⟨2, ![M, 1]⟩ .f32) (hb : (⟨2, ![M, 1]⟩ : Shape).Broadcasts ⟨2, ![M, N]⟩) (p : Fin M) (j : Fin N) :
    broadcastTo ⟨2, ![M, N]⟩ y hb (ix2 p j) = y (ix2 p 0) := by
  pointwise
  exact congrArg (fun z => y (ix2 z 0)) (pick p _)
theorem rowK {M N : ℕ} (y : FVec Ideal ⟨2, ![1, N]⟩ .f32) (hb : (⟨2, ![1, N]⟩ : Shape).Broadcasts ⟨2, ![M, N]⟩) (p : Fin M) (j : Fin N) :
    broadcastTo ⟨2, ![M, N]⟩ y hb (ix2 p j) = y (ix2 0 j) := by
  pointwise
  exact congrArg (fun z => y (ix2 0 z)) (pick j _)

theorem castKW (y : FVec Ideal ⟨1, ![1024]⟩ .f32) (hs : (⟨1, ![1024]⟩ : Shape).ShapeCasts ⟨2, ![1024, 1]⟩) (p : Fin 1024) :
    (shapeCast ⟨2, ![1024, 1]⟩ y hs : FVec Ideal ⟨2, ![1024, 1]⟩ .f32) (ix2 p 0) = y (ix1 p) := by
  pointwise

/-- A block's rows of any height normalized, as a kernel writes it, at an index. -/
theorem normKM {M N : ℕ} (x : FVec Ideal ⟨2, ![M, N]⟩ .f32) (g : FVec Ideal ⟨2, ![1, N]⟩ .f32) (n e : BitVec 32)
    (hr : (⟨2, ![M, N]⟩ : Shape).Reduces [1] ⟨1, ![M]⟩) (hs : (⟨1, ![M]⟩ : Shape).ShapeCasts ⟨2, ![M, 1]⟩)
    (hb : (⟨2, ![M, 1]⟩ : Shape).Broadcasts ⟨2, ![M, N]⟩) (hg : (⟨2, ![1, N]⟩ : Shape).Broadcasts ⟨2, ![M, N]⟩)
    (hk : ∀ (y : FVec Ideal ⟨1, ![M]⟩ .f32) (p : Fin M), (shapeCast ⟨2, ![M, 1]⟩ y hs : FVec Ideal ⟨2, ![M, 1]⟩ .f32) (ix2 p 0) = y (ix1 p)) (p : Fin M) (j : Fin N) :
    ((mulf (mulf x (broadcastTo ⟨2, ![M, N]⟩ (rsqrt (addf (divf (shapeCast ⟨2, ![M, 1]⟩ (multiReduction .add [1] ⟨1, ![M]⟩ (mulf x x) 0x00000000#32 hr (.inl rfl) rfl) hs : FVec Ideal ⟨2, ![M, 1]⟩ .f32)
        (broadcast ⟨2, ![M, 1]⟩ (Scalar.ofBits .f32 n))) (broadcast ⟨2, ![M, 1]⟩ (Scalar.ofBits .f32 e)))) hb)) (broadcastTo ⟨2, ![M, N]⟩ g hg) : FVec Ideal ⟨2, ![M, N]⟩ .f32) (ix2 p j) : EReal)
      = rn (Ideal.ofBits .f32 n) (Ideal.ofBits .f32 e) (fun k => x (ix2 p k)) (fun k => g (ix2 0 k)) j := by
  rw [show ∀ (a b : FVec Ideal ⟨2, ![M, N]⟩ .f32) i, mulf a b i = (a i * b i : EReal) from fun _ _ _ => rfl,
    show ∀ (a b : FVec Ideal ⟨2, ![M, N]⟩ .f32) i, mulf a b i = (a i * b i : EReal) from fun _ _ _ => rfl, colK, rowK,
    show ∀ (a : FVec Ideal ⟨2, ![M, 1]⟩ .f32) i, rsqrt a i = Ideal.rsqrt (a i) from fun _ _ => rfl,
    show ∀ (a b : FVec Ideal ⟨2, ![M, 1]⟩ .f32) i, addf a b i = (a i + b i : EReal) from fun _ _ _ => rfl,
    show ∀ (a b : FVec Ideal ⟨2, ![M, 1]⟩ .f32) i, divf a b i = Ideal.div (a i) (b i) from fun _ _ _ => rfl, hk, sumK]
  rfl

/-- The rows of a block of 512 normalized, as a kernel writes it, at an index. -/
theorem normK {N : ℕ} (x : FVec Ideal ⟨2, ![512, N]⟩ .f32) (g : FVec Ideal ⟨2, ![1, N]⟩ .f32) (n e : BitVec 32)
    (hr : (⟨2, ![512, N]⟩ : Shape).Reduces [1] ⟨1, ![512]⟩) (hs : (⟨1, ![512]⟩ : Shape).ShapeCasts ⟨2, ![512, 1]⟩)
    (hb : (⟨2, ![512, 1]⟩ : Shape).Broadcasts ⟨2, ![512, N]⟩) (hg : (⟨2, ![1, N]⟩ : Shape).Broadcasts ⟨2, ![512, N]⟩) (p : Fin 512) (j : Fin N) :
    ((mulf (mulf x (broadcastTo ⟨2, ![512, N]⟩ (rsqrt (addf (divf (shapeCast ⟨2, ![512, 1]⟩ (multiReduction .add [1] ⟨1, ![512]⟩ (mulf x x) 0x00000000#32 hr (.inl rfl) rfl) hs : FVec Ideal ⟨2, ![512, 1]⟩ .f32)
        (broadcast ⟨2, ![512, 1]⟩ (Scalar.ofBits .f32 n))) (broadcast ⟨2, ![512, 1]⟩ (Scalar.ofBits .f32 e)))) hb)) (broadcastTo ⟨2, ![512, N]⟩ g hg) : FVec Ideal ⟨2, ![512, N]⟩ .f32) (ix2 p j) : EReal)
      = rn (Ideal.ofBits .f32 n) (Ideal.ofBits .f32 e) (fun k => x (ix2 p k)) (fun k => g (ix2 0 k)) j :=
  normKM x g n e hr hs hb hg (fun y p => castK y hs p) p j
/-- The rows of a block of 1024 normalized, as a kernel writes it, at an index. -/
theorem normKW {N : ℕ} (x : FVec Ideal ⟨2, ![1024, N]⟩ .f32) (g : FVec Ideal ⟨2, ![1, N]⟩ .f32) (n e : BitVec 32)
    (hr : (⟨2, ![1024, N]⟩ : Shape).Reduces [1] ⟨1, ![1024]⟩) (hs : (⟨1, ![1024]⟩ : Shape).ShapeCasts ⟨2, ![1024, 1]⟩)
    (hb : (⟨2, ![1024, 1]⟩ : Shape).Broadcasts ⟨2, ![1024, N]⟩) (hg : (⟨2, ![1, N]⟩ : Shape).Broadcasts ⟨2, ![1024, N]⟩) (p : Fin 1024) (j : Fin N) :
    ((mulf (mulf x (broadcastTo ⟨2, ![1024, N]⟩ (rsqrt (addf (divf (shapeCast ⟨2, ![1024, 1]⟩ (multiReduction .add [1] ⟨1, ![1024]⟩ (mulf x x) 0x00000000#32 hr (.inl rfl) rfl) hs : FVec Ideal ⟨2, ![1024, 1]⟩ .f32)
        (broadcast ⟨2, ![1024, 1]⟩ (Scalar.ofBits .f32 n))) (broadcast ⟨2, ![1024, 1]⟩ (Scalar.ofBits .f32 e)))) hb)) (broadcastTo ⟨2, ![1024, N]⟩ g hg) : FVec Ideal ⟨2, ![1024, N]⟩ .f32) (ix2 p j) : EReal)
      = rn (Ideal.ofBits .f32 n) (Ideal.ofBits .f32 e) (fun k => x (ix2 p k)) (fun k => g (ix2 0 k)) j :=
  normKM x g n e hr hs hb hg (fun y p => castKW y hs p) p j

/-! ## In a host program -/

section Host
variable {B S N : ℕ}

theorem sumH (y : FVec Ideal ⟨3, ![B, S, N]⟩ .f32) (z : FVec Ideal ⟨0, ![]⟩ .f32) (hr : (⟨3, ![B, S, N]⟩ : Shape).ReducesTo [2] (⟨2, ![B, S]⟩ : Shape)) (hu) (b : Fin B) (s : Fin S) :
    ((Host.reduceAdd y z hr hu : FVec Ideal ⟨2, ![B, S]⟩ .f32) (ix2 b s) : EReal) = z ix0 + ∑ k : Fin N, (y (ix3 b s k) : EReal) := by
  pointwise
  exact congrArg (fun i => (z i : EReal) + ∑ k : Fin N, (y (ix3 b s k) : EReal)) (Subsingleton.elim _ _)
theorem keepH (y : FVec Ideal ⟨2, ![B, S]⟩ .f32) (hb) (b : Fin B) (s : Fin S) :
    broadcastInDim ⟨3, ![B, S, 1]⟩ ![0, 1] hb y (ix3 b s 0) = y (ix2 b s) := by
  pointwise
  exact congrArg₂ (fun i j => y (ix2 i j)) (pick b _) (pick s _)
theorem colH (y : FVec Ideal ⟨3, ![B, S, 1]⟩ .f32) (hb) (b : Fin B) (s : Fin S) (j : Fin N) :
    broadcastInDim ⟨3, ![B, S, N]⟩ ![0, 1, 2] hb y (ix3 b s j) = y (ix3 b s 0) := by
  pointwise
  exact congrArg₂ (fun i j => y (ix3 i j 0)) (pick b _) (pick s _)
theorem rowH (y : FVec Ideal ⟨1, ![N]⟩ .f32) (h1) (h2) (b : Fin B) (s : Fin S) (j : Fin N) :
    broadcastInDim ⟨3, ![B, S, N]⟩ ![0, 1, 2] h2 (broadcastInDim ⟨3, ![1, 1, N]⟩ ![2] h1 y) (ix3 b s j) = y (ix1 j) := by
  pointwise
  exact congrArg (fun i => y (ix1 i)) (pick2 j _ _)

/-- The rows of an array of rank 3 normalized, as a host program writes it. -/
def normH3 (x : FVec Ideal ⟨3, ![B, S, N]⟩ .f32) (g : FVec Ideal ⟨1, ![N]⟩ .f32) (n e : BitVec 32) (hr : (⟨3, ![B, S, N]⟩ : Shape).ReducesTo [2] (⟨2, ![B, S]⟩ : Shape)) (hu : 0 < (⟨0, ![]⟩ : Shape).numel) (hk : (⟨2, ![B, S]⟩ : Shape).BroadcastsInDim (⟨3, ![B, S, 1]⟩ : Shape) ![0, 1])
    (hn : (⟨0, ![]⟩ : Shape).BroadcastsInDim (⟨3, ![B, S, 1]⟩ : Shape) ![]) (hc : (⟨3, ![B, S, 1]⟩ : Shape).BroadcastsInDim (⟨3, ![B, S, N]⟩ : Shape) ![0, 1, 2]) (h1 : (⟨1, ![N]⟩ : Shape).BroadcastsInDim (⟨3, ![1, 1, N]⟩ : Shape) ![2])
    (h2 : (⟨3, ![1, 1, N]⟩ : Shape).BroadcastsInDim (⟨3, ![B, S, N]⟩ : Shape) ![0, 1, 2]) : FVec Ideal ⟨3, ![B, S, N]⟩ .f32 :=
  mulf (mulf x (broadcastInDim ⟨3, ![B, S, N]⟩ ![0, 1, 2] hc (Host.rsqrt (addf (Host.divf (broadcastInDim ⟨3, ![B, S, 1]⟩ ![0, 1] hk
      (Host.reduceAdd (mulf x x) (constant ⟨0, ![]⟩ .f32 0x00000000#32) hr hu : FVec Ideal ⟨2, ![B, S]⟩ .f32))
      (broadcastInDim ⟨3, ![B, S, 1]⟩ ![] hn (constant ⟨0, ![]⟩ .f32 n))) (broadcastInDim ⟨3, ![B, S, 1]⟩ ![] hn (constant ⟨0, ![]⟩ .f32 e))))))
    (broadcastInDim ⟨3, ![B, S, N]⟩ ![0, 1, 2] h2 (broadcastInDim ⟨3, ![1, 1, N]⟩ ![2] h1 g))

theorem normH3_at (x : FVec Ideal ⟨3, ![B, S, N]⟩ .f32) (g : FVec Ideal ⟨1, ![N]⟩ .f32) (n e : BitVec 32) (hr : (⟨3, ![B, S, N]⟩ : Shape).ReducesTo [2] (⟨2, ![B, S]⟩ : Shape)) (hu : 0 < (⟨0, ![]⟩ : Shape).numel) (hk : (⟨2, ![B, S]⟩ : Shape).BroadcastsInDim (⟨3, ![B, S, 1]⟩ : Shape) ![0, 1])
    (hn : (⟨0, ![]⟩ : Shape).BroadcastsInDim (⟨3, ![B, S, 1]⟩ : Shape) ![]) (hc : (⟨3, ![B, S, 1]⟩ : Shape).BroadcastsInDim (⟨3, ![B, S, N]⟩ : Shape) ![0, 1, 2]) (h1 : (⟨1, ![N]⟩ : Shape).BroadcastsInDim (⟨3, ![1, 1, N]⟩ : Shape) ![2])
    (h2 : (⟨3, ![1, 1, N]⟩ : Shape).BroadcastsInDim (⟨3, ![B, S, N]⟩ : Shape) ![0, 1, 2]) (b : Fin B) (s : Fin S) (j : Fin N) :
    (normH3 x g n e hr hu hk hn hc h1 h2 (ix3 b s j) : EReal) = rn (Ideal.ofBits .f32 n) (Ideal.ofBits .f32 e) (fun k => x (ix3 b s k)) (fun k => g (ix1 k)) j := by
  unfold normH3
  rw [show ∀ (a b : FVec Ideal ⟨3, ![B, S, N]⟩ .f32) i, mulf a b i = (a i * b i : EReal) from fun _ _ _ => rfl,
    show ∀ (a b : FVec Ideal ⟨3, ![B, S, N]⟩ .f32) i, mulf a b i = (a i * b i : EReal) from fun _ _ _ => rfl, colH, rowH,
    show ∀ (a : FVec Ideal ⟨3, ![B, S, 1]⟩ .f32) i, Host.rsqrt a i = Ideal.rsqrt (a i) from fun _ _ => rfl,
    show ∀ (a b : FVec Ideal ⟨3, ![B, S, 1]⟩ .f32) i, addf a b i = (a i + b i : EReal) from fun _ _ _ => rfl,
    show ∀ (a b : FVec Ideal ⟨3, ![B, S, 1]⟩ .f32) i, Host.divf a b i = Ideal.div (a i) (b i) from fun _ _ _ => rfl, keepH, sumH]
  rw [show (constant (F := Ideal) ⟨0, ![]⟩ .f32 0x00000000#32 ix0 : EReal) = 0 from Ideal.ofBits_zero_f32, zero_add]
  rfl
end Host

section Host4
variable {B S H N : ℕ}

theorem sumH4 (y : FVec Ideal ⟨4, ![B, S, H, N]⟩ .f32) (z : FVec Ideal ⟨0, ![]⟩ .f32) (hr : (⟨4, ![B, S, H, N]⟩ : Shape).ReducesTo [3] (⟨3, ![B, S, H]⟩ : Shape)) (hu) (b : Fin B) (s : Fin S) (h : Fin H) :
    ((Host.reduceAdd y z hr hu : FVec Ideal ⟨3, ![B, S, H]⟩ .f32) (ix3 b s h) : EReal) = z ix0 + ∑ k : Fin N, (y (ix4 b s h k) : EReal) := by
  pointwise
  exact congrArg (fun i => (z i : EReal) + ∑ k : Fin N, (y (ix4 b s h k) : EReal)) (Subsingleton.elim _ _)
theorem keepH4 (y : FVec Ideal ⟨3, ![B, S, H]⟩ .f32) (hb) (b : Fin B) (s : Fin S) (h : Fin H) :
    broadcastInDim ⟨4, ![B, S, H, 1]⟩ ![0, 1, 2] hb y (ix4 b s h 0) = y (ix3 b s h) := by
  pointwise
  refine (congrArg₂ (fun i j => y (ix3 i j _)) (pick b _) (pick s _)).trans ?_
  exact congrArg (fun i => y (ix3 b s i)) (pick h _)
theorem colH4 (y : FVec Ideal ⟨4, ![B, S, H, 1]⟩ .f32) (hb) (b : Fin B) (s : Fin S) (h : Fin H) (j : Fin N) :
    broadcastInDim ⟨4, ![B, S, H, N]⟩ ![0, 1, 2, 3] hb y (ix4 b s h j) = y (ix4 b s h 0) := by
  pointwise
  refine (congrArg₂ (fun i j => y (ix4 i j _ 0)) (pick b _) (pick s _)).trans ?_
  exact congrArg (fun i => y (ix4 b s i 0)) (pick h _)
theorem rowH4 (y : FVec Ideal ⟨1, ![N]⟩ .f32) (h1) (h2) (b : Fin B) (s : Fin S) (h : Fin H) (j : Fin N) :
    broadcastInDim ⟨4, ![B, S, H, N]⟩ ![0, 1, 2, 3] h2 (broadcastInDim ⟨4, ![1, 1, 1, N]⟩ ![3] h1 y) (ix4 b s h j) = y (ix1 j) := by
  pointwise
  exact congrArg (fun i => y (ix1 i)) (pick2 j _ _)

/-- The rows of an array of rank 4 normalized, as a host program writes it. -/
def normH4 (x : FVec Ideal ⟨4, ![B, S, H, N]⟩ .f32) (g : FVec Ideal ⟨1, ![N]⟩ .f32) (n e : BitVec 32) (hr : (⟨4, ![B, S, H, N]⟩ : Shape).ReducesTo [3] (⟨3, ![B, S, H]⟩ : Shape)) (hu : 0 < (⟨0, ![]⟩ : Shape).numel) (hk : (⟨3, ![B, S, H]⟩ : Shape).BroadcastsInDim (⟨4, ![B, S, H, 1]⟩ : Shape) ![0, 1, 2])
    (hn : (⟨0, ![]⟩ : Shape).BroadcastsInDim (⟨4, ![B, S, H, 1]⟩ : Shape) ![]) (hc : (⟨4, ![B, S, H, 1]⟩ : Shape).BroadcastsInDim (⟨4, ![B, S, H, N]⟩ : Shape) ![0, 1, 2, 3]) (h1 : (⟨1, ![N]⟩ : Shape).BroadcastsInDim (⟨4, ![1, 1, 1, N]⟩ : Shape) ![3])
    (h2 : (⟨4, ![1, 1, 1, N]⟩ : Shape).BroadcastsInDim (⟨4, ![B, S, H, N]⟩ : Shape) ![0, 1, 2, 3]) : FVec Ideal ⟨4, ![B, S, H, N]⟩ .f32 :=
  mulf (mulf x (broadcastInDim ⟨4, ![B, S, H, N]⟩ ![0, 1, 2, 3] hc (Host.rsqrt (addf (Host.divf (broadcastInDim ⟨4, ![B, S, H, 1]⟩ ![0, 1, 2] hk
      (Host.reduceAdd (mulf x x) (constant ⟨0, ![]⟩ .f32 0x00000000#32) hr hu : FVec Ideal ⟨3, ![B, S, H]⟩ .f32))
      (broadcastInDim ⟨4, ![B, S, H, 1]⟩ ![] hn (constant ⟨0, ![]⟩ .f32 n))) (broadcastInDim ⟨4, ![B, S, H, 1]⟩ ![] hn (constant ⟨0, ![]⟩ .f32 e))))))
    (broadcastInDim ⟨4, ![B, S, H, N]⟩ ![0, 1, 2, 3] h2 (broadcastInDim ⟨4, ![1, 1, 1, N]⟩ ![3] h1 g))

theorem normH4_at (x : FVec Ideal ⟨4, ![B, S, H, N]⟩ .f32) (g : FVec Ideal ⟨1, ![N]⟩ .f32) (n e : BitVec 32) (hr : (⟨4, ![B, S, H, N]⟩ : Shape).ReducesTo [3] (⟨3, ![B, S, H]⟩ : Shape)) (hu : 0 < (⟨0, ![]⟩ : Shape).numel) (hk : (⟨3, ![B, S, H]⟩ : Shape).BroadcastsInDim (⟨4, ![B, S, H, 1]⟩ : Shape) ![0, 1, 2])
    (hn : (⟨0, ![]⟩ : Shape).BroadcastsInDim (⟨4, ![B, S, H, 1]⟩ : Shape) ![]) (hc : (⟨4, ![B, S, H, 1]⟩ : Shape).BroadcastsInDim (⟨4, ![B, S, H, N]⟩ : Shape) ![0, 1, 2, 3]) (h1 : (⟨1, ![N]⟩ : Shape).BroadcastsInDim (⟨4, ![1, 1, 1, N]⟩ : Shape) ![3])
    (h2 : (⟨4, ![1, 1, 1, N]⟩ : Shape).BroadcastsInDim (⟨4, ![B, S, H, N]⟩ : Shape) ![0, 1, 2, 3]) (b : Fin B) (s : Fin S) (h : Fin H) (j : Fin N) :
    (normH4 x g n e hr hu hk hn hc h1 h2 (ix4 b s h j) : EReal) = rn (Ideal.ofBits .f32 n) (Ideal.ofBits .f32 e) (fun k => x (ix4 b s h k)) (fun k => g (ix1 k)) j := by
  unfold normH4
  rw [show ∀ (a b : FVec Ideal ⟨4, ![B, S, H, N]⟩ .f32) i, mulf a b i = (a i * b i : EReal) from fun _ _ _ => rfl,
    show ∀ (a b : FVec Ideal ⟨4, ![B, S, H, N]⟩ .f32) i, mulf a b i = (a i * b i : EReal) from fun _ _ _ => rfl, colH4, rowH4,
    show ∀ (a : FVec Ideal ⟨4, ![B, S, H, 1]⟩ .f32) i, Host.rsqrt a i = Ideal.rsqrt (a i) from fun _ _ => rfl,
    show ∀ (a b : FVec Ideal ⟨4, ![B, S, H, 1]⟩ .f32) i, addf a b i = (a i + b i : EReal) from fun _ _ _ => rfl,
    show ∀ (a b : FVec Ideal ⟨4, ![B, S, H, 1]⟩ .f32) i, Host.divf a b i = Ideal.div (a i) (b i) from fun _ _ _ => rfl, keepH4, sumH4]
  rw [show (constant (F := Ideal) ⟨0, ![]⟩ .f32 0x00000000#32 ix0 : EReal) = 0 from Ideal.ofBits_zero_f32, zero_add]
  rfl
end Host4

end Cert.Rows

end
-- ==== Proof.Mem.Block.lean ====
module

public import proofs.«01_k».proof.Proof.Gen.MemKernelIdeal.Frame
public import proofs.«01_k».proof.Proof.Math.Rows
public import Idealize.ShloMosaic.Lib.Pipeline.ValueKit

/-!
# What one step of the memory call computes, at an index
-/

@[expose] public section

set_option maxRecDepth 16384

noncomputable section

namespace Cert.MemKernelIdeal.Body

open Cert.MemKernelIdeal Cert.MemKernelIdeal.Gen Cert.Rows
open Idealize.ShloMosaic Idealize.ShloMosaic.TcCoe Idealize.ShloMosaic.Tactic

/-- A key of the memory: its row of 1024 normalized, times its head's columns, the head's 128 lanes normalized. -/
def keyAt (x g : Fin 1024 → EReal) (w : Fin 1024 → Fin 512 → EReal) (gc : Fin 128 → EReal) (h : Fin 4) (d : Fin 128) : EReal :=
  rn n128 eps (fun l : Fin 128 => pj x g fun k => w k (⟨128 * h.val + l.val, by omega⟩ : Fin 512)) gc d

theorem rows_at (x : FVec Ideal S512x1024 .f32) (g : FVec Ideal S1x1024 .f32) (p : Fin 512) (k : Fin 1024) :
    (k0_pay3 (F := Ideal) x g (ix2 p k) : EReal) = rn n1024 eps (fun l => x (ix2 p l)) (fun l => g (ix2 0 l)) k := by
  unfold k0_pay3
  rw [same, same]
  exact normK x g _ _ _ _ _ _ p k
theorem mat_at (a : FVec Ideal S512x1024 .bf16) (w : FVec Ideal S1024x512 .bf16) (p : Fin 512) (j : Fin 512) :
    ((matmul dot_S512x1024_S1024x512_S512x512_1_0_0_1_n_n none a w (constant (F := Ideal) S512x512 .f32 0x00000000#32) : FVec Ideal S512x512 .f32) (ix2 p j) : EReal)
      = ∑ k : Fin 1024, (a (ix2 p k) * w (ix2 k j) : EReal) := by
  pointwise
theorem proj_at (x : FVec Ideal S512x1024 .f32) (g : FVec Ideal S1x1024 .f32) (w : FVec Ideal S1024x512 .bf16) (p j : Fin 512) :
    (k0_pay4 (F := Ideal) x g w (ix2 p j) : EReal) = pj (fun l => x (ix2 p l)) (fun l => g (ix2 0 l)) (fun k => w (ix2 k j)) := by
  unfold k0_pay4
  rw [same, mat_at]
  unfold pj dot
  exact Finset.sum_congr rfl fun k _ => by rw [rows_at]
theorem value_at (x : FVec Ideal S512x1024 .f32) (g : FVec Ideal S1x1024 .f32) (w : FVec Ideal S1024x512 .bf16) (p j : Fin 512) :
    (k0_pay2 (F := Ideal) (k0_pay3 (F := Ideal) x g) w (ix2 p j) : EReal) = pj (fun l => x (ix2 p l)) (fun l => g (ix2 0 l)) (fun k => w (ix2 k j)) := by
  unfold k0_pay2
  rw [same, mat_at]
  unfold pj dot
  exact Finset.sum_congr rfl fun k _ => by rw [rows_at]
theorem head_at (y : FVec Ideal S512x128 .f32) (g : FVec Ideal S1x128 .f32) (p : Fin 512) (d : Fin 128) :
    (k0_pay8 (F := Ideal) y g (ix2 p d) : EReal) = rn n128 eps (fun l => y (ix2 p l)) (fun l => g (ix2 0 l)) d := by
  unfold k0_pay8
  exact normK y g _ _ _ _ _ _ p d
theorem pay5_eq (x : FVec Ideal S512x1024 .f32) (g : FVec Ideal S1x1024 .f32) (w : FVec Ideal S1024x512 .bf16) (gc : FVec Ideal S1x128 .f32) :
    k0_pay5 (F := Ideal) x g w gc = k0_pay8 (extractStridedSlice S512x128 ![0, 0] (k0_pay4 (F := Ideal) x g w) slices_S512x512_o0_0_S512x128) (k0_pay7 (F := Ideal) gc) := rfl
theorem pay9_eq (y : FVec Ideal S512x512 .f32) (gc : FVec Ideal S1x128 .f32) :
    k0_pay9 (F := Ideal) y gc = k0_pay8 (extractStridedSlice S512x128 ![0, 256] y slices_S512x512_o0_256_S512x128) (k0_pay7 (F := Ideal) gc) := rfl
theorem pay1_eq (y : FVec Ideal S512x512 .f32) (gc : FVec Ideal S1x128 .f32) :
    k0_pay1 (F := Ideal) (k0_pay10 (F := Ideal) y) (k0_pay11 (F := Ideal) gc) (k0_pay12 (F := Ideal) y) = k0_pay8 (extractStridedSlice S512x128 ![0, 384] y slices_S512x512_o0_384_S512x128) (k0_pay7 (F := Ideal) gc) := rfl
theorem pay6_eq (x : FVec Ideal S512x1024 .f32) (g : FVec Ideal S1x1024 .f32) (w : FVec Ideal S1024x512 .bf16) :
    k0_pay6 (F := Ideal) x g w = extractStridedSlice S512x128 ![0, 128] (k0_pay4 (F := Ideal) x g w) slices_S512x512_o0_128_S512x128 := rfl
theorem pay7_eq (gc : FVec Ideal S1x128 .f32) : k0_pay7 (F := Ideal) gc = gc := by
  unfold k0_pay7
  exact same gc _
theorem slice_at (y : FVec Ideal S512x512 .f32) (o : ℕ) (ho : o + 128 ≤ 512) (hs) (p : Fin 512) (d : Fin 128) :
    extractStridedSlice S512x128 ![0, o] y hs (ix2 p d) = y (ix2 p (⟨o + d.val, by omega⟩ : Fin 512)) := by
  pointwise

/-- One head's lanes of a step's keys. -/
theorem key_at (x : FVec Ideal S512x1024 .f32) (g : FVec Ideal S1x1024 .f32) (w : FVec Ideal S1024x512 .bf16) (gc : FVec Ideal S1x128 .f32)
    (h : Fin 4) (hs : S512x512.Slices ![0, 128 * h.val] S512x128) (p : Fin 512) (d : Fin 128) :
    (k0_pay8 (F := Ideal) (extractStridedSlice S512x128 ![0, 128 * h.val] (k0_pay4 (F := Ideal) x g w) hs) gc (ix2 p d) : EReal)
      = keyAt (fun l => x (ix2 p l)) (fun l => g (ix2 0 l)) (fun k j => w (ix2 k j)) (fun l => gc (ix2 0 l)) h d := by
  rw [head_at]
  unfold keyAt
  refine congrArg (fun f => rn n128 eps f (fun l => gc (ix2 0 l)) d) (funext fun l => ?_)
  rw [slice_at _ _ (by omega), proj_at]

/-- A step's keys as an array. -/
def keysG (x : FVec Ideal S512x1024 .f32) (g : FVec Ideal S1x1024 .f32) (w : FVec Ideal S1024x512 .bf16) (gc : FVec Ideal S1x128 .f32) : FVec Ideal S512x512 .f32 :=
  fun y => keyAt (fun l => x (ix2 (y 0) l)) (fun l => g (ix2 0 l)) (fun k j => w (ix2 k j)) (fun l => gc (ix2 0 l))
    (⟨(y 1).val / 128, by have h : (y 1).val < 512 := (y 1).isLt; omega⟩ : Fin 4) (⟨(y 1).val % 128, by omega⟩ : Fin 128)
theorem keysG_of (x : FVec Ideal S512x1024 .f32) (g : FVec Ideal S1x1024 .f32) (w : FVec Ideal S1024x512 .bf16) (gc : FVec Ideal S1x128 .f32)
    (y : S512x512.Idx) (p : Fin 512) (h : Fin 4) (d : Fin 128) (h0 : (y 0).val = p.val) (h1 : (y 1).val = 128 * h.val + d.val) :
    (keysG x g w gc y : EReal) = keyAt (fun l => x (ix2 p l)) (fun l => g (ix2 0 l)) (fun k j => w (ix2 k j)) (fun l => gc (ix2 0 l)) h d := by
  have e0 : y 0 = p := Fin.ext h0
  have hh : (⟨(y 1).val / 128, by have h : (y 1).val < 512 := (y 1).isLt; omega⟩ : Fin 4) = h := Fin.ext (by show (y 1).val / 128 = _; omega)
  have hd : (⟨(y 1).val % 128, by omega⟩ : Fin 128) = d := Fin.ext (by show (y 1).val % 128 = _; omega)
  unfold keysG
  rw [hh, hd, e0]
theorem piece (x : FVec Ideal S512x1024 .f32) (g : FVec Ideal S1x1024 .f32) (w : FVec Ideal S1024x512 .bf16) (gc : FVec Ideal S1x128 .f32)
    (h : Fin 4) (hs : S512x512.Slices ![0, 128 * h.val] S512x128) (inb) (i : S512x128.Idx) :
    (k0_pay8 (F := Ideal) (extractStridedSlice S512x128 ![0, 128 * h.val] (k0_pay4 (F := Ideal) x g w) hs) gc i : EReal)
      = keysG x g w gc ((Rect.unit (s := S512x512) ![0, 128 * h.val] S512x128.size inb).emb i) := by
  obtain ⟨p, d, rfl⟩ : ∃ (p : Fin 512) (d : Fin 128), i = ix2 p d :=
    ⟨i 0, i 1, by funext a; match a with | ⟨0, _⟩ => rfl | ⟨1, _⟩ => rfl⟩
  rw [key_at, keysG_of x g w gc _ p h d]
  · show 0 + 1 * p.val = p.val
    omega
  · show 128 * h.val + 1 * d.val = _
    omega

/-- What a step stores of the keys. -/
theorem out5_eq (x : FVec Ideal S512x1024 .f32) (g : FVec Ideal S1x1024 .f32) (w : FVec Ideal S1024x512 .bf16) (gc : FVec Ideal S1x128 .f32) (w' : FVec Ideal S1024x512 .bf16) :
    out0_5 (F := Ideal) x g w gc w' = keysG x g w gc := by
  funext y
  unfold_out out0_5
  rw [View.ld_unit_lit _ _ (by decide), View.ld_unit_lit _ _ (by decide), View.ld_unit_lit _ _ (by decide), View.ld_unit_lit _ _ (by decide), pay5_eq, pay9_eq, pay1_eq, pay6_eq, pay7_eq]
  refine View.canon_apply_of_pieces (Val := Elt Ideal) (e := .f32) (keysG x g w gc) _ ?_ y (cover0_5 _ _ _ _ _)
  intro pc hpc
  simp only [List.mem_cons, List.not_mem_nil, or_false] at hpc
  rcases hpc with rfl | rfl | rfl | rfl
  · exact fun i => piece x g w gc 3 _ (by decide) i
  · exact fun i => piece x g w gc 2 _ (by decide) i
  · exact fun i => piece x g w gc 1 _ (by decide) i
  · exact fun i => piece x g w gc 0 _ (by decide) i
/-- What a step stores of the values. -/
theorem out6_eq (x : FVec Ideal S512x1024 .f32) (g : FVec Ideal S1x1024 .f32) (w : FVec Ideal S1024x512 .bf16) (gc : FVec Ideal S1x128 .f32) (w' : FVec Ideal S1024x512 .bf16) :
    out0_6 (F := Ideal) x g w gc w' = k0_pay2 (F := Ideal) (k0_pay3 (F := Ideal) x g) w' := by
  unfold_out out0_6
  rw [View.ld_unit_lit _ _ (by decide), View.ld_unit_lit _ _ (by decide), View.ld_unit_lit _ _ (by decide), View.canon_cons_unit_lit _ _ _ (by decide)]

end Cert.MemKernelIdeal.Body

end
-- ==== Proof.Mem.Final.lean ====
module

public import proofs.«01_k».proof.Proof.Mem.Block

/-!
# What the memory call's run leaves in its two result arrays, from the call's operands
-/

@[expose] public section

set_option maxRecDepth 16384

noncomputable section

namespace Cert.MemKernelIdeal.Body

open Cert.MemKernelIdeal Cert.MemKernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-- All the keys of the call, from its operands. -/
def keysA (x : FVec Ideal S1024x1024 .f32) (g : FVec Ideal S1x1024 .f32) (w : FVec Ideal S1024x512 .bf16) (gc : FVec Ideal S1x128 .f32) : FVec Ideal S1024x512 .f32 :=
  fun y => keyAt (fun l => x (ix2 (y 0) l)) (fun l => g (ix2 0 l)) (fun k j => w (ix2 k j)) (fun l => gc (ix2 0 l))
    (⟨(y 1).val / 128, by have h : (y 1).val < 512 := (y 1).isLt; omega⟩ : Fin 4) (⟨(y 1).val % 128, by omega⟩ : Fin 128)
/-- All the values of the call, from its operands. -/
def valsA (x : FVec Ideal S1024x1024 .f32) (g : FVec Ideal S1x1024 .f32) (w : FVec Ideal S1024x512 .bf16) : FVec Ideal S1024x512 .f32 :=
  fun y => pj (fun l => x (ix2 (y 0) l)) (fun l => g (ix2 0 l)) (fun k => w (ix2 k (y 1)))

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)

theorem blk0 (c : Dev nD) (t : Fin cfg0.N) (p : Fin 512) (r : Fin 1024) (hr : r.val = (grid0.coords t 0).val * 512 + p.val) (l : Fin 1024) :
    (iblk m c 0 t : Vec Ideal S512x1024 .f32) (ix2 p l) = (V m c main_v8 : Vec Ideal S1024x1024 .f32) (ix2 r l) := by
  blk_point [iblk, V, idx0 t]
theorem blk1 (c : Dev nD) (t : Fin cfg0.N) : (iblk m c 1 t : Vec Ideal S1x1024 .f32) = V m c main_v1 := by
  funext y
  blk_ext [iblk, V, idx1 t]
theorem blk2 (c : Dev nD) (t : Fin cfg0.N) : (iblk m c 2 t : Vec Ideal S1024x512 .bf16) = V m c main_v3 := by
  funext y
  blk_ext [iblk, V, idx2 t]
theorem blk3 (c : Dev nD) (t : Fin cfg0.N) : (iblk m c 3 t : Vec Ideal S1x128 .f32) = V m c main_v5 := by
  funext y
  blk_ext [iblk, V, idx3 t]
theorem blk4 (c : Dev nD) (t : Fin cfg0.N) : (iblk m c 4 t : Vec Ideal S1024x512 .bf16) = V m c main_v7 := by
  funext y
  blk_ext [iblk, V, idx4 t]

/-- The keys' array after the run. -/
theorem final5 (c : Dev nD) : (dats m 0 c).arrAt 5 (cfgs 0).N
    = keysA (V m c main_v8) (V m c main_v1) (V m c main_v3) (V m c main_v5) := by
  refine (dats m 0 c).arrAt_eq_of_covers 5 _ (by decide +kernel) fun t hf y => ?_
  blk_simp
  rw [after0_5]
  obtain ⟨p, j, rfl⟩ : ∃ (p : Fin 512) (j : Fin 512), y = (ix2 p j : S512x512.Idx) :=
    ⟨y 0, y 1, by funext a; match a with | ⟨0, _⟩ => rfl | ⟨1, _⟩ => rfl⟩
  have h0 : (((win0_5.blk t).view.emb (ix2 p j : S512x512.Idx) : S1024x512.Idx) 0).val = (grid0.coords t 0).val * 512 + p.val := by
    blk_simp [idx5 t]
  have h1 : (((win0_5.blk t).view.emb (ix2 p j : S512x512.Idx) : S1024x512.Idx) 1) = j := by
    apply Fin.ext
    blk_simp [idx5 t]
  generalize ((win0_5.blk t).view.emb (ix2 p j : S512x512.Idx) : S1024x512.Idx) = i at h0 h1 ⊢
  rw [out5_eq, blk1, blk2, blk3, keysG_of _ _ _ _ (ix2 p j) p ⟨j.val / 128, by omega⟩ ⟨j.val % 128, by omega⟩ rfl (by show j.val = 128 * (j.val / 128) + j.val % 128; omega)]
  unfold keysA
  subst h1
  exact congrArg (fun f => keyAt f _ _ _ _ _) (funext fun l => blk0 m c t p (i 0) h0 l)
/-- The values' array after the run. -/
theorem final6 (c : Dev nD) : (dats m 0 c).arrAt 6 (cfgs 0).N
    = valsA (V m c main_v8) (V m c main_v1) (V m c main_v7) := by
  refine (dats m 0 c).arrAt_eq_of_covers 6 _ (by decide +kernel) fun t hf y => ?_
  blk_simp
  rw [after0_6]
  obtain ⟨p, j, rfl⟩ : ∃ (p : Fin 512) (j : Fin 512), y = (ix2 p j : S512x512.Idx) :=
    ⟨y 0, y 1, by funext a; match a with | ⟨0, _⟩ => rfl | ⟨1, _⟩ => rfl⟩
  have h0 : (((win0_6.blk t).view.emb (ix2 p j : S512x512.Idx) : S1024x512.Idx) 0).val = (grid0.coords t 0).val * 512 + p.val := by
    blk_simp [idx6 t]
  have h1 : (((win0_6.blk t).view.emb (ix2 p j : S512x512.Idx) : S1024x512.Idx) 1) = j := by
    apply Fin.ext
    blk_simp [idx6 t]
  generalize ((win0_6.blk t).view.emb (ix2 p j : S512x512.Idx) : S1024x512.Idx) = i at h0 h1 ⊢
  rw [out6_eq, blk1, blk4, value_at]
  unfold valsA
  subst h1
  exact congrArg (fun f => pj f _ _) (funext fun l => blk0 m c t p (i 0) h0 l)

theorem tail11 (W : Valuation τ sig (Elt Ideal)) : StableHlo.after [hostOps1].flatten W (Proc.devRef .tc main_v11)
    = broadcastInDim S1x4x256x4x128 ![1, 2, 3, 4] bcast_S4x256x4x128_S1x4x256x4x128_1_2_3_4 (shapeCast _ (W (Proc.devRef .tc main_v9_0)) shapeCasts_S1024x512_S4x256x4x128) := by
  unfold hostOps1
  after_results
  rfl
theorem tail13 (W : Valuation τ sig (Elt Ideal)) : StableHlo.after [hostOps1].flatten W (Proc.devRef .tc main_v13)
    = broadcastInDim S1x4x256x4x128 ![1, 2, 3, 4] bcast_S4x256x4x128_S1x4x256x4x128_1_2_3_4 (shapeCast _ (W (Proc.devRef .tc main_v9_1)) shapeCasts_S1024x512_S4x256x4x128) := by
  unfold hostOps1
  after_results
  rfl
/-- A result of the program: the array's rows as batch and position, its lanes as head and lane. -/
theorem unflat (X : FVec Ideal S1024x512 .f32) (a : Fin 1) (b : Fin 4) (n : Fin 256) (h : Fin 4) (d : Fin 128) :
    (broadcastInDim S1x4x256x4x128 ![1, 2, 3, 4] bcast_S4x256x4x128_S1x4x256x4x128_1_2_3_4 (shapeCast _ X shapeCasts_S1024x512_S4x256x4x128)) (ix5 a b n h d)
      = X (ix2 (⟨256 * b.val + n.val, by omega⟩ : Fin 1024) (⟨128 * h.val + d.val, by omega⟩ : Fin 512)) := by
  pointwise
  exact congrArg X (congrArg₂ ix2 (Fin.ext (by show b.val * 256 + n.val = 256 * b.val + n.val; omega)) (Fin.ext (by show h.val * 128 + d.val = 128 * h.val + d.val; omega)))

/-- The keys of the memory as one array, from the program's arguments. -/
def memKey (a0 : FVec Ideal S4x256x1024 .f32) (a1 : FVec Ideal S1x1024 .f32) (a2 : FVec Ideal S1x1024x512 .f32) (a3 : FVec Ideal S1x128 .f32) : FVec Ideal S1x4x256x4x128 .f32 :=
  fun y => keyAt (fun l => a0 (ix3 (y 1) (y 2) l)) (fun l => a1 (ix2 0 l)) (fun k j => a2 (ix3 0 k j)) (fun l => a3 (ix2 0 l)) (y 3) (y 4)
/-- The values of the memory as one array, from the program's arguments. -/
def memVal (a0 : FVec Ideal S4x256x1024 .f32) (a1 : FVec Ideal S1x1024 .f32) (a4 : FVec Ideal S1x1024x512 .f32) : FVec Ideal S1x4x256x4x128 .f32 :=
  fun y => pj (fun l => a0 (ix3 (y 1) (y 2) l)) (fun l => a1 (ix2 0 l))
    (fun k => a4 (ix3 0 k (⟨128 * (y 3).val + (y 4).val, by have h3 : (y 3).val < 4 := (y 3).isLt; have h4 : (y 4).val < 128 := (y 4).isLt; omega⟩ : Fin 512)))

theorem V_x (c : Dev nD) : V m c main_v8 = shapeCast _ (m ((c : Thread nD τ).loc main_arg0)) shapeCasts_S4x256x1024_S1024x1024 := by
  unfold V V0 hostOps0
  after_results
  rfl
theorem V_g (c : Dev nD) : V m c main_v1 = broadcastInDim S1x1024 ![1] bcast_S1024_S1x1024_1 (shapeCast _ (m ((c : Thread nD τ).loc main_arg1)) shapeCasts_S1x1024_S1024) := by
  unfold V V0 hostOps0
  after_results
  rfl
theorem V_w (c : Dev nD) : V m c main_v3 = truncf .bf16 (shapeCast S1024x512 (m ((c : Thread nD τ).loc main_arg2)) shapeCasts_S1x1024x512_S1024x512 : FVec Ideal S1024x512 .f32) bitsLt_bf16_f32 := by
  unfold V V0 hostOps0
  after_results
  rfl
theorem V_gc (c : Dev nD) : V m c main_v5 = broadcastInDim S1x128 ![1] bcast_S128_S1x128_1 (shapeCast _ (m ((c : Thread nD τ).loc main_arg3)) shapeCasts_S1x128_S128) := by
  unfold V V0 hostOps0
  after_results
  rfl
theorem V_wv (c : Dev nD) : V m c main_v7 = truncf .bf16 (shapeCast S1024x512 (m ((c : Thread nD τ).loc main_arg4)) shapeCasts_S1x1024x512_S1024x512 : FVec Ideal S1024x512 .f32) bitsLt_bf16_f32 := by
  unfold V V0 hostOps0
  after_results
  rfl
theorem flat_x (a : FVec Ideal S4x256x1024 .f32) (b : Fin 4) (n : Fin 256) (l : Fin 1024) (hr : 256 * b.val + n.val < 1024) :
    shapeCast S1024x1024 a shapeCasts_S4x256x1024_S1024x1024 (ix2 ⟨256 * b.val + n.val, hr⟩ l) = a (ix3 b n l) := by
  pointwise
theorem flat_g (a : FVec Ideal S1x1024 .f32) (l : Fin 1024) :
    broadcastInDim S1x1024 ![1] bcast_S1024_S1x1024_1 (shapeCast S1024 a shapeCasts_S1x1024_S1024) (ix2 0 l) = a (ix2 0 l) := by
  pointwise
theorem flat_gc (a : FVec Ideal S1x128 .f32) (l : Fin 128) :
    broadcastInDim S1x128 ![1] bcast_S128_S1x128_1 (shapeCast S128 a shapeCasts_S1x128_S128) (ix2 0 l) = a (ix2 0 l) := by
  pointwise
theorem flat_w (a : FVec Ideal S1x1024x512 .f32) (k : Fin 1024) (j : Fin 512) :
    (truncf .bf16 (shapeCast S1024x512 a shapeCasts_S1x1024x512_S1024x512 : FVec Ideal S1024x512 .f32) bitsLt_bf16_f32 : FVec Ideal S1024x512 .bf16) (ix2 k j) = (a (ix3 0 k j) : EReal) := by
  pointwise

theorem arr5 : Pipeline.arrRef spec0 5 = main_v9_0 := rfl
theorem arr6 : Pipeline.arrRef spec0 6 = main_v9_1 := rfl

/-- The first result of the program's run. -/
theorem res_key (c : Dev nD) : Pipeline.afterTail₀ cfgs (dats m) 0 (V0 m) [hostOps1] c main_v11
    = memKey (m ((c : Thread nD τ).loc main_arg0)) (m ((c : Thread nD τ).loc main_arg1)) (m ((c : Thread nD τ).loc main_arg2)) (m ((c : Thread nD τ).loc main_arg3)) := by
  unfold Pipeline.afterTail₀
  rw [tail11]
  have e : Pipeline.withArrays spec0 c (V0 m c) (fun w => (dats m 0 c).arrAt w (cfgs 0).N) (Proc.devRef .tc main_v9_0) = keysA (V m c main_v8) (V m c main_v1) (V m c main_v3) (V m c main_v5) :=
    (Pipeline.withArrays_arr spec0 launch0.win.arr_inj c (V0 m c) (fun w => (dats m 0 c).arrAt w (cfgs 0).N) 5).trans (final5 m c)
  rw [e]
  funext y
  obtain ⟨a, b, n, h, d, rfl⟩ : ∃ (a : Fin 1) (b : Fin 4) (n : Fin 256) (h : Fin 4) (d : Fin 128), y = (ix5 a b n h d : S1x4x256x4x128.Idx) :=
    ⟨y 0, y 1, y 2, y 3, y 4, by funext a; match a with | ⟨0, _⟩ => rfl | ⟨1, _⟩ => rfl | ⟨2, _⟩ => rfl | ⟨3, _⟩ => rfl | ⟨4, _⟩ => rfl⟩
  refine (unflat _ a b n h d).trans ?_
  rw [V_x, V_g, V_w, V_gc]
  have hh : (⟨(128 * h.val + d.val) / 128, by omega⟩ : Fin 4) = h := Fin.ext (by show (128 * h.val + d.val) / 128 = _; omega)
  have hd : (⟨(128 * h.val + d.val) % 128, by omega⟩ : Fin 128) = d := Fin.ext (by show (128 * h.val + d.val) % 128 = _; omega)
  show keyAt _ _ _ _ (⟨(128 * h.val + d.val) / 128, _⟩ : Fin 4) (⟨(128 * h.val + d.val) % 128, _⟩ : Fin 128) = keyAt _ _ _ _ h d
  rw [hh, hd]
  congr 1
  · exact funext fun l => flat_x _ b n l _
  · exact funext fun l => flat_g _ l
  · exact funext fun k => funext fun j => flat_w _ k j
  · exact funext fun l => flat_gc _ l
/-- The second result of the program's run. -/
theorem res_val (c : Dev nD) : Pipeline.afterTail₀ cfgs (dats m) 0 (V0 m) [hostOps1] c main_v13
    = memVal (m ((c : Thread nD τ).loc main_arg0)) (m ((c : Thread nD τ).loc main_arg1)) (m ((c : Thread nD τ).loc main_arg4)) := by
  unfold Pipeline.afterTail₀
  rw [tail13]
  have e : Pipeline.withArrays spec0 c (V0 m c) (fun w => (dats m 0 c).arrAt w (cfgs 0).N) (Proc.devRef .tc main_v9_1) = valsA (V m c main_v8) (V m c main_v1) (V m c main_v7) :=
    (Pipeline.withArrays_arr spec0 launch0.win.arr_inj c (V0 m c) (fun w => (dats m 0 c).arrAt w (cfgs 0).N) 6).trans (final6 m c)
  rw [e]
  funext y
  obtain ⟨a, b, n, h, d, rfl⟩ : ∃ (a : Fin 1) (b : Fin 4) (n : Fin 256) (h : Fin 4) (d : Fin 128), y = (ix5 a b n h d : S1x4x256x4x128.Idx) :=
    ⟨y 0, y 1, y 2, y 3, y 4, by funext a; match a with | ⟨0, _⟩ => rfl | ⟨1, _⟩ => rfl | ⟨2, _⟩ => rfl | ⟨3, _⟩ => rfl | ⟨4, _⟩ => rfl⟩
  refine (unflat _ a b n h d).trans ?_
  rw [V_x, V_g, V_wv]
  show pj _ _ _ = pj _ _ _
  congr 1
  · exact funext fun l => flat_x _ b n l _
  · exact funext fun l => flat_g _ l
  · exact funext fun k => flat_w _ k _
end Cert.MemKernelIdeal.Body

end
-- ==== Proof.Mem.Claims.lean ====
module

public import proofs.«01_k».proof.Defs
public import proofs.«01_k».proof.Proof.Mem.Final
public import proofs.«01_k».proof.Proof.Gen.MemReferenceIdeal.Run
public import proofs.«01_k».proof.Proof.Gen.MemKernel.Frame

/-!
# The memory reference's two results are the program's, and its claims
-/

@[expose] public section

set_option maxRecDepth 16384

noncomputable section

namespace Cert.MemReferenceIdeal.Value

open Cert.MemReferenceIdeal Cert.MemReferenceIdeal.Gen Cert.Rows
open Idealize.ShloMosaic Idealize.ShloMosaic.TcCoe Idealize.ShloMosaic.Tactic Idealize.SL.Sem

/-- The memory normalized and projected. -/
def projR (a0 : FVec Ideal S4x256x1024 .f32) (a1 : FVec Ideal S1x1024 .f32) (w : FVec Ideal S1x1024x512 .f32) : FVec Ideal S4x256x512 .f32 :=
  Host.dotGeneral dot_S4x256x1024_S1024x512_S4x256x512_2_0_01_1_n_n none
    (normH3 a0 (shapeCast S1024 a1 shapeCasts_S1x1024_S1024) 0x44800000#32 0x358637BD#32 reducesTo_S4x256x1024_S4x256_d2 h_S_ bcast_S4x256_S4x256x1_0_1 bcast_S_S4x256x1 bcast_S4x256x1_S4x256x1024_0_1_2 bcast_S1024_S1x1x1024_2 bcast_S1x1x1024_S4x256x1024_0_1_2)
    (shapeCast S1024x512 w shapeCasts_S1x1024x512_S1024x512)
/-- The same by heads. -/
def headsR (a0 : FVec Ideal S4x256x1024 .f32) (a1 : FVec Ideal S1x1024 .f32) (w : FVec Ideal S1x1024x512 .f32) : FVec Ideal S4x256x4x128 .f32 :=
  shapeCast S4x256x4x128 (projR a0 a1 w) shapeCasts_S4x256x512_S4x256x4x128
/-- The reference's keys. -/
def refKey (a0 : FVec Ideal S4x256x1024 .f32) (a1 : FVec Ideal S1x1024 .f32) (a2 : FVec Ideal S1x1024x512 .f32) (a3 : FVec Ideal S1x128 .f32) : FVec Ideal S1x4x256x4x128 .f32 :=
  broadcastInDim S1x4x256x4x128 ![1, 2, 3, 4] bcast_S4x256x4x128_S1x4x256x4x128_1_2_3_4
    (normH4 (headsR a0 a1 a2) (shapeCast S128 a3 shapeCasts_S1x128_S128) 0x43000000#32 0x358637BD#32 reducesTo_S4x256x4x128_S4x256x4_d3 h_S_ bcast_S4x256x4_S4x256x4x1_0_1_2 bcast_S_S4x256x4x1 bcast_S4x256x4x1_S4x256x4x128_0_1_2_3 bcast_S128_S1x1x1x128_3 bcast_S1x1x1x128_S4x256x4x128_0_1_2_3)
/-- The reference's values. -/
def refVal (a0 : FVec Ideal S4x256x1024 .f32) (a1 : FVec Ideal S1x1024 .f32) (a4 : FVec Ideal S1x1024x512 .f32) : FVec Ideal S1x4x256x4x128 .f32 :=
  broadcastInDim S1x4x256x4x128 ![1, 2, 3, 4] bcast_S4x256x4x128_S1x4x256x4x128_1_2_3_4 (headsR a0 a1 a4)

theorem dotR (x : FVec Ideal S4x256x1024 .f32) (w : FVec Ideal S1024x512 .f32) (b : Fin 4) (n : Fin 256) (j : Fin 512) :
    (Host.dotGeneral dot_S4x256x1024_S1024x512_S4x256x512_2_0_01_1_n_n none x w (ix3 b n j) : EReal) = ∑ k : Fin 1024, (x (ix3 b n k) * w (ix2 k j) : EReal) := by
  pointwise
theorem flatw (a : FVec Ideal S1x1024x512 .f32) (k : Fin 1024) (j : Fin 512) :
    shapeCast S1024x512 a shapeCasts_S1x1024x512_S1024x512 (ix2 k j) = a (ix3 0 k j) := by
  pointwise
theorem flatg (a : FVec Ideal S1x1024 .f32) (l : Fin 1024) : shapeCast S1024 a shapeCasts_S1x1024_S1024 (ix1 l) = a (ix2 0 l) := by
  pointwise
theorem flatgc (a : FVec Ideal S1x128 .f32) (l : Fin 128) : shapeCast S128 a shapeCasts_S1x128_S128 (ix1 l) = a (ix2 0 l) := by
  pointwise
theorem projR_at (a0 : FVec Ideal S4x256x1024 .f32) (a1 : FVec Ideal S1x1024 .f32) (w : FVec Ideal S1x1024x512 .f32) (b : Fin 4) (n : Fin 256) (j : Fin 512) :
    (projR a0 a1 w (ix3 b n j) : EReal) = pj (fun l => a0 (ix3 b n l)) (fun l => a1 (ix2 0 l)) (fun k => w (ix3 0 k j)) := by
  unfold projR
  rw [dotR]
  unfold pj dot
  exact Finset.sum_congr rfl fun k _ => by
    rw [normH3_at, flatw, show (fun l : Fin 1024 => (shapeCast S1024 a1 shapeCasts_S1x1024_S1024 (ix1 l) : EReal)) = fun l => a1 (ix2 0 l) from funext fun l => flatg a1 l]
theorem split_at (y : FVec Ideal S4x256x512 .f32) (b : Fin 4) (n : Fin 256) (h : Fin 4) (d : Fin 128) :
    shapeCast S4x256x4x128 y shapeCasts_S4x256x512_S4x256x4x128 (ix4 b n h d) = y (ix3 b n (⟨128 * h.val + d.val, by omega⟩ : Fin 512)) := by
  pointwise
  exact congrArg y (congrArg (ix3 b n) (Fin.ext (by show h.val * 128 + d.val = 128 * h.val + d.val; omega)))
theorem lead (y : FVec Ideal S4x256x4x128 .f32) (a : Fin 1) (b : Fin 4) (n : Fin 256) (h : Fin 4) (d : Fin 128) :
    broadcastInDim S1x4x256x4x128 ![1, 2, 3, 4] bcast_S4x256x4x128_S1x4x256x4x128_1_2_3_4 y (ix5 a b n h d) = y (ix4 b n h d) := by
  pointwise
theorem refKey_eq (a0 : FVec Ideal S4x256x1024 .f32) (a1 : FVec Ideal S1x1024 .f32) (a2 : FVec Ideal S1x1024x512 .f32) (a3 : FVec Ideal S1x128 .f32) :
    refKey a0 a1 a2 a3 = Cert.MemKernelIdeal.Body.memKey a0 a1 a2 a3 := by
  funext y
  obtain ⟨a, b, n, h, d, rfl⟩ : ∃ (a : Fin 1) (b : Fin 4) (n : Fin 256) (h : Fin 4) (d : Fin 128), y = (ix5 a b n h d : S1x4x256x4x128.Idx) :=
    ⟨y 0, y 1, y 2, y 3, y 4, by funext a; match a with | ⟨0, _⟩ => rfl | ⟨1, _⟩ => rfl | ⟨2, _⟩ => rfl | ⟨3, _⟩ => rfl | ⟨4, _⟩ => rfl⟩
  unfold refKey
  refine (lead _ a b n h d).trans ((normH4_at _ _ _ _ _ _ _ _ _ _ _ b n h d).trans ?_)
  show _ = Cert.MemKernelIdeal.Body.keyAt (fun l => a0 (ix3 b n l)) (fun l => a1 (ix2 0 l)) (fun k j => a2 (ix3 0 k j)) (fun l => a3 (ix2 0 l)) h d
  unfold Cert.MemKernelIdeal.Body.keyAt
  refine congrArg₂ (fun f f' => rn n128 eps f f' d) ?_ ?_
  · exact funext fun l => (split_at _ b n h l).trans (projR_at a0 a1 a2 b n _)
  · exact funext fun l => flatgc a3 l
theorem refVal_eq (a0 : FVec Ideal S4x256x1024 .f32) (a1 : FVec Ideal S1x1024 .f32) (a4 : FVec Ideal S1x1024x512 .f32) :
    refVal a0 a1 a4 = Cert.MemKernelIdeal.Body.memVal a0 a1 a4 := by
  funext y
  obtain ⟨a, b, n, h, d, rfl⟩ : ∃ (a : Fin 1) (b : Fin 4) (n : Fin 256) (h : Fin 4) (d : Fin 128), y = (ix5 a b n h d : S1x4x256x4x128.Idx) :=
    ⟨y 0, y 1, y 2, y 3, y 4, by funext a; match a with | ⟨0, _⟩ => rfl | ⟨1, _⟩ => rfl | ⟨2, _⟩ => rfl | ⟨3, _⟩ => rfl | ⟨4, _⟩ => rfl⟩
  unfold refVal
  exact (lead _ a b n h d).trans ((split_at _ b n h d).trans (projR_at a0 a1 a4 b n _))

end Cert.MemReferenceIdeal.Value

namespace Cert.Mem

open Idealize.ShloMosaic Idealize.ShloMosaic.TcCoe Idealize.SL.Sem

/-- The memory reference, a host program, leaves its arguments as they were. -/
theorem frame_reference : Cert.quiescent_MemReferenceIdeal := fun m ρ _ =>
  (θ_run Cert.MemReferenceIdeal.defs _ _).mono (fun r h => ⟨fun c => (h c).2.2, sem_eq_zero_of_no_sems (by decide) r.2⟩)
    (Cert.MemReferenceIdeal.Value.run (F := Ideal) m ρ)

/-- The memory's keys and values: kernel and reference, run over the extended reals from the same arguments, end with the same two results. -/
theorem algebraic : Cert.algebraic_MemKernelIdeal_MemReferenceIdeal := by
  intro m g m' g' hpre hagree
  refine ⟨fun c => Cert.MemKernelIdeal.Body.memKey (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3)),
    fun c => Cert.MemKernelIdeal.Body.memVal (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg4)), ?_, ?_⟩
  · exact (θ_run Cert.MemKernelIdeal.defs _ _).mono (fun r h c => ⟨
        ((h c).2 Cert.MemKernelIdeal.main_v11 (Pipeline.mem_restRefs_of Cert.MemKernelIdeal.main_v11 (by decide) (by decide))).trans (Cert.MemKernelIdeal.Body.res_key m c),
        ((h c).2 Cert.MemKernelIdeal.main_v13 (Pipeline.mem_restRefs_of Cert.MemKernelIdeal.main_v13 (by decide) (by decide))).trans (Cert.MemKernelIdeal.Body.res_val m c),
        ((h c).2 Cert.MemKernelIdeal.main_arg0 (Pipeline.mem_restRefs_of Cert.MemKernelIdeal.main_arg0 (by decide) (by decide))).trans (Cert.MemKernelIdeal.Gen.W_main_arg0 m _ c),
        ((h c).2 Cert.MemKernelIdeal.main_arg1 (Pipeline.mem_restRefs_of Cert.MemKernelIdeal.main_arg1 (by decide) (by decide))).trans (Cert.MemKernelIdeal.Gen.W_main_arg1 m _ c),
        ((h c).2 Cert.MemKernelIdeal.main_arg2 (Pipeline.mem_restRefs_of Cert.MemKernelIdeal.main_arg2 (by decide) (by decide))).trans (Cert.MemKernelIdeal.Gen.W_main_arg2 m _ c),
        ((h c).2 Cert.MemKernelIdeal.main_arg3 (Pipeline.mem_restRefs_of Cert.MemKernelIdeal.main_arg3 (by decide) (by decide))).trans (Cert.MemKernelIdeal.Gen.W_main_arg3 m _ c),
        ((h c).2 Cert.MemKernelIdeal.main_arg4 (Pipeline.mem_restRefs_of Cert.MemKernelIdeal.main_arg4 (by decide) (by decide))).trans (Cert.MemKernelIdeal.Gen.W_main_arg4 m _ c)⟩)
      (Cert.MemKernelIdeal.Gen.run_main m g)
  · refine (θ_run Cert.MemReferenceIdeal.defs _ _).mono (fun r h c => ⟨(h c).1.trans ?_, (h c).2.1.trans ?_, (h c).2.2⟩) (Cert.MemReferenceIdeal.Value.run (F := Ideal) m' g')
    · obtain ⟨e0, e1, e2, e3, e4⟩ := hagree c
      refine (Cert.MemReferenceIdeal.Value.refKey_eq (m' ((c.tc : Thread Cert.MemReferenceIdeal.nD Cert.MemReferenceIdeal.τ).loc Cert.MemReferenceIdeal.main_arg0)) (m' ((c.tc : Thread Cert.MemReferenceIdeal.nD Cert.MemReferenceIdeal.τ).loc Cert.MemReferenceIdeal.main_arg1)) (m' ((c.tc : Thread Cert.MemReferenceIdeal.nD Cert.MemReferenceIdeal.τ).loc Cert.MemReferenceIdeal.main_arg2)) (m' ((c.tc : Thread Cert.MemReferenceIdeal.nD Cert.MemReferenceIdeal.τ).loc Cert.MemReferenceIdeal.main_arg3))).trans ?_
      rw [e0, e1, e2, e3]
    · obtain ⟨e0, e1, e2, e3, e4⟩ := hagree c
      refine (Cert.MemReferenceIdeal.Value.refVal_eq (m' ((c.tc : Thread Cert.MemReferenceIdeal.nD Cert.MemReferenceIdeal.τ).loc Cert.MemReferenceIdeal.main_arg0)) (m' ((c.tc : Thread Cert.MemReferenceIdeal.nD Cert.MemReferenceIdeal.τ).loc Cert.MemReferenceIdeal.main_arg1)) (m' ((c.tc : Thread Cert.MemReferenceIdeal.nD Cert.MemReferenceIdeal.τ).loc Cert.MemReferenceIdeal.main_arg4))).trans ?_
      rw [e0, e1, e4]

end Cert.Mem

end
-- ==== Proof.In.FrameI.lean ====
module

public import proofs.«01_k».proof.Proof.Gen.InKernelIdeal.Launch
public import proofs.«01_k».proof.Proof.Gen.InKernelIdeal.Skeleton
public import proofs.«01_k».proof.Proof.Gen.InKernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-!
# The input projection's launch: what the body leaves in each buffer, and the run
-/

@[expose] public section

set_option maxRecDepth 16384

noncomputable section

namespace Cert.InKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0, hostOps0_1, hostOps0_2]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 460000 in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1380000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x384 := Rect.unit (s := S1024x384) ![0, 0] S1024x384.size inb_S1024x384_S1024x384_0_0
abbrev r0_3 : Rect S1x384 := Rect.unit (s := S1x384) ![0, 0] S1x384.size inb_S1x384_S1x384_0_0
abbrev r0_4 : Rect S512x384 := Rect.unit (s := S512x384) ![0, 0] S512x384.size inb_S512x384_S512x384_0_0
abbrev r0_5 : Rect S1024x256 := Rect.unit (s := S1024x256) ![0, 0] S1024x256.size inb_S1024x256_S1024x256_0_0
abbrev r0_6 : Rect S1x256 := Rect.unit (s := S1x256) ![0, 0] S1x256.size inb_S1x256_S1x256_0_0
abbrev r0_7 : Rect S512x256 := Rect.unit (s := S512x256) ![0, 0] S512x256.size inb_S512x256_S512x256_0_0
abbrev r0_8 : Rect S1024x128 := Rect.unit (s := S1024x128) ![0, 0] S1024x128.size inb_S1024x128_S1024x128_0_0
abbrev r0_9 : Rect S1x128 := Rect.unit (s := S1x128) ![0, 0] S1x128.size inb_S1x128_S1x128_0_0
abbrev r0_10 : Rect S512x128 := Rect.unit (s := S512x128) ![0, 0] S512x128.size inb_S512x128_S512x128_0_0
abbrev r0_11 : Rect S1024x1024 := Rect.unit (s := S1024x1024) ![0, 0] S1024x1024.size inb_S1024x1024_S1024x1024_0_0

def k0_pay16 (x0 : Vec F S512x1024 .f32) (x1 : Vec F S1x1024 .f32) (x2 : Vec F S1024x384 .bf16) (x3 : Vec F S1024x256 .bf16) (x4 : Vec F S1024x128 .bf16) (x5 : Vec F S1024x1024 .bf16) (x6 : Vec F S1024x1024 .bf16) (x7 : Vec F S1024x1024 .bf16) (x8 : Vec F S1024x1024 .bf16) (x9 : Vec F S1x384 .f32) (x10 : Vec F S1x256 .f32) (x11 : Vec F S1x128 .f32) (x12 : Vec F S1x1024 .f32) (x13 : Vec F S512x128 .f32) (x14 : Vec F S512x128 .f32) (x15 : Vec F S512x128 .f32) : FVec F S512x1024 .bf16 :=
  k0_pay4 (View.ld x0 r0_0) (View.ld x1 r0_1)

def out0_16 (x0 : Vec F S512x1024 .f32) (x1 : Vec F S1x1024 .f32) (x2 : Vec F S1024x384 .bf16) (x3 : Vec F S1024x256 .bf16) (x4 : Vec F S1024x128 .bf16) (x5 : Vec F S1024x1024 .bf16) (x6 : Vec F S1024x1024 .bf16) (x7 : Vec F S1024x1024 .bf16) (x8 : Vec F S1024x1024 .bf16) (x9 : Vec F S1x384 .f32) (x10 : Vec F S1x256 .f32) (x11 : Vec F S1x128 .f32) (x12 : Vec F S1x1024 .f32) (x13 : Vec F S512x128 .f32) (x14 : Vec F S512x128 .f32) (x15 : Vec F S512x128 .f32) : Vec F S512x384 .bf16 :=
  View.canon [⟨r0_4, k0_pay5 (View.ld x0 r0_0) (View.ld x1 r0_1) (View.ld x2 r0_2) (View.ld x9 r0_3)⟩]

theorem cover0_16 (p0 : Vec F S512x384 .bf16) (y : S512x384.Idx) :
    ∃ pc ∈ ([⟨r0_4, p0⟩] : List (View.Piece (Elt F) S512x384 .bf16)), y ∈ pc.1.set :=
  View.cover_of_tiled [⟨r0_4, p0⟩] S512x384.size (by rfl) y

def out0_17 (x0 : Vec F S512x1024 .f32) (x1 : Vec F S1x1024 .f32) (x2 : Vec F S1024x384 .bf16) (x3 : Vec F S1024x256 .bf16) (x4 : Vec F S1024x128 .bf16) (x5 : Vec F S1024x1024 .bf16) (x6 : Vec F S1024x1024 .bf16) (x7 : Vec F S1024x1024 .bf16) (x8 : Vec F S1024x1024 .bf16) (x9 : Vec F S1x384 .f32) (x10 : Vec F S1x256 .f32) (x11 : Vec F S1x128 .f32) (x12 : Vec F S1x1024 .f32) (x13 : Vec F S512x128 .f32) (x14 : Vec F S512x128 .f32) (x15 : Vec F S512x128 .f32) : Vec F S512x256 .f32 :=
  View.canon [⟨r0_7, k0_pay7 (k0_pay16 x0 x1 x2 x3 x4 x5 x6 x7 x8 x9 x10 x11 x12 x13 x14 x15) (k0_pay6 (View.ld x3 r0_5)) (constant S512x256 .f32 0x00000000#32) (View.ld x10 r0_6)⟩]

theorem cover0_17 (p0 : Vec F S512x256 .f32) (y : S512x256.Idx) :
    ∃ pc ∈ ([⟨r0_7, p0⟩] : List (View.Piece (Elt F) S512x256 .f32)), y ∈ pc.1.set :=
  View.cover_of_tiled [⟨r0_7, p0⟩] S512x256.size (by rfl) y

def out0_18 (x0 : Vec F S512x1024 .f32) (x1 : Vec F S1x1024 .f32) (x2 : Vec F S1024x384 .bf16) (x3 : Vec F S1024x256 .bf16) (x4 : Vec F S1024x128 .bf16) (x5 : Vec F S1024x1024 .bf16) (x6 : Vec F S1024x1024 .bf16) (x7 : Vec F S1024x1024 .bf16) (x8 : Vec F S1024x1024 .bf16) (x9 : Vec F S1x384 .f32) (x10 : Vec F S1x256 .f32) (x11 : Vec F S1x128 .f32) (x12 : Vec F S1x1024 .f32) (x13 : Vec F S512x128 .f32) (x14 : Vec F S512x128 .f32) (x15 : Vec F S512x128 .f32) : Vec F S512x128 .f32 :=
  View.canon [⟨r0_10, k0_pay11 (k0_pay8 (k0_pay16 x0 x1 x2 x3 x4 x5 x6 x7 x8 x9 x10 x11 x12 x13 x14 x15) (View.ld x4 r0_8) (View.ld x11 r0_9)) (k0_pay9 (View.ld x13 r0_10)) (k0_pay10 (View.ld x14 r0_10)) (View.ld x15 r0_10)⟩]

theorem cover0_18 (p0 : Vec F S512x128 .f32) (y : S512x128.Idx) :
    ∃ pc ∈ ([⟨r0_10, p0⟩] : List (View.Piece (Elt F) S512x128 .f32)), y ∈ pc.1.set :=
  View.cover_of_tiled [⟨r0_10, p0⟩] S512x128.size (by rfl) y

def out0_19 (x0 : Vec F S512x1024 .f32) (x1 : Vec F S1x1024 .f32) (x2 : Vec F S1024x384 .bf16) (x3 : Vec F S1024x256 .bf16) (x4 : Vec F S1024x128 .bf16) (x5 : Vec F S1024x1024 .bf16) (x6 : Vec F S1024x1024 .bf16) (x7 : Vec F S1024x1024 .bf16) (x8 : Vec F S1024x1024 .bf16) (x9 : Vec F S1x384 .f32) (x10 : Vec F S1x256 .f32) (x11 : Vec F S1x128 .f32) (x12 : Vec F S1x1024 .f32) (x13 : Vec F S512x128 .f32) (x14 : Vec F S512x128 .f32) (x15 : Vec F S512x128 .f32) : Vec F S512x1024 .bf16 :=
  View.canon [⟨r0_0, k0_pay12 (k0_pay16 x0 x1 x2 x3 x4 x5 x6 x7 x8 x9 x10 x11 x12 x13 x14 x15) (View.ld x5 r0_11)⟩]

theorem cover0_19 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

def out0_20 (x0 : Vec F S512x1024 .f32) (x1 : Vec F S1x1024 .f32) (x2 : Vec F S1024x384 .bf16) (x3 : Vec F S1024x256 .bf16) (x4 : Vec F S1024x128 .bf16) (x5 : Vec F S1024x1024 .bf16) (x6 : Vec F S1024x1024 .bf16) (x7 : Vec F S1024x1024 .bf16) (x8 : Vec F S1024x1024 .bf16) (x9 : Vec F S1x384 .f32) (x10 : Vec F S1x256 .f32) (x11 : Vec F S1x128 .f32) (x12 : Vec F S1x1024 .f32) (x13 : Vec F S512x128 .f32) (x14 : Vec F S512x128 .f32) (x15 : Vec F S512x128 .f32) : Vec F S512x1024 .bf16 :=
  View.canon [⟨r0_0, k0_pay1 (k0_pay13 (k0_pay16 x0 x1 x2 x3 x4 x5 x6 x7 x8 x9 x10 x11 x12 x13 x14 x15) (View.ld x6 r0_11)) (k0_pay14 (View.ld x12 r0_1)) (k0_pay15 (k0_pay16 x0 x1 x2 x3 x4 x5 x6 x7 x8 x9 x10 x11 x12 x13 x14 x15) (View.ld x6 r0_11))⟩]

theorem cover0_20 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

def out0_21 (x0 : Vec F S512x1024 .f32) (x1 : Vec F S1x1024 .f32) (x2 : Vec F S1024x384 .bf16) (x3 : Vec F S1024x256 .bf16) (x4 : Vec F S1024x128 .bf16) (x5 : Vec F S1024x1024 .bf16) (x6 : Vec F S1024x1024 .bf16) (x7 : Vec F S1024x1024 .bf16) (x8 : Vec F S1024x1024 .bf16) (x9 : Vec F S1x384 .f32) (x10 : Vec F S1x256 .f32) (x11 : Vec F S1x128 .f32) (x12 : Vec F S1x1024 .f32) (x13 : Vec F S512x128 .f32) (x14 : Vec F S512x128 .f32) (x15 : Vec F S512x128 .f32) : Vec F S512x1024 .bf16 :=
  View.canon [⟨r0_0, k0_pay2 (k0_pay16 x0 x1 x2 x3 x4 x5 x6 x7 x8 x9 x10 x11 x12 x13 x14 x15) (View.ld x7 r0_11)⟩]

theorem cover0_21 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

def out0_22 (x0 : Vec F S512x1024 .f32) (x1 : Vec F S1x1024 .f32) (x2 : Vec F S1024x384 .bf16) (x3 : Vec F S1024x256 .bf16) (x4 : Vec F S1024x128 .bf16) (x5 : Vec F S1024x1024 .bf16) (x6 : Vec F S1024x1024 .bf16) (x7 : Vec F S1024x1024 .bf16) (x8 : Vec F S1024x1024 .bf16) (x9 : Vec F S1x384 .f32) (x10 : Vec F S1x256 .f32) (x11 : Vec F S1x128 .f32) (x12 : Vec F S1x1024 .f32) (x13 : Vec F S512x128 .f32) (x14 : Vec F S512x128 .f32) (x15 : Vec F S512x128 .f32) : Vec F S512x1024 .bf16 :=
  View.canon [⟨r0_0, k0_pay3 (k0_pay16 x0 x1 x2 x3 x4 x5 x6 x7 x8 x9 x10 x11 x12 x13 x14 x15) (View.ld x8 r0_11)⟩]

theorem cover0_22 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
/-- The body, run on its windows' buffers, leaves in each output's buffer the stated value of the inputs'. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x384 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x384 .f32) (harg10 : arg10.IsWhole) (arg11 : Memref sig .tc .vmem S1x256 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x384 .bf16) (harg17 : arg17.IsWhole) (arg18 : Memref sig .tc .vmem S512x256 .f32) (harg18 : arg18.IsWhole) (arg19 : Memref sig .tc .vmem S512x128 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole)
    (x0 : Vec F S512x1024 .f32) (x1 : Vec F S1x1024 .f32) (x2 : Vec F S1024x384 .bf16) (x3 : Vec F S1024x256 .bf16) (x4 : Vec F S1024x128 .bf16) (x5 : Vec F S1024x1024 .bf16) (x6 : Vec F S1024x1024 .bf16) (x7 : Vec F S1024x1024 .bf16) (x8 : Vec F S1024x1024 .bf16) (x9 : Vec F S1x384 .f32) (x10 : Vec F S1x256 .f32) (x11 : Vec F S1x128 .f32) (x12 : Vec F S1x1024 .f32) (x13 : Vec F S512x128 .f32) (x14 : Vec F S512x128 .f32) (x15 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15) ∗ owns (c : Thread nD τ) arg18 fullShare (out0_17 x0 x1 x2 x3 x4 x5 x6 x7 x8 x9 x10 x11 x12 x13 x14 x15) ∗ owns (c : Thread nD τ) arg19 fullShare (out0_18 x0 x1 x2 x3 x4 x5 x6 x7 x8 x9 x10 x11 x12 x13 x14 x15) ∗ owns (c : Thread nD τ) arg20 fullShare (out0_19 x0 x1 x2 x3 x4 x5 x6 x7 x8 x9 x10 x11 x12 x13 x14 x15) ∗ owns (c : Thread nD τ) arg21 fullShare (out0_20 x0 x1 x2 x3 x4 x5 x6 x7 x8 x9 x10 x11 x12 x13 x14 x15) ∗ owns (c : Thread nD τ) arg22 fullShare (out0_21 x0 x1 x2 x3 x4 x5 x6 x7 x8 x9 x10 x11 x12 x13 x14 x15) ∗ owns (c : Thread nD τ) arg23 fullShare (out0_22 x0 x1 x2 x3 x4 x5 x6 x7 x8 x9 x10 x11 x12 x13 x14 x15)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_in_proj_eq_skeleton]; unfold cc0_in_proj_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body, at every step of the grid. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The program runs to its end, its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InKernelIdeal.Gen

end
-- ==== Proof.In.Block.lean ====
module

public import proofs.«01_k».proof.Proof.Gen.InKernelIdeal.Skeleton
public import Idealize.ShloMosaic.Lib.Tactic
public import proofs.«01_k».proof.Proof.Math.Rows
public import Idealize.ShloMosaic.Lib.Pipeline.ValueKit

/-!
# What one step of the input projection computes, at an index
-/

@[expose] public section

set_option maxRecDepth 16384

noncomputable section

namespace Cert.InKernelIdeal.Body

open Cert.InKernelIdeal Cert.InKernelIdeal.Gen Cert.Rows
open Idealize.ShloMosaic Idealize.ShloMosaic.TcCoe Idealize.ShloMosaic.Tactic

abbrev n384 : EReal := Ideal.ofBits .f32 0x43C00000#32
abbrev n256 : EReal := Ideal.ofBits .f32 0x43800000#32
/-- The gate: half of `y`, times one plus the error function of `y` over the square root of two. -/
def gelu (y : EReal) : EReal := (Ideal.ofBits .f32 0x3F000000#32 * y) * (Ideal.ofBits .f32 0x3F800000#32 + Ideal.erf (y * (((Real.sqrt 2)⁻¹ : ℝ) : EReal)))

theorem rows_at (x : FVec Ideal S512x1024 .f32) (g : FVec Ideal S1x1024 .f32) (p : Fin 512) (k : Fin 1024) :
    (k0_pay4 (F := Ideal) x g (ix2 p k) : EReal) = rn n1024 eps (fun l => x (ix2 p l)) (fun l => g (ix2 0 l)) k := by
  unfold k0_pay4
  rw [same, same]
  exact normK x g _ _ _ _ _ _ p k
theorem mat384 (a : FVec Ideal S512x1024 .bf16) (w : FVec Ideal S1024x384 .bf16) (p : Fin 512) (j : Fin 384) :
    ((matmul dot_S512x1024_S1024x384_S512x384_1_0_0_1_n_n none a w (constant (F := Ideal) S512x384 .f32 0x00000000#32) : FVec Ideal S512x384 .f32) (ix2 p j) : EReal)
      = ∑ k : Fin 1024, (a (ix2 p k) * w (ix2 k j) : EReal) := by
  pointwise
theorem mat256 (a : FVec Ideal S512x1024 .bf16) (w : FVec Ideal S1024x256 .bf16) (p : Fin 512) (j : Fin 256) :
    ((matmul dot_S512x1024_S1024x256_S512x256_1_0_0_1_n_n none a w (constant (F := Ideal) S512x256 .f32 0x00000000#32) : FVec Ideal S512x256 .f32) (ix2 p j) : EReal)
      = ∑ k : Fin 1024, (a (ix2 p k) * w (ix2 k j) : EReal) := by
  pointwise
theorem mat128 (a : FVec Ideal S512x1024 .bf16) (w : FVec Ideal S1024x128 .bf16) (p : Fin 512) (j : Fin 128) :
    ((matmul dot_S512x1024_S1024x128_S512x128_1_0_0_1_n_n none a w (constant (F := Ideal) S512x128 .f32 0x00000000#32) : FVec Ideal S512x128 .f32) (ix2 p j) : EReal)
      = ∑ k : Fin 1024, (a (ix2 p k) * w (ix2 k j) : EReal) := by
  pointwise
theorem mat1024 (a : FVec Ideal S512x1024 .bf16) (w : FVec Ideal S1024x1024 .bf16) (p : Fin 512) (j : Fin 1024) :
    ((matmul dot_S512x1024_S1024x1024_S512x1024_1_0_0_1_n_n none a w (constant (F := Ideal) S512x1024 .f32 0x00000000#32) : FVec Ideal S512x1024 .f32) (ix2 p j) : EReal)
      = ∑ k : Fin 1024, (a (ix2 p k) * w (ix2 k j) : EReal) := by
  pointwise
theorem sum_pj (x : FVec Ideal S512x1024 .f32) (g : FVec Ideal S1x1024 .f32) (p : Fin 512) (w : Fin 1024 → EReal) :
    (∑ k : Fin 1024, ((k0_pay4 (F := Ideal) x g (ix2 p k) : EReal) * w k)) = pj (fun l => x (ix2 p l)) (fun l => g (ix2 0 l)) w := by
  unfold pj dot
  exact Finset.sum_congr rfl fun k _ => by rw [rows_at]

/-- A step's compressed queries. -/
theorem cq_at (x : FVec Ideal S512x1024 .f32) (g : FVec Ideal S1x1024 .f32) (w : FVec Ideal S1024x384 .bf16) (gn : FVec Ideal S1x384 .f32) (p : Fin 512) (j : Fin 384) :
    (k0_pay5 (F := Ideal) x g w gn (ix2 p j) : EReal)
      = rn n384 eps (fun l => pj (fun l => x (ix2 p l)) (fun l => g (ix2 0 l)) (fun k => w (ix2 k l))) (fun l => gn (ix2 0 l)) j := by
  unfold k0_pay5
  rw [same, same]
  refine (normK _ gn _ _ _ _ _ _ p j).trans ?_
  refine congrArg (fun f => rn n384 eps f (fun l => gn (ix2 0 l)) j) (funext fun l => ?_)
  exact (mat384 _ w p l).trans (sum_pj x g p _)
/-- A step's compressed keys and values. -/
theorem ckv_at (x : FVec Ideal S512x1024 .f32) (g : FVec Ideal S1x1024 .f32) (w : FVec Ideal S1024x256 .bf16) (gn : FVec Ideal S1x256 .f32) (p : Fin 512) (j : Fin 256) :
    (k0_pay7 (F := Ideal) (k0_pay4 (F := Ideal) x g) (k0_pay6 (F := Ideal) w) (constant S512x256 .f32 0x00000000#32) gn (ix2 p j) : EReal)
      = rn n256 eps (fun l => pj (fun l => x (ix2 p l)) (fun l => g (ix2 0 l)) (fun k => w (ix2 k l))) (fun l => gn (ix2 0 l)) j := by
  unfold k0_pay7 k0_pay6
  rw [same, same]
  refine (normK _ gn _ _ _ _ _ _ p j).trans ?_
  refine congrArg (fun f => rn n256 eps f (fun l => gn (ix2 0 l)) j) (funext fun l => ?_)
  exact (mat256 _ w p l).trans (sum_pj x g p _)
theorem gelu_at (x : FVec Ideal S512x1024 .f32) (g : FVec Ideal S1x1024 .f32) (w : FVec Ideal S1024x1024 .bf16) (p : Fin 512) (j : Fin 1024) :
    (k0_pay13 (F := Ideal) (k0_pay4 (F := Ideal) x g) w (ix2 p j) : EReal)
      = gelu (pj (fun l => x (ix2 p l)) (fun l => g (ix2 0 l)) (fun k => w (ix2 k j))) := by
  unfold k0_pay13
  rw [same]
  rw [← (mat1024 (k0_pay4 (F := Ideal) x g) w p j).trans (sum_pj x g p _)]
  rfl
/-- A step's first gate. -/
theorem u_at (x : FVec Ideal S512x1024 .f32) (g : FVec Ideal S1x1024 .f32) (w : FVec Ideal S1024x1024 .bf16) (p : Fin 512) (j : Fin 1024) :
    (k0_pay12 (F := Ideal) (k0_pay4 (F := Ideal) x g) w (ix2 p j) : EReal)
      = gelu (pj (fun l => x (ix2 p l)) (fun l => g (ix2 0 l)) (fun k => w (ix2 k j))) := gelu_at x g w p j
/-- A step's second gate. -/
theorem vg_at (x : FVec Ideal S512x1024 .f32) (g : FVec Ideal S1x1024 .f32) (w : FVec Ideal S1024x1024 .bf16) (gn : FVec Ideal S1x1024 .f32) (p : Fin 512) (j : Fin 1024) :
    (k0_pay1 (F := Ideal) (k0_pay13 (F := Ideal) (k0_pay4 (F := Ideal) x g) w) (k0_pay14 (F := Ideal) gn) (k0_pay15 (F := Ideal) (k0_pay4 (F := Ideal) x g) w) (ix2 p j) : EReal)
      = rn n1024 eps (fun l => gelu (pj (fun l => x (ix2 p l)) (fun l => g (ix2 0 l)) (fun k => w (ix2 k l)))) (fun l => gn (ix2 0 l)) j := by
  unfold k0_pay1 k0_pay14 k0_pay15
  rw [same]
  refine (normK _ gn _ _ _ _ _ _ p j).trans ?_
  exact congrArg (fun f => rn n1024 eps f (fun l => gn (ix2 0 l)) j) (funext fun l => gelu_at x g w p l)
/-- A step's two mixing weights. -/
theorem siga_at (x : FVec Ideal S512x1024 .f32) (g : FVec Ideal S1x1024 .f32) (w : FVec Ideal S1024x1024 .bf16) (p : Fin 512) (j : Fin 1024) :
    (k0_pay2 (F := Ideal) (k0_pay4 (F := Ideal) x g) w (ix2 p j) : EReal)
      = Ideal.logistic (pj (fun l => x (ix2 p l)) (fun l => g (ix2 0 l)) (fun k => w (ix2 k j))) := by
  unfold k0_pay2
  rw [same]
  rw [← (mat1024 (k0_pay4 (F := Ideal) x g) w p j).trans (sum_pj x g p _)]
  rfl
theorem sigb_at (x : FVec Ideal S512x1024 .f32) (g : FVec Ideal S1x1024 .f32) (w : FVec Ideal S1024x1024 .bf16) (p : Fin 512) (j : Fin 1024) :
    (k0_pay3 (F := Ideal) (k0_pay4 (F := Ideal) x g) w (ix2 p j) : EReal)
      = Ideal.logistic (pj (fun l => x (ix2 p l)) (fun l => g (ix2 0 l)) (fun k => w (ix2 k j))) := siga_at x g w p j

/-- A lane of the shared key before its rotation, with the mean of the squares as a product. -/
def krn (x g : Fin 1024 → EReal) (w : Fin 1024 → Fin 128 → EReal) (gn : Fin 128 → EReal) (j : Fin 128) : EReal :=
  pj x g (fun k => w k j) * Ideal.rsqrt ((∑ l : Fin 128, pj x g (fun k => w k l) * pj x g (fun k => w k l)) * Ideal.ofBits .f32 0x3D000000#32 + eps) * gn j
theorem krn_at (x : FVec Ideal S512x1024 .f32) (g : FVec Ideal S1x1024 .f32) (w : FVec Ideal S1024x128 .bf16) (gn : FVec Ideal S1x128 .f32) (p : Fin 512) (j : Fin 128) :
    (k0_pay8 (F := Ideal) (k0_pay4 (F := Ideal) x g) w gn (ix2 p j) : EReal)
      = krn (fun l => x (ix2 p l)) (fun l => g (ix2 0 l)) (fun k l => w (ix2 k l)) (fun l => gn (ix2 0 l)) j := by
  unfold k0_pay8
  rw [same, same]
  have hm : ∀ l : Fin 128, ((matmul dot_S512x1024_S1024x128_S512x128_1_0_0_1_n_n none (k0_pay4 (F := Ideal) x g) w (constant (F := Ideal) S512x128 .f32 0x00000000#32) : FVec Ideal S512x128 .f32) (ix2 p l) : EReal)
      = pj (fun l => x (ix2 p l)) (fun l => g (ix2 0 l)) (fun k => w (ix2 k l)) := fun l => (mat128 _ w p l).trans (sum_pj x g p _)
  generalize (matmul dot_S512x1024_S1024x128_S512x128_1_0_0_1_n_n none (k0_pay4 (F := Ideal) x g) w (constant (F := Ideal) S512x128 .f32 0x00000000#32) : FVec Ideal S512x128 .f32) = y at hm ⊢
  unfold krn
  rw [show ∀ (a b : FVec Ideal S512x128 .f32) i, mulf a b i = (a i * b i : EReal) from fun _ _ _ => rfl,
    show ∀ (a b : FVec Ideal S512x128 .f32) i, mulf a b i = (a i * b i : EReal) from fun _ _ _ => rfl, colK, rowK,
    show ∀ (a : FVec Ideal S512x1 .f32) i, rsqrt a i = Ideal.rsqrt (a i) from fun _ _ => rfl,
    show ∀ (a b : FVec Ideal S512x1 .f32) i, addf a b i = (a i + b i : EReal) from fun _ _ _ => rfl,
    show ∀ (a b : FVec Ideal S512x1 .f32) i, mulf a b i = (a i * b i : EReal) from fun _ _ _ => rfl, castK, sumK]
  simp only [← hm]
  rfl

/-- The rotation of a block's lanes: by sixteen to the right and by sixteen to the left. -/
theorem right_at (y : FVec Ideal S512x128 .f32) (p : Fin 512) (j : Fin 128) (h : 16 ≤ j.val) :
    (dynamicRotate 1 16#32 none y rotates_S512x128_d1 (ix2 p j) : EReal) = y (ix2 p (⟨j.val - 16, by omega⟩ : Fin 128)) := by
  pointwise
  exact congrArg y (congrArg (ix2 p) (Fin.ext (by show (j.val + 128 - 16) % 128 = j.val - 16; omega)))
theorem left_at (y : FVec Ideal S512x128 .f32) (p : Fin 512) (j : Fin 128) (h : j.val < 112) :
    (dynamicRotate 1 112#32 none y rotates_S512x128_d1 (ix2 p j) : EReal) = y (ix2 p (⟨j.val + 16, by omega⟩ : Fin 128)) := by
  pointwise
  exact congrArg y (congrArg (ix2 p) (Fin.ext (by show (j.val + 128 - 112) % 128 = j.val + 16; omega)))
/-- A lane of the shared key, rotated by its position. -/
theorem kr_at (y c u d : FVec Ideal S512x128 .f32) (p : Fin 512) (j : Fin 128) (h : 16 ≤ j.val) (h' : j.val < 112) :
    (k0_pay11 (F := Ideal) y (k0_pay9 (F := Ideal) c) (k0_pay10 (F := Ideal) u) d (ix2 p j) : EReal)
      = y (ix2 p j) * c (ix2 p j) + y (ix2 p (⟨j.val - 16, by omega⟩ : Fin 128)) * u (ix2 p j) + y (ix2 p (⟨j.val + 16, by omega⟩ : Fin 128)) * d (ix2 p j) := by
  unfold k0_pay11 k0_pay9 k0_pay10
  rw [same, same, same, ← right_at y p j h, ← left_at y p j h']
  rfl

end Cert.InKernelIdeal.Body

end
-- ==== Proof.In.Final.lean ====
module

public import proofs.«01_k».proof.Proof.In.FrameI
public import proofs.«01_k».proof.Proof.In.Block

/-!
# What the input projection's run leaves in its seven result arrays, from the call's operands
-/

@[expose] public section

set_option maxRecDepth 16384

noncomputable section

namespace Cert.InKernelIdeal.Body

open Cert.InKernelIdeal Cert.InKernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-- The normalized projection of every row. -/
def cqA (x : FVec Ideal S16384x1024 .f32) (g : FVec Ideal S1x1024 .f32) (w : FVec Ideal S1024x384 .bf16) (gn : FVec Ideal S1x384 .f32) : FVec Ideal S16384x384 .bf16 :=
  fun y => rn n384 eps (fun l => pj (fun l => x (ix2 (y 0) l)) (fun l => g (ix2 0 l)) (fun k => w (ix2 k l))) (fun l => gn (ix2 0 l)) (y 1)
def ckvA (x : FVec Ideal S16384x1024 .f32) (g : FVec Ideal S1x1024 .f32) (w : FVec Ideal S1024x256 .bf16) (gn : FVec Ideal S1x256 .f32) : FVec Ideal S16384x256 .f32 :=
  fun y => rn n256 eps (fun l => pj (fun l => x (ix2 (y 0) l)) (fun l => g (ix2 0 l)) (fun k => w (ix2 k l))) (fun l => gn (ix2 0 l)) (y 1)
/-- The gate of every row's projection. -/
def uA (x : FVec Ideal S16384x1024 .f32) (g : FVec Ideal S1x1024 .f32) (w : FVec Ideal S1024x1024 .bf16) : FVec Ideal S16384x1024 .bf16 :=
  fun y => gelu (pj (fun l => x (ix2 (y 0) l)) (fun l => g (ix2 0 l)) (fun k => w (ix2 k (y 1))))
/-- The normalized gate of every row's projection. -/
def vgA (x : FVec Ideal S16384x1024 .f32) (g : FVec Ideal S1x1024 .f32) (w : FVec Ideal S1024x1024 .bf16) (gn : FVec Ideal S1x1024 .f32) : FVec Ideal S16384x1024 .bf16 :=
  fun y => rn n1024 eps (fun l => gelu (pj (fun l => x (ix2 (y 0) l)) (fun l => g (ix2 0 l)) (fun k => w (ix2 k l)))) (fun l => gn (ix2 0 l)) (y 1)
/-- The logistic of every row's projection. -/
def sigA (x : FVec Ideal S16384x1024 .f32) (g : FVec Ideal S1x1024 .f32) (w : FVec Ideal S1024x1024 .bf16) : FVec Ideal S16384x1024 .bf16 :=
  fun y => Ideal.logistic (pj (fun l => x (ix2 (y 0) l)) (fun l => g (ix2 0 l)) (fun k => w (ix2 k (y 1))))
/-- The rotated key of one row at one lane, from its table entries. -/
def krL (x g : Fin 1024 → EReal) (w : Fin 1024 → Fin 128 → EReal) (gn : Fin 128 → EReal) (c u d : EReal) (j : Fin 128) : EReal :=
  krn x g w gn j * c + krn x g w gn (⟨(j.val + 112) % 128, by omega⟩ : Fin 128) * u + krn x g w gn (⟨(j.val + 16) % 128, by omega⟩ : Fin 128) * d
/-- The table row of a row: its position in its sequence. -/
def posOf (r : Fin 16384) : Fin 4096 := ⟨r.val % 4096, by omega⟩
/-- The rotated key of every row. -/
def krA (x : FVec Ideal S16384x1024 .f32) (g : FVec Ideal S1x1024 .f32) (w : FVec Ideal S1024x128 .bf16) (gn : FVec Ideal S1x128 .f32) (c u d : FVec Ideal S4096x128 .f32) : FVec Ideal S16384x128 .f32 :=
  fun y => krL (fun l => x (ix2 (y 0) l)) (fun l => g (ix2 0 l)) (fun k l => w (ix2 k l)) (fun l => gn (ix2 0 l))
    (c (ix2 (posOf (y 0)) (y 1))) (u (ix2 (posOf (y 0)) (y 1))) (d (ix2 (posOf (y 0)) (y 1))) (y 1)

theorem rot16 (y : FVec Ideal S512x128 .f32) (p : Fin 512) (j : Fin 128) :
    (dynamicRotate 1 16#32 none y rotates_S512x128_d1 (ix2 p j) : EReal) = y (ix2 p (⟨(j.val + 112) % 128, by omega⟩ : Fin 128)) := by
  pointwise
  exact congrArg y (congrArg (ix2 p) (Fin.ext (by show (j.val + 128 - 16) % 128 = (j.val + 112) % 128; omega)))
theorem rot112 (y : FVec Ideal S512x128 .f32) (p : Fin 512) (j : Fin 128) :
    (dynamicRotate 1 112#32 none y rotates_S512x128_d1 (ix2 p j) : EReal) = y (ix2 p (⟨(j.val + 16) % 128, by omega⟩ : Fin 128)) := by
  pointwise
  exact congrArg y (congrArg (ix2 p) (Fin.ext (by show (j.val + 128 - 112) % 128 = (j.val + 16) % 128; omega)))
theorem krL_at (y c u d : FVec Ideal S512x128 .f32) (p : Fin 512) (j : Fin 128) :
    (k0_pay11 (F := Ideal) y (k0_pay9 (F := Ideal) c) (k0_pay10 (F := Ideal) u) d (ix2 p j) : EReal)
      = y (ix2 p j) * c (ix2 p j) + y (ix2 p (⟨(j.val + 112) % 128, by omega⟩ : Fin 128)) * u (ix2 p j) + y (ix2 p (⟨(j.val + 16) % 128, by omega⟩ : Fin 128)) * d (ix2 p j) := by
  unfold k0_pay11 k0_pay9 k0_pay10
  rw [same, same, same, ← rot16 y p j, ← rot112 y p j]
  rfl
theorem krG_at (x : FVec Ideal S512x1024 .f32) (g : FVec Ideal S1x1024 .f32) (w : FVec Ideal S1024x128 .bf16) (gn : FVec Ideal S1x128 .f32) (c u d : FVec Ideal S512x128 .f32) (p : Fin 512) (j : Fin 128) :
    (k0_pay11 (F := Ideal) (k0_pay8 (F := Ideal) (k0_pay4 (F := Ideal) x g) w gn) (k0_pay9 (F := Ideal) c) (k0_pay10 (F := Ideal) u) d (ix2 p j) : EReal)
      = krL (fun l => x (ix2 p l)) (fun l => g (ix2 0 l)) (fun k l => w (ix2 k l)) (fun l => gn (ix2 0 l)) (c (ix2 p j)) (u (ix2 p j)) (d (ix2 p j)) j := by
  rw [krL_at, krn_at, krn_at, krn_at]
  rfl

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![(grid0.coords t 0).val % 8, 0] := (by decide +kernel : ∀ t : Fin grid0.N, _)
theorem idx14 : ∀ t : Fin cfg0.N, win0_14.index t = ![(grid0.coords t 0).val % 8, 0] := (by decide +kernel : ∀ t : Fin grid0.N, _)
theorem idx15 : ∀ t : Fin cfg0.N, win0_15.index t = ![(grid0.coords t 0).val % 8, 0] := (by decide +kernel : ∀ t : Fin grid0.N, _)
theorem idx16 : ∀ t : Fin cfg0.N, win0_16.index t = ![(grid0.coords t 0).val, 0] := (by decide +kernel : ∀ t : Fin grid0.N, _)
theorem idx17 : ∀ t : Fin cfg0.N, win0_17.index t = ![(grid0.coords t 0).val, 0] := (by decide +kernel : ∀ t : Fin grid0.N, _)
theorem idx18 : ∀ t : Fin cfg0.N, win0_18.index t = ![(grid0.coords t 0).val, 0] := (by decide +kernel : ∀ t : Fin grid0.N, _)
theorem idx19 : ∀ t : Fin cfg0.N, win0_19.index t = ![(grid0.coords t 0).val, 0] := (by decide +kernel : ∀ t : Fin grid0.N, _)
theorem idx20 : ∀ t : Fin cfg0.N, win0_20.index t = ![(grid0.coords t 0).val, 0] := (by decide +kernel : ∀ t : Fin grid0.N, _)
theorem idx21 : ∀ t : Fin cfg0.N, win0_21.index t = ![(grid0.coords t 0).val, 0] := (by decide +kernel : ∀ t : Fin grid0.N, _)
theorem idx22 : ∀ t : Fin cfg0.N, win0_22.index t = ![(grid0.coords t 0).val, 0] := (by decide +kernel : ∀ t : Fin grid0.N, _)

theorem blk0 (c : Dev nD) (t : Fin cfg0.N) (p : Fin 512) (r : Fin 16384) (hr : r.val = (grid0.coords t 0).val * 512 + p.val) (l : Fin 1024) :
    (iblk m c 0 t : Vec Ideal S512x1024 .f32) (ix2 p l) = (V m c main_v62 : Vec Ideal S16384x1024 .f32) (ix2 r l) := by
  blk_point [iblk, V, idx0 t]
theorem blk1 (c : Dev nD) (t : Fin cfg0.N) : (iblk m c 1 t : Vec Ideal S1x1024 .f32) = V m c main_v2 := by
  funext y
  blk_ext [iblk, V, idx1 t]
theorem blk2 (c : Dev nD) (t : Fin cfg0.N) : (iblk m c 2 t : Vec Ideal S1024x384 .bf16) = V m c main_v5 := by
  funext y
  blk_ext [iblk, V, idx2 t]
theorem blk3 (c : Dev nD) (t : Fin cfg0.N) : (iblk m c 3 t : Vec Ideal S1024x256 .bf16) = V m c main_v8 := by
  funext y
  blk_ext [iblk, V, idx3 t]
theorem blk4 (c : Dev nD) (t : Fin cfg0.N) : (iblk m c 4 t : Vec Ideal S1024x128 .bf16) = V m c main_v12 := by
  funext y
  blk_ext [iblk, V, idx4 t]
theorem blk5 (c : Dev nD) (t : Fin cfg0.N) : (iblk m c 5 t : Vec Ideal S1024x1024 .bf16) = V m c main_v15 := by
  funext y
  blk_ext [iblk, V, idx5 t]
theorem blk6 (c : Dev nD) (t : Fin cfg0.N) : (iblk m c 6 t : Vec Ideal S1024x1024 .bf16) = V m c main_v18 := by
  funext y
  blk_ext [iblk, V, idx6 t]
theorem blk7 (c : Dev nD) (t : Fin cfg0.N) : (iblk m c 7 t : Vec Ideal S1024x1024 .bf16) = V m c main_v21 := by
  funext y
  blk_ext [iblk, V, idx7 t]
theorem blk8 (c : Dev nD) (t : Fin cfg0.N) : (iblk m c 8 t : Vec Ideal S1024x1024 .bf16) = V m c main_v24 := by
  funext y
  blk_ext [iblk, V, idx8 t]
theorem blk9 (c : Dev nD) (t : Fin cfg0.N) : (iblk m c 9 t : Vec Ideal S1x384 .f32) = V m c main_v26 := by
  funext y
  blk_ext [iblk, V, idx9 t]
theorem blk10 (c : Dev nD) (t : Fin cfg0.N) : (iblk m c 10 t : Vec Ideal S1x256 .f32) = V m c main_v28 := by
  funext y
  blk_ext [iblk, V, idx10 t]
theorem blk11 (c : Dev nD) (t : Fin cfg0.N) : (iblk m c 11 t : Vec Ideal S1x128 .f32) = V m c main_v32 := by
  funext y
  blk_ext [iblk, V, idx11 t]
theorem blk12 (c : Dev nD) (t : Fin cfg0.N) : (iblk m c 12 t : Vec Ideal S1x1024 .f32) = V m c main_v34 := by
  funext y
  blk_ext [iblk, V, idx12 t]
theorem blk13 (c : Dev nD) (t : Fin cfg0.N) (p : Fin 512) (r : Fin 16384) (hr : r.val = (grid0.coords t 0).val * 512 + p.val) (l : Fin 128) :
    (iblk m c 13 t : Vec Ideal S512x128 .f32) (ix2 p l) = (V m c main_v54 : Vec Ideal S4096x128 .f32) (ix2 (posOf r) l) := by
  have hp : (posOf r).val = (grid0.coords t 0).val % 8 * 512 + p.val := by
    show r.val % 4096 = _
    omega
  blk_point [iblk, V, idx13 t]
theorem blk14 (c : Dev nD) (t : Fin cfg0.N) (p : Fin 512) (r : Fin 16384) (hr : r.val = (grid0.coords t 0).val * 512 + p.val) (l : Fin 128) :
    (iblk m c 14 t : Vec Ideal S512x128 .f32) (ix2 p l) = (V m c main_v57 : Vec Ideal S4096x128 .f32) (ix2 (posOf r) l) := by
  have hp : (posOf r).val = (grid0.coords t 0).val % 8 * 512 + p.val := by
    show r.val % 4096 = _
    omega
  blk_point [iblk, V, idx14 t]
theorem blk15 (c : Dev nD) (t : Fin cfg0.N) (p : Fin 512) (r : Fin 16384) (hr : r.val = (grid0.coords t 0).val * 512 + p.val) (l : Fin 128) :
    (iblk m c 15 t : Vec Ideal S512x128 .f32) (ix2 p l) = (V m c main_v61 : Vec Ideal S4096x128 .f32) (ix2 (posOf r) l) := by
  have hp : (posOf r).val = (grid0.coords t 0).val % 8 * 512 + p.val := by
    show r.val % 4096 = _
    omega
  blk_point [iblk, V, idx15 t]

theorem out16_eq (x0 : Vec Ideal S512x1024 .f32) (x1 : Vec Ideal S1x1024 .f32) (x2 : Vec Ideal S1024x384 .bf16) (x3 : Vec Ideal S1024x256 .bf16) (x4 : Vec Ideal S1024x128 .bf16) (x5 : Vec Ideal S1024x1024 .bf16) (x6 : Vec Ideal S1024x1024 .bf16) (x7 : Vec Ideal S1024x1024 .bf16) (x8 : Vec Ideal S1024x1024 .bf16) (x9 : Vec Ideal S1x384 .f32) (x10 : Vec Ideal S1x256 .f32) (x11 : Vec Ideal S1x128 .f32) (x12 : Vec Ideal S1x1024 .f32) (x13 : Vec Ideal S512x128 .f32) (x14 : Vec Ideal S512x128 .f32) (x15 : Vec Ideal S512x128 .f32) :
    out0_16 (F := Ideal) x0 x1 x2 x3 x4 x5 x6 x7 x8 x9 x10 x11 x12 x13 x14 x15 = k0_pay5 (F := Ideal) x0 x1 x2 x9 := by
  unfold out0_16
  rw [View.canon_cons_unit_lit _ _ _ (by decide)]

  rw [View.ld_unit_lit _ _ (by decide), View.ld_unit_lit _ _ (by decide), View.ld_unit_lit _ _ (by decide), View.ld_unit_lit _ _ (by decide)]
theorem out17_eq (x0 : Vec Ideal S512x1024 .f32) (x1 : Vec Ideal S1x1024 .f32) (x2 : Vec Ideal S1024x384 .bf16) (x3 : Vec Ideal S1024x256 .bf16) (x4 : Vec Ideal S1024x128 .bf16) (x5 : Vec Ideal S1024x1024 .bf16) (x6 : Vec Ideal S1024x1024 .bf16) (x7 : Vec Ideal S1024x1024 .bf16) (x8 : Vec Ideal S1024x1024 .bf16) (x9 : Vec Ideal S1x384 .f32) (x10 : Vec Ideal S1x256 .f32) (x11 : Vec Ideal S1x128 .f32) (x12 : Vec Ideal S1x1024 .f32) (x13 : Vec Ideal S512x128 .f32) (x14 : Vec Ideal S512x128 .f32) (x15 : Vec Ideal S512x128 .f32) :
    out0_17 (F := Ideal) x0 x1 x2 x3 x4 x5 x6 x7 x8 x9 x10 x11 x12 x13 x14 x15 = k0_pay7 (F := Ideal) (k0_pay4 (F := Ideal) x0 x1) (k0_pay6 (F := Ideal) x3) (constant S512x256 .f32 0x00000000#32) x10 := by
  unfold out0_17
  rw [View.canon_cons_unit_lit _ _ _ (by decide)]
  unfold k0_pay16
  rw [View.ld_unit_lit _ _ (by decide), View.ld_unit_lit _ _ (by decide), View.ld_unit_lit _ _ (by decide), View.ld_unit_lit _ _ (by decide)]
theorem out18_eq (x0 : Vec Ideal S512x1024 .f32) (x1 : Vec Ideal S1x1024 .f32) (x2 : Vec Ideal S1024x384 .bf16) (x3 : Vec Ideal S1024x256 .bf16) (x4 : Vec Ideal S1024x128 .bf16) (x5 : Vec Ideal S1024x1024 .bf16) (x6 : Vec Ideal S1024x1024 .bf16) (x7 : Vec Ideal S1024x1024 .bf16) (x8 : Vec Ideal S1024x1024 .bf16) (x9 : Vec Ideal S1x384 .f32) (x10 : Vec Ideal S1x256 .f32) (x11 : Vec Ideal S1x128 .f32) (x12 : Vec Ideal S1x1024 .f32) (x13 : Vec Ideal S512x128 .f32) (x14 : Vec Ideal S512x128 .f32) (x15 : Vec Ideal S512x128 .f32) :
    out0_18 (F := Ideal) x0 x1 x2 x3 x4 x5 x6 x7 x8 x9 x10 x11 x12 x13 x14 x15 = k0_pay11 (F := Ideal) (k0_pay8 (F := Ideal) (k0_pay4 (F := Ideal) x0 x1) x4 x11) (k0_pay9 (F := Ideal) x13) (k0_pay10 (F := Ideal) x14) x15 := by
  unfold out0_18
  rw [View.canon_cons_unit_lit _ _ _ (by decide)]
  unfold k0_pay16
  rw [View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
theorem out19_eq (x0 : Vec Ideal S512x1024 .f32) (x1 : Vec Ideal S1x1024 .f32) (x2 : Vec Ideal S1024x384 .bf16) (x3 : Vec Ideal S1024x256 .bf16) (x4 : Vec Ideal S1024x128 .bf16) (x5 : Vec Ideal S1024x1024 .bf16) (x6 : Vec Ideal S1024x1024 .bf16) (x7 : Vec Ideal S1024x1024 .bf16) (x8 : Vec Ideal S1024x1024 .bf16) (x9 : Vec Ideal S1x384 .f32) (x10 : Vec Ideal S1x256 .f32) (x11 : Vec Ideal S1x128 .f32) (x12 : Vec Ideal S1x1024 .f32) (x13 : Vec Ideal S512x128 .f32) (x14 : Vec Ideal S512x128 .f32) (x15 : Vec Ideal S512x128 .f32) :
    out0_19 (F := Ideal) x0 x1 x2 x3 x4 x5 x6 x7 x8 x9 x10 x11 x12 x13 x14 x15 = k0_pay12 (F := Ideal) (k0_pay4 (F := Ideal) x0 x1) x5 := by
  unfold out0_19
  rw [View.canon_cons_unit_lit _ _ _ (by decide)]
  unfold k0_pay16
  rw [View.ld_unit_lit _ _ (by decide), View.ld_unit_lit _ _ (by decide), View.ld_unit_lit _ _ (by decide)]
theorem out20_eq (x0 : Vec Ideal S512x1024 .f32) (x1 : Vec Ideal S1x1024 .f32) (x2 : Vec Ideal S1024x384 .bf16) (x3 : Vec Ideal S1024x256 .bf16) (x4 : Vec Ideal S1024x128 .bf16) (x5 : Vec Ideal S1024x1024 .bf16) (x6 : Vec Ideal S1024x1024 .bf16) (x7 : Vec Ideal S1024x1024 .bf16) (x8 : Vec Ideal S1024x1024 .bf16) (x9 : Vec Ideal S1x384 .f32) (x10 : Vec Ideal S1x256 .f32) (x11 : Vec Ideal S1x128 .f32) (x12 : Vec Ideal S1x1024 .f32) (x13 : Vec Ideal S512x128 .f32) (x14 : Vec Ideal S512x128 .f32) (x15 : Vec Ideal S512x128 .f32) :
    out0_20 (F := Ideal) x0 x1 x2 x3 x4 x5 x6 x7 x8 x9 x10 x11 x12 x13 x14 x15 = k0_pay1 (F := Ideal) (k0_pay13 (F := Ideal) (k0_pay4 (F := Ideal) x0 x1) x6) (k0_pay14 (F := Ideal) x12) (k0_pay15 (F := Ideal) (k0_pay4 (F := Ideal) x0 x1) x6) := by
  unfold out0_20
  rw [View.canon_cons_unit_lit _ _ _ (by decide)]
  unfold k0_pay16
  rw [View.ld_unit_lit _ _ (by decide), View.ld_unit_lit _ _ (by decide), View.ld_unit_lit _ _ (by decide), View.ld_unit_lit _ _ (by decide)]
theorem out21_eq (x0 : Vec Ideal S512x1024 .f32) (x1 : Vec Ideal S1x1024 .f32) (x2 : Vec Ideal S1024x384 .bf16) (x3 : Vec Ideal S1024x256 .bf16) (x4 : Vec Ideal S1024x128 .bf16) (x5 : Vec Ideal S1024x1024 .bf16) (x6 : Vec Ideal S1024x1024 .bf16) (x7 : Vec Ideal S1024x1024 .bf16) (x8 : Vec Ideal S1024x1024 .bf16) (x9 : Vec Ideal S1x384 .f32) (x10 : Vec Ideal S1x256 .f32) (x11 : Vec Ideal S1x128 .f32) (x12 : Vec Ideal S1x1024 .f32) (x13 : Vec Ideal S512x128 .f32) (x14 : Vec Ideal S512x128 .f32) (x15 : Vec Ideal S512x128 .f32) :
    out0_21 (F := Ideal) x0 x1 x2 x3 x4 x5 x6 x7 x8 x9 x10 x11 x12 x13 x14 x15 = k0_pay2 (F := Ideal) (k0_pay4 (F := Ideal) x0 x1) x7 := by
  unfold out0_21
  rw [View.canon_cons_unit_lit _ _ _ (by decide)]
  unfold k0_pay16
  rw [View.ld_unit_lit _ _ (by decide), View.ld_unit_lit _ _ (by decide), View.ld_unit_lit _ _ (by decide)]
theorem out22_eq (x0 : Vec Ideal S512x1024 .f32) (x1 : Vec Ideal S1x1024 .f32) (x2 : Vec Ideal S1024x384 .bf16) (x3 : Vec Ideal S1024x256 .bf16) (x4 : Vec Ideal S1024x128 .bf16) (x5 : Vec Ideal S1024x1024 .bf16) (x6 : Vec Ideal S1024x1024 .bf16) (x7 : Vec Ideal S1024x1024 .bf16) (x8 : Vec Ideal S1024x1024 .bf16) (x9 : Vec Ideal S1x384 .f32) (x10 : Vec Ideal S1x256 .f32) (x11 : Vec Ideal S1x128 .f32) (x12 : Vec Ideal S1x1024 .f32) (x13 : Vec Ideal S512x128 .f32) (x14 : Vec Ideal S512x128 .f32) (x15 : Vec Ideal S512x128 .f32) :
    out0_22 (F := Ideal) x0 x1 x2 x3 x4 x5 x6 x7 x8 x9 x10 x11 x12 x13 x14 x15 = k0_pay3 (F := Ideal) (k0_pay4 (F := Ideal) x0 x1) x8 := by
  unfold out0_22
  rw [View.canon_cons_unit_lit _ _ _ (by decide)]
  unfold k0_pay16
  rw [View.ld_unit_lit _ _ (by decide), View.ld_unit_lit _ _ (by decide), View.ld_unit_lit _ _ (by decide)]

theorem final16 (c : Dev nD) : (dats m 0 c).arrAt 16 (cfgs 0).N = cqA (V m c main_v62) (V m c main_v2) (V m c main_v5) (V m c main_v26) := by
  refine (dats m 0 c).arrAt_eq_of_covers 16 _ (by decide +kernel) fun t hf y => ?_
  blk_simp
  rw [after0_16]
  obtain ⟨p, j, rfl⟩ : ∃ (p : Fin 512) (j : Fin 384), y = (ix2 p j : S512x384.Idx) :=
    ⟨y 0, y 1, by funext a; match a with | ⟨0, _⟩ => rfl | ⟨1, _⟩ => rfl⟩
  have h0 : (((win0_16.blk t).view.emb (ix2 p j : S512x384.Idx) : S16384x384.Idx) 0).val = (grid0.coords t 0).val * 512 + p.val := by
    blk_simp [idx16 t]
  have h1 : (((win0_16.blk t).view.emb (ix2 p j : S512x384.Idx) : S16384x384.Idx) 1) = j := by
    apply Fin.ext
    blk_simp [idx16 t]
  generalize ((win0_16.blk t).view.emb (ix2 p j : S512x384.Idx) : S16384x384.Idx) = i at h0 h1 ⊢
  rw [out16_eq, blk1, blk2, blk9, cq_at]
  unfold cqA
  subst h1
  simp only [blk0 m c t p (i 0) h0]
theorem final17 (c : Dev nD) : (dats m 0 c).arrAt 17 (cfgs 0).N = ckvA (V m c main_v62) (V m c main_v2) (V m c main_v8) (V m c main_v28) := by
  refine (dats m 0 c).arrAt_eq_of_covers 17 _ (by decide +kernel) fun t hf y => ?_
  blk_simp
  rw [after0_17]
  obtain ⟨p, j, rfl⟩ : ∃ (p : Fin 512) (j : Fin 256), y = (ix2 p j : S512x256.Idx) :=
    ⟨y 0, y 1, by funext a; match a with | ⟨0, _⟩ => rfl | ⟨1, _⟩ => rfl⟩
  have h0 : (((win0_17.blk t).view.emb (ix2 p j : S512x256.Idx) : S16384x256.Idx) 0).val = (grid0.coords t 0).val * 512 + p.val := by
    blk_simp [idx17 t]
  have h1 : (((win0_17.blk t).view.emb (ix2 p j : S512x256.Idx) : S16384x256.Idx) 1) = j := by
    apply Fin.ext
    blk_simp [idx17 t]
  generalize ((win0_17.blk t).view.emb (ix2 p j : S512x256.Idx) : S16384x256.Idx) = i at h0 h1 ⊢
  rw [out17_eq, blk1, blk3, blk10, ckv_at]
  unfold ckvA
  subst h1
  simp only [blk0 m c t p (i 0) h0]
theorem final18 (c : Dev nD) : (dats m 0 c).arrAt 18 (cfgs 0).N = krA (V m c main_v62) (V m c main_v2) (V m c main_v12) (V m c main_v32) (V m c main_v54) (V m c main_v57) (V m c main_v61) := by
  refine (dats m 0 c).arrAt_eq_of_covers 18 _ (by decide +kernel) fun t hf y => ?_
  blk_simp
  rw [after0_18]
  obtain ⟨p, j, rfl⟩ : ∃ (p : Fin 512) (j : Fin 128), y = (ix2 p j : S512x128.Idx) :=
    ⟨y 0, y 1, by funext a; match a with | ⟨0, _⟩ => rfl | ⟨1, _⟩ => rfl⟩
  have h0 : (((win0_18.blk t).view.emb (ix2 p j : S512x128.Idx) : S16384x128.Idx) 0).val = (grid0.coords t 0).val * 512 + p.val := by
    blk_simp [idx18 t]
  have h1 : (((win0_18.blk t).view.emb (ix2 p j : S512x128.Idx) : S16384x128.Idx) 1) = j := by
    apply Fin.ext
    blk_simp [idx18 t]
  generalize ((win0_18.blk t).view.emb (ix2 p j : S512x128.Idx) : S16384x128.Idx) = i at h0 h1 ⊢
  rw [out18_eq, blk1, blk4, blk11, krG_at]
  unfold krA
  subst h1
  simp only [blk0 m c t p (i 0) h0]
  rw [show iblk m c 13 t (ix2 p (i 1)) = V m c main_v54 (ix2 (posOf (i 0)) (i 1)) from blk13 m c t p (i 0) h0 (i 1),
    show iblk m c 14 t (ix2 p (i 1)) = V m c main_v57 (ix2 (posOf (i 0)) (i 1)) from blk14 m c t p (i 0) h0 (i 1),
    show iblk m c 15 t (ix2 p (i 1)) = V m c main_v61 (ix2 (posOf (i 0)) (i 1)) from blk15 m c t p (i 0) h0 (i 1)]
theorem final19 (c : Dev nD) : (dats m 0 c).arrAt 19 (cfgs 0).N = uA (V m c main_v62) (V m c main_v2) (V m c main_v15) := by
  refine (dats m 0 c).arrAt_eq_of_covers 19 _ (by decide +kernel) fun t hf y => ?_
  blk_simp
  rw [after0_19]
  obtain ⟨p, j, rfl⟩ : ∃ (p : Fin 512) (j : Fin 1024), y = (ix2 p j : S512x1024.Idx) :=
    ⟨y 0, y 1, by funext a; match a with | ⟨0, _⟩ => rfl | ⟨1, _⟩ => rfl⟩
  have h0 : (((win0_19.blk t).view.emb (ix2 p j : S512x1024.Idx) : S16384x1024.Idx) 0).val = (grid0.coords t 0).val * 512 + p.val := by
    blk_simp [idx19 t]
  have h1 : (((win0_19.blk t).view.emb (ix2 p j : S512x1024.Idx) : S16384x1024.Idx) 1) = j := by
    apply Fin.ext
    blk_simp [idx19 t]
  generalize ((win0_19.blk t).view.emb (ix2 p j : S512x1024.Idx) : S16384x1024.Idx) = i at h0 h1 ⊢
  rw [out19_eq, blk1, blk5, u_at]
  unfold uA
  subst h1
  simp only [blk0 m c t p (i 0) h0]
theorem final20 (c : Dev nD) : (dats m 0 c).arrAt 20 (cfgs 0).N = vgA (V m c main_v62) (V m c main_v2) (V m c main_v18) (V m c main_v34) := by
  refine (dats m 0 c).arrAt_eq_of_covers 20 _ (by decide +kernel) fun t hf y => ?_
  blk_simp
  rw [after0_20]
  obtain ⟨p, j, rfl⟩ : ∃ (p : Fin 512) (j : Fin 1024), y = (ix2 p j : S512x1024.Idx) :=
    ⟨y 0, y 1, by funext a; match a with | ⟨0, _⟩ => rfl | ⟨1, _⟩ => rfl⟩
  have h0 : (((win0_20.blk t).view.emb (ix2 p j : S512x1024.Idx) : S16384x1024.Idx) 0).val = (grid0.coords t 0).val * 512 + p.val := by
    blk_simp [idx20 t]
  have h1 : (((win0_20.blk t).view.emb (ix2 p j : S512x1024.Idx) : S16384x1024.Idx) 1) = j := by
    apply Fin.ext
    blk_simp [idx20 t]
  generalize ((win0_20.blk t).view.emb (ix2 p j : S512x1024.Idx) : S16384x1024.Idx) = i at h0 h1 ⊢
  rw [out20_eq, blk1, blk6, blk12, vg_at]
  unfold vgA
  subst h1
  simp only [blk0 m c t p (i 0) h0]
theorem final21 (c : Dev nD) : (dats m 0 c).arrAt 21 (cfgs 0).N = sigA (V m c main_v62) (V m c main_v2) (V m c main_v21) := by
  refine (dats m 0 c).arrAt_eq_of_covers 21 _ (by decide +kernel) fun t hf y => ?_
  blk_simp
  rw [after0_21]
  obtain ⟨p, j, rfl⟩ : ∃ (p : Fin 512) (j : Fin 1024), y = (ix2 p j : S512x1024.Idx) :=
    ⟨y 0, y 1, by funext a; match a with | ⟨0, _⟩ => rfl | ⟨1, _⟩ => rfl⟩
  have h0 : (((win0_21.blk t).view.emb (ix2 p j : S512x1024.Idx) : S16384x1024.Idx) 0).val = (grid0.coords t 0).val * 512 + p.val := by
    blk_simp [idx21 t]
  have h1 : (((win0_21.blk t).view.emb (ix2 p j : S512x1024.Idx) : S16384x1024.Idx) 1) = j := by
    apply Fin.ext
    blk_simp [idx21 t]
  generalize ((win0_21.blk t).view.emb (ix2 p j : S512x1024.Idx) : S16384x1024.Idx) = i at h0 h1 ⊢
  rw [out21_eq, blk1, blk7, siga_at]
  unfold sigA
  subst h1
  simp only [blk0 m c t p (i 0) h0]
theorem final22 (c : Dev nD) : (dats m 0 c).arrAt 22 (cfgs 0).N = sigA (V m c main_v62) (V m c main_v2) (V m c main_v24) := by
  refine (dats m 0 c).arrAt_eq_of_covers 22 _ (by decide +kernel) fun t hf y => ?_
  blk_simp
  rw [after0_22]
  obtain ⟨p, j, rfl⟩ : ∃ (p : Fin 512) (j : Fin 1024), y = (ix2 p j : S512x1024.Idx) :=
    ⟨y 0, y 1, by funext a; match a with | ⟨0, _⟩ => rfl | ⟨1, _⟩ => rfl⟩
  have h0 : (((win0_22.blk t).view.emb (ix2 p j : S512x1024.Idx) : S16384x1024.Idx) 0).val = (grid0.coords t 0).val * 512 + p.val := by
    blk_simp [idx22 t]
  have h1 : (((win0_22.blk t).view.emb (ix2 p j : S512x1024.Idx) : S16384x1024.Idx) 1) = j := by
    apply Fin.ext
    blk_simp [idx22 t]
  generalize ((win0_22.blk t).view.emb (ix2 p j : S512x1024.Idx) : S16384x1024.Idx) = i at h0 h1 ⊢
  rw [out22_eq, blk1, blk8, sigb_at]
  unfold sigA
  subst h1
  simp only [blk0 m c t p (i 0) h0]

end Cert.InKernelIdeal.Body

end
-- ==== Proof.In.Spec.lean ====
module

public import proofs.«01_k».proof.Proof.In.Block

/-!
# The input projection's seven results, from the program's arguments
-/

@[expose] public section

set_option maxRecDepth 16384

noncomputable section

namespace Cert.In

open Cert.Rows Cert.InKernelIdeal.Body
open Idealize.ShloMosaic Idealize.ShloMosaic.TcCoe Idealize.ShloMosaic.Tactic

abbrev n32 : EReal := Ideal.ofBits .f32 0x42000000#32

/-- The positions as floats. -/
def posF : FVec Ideal ⟨1, ![4096]⟩ .f32 := sitofp .f32 (iotaInDim ⟨1, ![4096]⟩ 32 0)
/-- The frequencies: ten thousand to the power of minus a sixteenth of the lane. -/
def freqF : FVec Ideal ⟨1, ![16]⟩ .f32 :=
  Host.powf (fun _ => Ideal.ofBits .f32 0x461C4000#32 : FVec Ideal ⟨1, ![16]⟩ .f32)
    (Host.divf (Host.negf (sitofp .f32 (iotaInDim ⟨1, ![16]⟩ 32 0) : FVec Ideal ⟨1, ![16]⟩ .f32)) (fun _ => Ideal.ofBits .f32 0x41800000#32 : FVec Ideal ⟨1, ![16]⟩ .f32))
/-- The angle of a position's lane. -/
def ang (s : Fin 4096) (i : Fin 16) : EReal := (posF (ix1 s) : EReal) * freqF (ix1 i)

/-- A row rotated: the first sixteen lanes against the last sixteen. -/
def ropeL (f : Fin 32 → EReal) (cs sn : Fin 16 → EReal) (q : Fin 32) : EReal :=
  if h : q.val < 16 then f q * cs ⟨q.val, h⟩ - f (⟨q.val + 16, by omega⟩ : Fin 32) * sn ⟨q.val, h⟩
  else f (⟨q.val - 16, by omega⟩ : Fin 32) * sn (⟨q.val - 16, by omega⟩ : Fin 16) + f q * cs (⟨q.val - 16, by omega⟩ : Fin 16)

variable (a0 : FVec Ideal ⟨3, ![4, 4096, 1024]⟩ .f32) (a1 : FVec Ideal ⟨2, ![1, 1024]⟩ .f32) (a2 : FVec Ideal ⟨3, ![1, 1024, 4768]⟩ .f32)

/-- A lane of a position's projection. -/
def yj (b : Fin 4) (s : Fin 4096) (j : Fin 4768) : EReal := pj (fun l => a0 (ix3 b s l)) (fun l => a1 (ix2 0 l)) (fun k => a2 (ix3 0 k j))
/-- The shared key before its rotation. -/
def krR (a5 : FVec Ideal ⟨2, ![1, 32]⟩ .f32) (b : Fin 4) (s : Fin 4096) (q : Fin 32) : EReal :=
  rn n32 eps (fun l : Fin 32 => yj a0 a1 a2 b s (⟨640 + l.val, by omega⟩ : Fin 4768)) (fun l => a5 (ix2 0 l)) q
/-- The compressed queries. -/
def inCq (a3 : FVec Ideal ⟨2, ![1, 384]⟩ .f32) : FVec Ideal ⟨3, ![4, 4096, 384]⟩ .bf16 :=
  fun y => rn n384 eps (fun l : Fin 384 => yj a0 a1 a2 (y 0) (y 1) (⟨l.val, by omega⟩ : Fin 4768)) (fun l => a3 (ix2 0 l)) (y 2)
/-- The compressed keys and values. -/
def inCkv (a4 : FVec Ideal ⟨2, ![1, 256]⟩ .f32) : FVec Ideal ⟨4, ![1, 4, 4096, 256]⟩ .f32 :=
  fun y => rn n256 eps (fun l : Fin 256 => yj a0 a1 a2 (y 1) (y 2) (⟨384 + l.val, by omega⟩ : Fin 4768)) (fun l => a4 (ix2 0 l)) (y 3)
/-- The shared key, rotated. -/
def inKr (a5 : FVec Ideal ⟨2, ![1, 32]⟩ .f32) : FVec Ideal ⟨4, ![1, 4, 4096, 32]⟩ .f32 :=
  fun y => ropeL (fun q => krR a0 a1 a2 a5 (y 1) (y 2) q) (fun i => Ideal.cos (ang (y 2) i)) (fun i => Ideal.sin (ang (y 2) i)) (y 3)
/-- The first gate. -/
def inU : FVec Ideal ⟨3, ![4, 4096, 1024]⟩ .bf16 :=
  fun y => gelu (yj a0 a1 a2 (y 0) (y 1) (⟨672 + (y 2).val, by have h : (y 2).val < 1024 := (y 2).isLt; omega⟩ : Fin 4768))
/-- The second gate, normalized. -/
def inVg (a6 : FVec Ideal ⟨2, ![1, 1024]⟩ .f32) : FVec Ideal ⟨3, ![4, 4096, 1024]⟩ .bf16 :=
  fun y => rn n1024 eps (fun l : Fin 1024 => gelu (yj a0 a1 a2 (y 0) (y 1) (⟨1696 + l.val, by omega⟩ : Fin 4768))) (fun l => a6 (ix2 0 l)) (y 2)
/-- The two mixing weights. -/
def inSa : FVec Ideal ⟨3, ![4, 4096, 1024]⟩ .bf16 :=
  fun y => Ideal.logistic (yj a0 a1 a2 (y 0) (y 1) (⟨2720 + (y 2).val, by have h : (y 2).val < 1024 := (y 2).isLt; omega⟩ : Fin 4768))
def inSb : FVec Ideal ⟨3, ![4, 4096, 1024]⟩ .bf16 :=
  fun y => Ideal.logistic (yj a0 a1 a2 (y 0) (y 1) (⟨3744 + (y 2).val, by have h : (y 2).val < 1024 := (y 2).isLt; omega⟩ : Fin 4768))

/-- A sum over 128 lanes, zero outside the 32 lanes from 64 on. -/
theorem sum_mid (f : Fin 128 → EReal) (hz : ∀ l : Fin 128, l.val < 64 ∨ 96 ≤ l.val → f l = 0) :
    ∑ l : Fin 128, f l = ∑ q : Fin 32, f (⟨64 + q.val, by omega⟩ : Fin 128) := by
  have e : ∑ l : Fin 128, f l = ∑ l : Fin (64 + (32 + 32)), f l := rfl
  rw [e, Fin.sum_univ_add, Fin.sum_univ_add]
  rw [Finset.sum_eq_zero (fun i _ => hz _ (Or.inl (show i.val < 64 from i.isLt))), zero_add]
  rw [Finset.sum_eq_zero (f := fun i : Fin 32 => f (Fin.natAdd 64 (Fin.natAdd 32 i))) (fun i _ => hz _ (Or.inr (show 96 ≤ 64 + (32 + i.val) by omega))), add_zero]
  rfl

theorem div32 (x : EReal) : Ideal.div x n32 = x * Ideal.ofBits .f32 0x3D000000#32 := by
  have e : n32 = ((32 : ℝ) : EReal) := by
    simp [n32, Ideal.ofBits, Ideal.ieee, -EReal.coe_mul]
    norm_num
  have e' : Ideal.ofBits .f32 0x3D000000#32 = ((1 / 32 : ℝ) : EReal) := by
    simp [Ideal.ofBits, Ideal.ieee, -EReal.coe_mul]
    norm_num
  rw [e, e', Ideal.div_coe (by norm_num)]

theorem pj_zero (x g w : Fin 1024 → EReal) (h : ∀ k, w k = 0) : pj x g w = 0 := by
  unfold pj dot
  exact Finset.sum_eq_zero fun k _ => by rw [h, mul_zero]

/-- The kernel's shared key, padded to 128 lanes, at its own 32 lanes. -/
theorem krn_lane (x g : Fin 1024 → EReal) (W : Fin 1024 → Fin 128 → EReal) (w : Fin 1024 → Fin 32 → EReal) (G : Fin 128 → EReal) (gn : Fin 32 → EReal)
    (hW : ∀ k (q : Fin 32), W k (⟨64 + q.val, by omega⟩ : Fin 128) = w k q) (hz : ∀ k (l : Fin 128), l.val < 64 ∨ 96 ≤ l.val → W k l = 0)
    (hG : ∀ q : Fin 32, G (⟨64 + q.val, by omega⟩ : Fin 128) = gn q) (q : Fin 32) :
    krn x g W G (⟨64 + q.val, by omega⟩ : Fin 128) = rn n32 eps (fun l => pj x g (fun k => w k l)) gn q := by
  unfold krn rn
  rw [sum_mid _ (fun l hl => by rw [pj_zero x g (fun k => W k l) (fun k => hz k l hl), mul_zero]), hG, div32]
  simp only [hW]

theorem krL_lane (x g : Fin 1024 → EReal) (W : Fin 1024 → Fin 128 → EReal) (G : Fin 128 → EReal) (f : Fin 32 → EReal) (cs sn : Fin 16 → EReal)
    (hf : ∀ q : Fin 32, krn x g W G (⟨64 + q.val, by omega⟩ : Fin 128) = f q) (q : Fin 32) (c u d : EReal)
    (hc : c = cs (⟨q.val % 16, by omega⟩ : Fin 16)) (hu : u = if 16 ≤ q.val then sn (⟨q.val % 16, by omega⟩ : Fin 16) else 0)
    (hd : d = if 16 ≤ q.val then 0 else -sn (⟨q.val % 16, by omega⟩ : Fin 16)) :
    krn x g W G (⟨64 + q.val, by omega⟩ : Fin 128) * c + krn x g W G (⟨(64 + q.val + 112) % 128, by omega⟩ : Fin 128) * u
      + krn x g W G (⟨(64 + q.val + 16) % 128, by omega⟩ : Fin 128) * d = ropeL f cs sn q := by
  unfold ropeL
  by_cases h : q.val < 16
  · rw [dif_pos h, hc, hu, hd, if_neg (by omega), if_neg (by omega), mul_zero, add_zero, mul_neg, sub_eq_add_neg, hf]
    have e : (⟨(64 + q.val + 16) % 128, by omega⟩ : Fin 128) = (⟨64 + (⟨q.val + 16, by omega⟩ : Fin 32).val, by show 64 + (q.val + 16) < 128; omega⟩ : Fin 128) :=
      Fin.ext (by show (64 + q.val + 16) % 128 = 64 + (q.val + 16); omega)
    have e' : (⟨q.val % 16, by omega⟩ : Fin 16) = ⟨q.val, h⟩ := Fin.ext (by show q.val % 16 = q.val; omega)
    rw [e, hf, e']
  · rw [dif_neg h, hc, hu, hd, if_pos (by omega), if_pos (by omega), mul_zero, add_zero, hf, add_comm]
    have e : (⟨(64 + q.val + 112) % 128, by omega⟩ : Fin 128) = (⟨64 + (⟨q.val - 16, by omega⟩ : Fin 32).val, by show 64 + (q.val - 16) < 128; omega⟩ : Fin 128) :=
      Fin.ext (by show (64 + q.val + 112) % 128 = 64 + (q.val - 16); omega)
    have e' : (⟨q.val % 16, by omega⟩ : Fin 16) = ⟨q.val - 16, by omega⟩ := Fin.ext (by show q.val % 16 = q.val - 16; omega)
    rw [e, hf, e']

end Cert.In

end
-- ==== Proof.In.Host.lean ====
module

public import proofs.«01_k».proof.Proof.In.FrameI
public import proofs.«01_k».proof.Proof.In.Spec

/-!
# The input projection's operands, from the program's arguments
-/

@[expose] public section

set_option maxRecDepth 16384

noncomputable section

namespace Cert.InKernelIdeal.Body

open Cert.InKernelIdeal Cert.InKernelIdeal.Gen Cert.Rows Cert.In
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-- The angles' table, as the program builds it. -/
def angT : FVec Ideal S4096x16 .f32 :=
  mulf (broadcastInDim S4096x16 ![0, 1] bcast_S4096x1_S4096x16_0_1 (broadcastInDim S4096x1 ![0] bcast_S4096_S4096x1_0 (sitofp .f32 (shapeCast S4096 (broadcastInDim S1x4096 ![0, 1] bcast_S1x4096_S1x4096_0_1 (shapeCast S1x4096 (iotaInDim S4096 32 0) shapeCasts_S4096_S1x4096)) shapeCasts_S1x4096_S4096) : FVec Ideal S4096 .f32)))
    (broadcastInDim S4096x16 ![0, 1] bcast_S1x16_S4096x16_0_1 (broadcastInDim S1x16 ![1] bcast_S16_S1x16_1
      (Host.powf (broadcastInDim S16 ![] bcast_S_S16 (constant (F := Ideal) S_ .f32 0x461C4000#32)) (Host.divf (Host.negf (sitofp .f32 (iotaInDim S16 32 0) : FVec Ideal S16 .f32)) (broadcastInDim S16 ![] bcast_S_S16 (constant (F := Ideal) S_ .f32 0x41800000#32))))))
/-- The three tables of the rotation. -/
def cosT : FVec Ideal S4096x128 .f32 :=
  concatenate S4096x128 1 [⟨S4096x64, broadcastInDim S4096x64 ![] bcast_S_S4096x64 (constant (F := Ideal) S_ .f32 0x3F800000#32)⟩, ⟨S4096x16, Host.cos angT⟩, ⟨S4096x16, Host.cos angT⟩, ⟨S4096x32, broadcastInDim S4096x32 ![] bcast_S_S4096x32 (constant (F := Ideal) S_ .f32 0x00000000#32)⟩] concatenates_S4096x64_S4096x16_S4096x16_S4096x32_S4096x128_d1
def upT : FVec Ideal S4096x128 .f32 :=
  concatenate S4096x128 1 [⟨S4096x80, broadcastInDim S4096x80 ![] bcast_S_S4096x80 (constant (F := Ideal) S_ .f32 0x00000000#32)⟩, ⟨S4096x16, Host.sin angT⟩, ⟨S4096x32, broadcastInDim S4096x32 ![] bcast_S_S4096x32 (constant (F := Ideal) S_ .f32 0x00000000#32)⟩] concatenates_S4096x80_S4096x16_S4096x32_S4096x128_d1
def downT : FVec Ideal S4096x128 .f32 :=
  concatenate S4096x128 1 [⟨S4096x64, broadcastInDim S4096x64 ![] bcast_S_S4096x64 (constant (F := Ideal) S_ .f32 0x00000000#32)⟩, ⟨S4096x16, Host.negf (Host.sin angT)⟩, ⟨S4096x48, broadcastInDim S4096x48 ![] bcast_S_S4096x48 (constant (F := Ideal) S_ .f32 0x00000000#32)⟩] concatenates_S4096x64_S4096x16_S4096x48_S4096x128_d1
/-- The shared key's weights, padded to 128 lanes. -/
def padW (a2 : FVec Ideal S1x1024x4768 .f32) : FVec Ideal S1024x128 .bf16 :=
  truncf .bf16 (pad S1024x128 ![0, 64] ![0, 32] ![0, 0] (extractStridedSlice S1024x32 ![0, 640] (shapeCast S1024x4768 a2 shapeCasts_S1x1024x4768_S1024x4768) slices_S1024x4768_S1024x32_0_640 : FVec Ideal S1024x32 .f32) (sitofp .f32 (constantI S_ 32 0#32) : FVec Ideal S_ .f32) pads_S1024x32_S1024x128_000_64320 h_S_ : FVec Ideal S1024x128 .f32) bitsLt_bf16_f32
/-- The shared key's gains, padded to 128 lanes. -/
def padG (i : Fin 1 → ℤ) (a5 : FVec Ideal S1x32 .f32) : FVec Ideal S1x128 .f32 :=
  broadcastInDim S1x128 ![1] bcast_S128_S1x128_1 (Host.dynamicUpdateSlice (broadcastInDim S128 ![] bcast_S_S128 (constant (F := Ideal) S_ .f32 0x00000000#32) : FVec Ideal S128 .f32) (shapeCast S32 a5 shapeCasts_S1x32_S32) i updateFits_S128_S32)

theorem V_x (c : Dev nD) : V m c main_v62 = shapeCast _ (m ((c : Thread nD τ).loc main_arg0)) shapeCasts_S4x4096x1024_S16384x1024 := by
  unfold V V0 hostOps0 hostOps0_1 hostOps0_2
  after_results
  rfl
theorem V_g (c : Dev nD) : V m c main_v2 = broadcastInDim S1x1024 ![1] bcast_S1024_S1x1024_1 (shapeCast _ (m ((c : Thread nD τ).loc main_arg1)) shapeCasts_S1x1024_S1024) := by
  unfold V V0 hostOps0 hostOps0_1 hostOps0_2
  after_results
  rfl
theorem V_wcq (c : Dev nD) : V m c main_v5 = truncf .bf16 (extractStridedSlice S1024x384 ![0, 0] (shapeCast S1024x4768 (m ((c : Thread nD τ).loc main_arg2)) shapeCasts_S1x1024x4768_S1024x4768) slices_S1024x4768_S1024x384_0_0 : FVec Ideal S1024x384 .f32) bitsLt_bf16_f32 := by
  unfold V V0 hostOps0 hostOps0_1 hostOps0_2
  after_results
  rfl
theorem V_wckv (c : Dev nD) : V m c main_v8 = truncf .bf16 (extractStridedSlice S1024x256 ![0, 384] (shapeCast S1024x4768 (m ((c : Thread nD τ).loc main_arg2)) shapeCasts_S1x1024x4768_S1024x4768) slices_S1024x4768_S1024x256_0_384 : FVec Ideal S1024x256 .f32) bitsLt_bf16_f32 := by
  unfold V V0 hostOps0 hostOps0_1 hostOps0_2
  after_results
  rfl
theorem V_wu (c : Dev nD) : V m c main_v15 = truncf .bf16 (extractStridedSlice S1024x1024 ![0, 672] (shapeCast S1024x4768 (m ((c : Thread nD τ).loc main_arg2)) shapeCasts_S1x1024x4768_S1024x4768) slices_S1024x4768_S1024x1024_0_672 : FVec Ideal S1024x1024 .f32) bitsLt_bf16_f32 := by
  unfold V V0 hostOps0 hostOps0_1 hostOps0_2
  after_results
  rfl
theorem V_wvg (c : Dev nD) : V m c main_v18 = truncf .bf16 (extractStridedSlice S1024x1024 ![0, 1696] (shapeCast S1024x4768 (m ((c : Thread nD τ).loc main_arg2)) shapeCasts_S1x1024x4768_S1024x4768) slices_S1024x4768_S1024x1024_0_1696 : FVec Ideal S1024x1024 .f32) bitsLt_bf16_f32 := by
  unfold V V0 hostOps0 hostOps0_1 hostOps0_2
  after_results
  rfl
theorem V_wsa (c : Dev nD) : V m c main_v21 = truncf .bf16 (extractStridedSlice S1024x1024 ![0, 2720] (shapeCast S1024x4768 (m ((c : Thread nD τ).loc main_arg2)) shapeCasts_S1x1024x4768_S1024x4768) slices_S1024x4768_S1024x1024_0_2720 : FVec Ideal S1024x1024 .f32) bitsLt_bf16_f32 := by
  unfold V V0 hostOps0 hostOps0_1 hostOps0_2
  after_results
  rfl
theorem V_wsb (c : Dev nD) : V m c main_v24 = truncf .bf16 (extractStridedSlice S1024x1024 ![0, 3744] (shapeCast S1024x4768 (m ((c : Thread nD τ).loc main_arg2)) shapeCasts_S1x1024x4768_S1024x4768) slices_S1024x4768_S1024x1024_0_3744 : FVec Ideal S1024x1024 .f32) bitsLt_bf16_f32 := by
  unfold V V0 hostOps0 hostOps0_1 hostOps0_2
  after_results
  rfl
theorem V_wkr (c : Dev nD) : V m c main_v12 = padW (m ((c : Thread nD τ).loc main_arg2)) := by
  unfold V V0 hostOps0 hostOps0_1 hostOps0_2
  after_results
  rfl
theorem V_gcq (c : Dev nD) : V m c main_v26 = broadcastInDim S1x384 ![1] bcast_S384_S1x384_1 (shapeCast _ (m ((c : Thread nD τ).loc main_arg3)) shapeCasts_S1x384_S384) := by
  unfold V V0 hostOps0 hostOps0_1 hostOps0_2
  after_results
  rfl
theorem V_gckv (c : Dev nD) : V m c main_v28 = broadcastInDim S1x256 ![1] bcast_S256_S1x256_1 (shapeCast _ (m ((c : Thread nD τ).loc main_arg4)) shapeCasts_S1x256_S256) := by
  unfold V V0 hostOps0 hostOps0_1 hostOps0_2
  after_results
  rfl
theorem V_gvg (c : Dev nD) : V m c main_v34 = broadcastInDim S1x1024 ![1] bcast_S1024_S1x1024_1 (shapeCast _ (m ((c : Thread nD τ).loc main_arg6)) shapeCasts_S1x1024_S1024) := by
  unfold V V0 hostOps0 hostOps0_1 hostOps0_2
  after_results
  rfl
theorem V_gkr (c : Dev nD) : ∃ i : Fin 1 → ℤ, V m c main_v32 = padG i (m ((c : Thread nD τ).loc main_arg5)) ∧ i = fun _ => 64 := by
  unfold V V0 hostOps0 hostOps0_1 hostOps0_2 padG
  refine ⟨_, rfl, ?_⟩
  funext k
  obtain rfl : k = 0 := Subsingleton.elim _ _
  rfl
theorem V_cos (c : Dev nD) : V m c main_v54 = cosT := by
  unfold V V0 hostOps0 hostOps0_1 hostOps0_2
  after_results
  rfl
theorem V_up (c : Dev nD) : V m c main_v57 = upT := by
  unfold V V0 hostOps0 hostOps0_1 hostOps0_2
  after_results
  rfl
theorem V_down (c : Dev nD) : V m c main_v61 = downT := by
  unfold V V0 hostOps0 hostOps0_1 hostOps0_2
  after_results
  rfl

theorem flat_x (a : FVec Ideal S4x4096x1024 .f32) (b : Fin 4) (s : Fin 4096) (l : Fin 1024) (hr : 4096 * b.val + s.val < 16384) :
    shapeCast S16384x1024 a shapeCasts_S4x4096x1024_S16384x1024 (ix2 ⟨4096 * b.val + s.val, hr⟩ l) = a (ix3 b s l) := by
  pointwise
theorem flat_g384 (a : FVec Ideal S1x384 .f32) (l : Fin 384) :
    broadcastInDim S1x384 ![1] bcast_S384_S1x384_1 (shapeCast S384 a shapeCasts_S1x384_S384) (ix2 0 l) = a (ix2 0 l) := by
  pointwise
theorem flat_g256 (a : FVec Ideal S1x256 .f32) (l : Fin 256) :
    broadcastInDim S1x256 ![1] bcast_S256_S1x256_1 (shapeCast S256 a shapeCasts_S1x256_S256) (ix2 0 l) = a (ix2 0 l) := by
  pointwise
theorem flat_g1024 (a : FVec Ideal S1x1024 .f32) (l : Fin 1024) :
    broadcastInDim S1x1024 ![1] bcast_S1024_S1x1024_1 (shapeCast S1024 a shapeCasts_S1x1024_S1024) (ix2 0 l) = a (ix2 0 l) := by
  pointwise
theorem flat_wcq (a : FVec Ideal S1x1024x4768 .f32) (k : Fin 1024) (j : Fin 384) :
    (truncf .bf16 (extractStridedSlice S1024x384 ![0, 0] (shapeCast S1024x4768 a shapeCasts_S1x1024x4768_S1024x4768) slices_S1024x4768_S1024x384_0_0 : FVec Ideal S1024x384 .f32) bitsLt_bf16_f32 : FVec Ideal S1024x384 .bf16) (ix2 k j) = (a (ix3 0 k (⟨j.val, by omega⟩ : Fin 4768)) : EReal) := by
  pointwise
theorem flat_wckv (a : FVec Ideal S1x1024x4768 .f32) (k : Fin 1024) (j : Fin 256) :
    (truncf .bf16 (extractStridedSlice S1024x256 ![0, 384] (shapeCast S1024x4768 a shapeCasts_S1x1024x4768_S1024x4768) slices_S1024x4768_S1024x256_0_384 : FVec Ideal S1024x256 .f32) bitsLt_bf16_f32 : FVec Ideal S1024x256 .bf16) (ix2 k j) = (a (ix3 0 k (⟨384 + j.val, by omega⟩ : Fin 4768)) : EReal) := by
  pointwise
theorem flat_wu (a : FVec Ideal S1x1024x4768 .f32) (k : Fin 1024) (j : Fin 1024) :
    (truncf .bf16 (extractStridedSlice S1024x1024 ![0, 672] (shapeCast S1024x4768 a shapeCasts_S1x1024x4768_S1024x4768) slices_S1024x4768_S1024x1024_0_672 : FVec Ideal S1024x1024 .f32) bitsLt_bf16_f32 : FVec Ideal S1024x1024 .bf16) (ix2 k j) = (a (ix3 0 k (⟨672 + j.val, by omega⟩ : Fin 4768)) : EReal) := by
  pointwise
theorem flat_wvg (a : FVec Ideal S1x1024x4768 .f32) (k : Fin 1024) (j : Fin 1024) :
    (truncf .bf16 (extractStridedSlice S1024x1024 ![0, 1696] (shapeCast S1024x4768 a shapeCasts_S1x1024x4768_S1024x4768) slices_S1024x4768_S1024x1024_0_1696 : FVec Ideal S1024x1024 .f32) bitsLt_bf16_f32 : FVec Ideal S1024x1024 .bf16) (ix2 k j) = (a (ix3 0 k (⟨1696 + j.val, by omega⟩ : Fin 4768)) : EReal) := by
  pointwise
theorem flat_wsa (a : FVec Ideal S1x1024x4768 .f32) (k : Fin 1024) (j : Fin 1024) :
    (truncf .bf16 (extractStridedSlice S1024x1024 ![0, 2720] (shapeCast S1024x4768 a shapeCasts_S1x1024x4768_S1024x4768) slices_S1024x4768_S1024x1024_0_2720 : FVec Ideal S1024x1024 .f32) bitsLt_bf16_f32 : FVec Ideal S1024x1024 .bf16) (ix2 k j) = (a (ix3 0 k (⟨2720 + j.val, by omega⟩ : Fin 4768)) : EReal) := by
  pointwise
theorem flat_wsb (a : FVec Ideal S1x1024x4768 .f32) (k : Fin 1024) (j : Fin 1024) :
    (truncf .bf16 (extractStridedSlice S1024x1024 ![0, 3744] (shapeCast S1024x4768 a shapeCasts_S1x1024x4768_S1024x4768) slices_S1024x4768_S1024x1024_0_3744 : FVec Ideal S1024x1024 .f32) bitsLt_bf16_f32 : FVec Ideal S1024x1024 .bf16) (ix2 k j) = (a (ix3 0 k (⟨3744 + j.val, by omega⟩ : Fin 4768)) : EReal) := by
  pointwise

theorem angT_at (s : Fin 4096) (i : Fin 16) : (angT (ix2 s i) : EReal) = ang s i := by
  pointwise [angT, ang, posF, freqF]
theorem cosT_at (s : Fin 4096) (q : Fin 32) : (cosT (ix2 s (⟨64 + q.val, by omega⟩ : Fin 128)) : EReal) = Ideal.cos (ang s (⟨q.val % 16, by omega⟩ : Fin 16)) := by
  have e : ∀ (x : FVec Ideal S4096x64 .f32) (y z : FVec Ideal S4096x16 .f32) (v : FVec Ideal S4096x32 .f32) (j : Fin 128),
      (concatenate S4096x128 1 [⟨S4096x64, x⟩, ⟨S4096x16, y⟩, ⟨S4096x16, z⟩, ⟨S4096x32, v⟩] concatenates_S4096x64_S4096x16_S4096x16_S4096x32_S4096x128_d1 (ix2 s j) : EReal)
        = if h : j.val < 64 then x (ix2 s (⟨j.val, h⟩ : Fin 64)) else if h : j.val - 64 < 16 then y (ix2 s (⟨j.val - 64, h⟩ : Fin 16))
          else if h : j.val - 64 - 16 < 16 then z (ix2 s (⟨j.val - 64 - 16, h⟩ : Fin 16)) else v (ix2 s (⟨j.val - 64 - 16 - 16, by omega⟩ : Fin 32)) := by
    intro x y z v j
    pointwise
  unfold cosT
  rw [e, dif_neg (by show ¬ 64 + q.val < 64; omega), ← angT_at]
  split
  · next h => exact congrArg (fun i => Ideal.cos (angT (ix2 s i))) (Fin.ext (by show 64 + q.val - 64 = q.val % 16; have h' : 64 + q.val - 64 < 16 := h; omega))
  · next h =>
    have h' : ¬ 64 + q.val - 64 < 16 := h
    rw [dif_pos (by show 64 + q.val - 64 - 16 < 16; omega)]
    exact congrArg (fun i => Ideal.cos (angT (ix2 s i))) (Fin.ext (by show 64 + q.val - 64 - 16 = q.val % 16; omega))
theorem upT_at (s : Fin 4096) (q : Fin 32) : (upT (ix2 s (⟨64 + q.val, by omega⟩ : Fin 128)) : EReal) = if 16 ≤ q.val then Ideal.sin (ang s (⟨q.val % 16, by omega⟩ : Fin 16)) else 0 := by
  have e : ∀ (x : FVec Ideal S4096x80 .f32) (y : FVec Ideal S4096x16 .f32) (v : FVec Ideal S4096x32 .f32) (j : Fin 128),
      (concatenate S4096x128 1 [⟨S4096x80, x⟩, ⟨S4096x16, y⟩, ⟨S4096x32, v⟩] concatenates_S4096x80_S4096x16_S4096x32_S4096x128_d1 (ix2 s j) : EReal)
        = if h : j.val < 80 then x (ix2 s (⟨j.val, h⟩ : Fin 80)) else if h : j.val - 80 < 16 then y (ix2 s (⟨j.val - 80, h⟩ : Fin 16))
          else v (ix2 s (⟨j.val - 80 - 16, by omega⟩ : Fin 32)) := by
    intro x y v j
    pointwise
  unfold upT
  rw [e, ← angT_at]
  split
  · next h =>
    have h' : 64 + q.val < 80 := h
    rw [if_neg (by omega)]
    exact Ideal.ofBits_zero_f32
  · next h =>
    have h' : ¬ 64 + q.val < 80 := h
    rw [if_pos (by omega), dif_pos (by show 64 + q.val - 80 < 16; omega)]
    exact congrArg (fun i => Ideal.sin (angT (ix2 s i))) (Fin.ext (by show 64 + q.val - 80 = q.val % 16; omega))
theorem downT_at (s : Fin 4096) (q : Fin 32) : (downT (ix2 s (⟨64 + q.val, by omega⟩ : Fin 128)) : EReal) = if 16 ≤ q.val then 0 else -Ideal.sin (ang s (⟨q.val % 16, by omega⟩ : Fin 16)) := by
  have e : ∀ (x : FVec Ideal S4096x64 .f32) (y : FVec Ideal S4096x16 .f32) (v : FVec Ideal S4096x48 .f32) (j : Fin 128),
      (concatenate S4096x128 1 [⟨S4096x64, x⟩, ⟨S4096x16, y⟩, ⟨S4096x48, v⟩] concatenates_S4096x64_S4096x16_S4096x48_S4096x128_d1 (ix2 s j) : EReal)
        = if h : j.val < 64 then x (ix2 s (⟨j.val, h⟩ : Fin 64)) else if h : j.val - 64 < 16 then y (ix2 s (⟨j.val - 64, h⟩ : Fin 16))
          else v (ix2 s (⟨j.val - 64 - 16, by omega⟩ : Fin 48)) := by
    intro x y v j
    pointwise
  unfold downT
  rw [e, dif_neg (by show ¬ 64 + q.val < 64; omega), ← angT_at]
  split
  · next h =>
    have h' : 64 + q.val - 64 < 16 := h
    rw [if_neg (by omega)]
    exact congrArg (fun i => -Ideal.sin (angT (ix2 s i))) (Fin.ext (by show 64 + q.val - 64 = q.val % 16; omega))
  · next h =>
    have h' : ¬ 64 + q.val - 64 < 16 := h
    rw [if_pos (by omega)]
    exact Ideal.ofBits_zero_f32

theorem zeroF : ((sitofp .f32 (constantI S_ 32 0#32) : FVec Ideal S_ .f32) (Shape.Idx.first h_S_) : EReal) = 0 := by
  show (((0#32 : BitVec 32).toInt : ℝ) : EReal) = 0
  simp
theorem padW_in (a : FVec Ideal S1x1024x4768 .f32) (k : Fin 1024) (q : Fin 32) :
    (padW a (ix2 k (⟨64 + q.val, by omega⟩ : Fin 128)) : EReal) = a (ix3 0 k (⟨640 + q.val, by omega⟩ : Fin 4768)) := by
  pointwise [padW]
theorem padW_out (a : FVec Ideal S1x1024x4768 .f32) (k : Fin 1024) (l : Fin 128) (h : l.val < 64 ∨ 96 ≤ l.val) : (padW a (ix2 k l) : EReal) = 0 := by
  pointwise [padW]
  rw [dif_neg (by omega)]
  show (((0#32 : BitVec 32).toInt : ℝ) : EReal) = 0
  simp
theorem padG_in (a : FVec Ideal S1x32 .f32) (q : Fin 32) : (padG (fun _ => 64) a (ix2 0 (⟨64 + q.val, by omega⟩ : Fin 128)) : EReal) = a (ix2 0 q) := by
  pointwise [padG]
  have e : ∀ h, Host.clampedStart S128 S32 h (fun _ => 64) 0 = 64 := fun h => Host.clampedStart_of_le h _ _ 64 rfl (by show 64 + 32 ≤ 128; decide)
  simp only [e]
  rw [dif_pos (by omega)]
  exact congrArg (fun i => a (ix2 0 i)) (Fin.ext (by show 64 + q.val - 64 = q.val; omega))

end Cert.InKernelIdeal.Body

end
-- ==== Proof.In.Results.lean ====
module

public import proofs.«01_k».proof.Proof.In.Final
public import proofs.«01_k».proof.Proof.In.Host

/-!
# The input projection's seven results, from the program's arguments, after its run
-/

@[expose] public section

set_option maxRecDepth 16384

noncomputable section

namespace Cert.InKernelIdeal.Body

open Cert.InKernelIdeal Cert.InKernelIdeal.Gen Cert.Rows Cert.In
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-- The row of a position of a sequence. -/
def rowOf (b : Fin 4) (s : Fin 4096) : Fin 16384 := ⟨4096 * b.val + s.val, by omega⟩

theorem unflat384 (X : FVec Ideal S16384x384 .bf16) (b : Fin 4) (s : Fin 4096) (j : Fin 384) :
    shapeCast S4x4096x384 X shapeCasts_S16384x384_S4x4096x384 (ix3 b s j) = X (ix2 (rowOf b s) j) := by
  pointwise
  exact congrArg X (congrArg₂ ix2 (Fin.ext (by show b.val * 4096 + s.val = 4096 * b.val + s.val; omega)) rfl)
theorem unflat1024 (X : FVec Ideal S16384x1024 .bf16) (b : Fin 4) (s : Fin 4096) (j : Fin 1024) :
    shapeCast S4x4096x1024 X shapeCasts_S16384x1024_S4x4096x1024 (ix3 b s j) = X (ix2 (rowOf b s) j) := by
  pointwise
  exact congrArg X (congrArg₂ ix2 (Fin.ext (by show b.val * 4096 + s.val = 4096 * b.val + s.val; omega)) rfl)
theorem unflat256 (X : FVec Ideal S16384x256 .f32) (a : Fin 1) (b : Fin 4) (s : Fin 4096) (j : Fin 256) :
    broadcastInDim S1x4x4096x256 ![1, 2, 3] bcast_S4x4096x256_S1x4x4096x256_1_2_3 (shapeCast S4x4096x256 X shapeCasts_S16384x256_S4x4096x256) (ix4 a b s j) = X (ix2 (rowOf b s) j) := by
  pointwise
  exact congrArg X (congrArg₂ ix2 (Fin.ext (by show b.val * 4096 + s.val = 4096 * b.val + s.val; omega)) rfl)
theorem unflat32 (X : FVec Ideal S16384x128 .f32) (a : Fin 1) (b : Fin 4) (s : Fin 4096) (j : Fin 32) :
    broadcastInDim S1x4x4096x32 ![1, 2, 3] bcast_S4x4096x32_S1x4x4096x32_1_2_3 (shapeCast S4x4096x32 (extractStridedSlice S16384x32 ![0, 64] X slices_S16384x128_S16384x32_0_64) shapeCasts_S16384x32_S4x4096x32) (ix4 a b s j) = X (ix2 (rowOf b s) (⟨64 + j.val, by omega⟩ : Fin 128)) := by
  pointwise
  exact congrArg X (congrArg₂ ix2 (Fin.ext (by show b.val * 4096 + s.val = 4096 * b.val + s.val; omega)) rfl)

theorem tail64 (W : Valuation τ sig (Elt Ideal)) : StableHlo.after [hostOps1].flatten W (Proc.devRef .tc main_v64)
    = shapeCast S4x4096x384 (W (Proc.devRef .tc main_v63_0)) shapeCasts_S16384x384_S4x4096x384 := by
  unfold hostOps1
  after_results
  rfl
theorem tail66 (W : Valuation τ sig (Elt Ideal)) : StableHlo.after [hostOps1].flatten W (Proc.devRef .tc main_v66)
    = broadcastInDim S1x4x4096x256 ![1, 2, 3] bcast_S4x4096x256_S1x4x4096x256_1_2_3 (shapeCast S4x4096x256 (W (Proc.devRef .tc main_v63_1)) shapeCasts_S16384x256_S4x4096x256) := by
  unfold hostOps1
  after_results
  rfl
theorem tail69 (W : Valuation τ sig (Elt Ideal)) : StableHlo.after [hostOps1].flatten W (Proc.devRef .tc main_v69)
    = broadcastInDim S1x4x4096x32 ![1, 2, 3] bcast_S4x4096x32_S1x4x4096x32_1_2_3 (shapeCast S4x4096x32 (extractStridedSlice S16384x32 ![0, 64] (W (Proc.devRef .tc main_v63_2)) slices_S16384x128_S16384x32_0_64) shapeCasts_S16384x32_S4x4096x32) := by
  unfold hostOps1
  after_results
  rfl
theorem tail70 (W : Valuation τ sig (Elt Ideal)) : StableHlo.after [hostOps1].flatten W (Proc.devRef .tc main_v70)
    = shapeCast S4x4096x1024 (W (Proc.devRef .tc main_v63_3)) shapeCasts_S16384x1024_S4x4096x1024 := by
  unfold hostOps1
  after_results
  rfl
theorem tail71 (W : Valuation τ sig (Elt Ideal)) : StableHlo.after [hostOps1].flatten W (Proc.devRef .tc main_v71)
    = shapeCast S4x4096x1024 (W (Proc.devRef .tc main_v63_4)) shapeCasts_S16384x1024_S4x4096x1024 := by
  unfold hostOps1
  after_results
  rfl
theorem tail72 (W : Valuation τ sig (Elt Ideal)) : StableHlo.after [hostOps1].flatten W (Proc.devRef .tc main_v72)
    = shapeCast S4x4096x1024 (W (Proc.devRef .tc main_v63_5)) shapeCasts_S16384x1024_S4x4096x1024 := by
  unfold hostOps1
  after_results
  rfl
theorem tail73 (W : Valuation τ sig (Elt Ideal)) : StableHlo.after [hostOps1].flatten W (Proc.devRef .tc main_v73)
    = shapeCast S4x4096x1024 (W (Proc.devRef .tc main_v63_6)) shapeCasts_S16384x1024_S4x4096x1024 := by
  unfold hostOps1
  after_results
  rfl

/-- The kernel's projection of a row, as the program's. -/
theorem row_x (c : Dev nD) (b : Fin 4) (s : Fin 4096) : (fun l : Fin 1024 => (V m c main_v62 (ix2 (rowOf b s) l) : EReal)) = fun l => ((m ((c : Thread nD τ).loc main_arg0)) (ix3 b s l) : EReal) := by
  funext l
  rw [V_x]
  exact flat_x _ b s l _
theorem row_g (c : Dev nD) : (fun l : Fin 1024 => (V m c main_v2 (ix2 0 l) : EReal)) = fun l => ((m ((c : Thread nD τ).loc main_arg1)) (ix2 0 l) : EReal) := by
  funext l
  rw [V_g]
  exact flat_g1024 _ l
theorem pj_cq (c : Dev nD) (b : Fin 4) (s : Fin 4096) (j : Fin 384) :
    pj (fun l => V m c main_v62 (ix2 (rowOf b s) l)) (fun l => V m c main_v2 (ix2 0 l)) (fun k => V m c main_v5 (ix2 k j)) = yj (m ((c : Thread nD τ).loc main_arg0)) (m ((c : Thread nD τ).loc main_arg1)) (m ((c : Thread nD τ).loc main_arg2)) b s (⟨j.val, by omega⟩ : Fin 4768) := by
  unfold yj
  rw [row_x, row_g]
  refine congrArg (fun f => pj _ _ f) (funext fun k => ?_)
  rw [V_wcq]
  exact flat_wcq _ k j
theorem pj_ckv (c : Dev nD) (b : Fin 4) (s : Fin 4096) (j : Fin 256) :
    pj (fun l => V m c main_v62 (ix2 (rowOf b s) l)) (fun l => V m c main_v2 (ix2 0 l)) (fun k => V m c main_v8 (ix2 k j)) = yj (m ((c : Thread nD τ).loc main_arg0)) (m ((c : Thread nD τ).loc main_arg1)) (m ((c : Thread nD τ).loc main_arg2)) b s (⟨384 + j.val, by omega⟩ : Fin 4768) := by
  unfold yj
  rw [row_x, row_g]
  refine congrArg (fun f => pj _ _ f) (funext fun k => ?_)
  rw [V_wckv]
  exact flat_wckv _ k j
theorem pj_u (c : Dev nD) (b : Fin 4) (s : Fin 4096) (j : Fin 1024) :
    pj (fun l => V m c main_v62 (ix2 (rowOf b s) l)) (fun l => V m c main_v2 (ix2 0 l)) (fun k => V m c main_v15 (ix2 k j)) = yj (m ((c : Thread nD τ).loc main_arg0)) (m ((c : Thread nD τ).loc main_arg1)) (m ((c : Thread nD τ).loc main_arg2)) b s (⟨672 + j.val, by omega⟩ : Fin 4768) := by
  unfold yj
  rw [row_x, row_g]
  refine congrArg (fun f => pj _ _ f) (funext fun k => ?_)
  rw [V_wu]
  exact flat_wu _ k j
theorem pj_vg (c : Dev nD) (b : Fin 4) (s : Fin 4096) (j : Fin 1024) :
    pj (fun l => V m c main_v62 (ix2 (rowOf b s) l)) (fun l => V m c main_v2 (ix2 0 l)) (fun k => V m c main_v18 (ix2 k j)) = yj (m ((c : Thread nD τ).loc main_arg0)) (m ((c : Thread nD τ).loc main_arg1)) (m ((c : Thread nD τ).loc main_arg2)) b s (⟨1696 + j.val, by omega⟩ : Fin 4768) := by
  unfold yj
  rw [row_x, row_g]
  refine congrArg (fun f => pj _ _ f) (funext fun k => ?_)
  rw [V_wvg]
  exact flat_wvg _ k j
theorem pj_sa (c : Dev nD) (b : Fin 4) (s : Fin 4096) (j : Fin 1024) :
    pj (fun l => V m c main_v62 (ix2 (rowOf b s) l)) (fun l => V m c main_v2 (ix2 0 l)) (fun k => V m c main_v21 (ix2 k j)) = yj (m ((c : Thread nD τ).loc main_arg0)) (m ((c : Thread nD τ).loc main_arg1)) (m ((c : Thread nD τ).loc main_arg2)) b s (⟨2720 + j.val, by omega⟩ : Fin 4768) := by
  unfold yj
  rw [row_x, row_g]
  refine congrArg (fun f => pj _ _ f) (funext fun k => ?_)
  rw [V_wsa]
  exact flat_wsa _ k j
theorem pj_sb (c : Dev nD) (b : Fin 4) (s : Fin 4096) (j : Fin 1024) :
    pj (fun l => V m c main_v62 (ix2 (rowOf b s) l)) (fun l => V m c main_v2 (ix2 0 l)) (fun k => V m c main_v24 (ix2 k j)) = yj (m ((c : Thread nD τ).loc main_arg0)) (m ((c : Thread nD τ).loc main_arg1)) (m ((c : Thread nD τ).loc main_arg2)) b s (⟨3744 + j.val, by omega⟩ : Fin 4768) := by
  unfold yj
  rw [row_x, row_g]
  refine congrArg (fun f => pj _ _ f) (funext fun k => ?_)
  rw [V_wsb]
  exact flat_wsb _ k j
theorem gain_cq (c : Dev nD) : (fun l : Fin 384 => (V m c main_v26 (ix2 0 l) : EReal)) = fun l => ((m ((c : Thread nD τ).loc main_arg3)) (ix2 0 l) : EReal) := by
  funext l
  rw [V_gcq]
  exact flat_g384 _ l
theorem gain_ckv (c : Dev nD) : (fun l : Fin 256 => (V m c main_v28 (ix2 0 l) : EReal)) = fun l => ((m ((c : Thread nD τ).loc main_arg4)) (ix2 0 l) : EReal) := by
  funext l
  rw [V_gckv]
  exact flat_g256 _ l
theorem gain_vg (c : Dev nD) : (fun l : Fin 1024 => (V m c main_v34 (ix2 0 l) : EReal)) = fun l => ((m ((c : Thread nD τ).loc main_arg6)) (ix2 0 l) : EReal) := by
  funext l
  rw [V_gvg]
  exact flat_g1024 _ l
theorem posOf_row (b : Fin 4) (s : Fin 4096) : posOf (rowOf b s) = s := Fin.ext (by show (4096 * b.val + s.val) % 4096 = s.val; omega)

/-- A result of the program's run. -/
theorem res_cq (c : Dev nD) : Pipeline.afterTail₀ cfgs (dats m) 0 (V0 m) [hostOps1] c main_v64 = inCq (m ((c : Thread nD τ).loc main_arg0)) (m ((c : Thread nD τ).loc main_arg1)) (m ((c : Thread nD τ).loc main_arg2)) (m ((c : Thread nD τ).loc main_arg3)) := by
  unfold Pipeline.afterTail₀
  rw [tail64]
  have e : Pipeline.withArrays spec0 c (V0 m c) (fun w => (dats m 0 c).arrAt w (cfgs 0).N) (Proc.devRef .tc main_v63_0) = cqA (V m c main_v62) (V m c main_v2) (V m c main_v5) (V m c main_v26) :=
    (Pipeline.withArrays_arr spec0 launch0.win.arr_inj c (V0 m c) (fun w => (dats m 0 c).arrAt w (cfgs 0).N) 16).trans (final16 m c)
  rw [e]
  funext y
  obtain ⟨b, s, j, rfl⟩ : ∃ (b : Fin 4) (s : Fin 4096) (j : Fin 384), y = (ix3 b s j : S4x4096x384.Idx) :=
    ⟨y 0, y 1, y 2, by funext a; match a with | ⟨0, _⟩ => rfl | ⟨1, _⟩ => rfl | ⟨2, _⟩ => rfl⟩
  refine (unflat384 _ b s j).trans ?_
  show rn n384 eps (fun l => pj (fun l => V m c main_v62 (ix2 (rowOf b s) l)) (fun l => V m c main_v2 (ix2 0 l)) (fun k => V m c main_v5 (ix2 k l))) (fun l => V m c main_v26 (ix2 0 l)) j
    = rn n384 eps (fun l : Fin 384 => yj (m ((c : Thread nD τ).loc main_arg0)) (m ((c : Thread nD τ).loc main_arg1)) (m ((c : Thread nD τ).loc main_arg2)) b s (⟨l.val, by omega⟩ : Fin 4768)) (fun l => (m ((c : Thread nD τ).loc main_arg3)) (ix2 0 l)) j
  exact congrArg₂ (fun f f' => rn n384 eps f f' j) (funext fun l => pj_cq m c b s l) (gain_cq m c)
/-- A result of the program's run. -/
theorem res_ckv (c : Dev nD) : Pipeline.afterTail₀ cfgs (dats m) 0 (V0 m) [hostOps1] c main_v66 = inCkv (m ((c : Thread nD τ).loc main_arg0)) (m ((c : Thread nD τ).loc main_arg1)) (m ((c : Thread nD τ).loc main_arg2)) (m ((c : Thread nD τ).loc main_arg4)) := by
  unfold Pipeline.afterTail₀
  rw [tail66]
  have e : Pipeline.withArrays spec0 c (V0 m c) (fun w => (dats m 0 c).arrAt w (cfgs 0).N) (Proc.devRef .tc main_v63_1) = ckvA (V m c main_v62) (V m c main_v2) (V m c main_v8) (V m c main_v28) :=
    (Pipeline.withArrays_arr spec0 launch0.win.arr_inj c (V0 m c) (fun w => (dats m 0 c).arrAt w (cfgs 0).N) 17).trans (final17 m c)
  rw [e]
  funext y
  obtain ⟨a, b, s, j, rfl⟩ : ∃ (a : Fin 1) (b : Fin 4) (s : Fin 4096) (j : Fin 256), y = (ix4 a b s j : S1x4x4096x256.Idx) :=
    ⟨y 0, y 1, y 2, y 3, by funext a; match a with | ⟨0, _⟩ => rfl | ⟨1, _⟩ => rfl | ⟨2, _⟩ => rfl | ⟨3, _⟩ => rfl⟩
  refine (unflat256 _ a b s j).trans ?_
  show rn n256 eps (fun l => pj (fun l => V m c main_v62 (ix2 (rowOf b s) l)) (fun l => V m c main_v2 (ix2 0 l)) (fun k => V m c main_v8 (ix2 k l))) (fun l => V m c main_v28 (ix2 0 l)) j
    = rn n256 eps (fun l : Fin 256 => yj (m ((c : Thread nD τ).loc main_arg0)) (m ((c : Thread nD τ).loc main_arg1)) (m ((c : Thread nD τ).loc main_arg2)) b s (⟨384 + l.val, by omega⟩ : Fin 4768)) (fun l => (m ((c : Thread nD τ).loc main_arg4)) (ix2 0 l)) j
  exact congrArg₂ (fun f f' => rn n256 eps f f' j) (funext fun l => pj_ckv m c b s l) (gain_ckv m c)
/-- A result of the program's run. -/
theorem res_kr (c : Dev nD) : Pipeline.afterTail₀ cfgs (dats m) 0 (V0 m) [hostOps1] c main_v69 = inKr (m ((c : Thread nD τ).loc main_arg0)) (m ((c : Thread nD τ).loc main_arg1)) (m ((c : Thread nD τ).loc main_arg2)) (m ((c : Thread nD τ).loc main_arg5)) := by
  unfold Pipeline.afterTail₀
  rw [tail69]
  have e : Pipeline.withArrays spec0 c (V0 m c) (fun w => (dats m 0 c).arrAt w (cfgs 0).N) (Proc.devRef .tc main_v63_2) = krA (V m c main_v62) (V m c main_v2) (V m c main_v12) (V m c main_v32) (V m c main_v54) (V m c main_v57) (V m c main_v61) :=
    (Pipeline.withArrays_arr spec0 launch0.win.arr_inj c (V0 m c) (fun w => (dats m 0 c).arrAt w (cfgs 0).N) 18).trans (final18 m c)
  rw [e]
  funext y
  obtain ⟨a, b, s, j, rfl⟩ : ∃ (a : Fin 1) (b : Fin 4) (s : Fin 4096) (j : Fin 32), y = (ix4 a b s j : S1x4x4096x32.Idx) :=
    ⟨y 0, y 1, y 2, y 3, by funext a; match a with | ⟨0, _⟩ => rfl | ⟨1, _⟩ => rfl | ⟨2, _⟩ => rfl | ⟨3, _⟩ => rfl⟩
  refine (unflat32 _ a b s j).trans ?_
  show krL (fun l => V m c main_v62 (ix2 (rowOf b s) l)) (fun l => V m c main_v2 (ix2 0 l)) (fun k l => V m c main_v12 (ix2 k l)) (fun l => V m c main_v32 (ix2 0 l))
      (V m c main_v54 (ix2 (posOf (rowOf b s)) (⟨64 + j.val, by omega⟩ : Fin 128))) (V m c main_v57 (ix2 (posOf (rowOf b s)) (⟨64 + j.val, by omega⟩ : Fin 128))) (V m c main_v61 (ix2 (posOf (rowOf b s)) (⟨64 + j.val, by omega⟩ : Fin 128))) (⟨64 + j.val, by omega⟩ : Fin 128)
    = ropeL (fun q => krR (m ((c : Thread nD τ).loc main_arg0)) (m ((c : Thread nD τ).loc main_arg1)) (m ((c : Thread nD τ).loc main_arg2)) (m ((c : Thread nD τ).loc main_arg5)) b s q) (fun i => Ideal.cos (ang s i)) (fun i => Ideal.sin (ang s i)) j
  rw [posOf_row, V_cos, V_up, V_down, row_x, row_g]
  obtain ⟨i, ei, hi⟩ := V_gkr m c
  refine krL_lane _ _ _ _ _ (fun i => Ideal.cos (ang s i)) (fun i => Ideal.sin (ang s i)) (fun q => ?_) j _ _ _ (cosT_at s j) (upT_at s j) (downT_at s j)
  refine (krn_lane _ _ _ (fun k q => (m ((c : Thread nD τ).loc main_arg2)) (ix3 0 k (⟨640 + q.val, by omega⟩ : Fin 4768))) _ (fun l => (m ((c : Thread nD τ).loc main_arg5)) (ix2 0 l)) (fun k q => ?_) (fun k l h => ?_) (fun q => ?_) q).trans rfl
  · rw [V_wkr]
    exact padW_in _ k q
  · rw [V_wkr]
    exact padW_out _ k l h
  · rw [ei, hi]
    exact padG_in _ q
/-- A result of the program's run. -/
theorem res_u (c : Dev nD) : Pipeline.afterTail₀ cfgs (dats m) 0 (V0 m) [hostOps1] c main_v70 = inU (m ((c : Thread nD τ).loc main_arg0)) (m ((c : Thread nD τ).loc main_arg1)) (m ((c : Thread nD τ).loc main_arg2)) := by
  unfold Pipeline.afterTail₀
  rw [tail70]
  have e : Pipeline.withArrays spec0 c (V0 m c) (fun w => (dats m 0 c).arrAt w (cfgs 0).N) (Proc.devRef .tc main_v63_3) = uA (V m c main_v62) (V m c main_v2) (V m c main_v15) :=
    (Pipeline.withArrays_arr spec0 launch0.win.arr_inj c (V0 m c) (fun w => (dats m 0 c).arrAt w (cfgs 0).N) 19).trans (final19 m c)
  rw [e]
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  refine (unflat1024 _ b s j).trans ?_
  exact congrArg gelu (pj_u m c b s j)
/-- A result of the program's run. -/
theorem res_vg (c : Dev nD) : Pipeline.afterTail₀ cfgs (dats m) 0 (V0 m) [hostOps1] c main_v71 = inVg (m ((c : Thread nD τ).loc main_arg0)) (m ((c : Thread nD τ).loc main_arg1)) (m ((c : Thread nD τ).loc main_arg2)) (m ((c : Thread nD τ).loc main_arg6)) := by
  unfold Pipeline.afterTail₀
  rw [tail71]
  have e : Pipeline.withArrays spec0 c (V0 m c) (fun w => (dats m 0 c).arrAt w (cfgs 0).N) (Proc.devRef .tc main_v63_4) = vgA (V m c main_v62) (V m c main_v2) (V m c main_v18) (V m c main_v34) :=
    (Pipeline.withArrays_arr spec0 launch0.win.arr_inj c (V0 m c) (fun w => (dats m 0 c).arrAt w (cfgs 0).N) 20).trans (final20 m c)
  rw [e]
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  refine (unflat1024 _ b s j).trans ?_
  show rn n1024 eps (fun l => gelu (pj (fun l => V m c main_v62 (ix2 (rowOf b s) l)) (fun l => V m c main_v2 (ix2 0 l)) (fun k => V m c main_v18 (ix2 k l)))) (fun l => V m c main_v34 (ix2 0 l)) j
    = rn n1024 eps (fun l : Fin 1024 => gelu (yj (m ((c : Thread nD τ).loc main_arg0)) (m ((c : Thread nD τ).loc main_arg1)) (m ((c : Thread nD τ).loc main_arg2)) b s (⟨1696 + l.val, by omega⟩ : Fin 4768))) (fun l => (m ((c : Thread nD τ).loc main_arg6)) (ix2 0 l)) j
  exact congrArg₂ (fun f f' => rn n1024 eps f f' j) (funext fun l => congrArg gelu (pj_vg m c b s l)) (gain_vg m c)
/-- A result of the program's run. -/
theorem res_sa (c : Dev nD) : Pipeline.afterTail₀ cfgs (dats m) 0 (V0 m) [hostOps1] c main_v72 = inSa (m ((c : Thread nD τ).loc main_arg0)) (m ((c : Thread nD τ).loc main_arg1)) (m ((c : Thread nD τ).loc main_arg2)) := by
  unfold Pipeline.afterTail₀
  rw [tail72]
  have e : Pipeline.withArrays spec0 c (V0 m c) (fun w => (dats m 0 c).arrAt w (cfgs 0).N) (Proc.devRef .tc main_v63_5) = sigA (V m c main_v62) (V m c main_v2) (V m c main_v21) :=
    (Pipeline.withArrays_arr spec0 launch0.win.arr_inj c (V0 m c) (fun w => (dats m 0 c).arrAt w (cfgs 0).N) 21).trans (final21 m c)
  rw [e]
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  refine (unflat1024 _ b s j).trans ?_
  exact congrArg Ideal.logistic (pj_sa m c b s j)
/-- A result of the program's run. -/
theorem res_sb (c : Dev nD) : Pipeline.afterTail₀ cfgs (dats m) 0 (V0 m) [hostOps1] c main_v73 = inSb (m ((c : Thread nD τ).loc main_arg0)) (m ((c : Thread nD τ).loc main_arg1)) (m ((c : Thread nD τ).loc main_arg2)) := by
  unfold Pipeline.afterTail₀
  rw [tail73]
  have e : Pipeline.withArrays spec0 c (V0 m c) (fun w => (dats m 0 c).arrAt w (cfgs 0).N) (Proc.devRef .tc main_v63_6) = sigA (V m c main_v62) (V m c main_v2) (V m c main_v24) :=
    (Pipeline.withArrays_arr spec0 launch0.win.arr_inj c (V0 m c) (fun w => (dats m 0 c).arrAt w (cfgs 0).N) 22).trans (final22 m c)
  rw [e]
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  refine (unflat1024 _ b s j).trans ?_
  exact congrArg Ideal.logistic (pj_sb m c b s j)

end Cert.InKernelIdeal.Body

end
-- ==== Proof.In.Ref.lean ====
module

public import proofs.«01_k».proof.Proof.Gen.InReferenceIdeal.Run
public import proofs.«01_k».proof.Proof.In.Spec

/-!
# The input projection's reference, at an index
-/

@[expose] public section

set_option maxRecDepth 16384

noncomputable section

namespace Cert.InReferenceIdeal.Value

open Cert.InReferenceIdeal Cert.InReferenceIdeal.Gen Cert.Rows Cert.In Cert.InKernelIdeal.Body
open Idealize.ShloMosaic Idealize.ShloMosaic.TcCoe Idealize.ShloMosaic.Tactic Idealize.SL.Sem

section
variable (a0 : FVec Ideal S4x4096x1024 .f32) (a1 : FVec Ideal S1x1024 .f32) (a2 : FVec Ideal S1x1024x4768 .f32)

/-- The input normalized and projected. -/
def projR : FVec Ideal S4x4096x4768 .f32 :=
  Host.dotGeneral dot_S4x4096x1024_S1024x4768_S4x4096x4768_2_0_01_1_n_n none
    (normH3 a0 (shapeCast S1024 a1 shapeCasts_S1x1024_S1024) 0x44800000#32 0x358637BD#32 reducesTo_S4x4096x1024_S4x4096_d2 h_S_ bcast_S4x4096_S4x4096x1_0_1 bcast_S_S4x4096x1 bcast_S4x4096x1_S4x4096x1024_0_1_2 bcast_S1024_S1x1x1024_2 bcast_S1x1x1024_S4x4096x1024_0_1_2)
    (shapeCast S1024x4768 a2 shapeCasts_S1x1024x4768_S1024x4768)
theorem dotR (x : FVec Ideal S4x4096x1024 .f32) (w : FVec Ideal S1024x4768 .f32) (b : Fin 4) (n : Fin 4096) (j : Fin 4768) :
    (Host.dotGeneral dot_S4x4096x1024_S1024x4768_S4x4096x4768_2_0_01_1_n_n none x w (ix3 b n j) : EReal) = ∑ k : Fin 1024, (x (ix3 b n k) * w (ix2 k j) : EReal) := by
  pointwise
theorem flatw (a : FVec Ideal S1x1024x4768 .f32) (k : Fin 1024) (j : Fin 4768) :
    shapeCast S1024x4768 a shapeCasts_S1x1024x4768_S1024x4768 (ix2 k j) = a (ix3 0 k j) := by
  pointwise
theorem flat1024 (a : FVec Ideal S1x1024 .f32) (l : Fin 1024) : shapeCast S1024 a shapeCasts_S1x1024_S1024 (ix1 l) = a (ix2 0 l) := by
  pointwise
theorem flat384 (a : FVec Ideal S1x384 .f32) (l : Fin 384) : shapeCast S384 a shapeCasts_S1x384_S384 (ix1 l) = a (ix2 0 l) := by
  pointwise
theorem flat256 (a : FVec Ideal S1x256 .f32) (l : Fin 256) : shapeCast S256 a shapeCasts_S1x256_S256 (ix1 l) = a (ix2 0 l) := by
  pointwise
theorem flat32 (a : FVec Ideal S1x32 .f32) (l : Fin 32) : shapeCast S32 a shapeCasts_S1x32_S32 (ix1 l) = a (ix2 0 l) := by
  pointwise
theorem projR_at (b : Fin 4) (n : Fin 4096) (j : Fin 4768) : (projR a0 a1 a2 (ix3 b n j) : EReal) = yj a0 a1 a2 b n j := by
  unfold projR
  rw [dotR]
  unfold yj pj dot
  exact Finset.sum_congr rfl fun k _ => by
    rw [normH3_at, flatw, show (fun l : Fin 1024 => (shapeCast S1024 a1 shapeCasts_S1x1024_S1024 (ix1 l) : EReal)) = fun l => a1 (ix2 0 l) from funext fun l => flat1024 a1 l]

/-- The lanes from 0 on. -/
def part0 : FVec Ideal S4x4096x384 .f32 := extractStridedSlice S4x4096x384 ![0, 0, 0] (projR a0 a1 a2) slices_S4x4096x4768_S4x4096x384_0_0_0
theorem part0_at (b : Fin 4) (s : Fin 4096) (j : Fin 384) : (part0 a0 a1 a2 (ix3 b s j) : EReal) = yj a0 a1 a2 b s (⟨j.val, by omega⟩ : Fin 4768) := by
  have e : ∀ y : FVec Ideal S4x4096x4768 .f32, extractStridedSlice S4x4096x384 ![0, 0, 0] y slices_S4x4096x4768_S4x4096x384_0_0_0 (ix3 b s j) = y (ix3 b s (⟨j.val, by omega⟩ : Fin 4768)) := by
    intro y
    pointwise
  exact (e _).trans (projR_at a0 a1 a2 b s _)
/-- The lanes from 384 on. -/
def part384 : FVec Ideal S4x4096x256 .f32 := extractStridedSlice S4x4096x256 ![0, 0, 384] (projR a0 a1 a2) slices_S4x4096x4768_S4x4096x256_0_0_384
theorem part384_at (b : Fin 4) (s : Fin 4096) (j : Fin 256) : (part384 a0 a1 a2 (ix3 b s j) : EReal) = yj a0 a1 a2 b s (⟨384 + j.val, by omega⟩ : Fin 4768) := by
  have e : ∀ y : FVec Ideal S4x4096x4768 .f32, extractStridedSlice S4x4096x256 ![0, 0, 384] y slices_S4x4096x4768_S4x4096x256_0_0_384 (ix3 b s j) = y (ix3 b s (⟨384 + j.val, by omega⟩ : Fin 4768)) := by
    intro y
    pointwise
  exact (e _).trans (projR_at a0 a1 a2 b s _)
/-- The lanes from 640 on. -/
def part640 : FVec Ideal S4x4096x32 .f32 := extractStridedSlice S4x4096x32 ![0, 0, 640] (projR a0 a1 a2) slices_S4x4096x4768_S4x4096x32_0_0_640
theorem part640_at (b : Fin 4) (s : Fin 4096) (j : Fin 32) : (part640 a0 a1 a2 (ix3 b s j) : EReal) = yj a0 a1 a2 b s (⟨640 + j.val, by omega⟩ : Fin 4768) := by
  have e : ∀ y : FVec Ideal S4x4096x4768 .f32, extractStridedSlice S4x4096x32 ![0, 0, 640] y slices_S4x4096x4768_S4x4096x32_0_0_640 (ix3 b s j) = y (ix3 b s (⟨640 + j.val, by omega⟩ : Fin 4768)) := by
    intro y
    pointwise
  exact (e _).trans (projR_at a0 a1 a2 b s _)
/-- The lanes from 672 on. -/
def part672 : FVec Ideal S4x4096x1024 .f32 := extractStridedSlice S4x4096x1024 ![0, 0, 672] (projR a0 a1 a2) slices_S4x4096x4768_S4x4096x1024_0_0_672
theorem part672_at (b : Fin 4) (s : Fin 4096) (j : Fin 1024) : (part672 a0 a1 a2 (ix3 b s j) : EReal) = yj a0 a1 a2 b s (⟨672 + j.val, by omega⟩ : Fin 4768) := by
  have e : ∀ y : FVec Ideal S4x4096x4768 .f32, extractStridedSlice S4x4096x1024 ![0, 0, 672] y slices_S4x4096x4768_S4x4096x1024_0_0_672 (ix3 b s j) = y (ix3 b s (⟨672 + j.val, by omega⟩ : Fin 4768)) := by
    intro y
    pointwise
  exact (e _).trans (projR_at a0 a1 a2 b s _)
/-- The lanes from 1696 on. -/
def part1696 : FVec Ideal S4x4096x1024 .f32 := extractStridedSlice S4x4096x1024 ![0, 0, 1696] (projR a0 a1 a2) slices_S4x4096x4768_S4x4096x1024_0_0_1696
theorem part1696_at (b : Fin 4) (s : Fin 4096) (j : Fin 1024) : (part1696 a0 a1 a2 (ix3 b s j) : EReal) = yj a0 a1 a2 b s (⟨1696 + j.val, by omega⟩ : Fin 4768) := by
  have e : ∀ y : FVec Ideal S4x4096x4768 .f32, extractStridedSlice S4x4096x1024 ![0, 0, 1696] y slices_S4x4096x4768_S4x4096x1024_0_0_1696 (ix3 b s j) = y (ix3 b s (⟨1696 + j.val, by omega⟩ : Fin 4768)) := by
    intro y
    pointwise
  exact (e _).trans (projR_at a0 a1 a2 b s _)
/-- The lanes from 2720 on. -/
def part2720 : FVec Ideal S4x4096x1024 .f32 := extractStridedSlice S4x4096x1024 ![0, 0, 2720] (projR a0 a1 a2) slices_S4x4096x4768_S4x4096x1024_0_0_2720
theorem part2720_at (b : Fin 4) (s : Fin 4096) (j : Fin 1024) : (part2720 a0 a1 a2 (ix3 b s j) : EReal) = yj a0 a1 a2 b s (⟨2720 + j.val, by omega⟩ : Fin 4768) := by
  have e : ∀ y : FVec Ideal S4x4096x4768 .f32, extractStridedSlice S4x4096x1024 ![0, 0, 2720] y slices_S4x4096x4768_S4x4096x1024_0_0_2720 (ix3 b s j) = y (ix3 b s (⟨2720 + j.val, by omega⟩ : Fin 4768)) := by
    intro y
    pointwise
  exact (e _).trans (projR_at a0 a1 a2 b s _)
/-- The lanes from 3744 on. -/
def part3744 : FVec Ideal S4x4096x1024 .f32 := extractStridedSlice S4x4096x1024 ![0, 0, 3744] (projR a0 a1 a2) slices_S4x4096x4768_S4x4096x1024_0_0_3744
theorem part3744_at (b : Fin 4) (s : Fin 4096) (j : Fin 1024) : (part3744 a0 a1 a2 (ix3 b s j) : EReal) = yj a0 a1 a2 b s (⟨3744 + j.val, by omega⟩ : Fin 4768) := by
  have e : ∀ y : FVec Ideal S4x4096x4768 .f32, extractStridedSlice S4x4096x1024 ![0, 0, 3744] y slices_S4x4096x4768_S4x4096x1024_0_0_3744 (ix3 b s j) = y (ix3 b s (⟨3744 + j.val, by omega⟩ : Fin 4768)) := by
    intro y
    pointwise
  exact (e _).trans (projR_at a0 a1 a2 b s _)

/-- The reference's gate. -/
def geluR (y : FVec Ideal S4x4096x1024 .f32) : FVec Ideal S4x4096x1024 .f32 :=
  mulf (mulf (broadcastInDim S4x4096x1024 ![] bcast_S_S4x4096x1024 (constant (F := Ideal) S_ .f32 0x3F000000#32)) y) (addf (broadcastInDim S4x4096x1024 ![] bcast_S_S4x4096x1024 (constant (F := Ideal) S_ .f32 0x3F800000#32)) (Host.erf (Host.divf y (broadcastInDim S4x4096x1024 ![] bcast_S_S4x4096x1024 (Host.sqrt (constant (F := Ideal) S_ .f32 0x40000000#32))))))
/-- The reference's logistic. -/
def sigR (y : FVec Ideal S4x4096x1024 .f32) : FVec Ideal S4x4096x1024 .f32 :=
  Host.divf (broadcastInDim S4x4096x1024 ![] bcast_S_S4x4096x1024 (constant (F := Ideal) S_ .f32 0x3F800000#32)) (addf (broadcastInDim S4x4096x1024 ![] bcast_S_S4x4096x1024 (constant (F := Ideal) S_ .f32 0x3F800000#32)) (Host.exp (Host.negf y)))
/-- A quotient by the square root of two. -/
theorem div_sqrt2 (y : EReal) : Ideal.div y (Ideal.sqrt (Ideal.ofBits .f32 0x40000000#32)) = y * (((Real.sqrt 2)⁻¹ : ℝ) : EReal) := by
  have e : Ideal.ofBits .f32 0x40000000#32 = ((2 : ℝ) : EReal) := by
    simp [Ideal.ofBits, Ideal.ieee, -EReal.coe_mul]
    norm_num
  rw [e, Ideal.sqrt_coe, if_neg (by norm_num), Ideal.div_coe (by positivity), one_div]
theorem geluR_at (y : FVec Ideal S4x4096x1024 .f32) (i : S4x4096x1024.Idx) : (geluR y i : EReal) = gelu (y i) := by
  unfold gelu
  rw [← div_sqrt2]
  rfl
theorem sigR_at (y : FVec Ideal S4x4096x1024 .f32) (i : S4x4096x1024.Idx) : (sigR y i : EReal) = Ideal.logistic (y i) := by
  show Ideal.div (Ideal.ofBits .f32 0x3F800000#32) (Ideal.ofBits .f32 0x3F800000#32 + Ideal.exp (-(y i : EReal))) = Ideal.div 1 (1 + Ideal.exp (-(y i : EReal)))
  rw [Ideal.ofBits_one_f32]

/-- The reference's seven results. -/
def refCq (a3 : FVec Ideal S1x384 .f32) : FVec Ideal S4x4096x384 .bf16 :=
  truncf .bf16 (normH3 (part0 a0 a1 a2) (shapeCast S384 a3 shapeCasts_S1x384_S384) 0x43C00000#32 0x358637BD#32 reducesTo_S4x4096x384_S4x4096_d2 h_S_ bcast_S4x4096_S4x4096x1_0_1 bcast_S_S4x4096x1 bcast_S4x4096x1_S4x4096x384_0_1_2 bcast_S384_S1x1x384_2 bcast_S1x1x384_S4x4096x384_0_1_2) bitsLt_bf16_f32
def refCkv (a4 : FVec Ideal S1x256 .f32) : FVec Ideal S1x4x4096x256 .f32 :=
  broadcastInDim S1x4x4096x256 ![1, 2, 3] bcast_S4x4096x256_S1x4x4096x256_1_2_3 (normH3 (part384 a0 a1 a2) (shapeCast S256 a4 shapeCasts_S1x256_S256) 0x43800000#32 0x358637BD#32 reducesTo_S4x4096x256_S4x4096_d2 h_S_ bcast_S4x4096_S4x4096x1_0_1 bcast_S_S4x4096x1 bcast_S4x4096x1_S4x4096x256_0_1_2 bcast_S256_S1x1x256_2 bcast_S1x1x256_S4x4096x256_0_1_2)
def refU : FVec Ideal S4x4096x1024 .bf16 := truncf .bf16 (geluR (part672 a0 a1 a2)) bitsLt_bf16_f32
def refVg (a6 : FVec Ideal S1x1024 .f32) : FVec Ideal S4x4096x1024 .bf16 :=
  truncf .bf16 (normH3 (geluR (part1696 a0 a1 a2)) (shapeCast S1024 a6 shapeCasts_S1x1024_S1024) 0x44800000#32 0x358637BD#32 reducesTo_S4x4096x1024_S4x4096_d2 h_S_ bcast_S4x4096_S4x4096x1_0_1 bcast_S_S4x4096x1 bcast_S4x4096x1_S4x4096x1024_0_1_2 bcast_S1024_S1x1x1024_2 bcast_S1x1x1024_S4x4096x1024_0_1_2) bitsLt_bf16_f32
def refSa : FVec Ideal S4x4096x1024 .bf16 := truncf .bf16 (sigR (part2720 a0 a1 a2)) bitsLt_bf16_f32
def refSb : FVec Ideal S4x4096x1024 .bf16 := truncf .bf16 (sigR (part3744 a0 a1 a2)) bitsLt_bf16_f32
/-- The reference's angles, and their cosines and sines for every sequence. -/
def angR : FVec Ideal S4096x16 .f32 :=
  mulf (broadcastInDim S4096x16 ![0, 1] bcast_S4096x1_S4096x16_0_1 (broadcastInDim S4096x1 ![0] bcast_S4096_S4096x1_0 (sitofp .f32 (iotaInDim S4096 32 0) : FVec Ideal S4096 .f32)))
    (broadcastInDim S4096x16 ![0, 1] bcast_S1x16_S4096x16_0_1 (broadcastInDim S1x16 ![1] bcast_S16_S1x16_1
      (Host.powf (broadcastInDim S16 ![] bcast_S_S16 (constant (F := Ideal) S_ .f32 0x461C4000#32)) (Host.divf (Host.negf (sitofp .f32 (iotaInDim S16 32 0) : FVec Ideal S16 .f32)) (broadcastInDim S16 ![] bcast_S_S16 (constant (F := Ideal) S_ .f32 0x41800000#32))))))
def spread (x : FVec Ideal S4096x16 .f32) : FVec Ideal S4x4096x16 .f32 :=
  broadcastInDim S4x4096x16 ![0, 1, 2] bcast_S1x4096x16_S4x4096x16_0_1_2 (broadcastInDim S1x4096x16 ![1, 2] bcast_S4096x16_S1x4096x16_1_2 x)
/-- The reference's rotation of a row of 32 lanes. -/
def ropeR (f : FVec Ideal S4x4096x32 .f32) : FVec Ideal S4x4096x32 .f32 :=
  concatenate S4x4096x32 2 [⟨S4x4096x16, subf (mulf (extractStridedSlice S4x4096x16 ![0, 0, 0] f slices_S4x4096x32_S4x4096x16_0_0_0) (spread (Host.cos angR))) (mulf (extractStridedSlice S4x4096x16 ![0, 0, 16] f slices_S4x4096x32_S4x4096x16_0_0_16) (spread (Host.sin angR)))⟩,
    ⟨S4x4096x16, addf (mulf (extractStridedSlice S4x4096x16 ![0, 0, 0] f slices_S4x4096x32_S4x4096x16_0_0_0) (spread (Host.sin angR))) (mulf (extractStridedSlice S4x4096x16 ![0, 0, 16] f slices_S4x4096x32_S4x4096x16_0_0_16) (spread (Host.cos angR)))⟩] concatenates_S4x4096x16_S4x4096x16_S4x4096x32_d2
def refKr (a5 : FVec Ideal S1x32 .f32) : FVec Ideal S1x4x4096x32 .f32 :=
  broadcastInDim S1x4x4096x32 ![1, 2, 3] bcast_S4x4096x32_S1x4x4096x32_1_2_3 (ropeR (normH3 (part640 a0 a1 a2) (shapeCast S32 a5 shapeCasts_S1x32_S32) 0x42000000#32 0x358637BD#32 reducesTo_S4x4096x32_S4x4096_d2 h_S_ bcast_S4x4096_S4x4096x1_0_1 bcast_S_S4x4096x1 bcast_S4x4096x1_S4x4096x32_0_1_2 bcast_S32_S1x1x32_2 bcast_S1x1x32_S4x4096x32_0_1_2))

theorem angR_at (s : Fin 4096) (i : Fin 16) : (angR (ix2 s i) : EReal) = ang s i := by
  pointwise [angR, ang, posF, freqF]
theorem spread_at (x : FVec Ideal S4096x16 .f32) (b : Fin 4) (s : Fin 4096) (i : Fin 16) : (spread x (ix3 b s i) : EReal) = x (ix2 s i) := by
  pointwise [spread]
theorem ropeR_at (f : FVec Ideal S4x4096x32 .f32) (b : Fin 4) (s : Fin 4096) (q : Fin 32) :
    (ropeR f (ix3 b s q) : EReal) = ropeL (fun l => f (ix3 b s l)) (fun i => Ideal.cos (ang s i)) (fun i => Ideal.sin (ang s i)) q := by
  have e : ∀ x y : FVec Ideal S4x4096x16 .f32, (concatenate S4x4096x32 2 [⟨S4x4096x16, x⟩, ⟨S4x4096x16, y⟩] concatenates_S4x4096x16_S4x4096x16_S4x4096x32_d2 (ix3 b s q) : EReal)
      = if h : q.val < 16 then x (ix3 b s (⟨q.val, h⟩ : Fin 16)) else y (ix3 b s (⟨q.val - 16, by omega⟩ : Fin 16)) := by
    intro x y
    pointwise
  have e0 : ∀ i : Fin 16, (extractStridedSlice S4x4096x16 ![0, 0, 0] f slices_S4x4096x32_S4x4096x16_0_0_0 (ix3 b s i) : EReal) = f (ix3 b s (⟨i.val, by omega⟩ : Fin 32)) := by
    intro i
    pointwise
  have e1 : ∀ i : Fin 16, (extractStridedSlice S4x4096x16 ![0, 0, 16] f slices_S4x4096x32_S4x4096x16_0_0_16 (ix3 b s i) : EReal) = f (ix3 b s (⟨i.val + 16, by omega⟩ : Fin 32)) := by
    intro i
    pointwise
    exact congrArg f (congrArg (ix3 b s) (Fin.ext (by show 16 + i.val = i.val + 16; omega)))
  unfold ropeR ropeL
  rw [e]
  simp only [← angR_at]
  split
  · next h =>
    rw [show ∀ (a b : FVec Ideal S4x4096x16 .f32) i, subf a b i = (a i - b i : EReal) from fun _ _ _ => rfl,
      show ∀ (a b : FVec Ideal S4x4096x16 .f32) i, mulf a b i = (a i * b i : EReal) from fun _ _ _ => rfl,
      show ∀ (a b : FVec Ideal S4x4096x16 .f32) i, mulf a b i = (a i * b i : EReal) from fun _ _ _ => rfl, e0, e1, spread_at, spread_at]
    rfl
  · next h =>
    rw [show ∀ (a b : FVec Ideal S4x4096x16 .f32) i, addf a b i = (a i + b i : EReal) from fun _ _ _ => rfl,
      show ∀ (a b : FVec Ideal S4x4096x16 .f32) i, mulf a b i = (a i * b i : EReal) from fun _ _ _ => rfl,
      show ∀ (a b : FVec Ideal S4x4096x16 .f32) i, mulf a b i = (a i * b i : EReal) from fun _ _ _ => rfl, e0, e1, spread_at, spread_at]
    have eq : (⟨(⟨q.val - 16, by omega⟩ : Fin 16).val + 16, by show q.val - 16 + 16 < 32; omega⟩ : Fin 32) = q := Fin.ext (by show q.val - 16 + 16 = q.val; omega)
    rw [eq]
    rfl

theorem lead256 (x : FVec Ideal S4x4096x256 .f32) (a : Fin 1) (b : Fin 4) (s : Fin 4096) (j : Fin 256) :
    broadcastInDim S1x4x4096x256 ![1, 2, 3] bcast_S4x4096x256_S1x4x4096x256_1_2_3 x (ix4 a b s j) = x (ix3 b s j) := by
  pointwise
theorem lead32 (x : FVec Ideal S4x4096x32 .f32) (a : Fin 1) (b : Fin 4) (s : Fin 4096) (j : Fin 32) :
    broadcastInDim S1x4x4096x32 ![1, 2, 3] bcast_S4x4096x32_S1x4x4096x32_1_2_3 x (ix4 a b s j) = x (ix3 b s j) := by
  pointwise
theorem refCq_eq (a3 : FVec Ideal S1x384 .f32) : refCq a0 a1 a2 a3 = inCq a0 a1 a2 a3 := by
  funext y
  obtain ⟨b, s, j, rfl⟩ : ∃ (b : Fin 4) (s : Fin 4096) (j : Fin 384), y = (ix3 b s j : S4x4096x384.Idx) :=
    ⟨y 0, y 1, y 2, by funext a; match a with | ⟨0, _⟩ => rfl | ⟨1, _⟩ => rfl | ⟨2, _⟩ => rfl⟩
  unfold refCq
  refine (normH3_at _ _ _ _ _ _ _ _ _ _ _ b s j).trans ?_
  show _ = rn n384 eps (fun l : Fin 384 => yj a0 a1 a2 b s (⟨l.val, by omega⟩ : Fin 4768)) (fun l => a3 (ix2 0 l)) j
  refine congrArg₂ (fun f f' => rn n384 eps f f' j) ?_ ?_
  · exact funext fun l => part0_at a0 a1 a2 b s l
  · exact funext fun l => flat384 a3 l
theorem refCkv_eq (a4 : FVec Ideal S1x256 .f32) : refCkv a0 a1 a2 a4 = inCkv a0 a1 a2 a4 := by
  funext y
  obtain ⟨a, b, s, j, rfl⟩ : ∃ (a : Fin 1) (b : Fin 4) (s : Fin 4096) (j : Fin 256), y = (ix4 a b s j : S1x4x4096x256.Idx) :=
    ⟨y 0, y 1, y 2, y 3, by funext a; match a with | ⟨0, _⟩ => rfl | ⟨1, _⟩ => rfl | ⟨2, _⟩ => rfl | ⟨3, _⟩ => rfl⟩
  unfold refCkv
  refine (lead256 _ a b s j).trans ((normH3_at _ _ _ _ _ _ _ _ _ _ _ b s j).trans ?_)
  show _ = rn n256 eps (fun l : Fin 256 => yj a0 a1 a2 b s (⟨384 + l.val, by omega⟩ : Fin 4768)) (fun l => a4 (ix2 0 l)) j
  refine congrArg₂ (fun f f' => rn n256 eps f f' j) ?_ ?_
  · exact funext fun l => part384_at a0 a1 a2 b s l
  · exact funext fun l => flat256 a4 l
theorem refKr_eq (a5 : FVec Ideal S1x32 .f32) : refKr a0 a1 a2 a5 = inKr a0 a1 a2 a5 := by
  funext y
  obtain ⟨a, b, s, j, rfl⟩ : ∃ (a : Fin 1) (b : Fin 4) (s : Fin 4096) (j : Fin 32), y = (ix4 a b s j : S1x4x4096x32.Idx) :=
    ⟨y 0, y 1, y 2, y 3, by funext a; match a with | ⟨0, _⟩ => rfl | ⟨1, _⟩ => rfl | ⟨2, _⟩ => rfl | ⟨3, _⟩ => rfl⟩
  unfold refKr
  refine (lead32 _ a b s j).trans ((ropeR_at _ b s j).trans ?_)
  show _ = ropeL (fun q => krR a0 a1 a2 a5 b s q) (fun i => Ideal.cos (ang s i)) (fun i => Ideal.sin (ang s i)) j
  refine congrArg (fun f => ropeL f _ _ j) (funext fun q => ?_)
  refine (normH3_at _ _ _ _ _ _ _ _ _ _ _ b s q).trans ?_
  unfold krR
  refine congrArg₂ (fun f f' => rn n32 eps f f' q) ?_ ?_
  · exact funext fun l => part640_at a0 a1 a2 b s l
  · exact funext fun l => flat32 a5 l
theorem refVg_eq (a6 : FVec Ideal S1x1024 .f32) : refVg a0 a1 a2 a6 = inVg a0 a1 a2 a6 := by
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  unfold refVg
  refine (normH3_at _ _ _ _ _ _ _ _ _ _ _ b s j).trans ?_
  show _ = rn n1024 eps (fun l : Fin 1024 => gelu (yj a0 a1 a2 b s (⟨1696 + l.val, by omega⟩ : Fin 4768))) (fun l => a6 (ix2 0 l)) j
  refine congrArg₂ (fun f f' => rn n1024 eps f f' j) ?_ ?_
  · exact funext fun l => (geluR_at _ _).trans (congrArg gelu (part1696_at a0 a1 a2 b s l))
  · exact funext fun l => flat1024 a6 l
theorem refU_eq : refU a0 a1 a2 = inU a0 a1 a2 := by
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  unfold refU
  exact (geluR_at _ _).trans (congrArg gelu (part672_at a0 a1 a2 b s j))
theorem refSa_eq : refSa a0 a1 a2 = inSa a0 a1 a2 := by
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  unfold refSa
  exact (sigR_at _ _).trans (congrArg Ideal.logistic (part2720_at a0 a1 a2 b s j))
theorem refSb_eq : refSb a0 a1 a2 = inSb a0 a1 a2 := by
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  unfold refSb
  exact (sigR_at _ _).trans (congrArg Ideal.logistic (part3744_at a0 a1 a2 b s j))

end
end Cert.InReferenceIdeal.Value

end
-- ==== Proof.In.Claims.lean ====
module

public import proofs.«01_k».proof.Defs
public import proofs.«01_k».proof.Proof.In.Results
public import proofs.«01_k».proof.Proof.In.Ref
public import proofs.«01_k».proof.Proof.In.Frame

/-!
# The input projection's claims
-/

@[expose] public section

set_option maxRecDepth 16384

noncomputable section

namespace Cert.In

open Idealize.ShloMosaic Idealize.ShloMosaic.TcCoe Idealize.SL.Sem

/-- The input projection's reference, a host program, leaves its arguments as they were. -/
theorem frame_reference : Cert.quiescent_InReferenceIdeal := fun m ρ _ =>
  (θ_run Cert.InReferenceIdeal.defs _ _).mono (fun r h => ⟨fun c => (h c).2.2.2.2.2.2.2, sem_eq_zero_of_no_sems (by decide) r.2⟩)
    (Cert.InReferenceIdeal.Value.run (F := Ideal) m ρ)

/-- The two programs of the input projection differ by one named constant: the reciprocal of the square root of two. -/
theorem preserves : Cert.preserves_InKernel_InKernelIdeal :=
  IdealRules.named_const.statement Cert.InKernelIdeal.κ "sqrt_half" .f32 0x3F3504F3#32 (((Real.sqrt 2)⁻¹ : ℝ) : EReal) rfl

/-- The input projection: kernel and reference, run over the extended reals from the same arguments, end with the same seven results. -/
theorem algebraic : Cert.algebraic_InKernelIdeal_InReferenceIdeal := by
  intro m g m' g' hpre hagree
  refine ⟨fun c => inCq (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)), fun c => inCkv (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg4)), fun c => inKr (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg5)), fun c => inU (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)), fun c => inVg (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg6)), fun c => inSa (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)), fun c => inSb (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)), ?_, ?_⟩
  · exact (θ_run Cert.InKernelIdeal.defs _ _).mono (fun r h c => ⟨
        ((h c).2 Cert.InKernelIdeal.main_v64 (Pipeline.mem_restRefs_of Cert.InKernelIdeal.main_v64 (by decide) (by decide))).trans (Cert.InKernelIdeal.Body.res_cq m c),
        ((h c).2 Cert.InKernelIdeal.main_v66 (Pipeline.mem_restRefs_of Cert.InKernelIdeal.main_v66 (by decide) (by decide))).trans (Cert.InKernelIdeal.Body.res_ckv m c),
        ((h c).2 Cert.InKernelIdeal.main_v69 (Pipeline.mem_restRefs_of Cert.InKernelIdeal.main_v69 (by decide) (by decide))).trans (Cert.InKernelIdeal.Body.res_kr m c),
        ((h c).2 Cert.InKernelIdeal.main_v70 (Pipeline.mem_restRefs_of Cert.InKernelIdeal.main_v70 (by decide) (by decide))).trans (Cert.InKernelIdeal.Body.res_u m c),
        ((h c).2 Cert.InKernelIdeal.main_v71 (Pipeline.mem_restRefs_of Cert.InKernelIdeal.main_v71 (by decide) (by decide))).trans (Cert.InKernelIdeal.Body.res_vg m c),
        ((h c).2 Cert.InKernelIdeal.main_v72 (Pipeline.mem_restRefs_of Cert.InKernelIdeal.main_v72 (by decide) (by decide))).trans (Cert.InKernelIdeal.Body.res_sa m c),
        ((h c).2 Cert.InKernelIdeal.main_v73 (Pipeline.mem_restRefs_of Cert.InKernelIdeal.main_v73 (by decide) (by decide))).trans (Cert.InKernelIdeal.Body.res_sb m c),
        ((h c).2 Cert.InKernelIdeal.main_arg0 (Pipeline.mem_restRefs_of Cert.InKernelIdeal.main_arg0 (by decide) (by decide))).trans (Cert.InKernelIdeal.Gen.W_main_arg0 m _ c),
        ((h c).2 Cert.InKernelIdeal.main_arg1 (Pipeline.mem_restRefs_of Cert.InKernelIdeal.main_arg1 (by decide) (by decide))).trans (Cert.InKernelIdeal.Gen.W_main_arg1 m _ c),
        ((h c).2 Cert.InKernelIdeal.main_arg2 (Pipeline.mem_restRefs_of Cert.InKernelIdeal.main_arg2 (by decide) (by decide))).trans (Cert.InKernelIdeal.Gen.W_main_arg2 m _ c),
        ((h c).2 Cert.InKernelIdeal.main_arg3 (Pipeline.mem_restRefs_of Cert.InKernelIdeal.main_arg3 (by decide) (by decide))).trans (Cert.InKernelIdeal.Gen.W_main_arg3 m _ c),
        ((h c).2 Cert.InKernelIdeal.main_arg4 (Pipeline.mem_restRefs_of Cert.InKernelIdeal.main_arg4 (by decide) (by decide))).trans (Cert.InKernelIdeal.Gen.W_main_arg4 m _ c),
        ((h c).2 Cert.InKernelIdeal.main_arg5 (Pipeline.mem_restRefs_of Cert.InKernelIdeal.main_arg5 (by decide) (by decide))).trans (Cert.InKernelIdeal.Gen.W_main_arg5 m _ c),
        ((h c).2 Cert.InKernelIdeal.main_arg6 (Pipeline.mem_restRefs_of Cert.InKernelIdeal.main_arg6 (by decide) (by decide))).trans (Cert.InKernelIdeal.Gen.W_main_arg6 m _ c)⟩)
      (Cert.InKernelIdeal.Gen.run_main m g)
  · refine (θ_run Cert.InReferenceIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.InReferenceIdeal.Value.run (F := Ideal) m' g')
    · obtain ⟨e0, e1, e2, e3, e4, e5, e6⟩ := hagree c
      refine (Cert.InReferenceIdeal.Value.refCq_eq (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg2)) (m' ((c.tc : Thread Cert.InReferenceIdeal.nD Cert.InReferenceIdeal.τ).loc Cert.InReferenceIdeal.main_arg3))).trans ?_
      rw [e0, e1, e2, e3]
    · obtain ⟨e0, e1, e2, e3, e4, e5, e6⟩ := hagree c
      refine (Cert.InReferenceIdeal.Value.refCkv_eq (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg2)) (m' ((c.tc : Thread Cert.InReferenceIdeal.nD Cert.InReferenceIdeal.τ).loc Cert.InReferenceIdeal.main_arg4))).trans ?_
      rw [e0, e1, e2, e4]
    · obtain ⟨e0, e1, e2, e3, e4, e5, e6⟩ := hagree c
      refine (Cert.InReferenceIdeal.Value.refKr_eq (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg2)) (m' ((c.tc : Thread Cert.InReferenceIdeal.nD Cert.InReferenceIdeal.τ).loc Cert.InReferenceIdeal.main_arg5))).trans ?_
      rw [e0, e1, e2, e5]
    · obtain ⟨e0, e1, e2, e3, e4, e5, e6⟩ := hagree c
      refine (Cert.InReferenceIdeal.Value.refU_eq (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg2))).trans ?_
      rw [e0, e1, e2]
    · obtain ⟨e0, e1, e2, e3, e4, e5, e6⟩ := hagree c
      refine (Cert.InReferenceIdeal.Value.refVg_eq (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg2)) (m' ((c.tc : Thread Cert.InReferenceIdeal.nD Cert.InReferenceIdeal.τ).loc Cert.InReferenceIdeal.main_arg6))).trans ?_
      rw [e0, e1, e2, e6]
    · obtain ⟨e0, e1, e2, e3, e4, e5, e6⟩ := hagree c
      refine (Cert.InReferenceIdeal.Value.refSa_eq (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg2))).trans ?_
      rw [e0, e1, e2]
    · obtain ⟨e0, e1, e2, e3, e4, e5, e6⟩ := hagree c
      refine (Cert.InReferenceIdeal.Value.refSb_eq (m' ((c.tc : Thread Cert.InReferenceIdeal.nD Cert.InReferenceIdeal.τ).loc Cert.InReferenceIdeal.main_arg0)) (m' ((c.tc : Thread Cert.InReferenceIdeal.nD Cert.InReferenceIdeal.τ).loc Cert.InReferenceIdeal.main_arg1)) (m' ((c.tc : Thread Cert.InReferenceIdeal.nD Cert.InReferenceIdeal.τ).loc Cert.InReferenceIdeal.main_arg2))).trans ?_
      rw [e0, e1, e2]

end Cert.In

end
-- ==== Proof.Math.Wide.lean ====
module

public import proofs.«01_k».proof.Proof.Math.Rows

/-!
# The rows the merge and the output of the memory attention compute
-/

@[expose] public section

set_option maxRecDepth 16384

noncomputable section

namespace Cert.Wide

open Idealize.ShloMosaic Idealize.ShloMosaic.TcCoe Idealize.ShloMosaic.Tactic Cert.Rows

/-- A row plus another row times a matrix. -/
def addRow {n : ℕ} (x : Fin 1024 → EReal) (o : Fin n → EReal) (w : Fin n → Fin 1024 → EReal) (j : Fin 1024) : EReal := x j + dot o fun k => w k j
/-- The gated merge of a row: the gate times the attention's projection, plus the other branch. -/
def mixRow (o : Fin 1024 → EReal) (w : Fin 1024 → Fin 1024 → EReal) (a y : Fin 1024 → EReal) (j : Fin 1024) : EReal := a j * (dot o fun k => w k j) + y j
/-- A head's lanes of a row normalized and projected, normalized in their turn. -/
def headAt (x g : Fin 1024 → EReal) (w : Fin 1024 → Fin 512 → EReal) (gc : Fin 128 → EReal) (h : Fin 4) (d : Fin 128) : EReal :=
  rn n128 eps (fun l : Fin 128 => pj x g fun k => w k (⟨128 * h.val + l.val, by omega⟩ : Fin 512)) gc d

section Out
variable (a0 : FVec Ideal ⟨3, ![4, 4096, 1024]⟩ .f32) (a1 : FVec Ideal ⟨3, ![4, 4096, 512]⟩ .f32) (a2 : FVec Ideal ⟨3, ![1, 512, 1024]⟩ .f32)
/-- A row with the memory attention's projection added. -/
def outRow (b : Fin 4) (s : Fin 4096) : Fin 1024 → EReal := addRow (fun l => a0 (ix3 b s l)) (fun k => a1 (ix3 b s k)) fun k j => a2 (ix3 0 k j)
/-- The rows with the memory attention's projection added. -/
def outX : FVec Ideal ⟨3, ![4, 4096, 1024]⟩ .f32 := fun y => outRow a0 a1 a2 (y 0) (y 1) (y 2)
/-- The same normalized. -/
def outH (a3 : FVec Ideal ⟨2, ![1, 1024]⟩ .f32) : FVec Ideal ⟨3, ![4, 4096, 1024]⟩ .bf16 :=
  fun y => rn n1024 eps (outRow a0 a1 a2 (y 0) (y 1)) (fun l => a3 (ix2 0 l)) (y 2)
/-- The experts' queries. -/
def outQ (a3 : FVec Ideal ⟨2, ![1, 1024]⟩ .f32) (a4 : FVec Ideal ⟨3, ![1, 1024, 2048]⟩ .f32) : FVec Ideal ⟨3, ![4, 4096, 2048]⟩ .bf16 :=
  fun y => pj (outRow a0 a1 a2 (y 0) (y 1)) (fun l => a3 (ix2 0 l)) (fun k => a4 (ix3 0 k (y 2)))
end Out

section Merge
variable (a0 a1 a2 a3 : FVec Ideal ⟨3, ![4, 4096, 1024]⟩ .f32) (a4 a5 : FVec Ideal ⟨3, ![1, 1024, 1024]⟩ .f32)
/-- A row with the mixer's output added. -/
def mergeRow (b : Fin 4) (s : Fin 4096) : Fin 1024 → EReal :=
  addRow (fun l => a0 (ix3 b s l)) (mixRow (fun k => a1 (ix3 b s k)) (fun k j => a4 (ix3 0 k j)) (fun l => a2 (ix3 b s l)) (fun l => a3 (ix3 b s l))) fun k j => a5 (ix3 0 k j)
/-- The rows with the mixer's output added. -/
def mergeX : FVec Ideal ⟨3, ![4, 4096, 1024]⟩ .f32 := fun y => mergeRow a0 a1 a2 a3 a4 a5 (y 0) (y 1) (y 2)
/-- The queries of the memory's attention. -/
def mergeQ (a6 : FVec Ideal ⟨2, ![1, 1024]⟩ .f32) (a7 : FVec Ideal ⟨3, ![1, 1024, 512]⟩ .f32) (a8 : FVec Ideal ⟨2, ![1, 128]⟩ .f32) : FVec Ideal ⟨4, ![4, 4096, 4, 128]⟩ .bf16 :=
  fun y => headAt (mergeRow a0 a1 a2 a3 a4 a5 (y 0) (y 1)) (fun l => a6 (ix2 0 l)) (fun k j => a7 (ix3 0 k j)) (fun l => a8 (ix2 0 l)) (y 2) (y 3)
end Merge

end Cert.Wide

end
-- ==== Proof.Merge.Block.lean ====
module

public import proofs.«01_k».proof.Proof.Gen.MergeKernelIdeal.Frame
public import proofs.«01_k».proof.Proof.Math.Wide
public import Idealize.ShloMosaic.Lib.Pipeline.ValueKit

/-!
# What one step of the merge call computes, at an index
-/

@[expose] public section

set_option maxRecDepth 16384

noncomputable section

namespace Cert.MergeKernelIdeal.Body

open Cert.MergeKernelIdeal Cert.MergeKernelIdeal.Gen Cert.Rows Cert.Wide
open Idealize.ShloMosaic Idealize.ShloMosaic.TcCoe Idealize.ShloMosaic.Tactic

theorem matW (a : FVec Ideal S1024x1024 .bf16) (w : FVec Ideal S1024x1024 .bf16) (p : Fin 1024) (j : Fin 1024) :
    ((matmul dot_S1024x1024_S1024x1024_S1024x1024_1_0_0_1_n_n none a w (constant (F := Ideal) S1024x1024 .f32 0x00000000#32) : FVec Ideal S1024x1024 .f32) (ix2 p j) : EReal)
      = ∑ k : Fin 1024, (a (ix2 p k) * w (ix2 k j) : EReal) := by
  pointwise
theorem matQ (a : FVec Ideal S1024x1024 .bf16) (w : FVec Ideal S1024x512 .bf16) (p : Fin 1024) (j : Fin 512) :
    ((matmul dot_S1024x1024_S1024x512_S1024x512_1_0_0_1_n_n none a w (constant (F := Ideal) S1024x512 .f32 0x00000000#32) : FVec Ideal S1024x512 .f32) (ix2 p j) : EReal)
      = ∑ k : Fin 1024, (a (ix2 p k) * w (ix2 k j) : EReal) := by
  pointwise
theorem head_at (y : FVec Ideal S1024x128 .f32) (g : FVec Ideal S1x128 .f32) (p : Fin 1024) (d : Fin 128) :
    (k0_pay1 (F := Ideal) y g (ix2 p d) : EReal) = rn n128 eps (fun l => y (ix2 p l)) (fun l => g (ix2 0 l)) d := by
  unfold k0_pay1
  exact normKW y g _ _ _ _ _ _ p d
theorem slice_at (y : FVec Ideal S1024x512 .f32) (o : ℕ) (ho : o + 128 ≤ 512) (hs) (p : Fin 1024) (d : Fin 128) :
    extractStridedSlice S1024x128 ![0, o] y hs (ix2 p d) = y (ix2 p (⟨o + d.val, by omega⟩ : Fin 512)) := by
  pointwise
theorem pay2_eq (y : FVec Ideal S1024x512 .f32) (gc : FVec Ideal S1x128 .f32) :
    k0_pay2 (F := Ideal) y gc = k0_pay1 (extractStridedSlice S1024x128 ![0, 384] y slices_S1024x512_o0_384_S1024x128) (k0_pay9 (F := Ideal) gc) := rfl
theorem pay6_eq (y : FVec Ideal S1024x1024 .bf16) (w : FVec Ideal S1024x512 .bf16) (gc : FVec Ideal S1x128 .f32) :
    k0_pay6 (F := Ideal) y w gc = k0_pay1 (extractStridedSlice S1024x128 ![0, 0] (k0_pay5 (F := Ideal) y w) slices_S1024x512_o0_0_S1024x128) (k0_pay9 (F := Ideal) gc) := rfl
theorem pay7_eq (y : FVec Ideal S1024x1024 .bf16) (w : FVec Ideal S1024x512 .bf16) (gc : FVec Ideal S1x128 .f32) :
    k0_pay7 (F := Ideal) y w gc = k0_pay1 (extractStridedSlice S1024x128 ![0, 128] (k0_pay5 (F := Ideal) y w) slices_S1024x512_o0_128_S1024x128) (k0_pay9 (F := Ideal) gc) := rfl
theorem pay8_eq (y : FVec Ideal S1024x1024 .bf16) (w : FVec Ideal S1024x512 .bf16) :
    k0_pay8 (F := Ideal) y w = extractStridedSlice S1024x128 ![0, 256] (k0_pay5 (F := Ideal) y w) slices_S1024x512_o0_256_S1024x128 := rfl
theorem pay9_eq (gc : FVec Ideal S1x128 .f32) : k0_pay9 (F := Ideal) gc = gc := by
  unfold k0_pay9
  exact same gc _

section
variable (x : FVec Ideal S1024x1024 .f32) (o a b wa w : FVec Ideal S1024x1024 .bf16) (g : FVec Ideal S1x1024 .f32) (wq : FVec Ideal S1024x512 .bf16) (gc : FVec Ideal S1x128 .f32)
theorem x_at (p : Fin 1024) (j : Fin 1024) : (k0_pay3 (F := Ideal) o wa a b x w (ix2 p j) : EReal) = (addRow (fun l => x (ix2 p l)) (mixRow (fun l => o (ix2 p l)) (fun k j => wa (ix2 k j)) (fun l => a (ix2 p l)) (fun l => b (ix2 p l))) (fun k j => w (ix2 k j))) j := by
  unfold k0_pay3
  rw [same x, same o, same wa, same a, same b, same w, show ∀ (a b : FVec Ideal S1024x1024 .f32) i, addf a b i = (a i + b i : EReal) from fun _ _ _ => rfl, matW]
  unfold addRow dot
  refine congrArg (fun z : EReal => (x (ix2 p j) : EReal) + z) (Finset.sum_congr rfl fun k _ => ?_)
  refine congrArg (fun z : EReal => z * (w (ix2 k j) : EReal)) ?_
  exact congrArg (fun z : EReal => (a (ix2 p k) : EReal) * z + (b (ix2 p k) : EReal)) (matW o wa p k)
theorem h_at (p : Fin 1024) (j : Fin 1024) : (k0_pay4 (F := Ideal) o wa a b x w g (ix2 p j) : EReal) = rn n1024 eps (addRow (fun l => x (ix2 p l)) (mixRow (fun l => o (ix2 p l)) (fun k j => wa (ix2 k j)) (fun l => a (ix2 p l)) (fun l => b (ix2 p l))) (fun k j => w (ix2 k j))) (fun l => g (ix2 0 l)) j := by
  unfold k0_pay4
  rw [same g]
  refine (normKW (k0_pay3 (F := Ideal) o wa a b x w) g _ _ _ _ _ _ p j).trans ?_
  exact congrArg (fun f => rn n1024 eps f (fun l => g (ix2 0 l)) j) (funext fun l => x_at x o a b wa w p l)
theorem q_at (p : Fin 1024) (j : Fin 512) : (k0_pay5 (F := Ideal) (k0_pay4 (F := Ideal) o wa a b x w g) wq (ix2 p j) : EReal) = pj (addRow (fun l => x (ix2 p l)) (mixRow (fun l => o (ix2 p l)) (fun k j => wa (ix2 k j)) (fun l => a (ix2 p l)) (fun l => b (ix2 p l))) (fun k j => w (ix2 k j))) (fun l => g (ix2 0 l)) (fun k => wq (ix2 k j)) := by
  unfold k0_pay5
  rw [same wq]
  refine (matQ (k0_pay4 (F := Ideal) o wa a b x w g) wq p j).trans ?_
  unfold pj dot
  exact Finset.sum_congr rfl fun k _ => by rw [h_at]
/-- One head's lanes of a step's queries. -/
theorem query_at (h : Fin 4) (hs : S1024x512.Slices ![0, 128 * h.val] S1024x128) (p : Fin 1024) (d : Fin 128) :
    (k0_pay1 (F := Ideal) (extractStridedSlice S1024x128 ![0, 128 * h.val] (k0_pay5 (F := Ideal) (k0_pay4 (F := Ideal) o wa a b x w g) wq) hs) gc (ix2 p d) : EReal)
      = headAt (addRow (fun l => x (ix2 p l)) (mixRow (fun l => o (ix2 p l)) (fun k j => wa (ix2 k j)) (fun l => a (ix2 p l)) (fun l => b (ix2 p l))) (fun k j => w (ix2 k j))) (fun l => g (ix2 0 l)) (fun k j => wq (ix2 k j)) (fun l => gc (ix2 0 l)) h d := by
  rw [head_at]
  unfold headAt
  refine congrArg (fun f => rn n128 eps f (fun l => gc (ix2 0 l)) d) (funext fun l => ?_)
  rw [slice_at _ _ (by omega), q_at]
/-- A step's queries as an array. -/
def queriesG : FVec Ideal S1024x512 .bf16 :=
  fun y => headAt (addRow (fun l => x (ix2 (y 0) l)) (mixRow (fun l => o (ix2 (y 0) l)) (fun k j => wa (ix2 k j)) (fun l => a (ix2 (y 0) l)) (fun l => b (ix2 (y 0) l))) (fun k j => w (ix2 k j))) (fun l => g (ix2 0 l)) (fun k j => wq (ix2 k j)) (fun l => gc (ix2 0 l))
    (⟨(y 1).val / 128, by have h : (y 1).val < 512 := (y 1).isLt; omega⟩ : Fin 4) (⟨(y 1).val % 128, by omega⟩ : Fin 128)
theorem queriesG_of (y : S1024x512.Idx) (p : Fin 1024) (h : Fin 4) (d : Fin 128) (h0 : (y 0).val = p.val) (h1 : (y 1).val = 128 * h.val + d.val) :
    (queriesG x o a b wa w g wq gc y : EReal) = headAt (addRow (fun l => x (ix2 p l)) (mixRow (fun l => o (ix2 p l)) (fun k j => wa (ix2 k j)) (fun l => a (ix2 p l)) (fun l => b (ix2 p l))) (fun k j => w (ix2 k j))) (fun l => g (ix2 0 l)) (fun k j => wq (ix2 k j)) (fun l => gc (ix2 0 l)) h d := by
  have e0 : y 0 = p := Fin.ext h0
  have hh : (⟨(y 1).val / 128, by have h : (y 1).val < 512 := (y 1).isLt; omega⟩ : Fin 4) = h := Fin.ext (by show (y 1).val / 128 = _; omega)
  have hd : (⟨(y 1).val % 128, by omega⟩ : Fin 128) = d := Fin.ext (by show (y 1).val % 128 = _; omega)
  unfold queriesG
  rw [hh, hd, e0]
theorem piece (h : Fin 4) (hs : S1024x512.Slices ![0, 128 * h.val] S1024x128) (inb) (i : S1024x128.Idx) :
    (k0_pay1 (F := Ideal) (extractStridedSlice S1024x128 ![0, 128 * h.val] (k0_pay5 (F := Ideal) (k0_pay4 (F := Ideal) o wa a b x w g) wq) hs) gc i : EReal)
      = queriesG x o a b wa w g wq gc ((Rect.unit (s := S1024x512) ![0, 128 * h.val] S1024x128.size inb).emb i) := by
  obtain ⟨p, d, rfl⟩ : ∃ (p : Fin 1024) (d : Fin 128), i = ix2 p d :=
    ⟨i 0, i 1, by funext a; match a with | ⟨0, _⟩ => rfl | ⟨1, _⟩ => rfl⟩
  rw [query_at, queriesG_of x o a b wa w g wq gc _ p h d]
  · show 0 + 1 * p.val = p.val
    omega
  · show 128 * h.val + 1 * d.val = _
    omega
end
/-- What a step stores of the rows. -/
theorem out9_eq (x0 : Vec Ideal S1024x1024 .f32) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1x1024 .f32) (x7 : Vec Ideal S1024x512 .bf16) (x8 : Vec Ideal S1x128 .f32) : out0_9 (F := Ideal) x0 x1 x2 x3 x4 x5 x6 x7 x8 = k0_pay3 (F := Ideal) x1 x4 x2 x3 x0 x5 := by
  unfold out0_9
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
/-- What a step stores of the queries. -/
theorem out10_eq (x0 : Vec Ideal S1024x1024 .f32) (x1 : Vec Ideal S1024x1024 .bf16) (x2 : Vec Ideal S1024x1024 .bf16) (x3 : Vec Ideal S1024x1024 .bf16) (x4 : Vec Ideal S1024x1024 .bf16) (x5 : Vec Ideal S1024x1024 .bf16) (x6 : Vec Ideal S1x1024 .f32) (x7 : Vec Ideal S1024x512 .bf16) (x8 : Vec Ideal S1x128 .f32) : out0_10 (F := Ideal) x0 x1 x2 x3 x4 x5 x6 x7 x8 = queriesG x0 x1 x2 x3 x4 x5 x6 x7 x8 := by
  funext y
  unfold_out out0_10
  rw [View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), pay2_eq, pay6_eq, pay7_eq, pay8_eq, pay9_eq]
  refine View.canon_apply_of_pieces (Val := Elt Ideal) (e := .bf16) (queriesG x0 x1 x2 x3 x4 x5 x6 x7 x8) _ ?_ y (cover0_10 _ _ _ _ _)
  intro pc hpc
  simp only [List.mem_cons, List.not_mem_nil, or_false] at hpc
  rcases hpc with rfl | rfl | rfl | rfl
  · exact fun i => piece x0 x1 x2 x3 x4 x5 x6 x7 x8 3 _ (by decide) i
  · exact fun i => piece x0 x1 x2 x3 x4 x5 x6 x7 x8 2 _ (by decide) i
  · exact fun i => piece x0 x1 x2 x3 x4 x5 x6 x7 x8 1 _ (by decide) i
  · exact fun i => piece x0 x1 x2 x3 x4 x5 x6 x7 x8 0 _ (by decide) i

end Cert.MergeKernelIdeal.Body

end
-- ==== Proof.Merge.Final.lean ====
module

public import proofs.«01_k».proof.Proof.Merge.Block

/-!
# What the run of the merge call leaves in its results
-/

@[expose] public section

set_option maxRecDepth 16384

noncomputable section

namespace Cert.MergeKernelIdeal.Body

open Cert.MergeKernelIdeal Cert.MergeKernelIdeal.Gen Cert.Rows Cert.Wide
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-- The rows of all steps. -/
def xA (x : FVec Ideal S16384x1024 .f32) (o a b : FVec Ideal S16384x1024 .bf16) (wa w : FVec Ideal S1024x1024 .bf16) : FVec Ideal S16384x1024 .f32 := fun y => (addRow (fun l => x (ix2 (y 0) l)) (mixRow (fun l => o (ix2 (y 0) l)) (fun k j => wa (ix2 k j)) (fun l => a (ix2 (y 0) l)) (fun l => b (ix2 (y 0) l))) (fun k j => w (ix2 k j))) (y 1)
/-- The queries of all steps. -/
def qA (x : FVec Ideal S16384x1024 .f32) (o a b : FVec Ideal S16384x1024 .bf16) (wa w : FVec Ideal S1024x1024 .bf16) (g : FVec Ideal S1x1024 .f32) (wq : FVec Ideal S1024x512 .bf16) (gc : FVec Ideal S1x128 .f32) : FVec Ideal S16384x512 .bf16 :=
  fun y => headAt (addRow (fun l => x (ix2 (y 0) l)) (mixRow (fun l => o (ix2 (y 0) l)) (fun k j => wa (ix2 k j)) (fun l => a (ix2 (y 0) l)) (fun l => b (ix2 (y 0) l))) (fun k j => w (ix2 k j))) (fun l => g (ix2 0 l)) (fun k j => wq (ix2 k j)) (fun l => gc (ix2 0 l)) (⟨(y 1).val / 128, by have h : (y 1).val < 512 := (y 1).isLt; omega⟩ : Fin 4) (⟨(y 1).val % 128, by omega⟩ : Fin 128)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![(grid0.coords t 0).val, 0] := (by decide +kernel : ∀ t : Fin grid0.N, _)
theorem idx10 : ∀ t : Fin cfg0.N, win0_10.index t = ![(grid0.coords t 0).val, 0] := (by decide +kernel : ∀ t : Fin grid0.N, _)

theorem blk0 (c : Dev nD) (t : Fin cfg0.N) (p : Fin 1024) (r : Fin 16384) (hr : r.val = (grid0.coords t 0).val * 1024 + p.val) (l : Fin 1024) :
    (iblk m c 0 t : Vec Ideal S1024x1024 .f32) (ix2 p l) = (V m c main_v10 : Vec Ideal S16384x1024 .f32) (ix2 r l) := by
  blk_point [iblk, V, idx0 t]
theorem blk1 (c : Dev nD) (t : Fin cfg0.N) (p : Fin 1024) (r : Fin 16384) (hr : r.val = (grid0.coords t 0).val * 1024 + p.val) (l : Fin 1024) :
    (iblk m c 1 t : Vec Ideal S1024x1024 .bf16) (ix2 p l) = (V m c main_v12 : Vec Ideal S16384x1024 .bf16) (ix2 r l) := by
  blk_point [iblk, V, idx1 t]
theorem blk2 (c : Dev nD) (t : Fin cfg0.N) (p : Fin 1024) (r : Fin 16384) (hr : r.val = (grid0.coords t 0).val * 1024 + p.val) (l : Fin 1024) :
    (iblk m c 2 t : Vec Ideal S1024x1024 .bf16) (ix2 p l) = (V m c main_v14 : Vec Ideal S16384x1024 .bf16) (ix2 r l) := by
  blk_point [iblk, V, idx2 t]
theorem blk3 (c : Dev nD) (t : Fin cfg0.N) (p : Fin 1024) (r : Fin 16384) (hr : r.val = (grid0.coords t 0).val * 1024 + p.val) (l : Fin 1024) :
    (iblk m c 3 t : Vec Ideal S1024x1024 .bf16) (ix2 p l) = (V m c main_v16 : Vec Ideal S16384x1024 .bf16) (ix2 r l) := by
  blk_point [iblk, V, idx3 t]
theorem blk4 (c : Dev nD) (t : Fin cfg0.N) : (iblk m c 4 t : Vec Ideal S1024x1024 .bf16) = V m c main_v1 := by
  funext y
  blk_ext [iblk, V, idx4 t]
theorem blk5 (c : Dev nD) (t : Fin cfg0.N) : (iblk m c 5 t : Vec Ideal S1024x1024 .bf16) = V m c main_v3 := by
  funext y
  blk_ext [iblk, V, idx5 t]
theorem blk6 (c : Dev nD) (t : Fin cfg0.N) : (iblk m c 6 t : Vec Ideal S1x1024 .f32) = V m c main_v5 := by
  funext y
  blk_ext [iblk, V, idx6 t]
theorem blk7 (c : Dev nD) (t : Fin cfg0.N) : (iblk m c 7 t : Vec Ideal S1024x512 .bf16) = V m c main_v7 := by
  funext y
  blk_ext [iblk, V, idx7 t]
theorem blk8 (c : Dev nD) (t : Fin cfg0.N) : (iblk m c 8 t : Vec Ideal S1x128 .f32) = V m c main_v9 := by
  funext y
  blk_ext [iblk, V, idx8 t]

/-- The array of a result after the run. -/
theorem final9 (c : Dev nD) : (dats m 0 c).arrAt 9 (cfgs 0).N = xA (V m c main_v10) (V m c main_v12) (V m c main_v14) (V m c main_v16) (V m c main_v1) (V m c main_v3) := by
  refine (dats m 0 c).arrAt_eq_of_covers 9 _ (by decide +kernel) fun t hf y => ?_
  blk_simp
  rw [after0_9]
  obtain ⟨p, j, rfl⟩ : ∃ (p : Fin 1024) (j : Fin 1024), y = (ix2 p j : S1024x1024.Idx) :=
    ⟨y 0, y 1, by funext a; match a with | ⟨0, _⟩ => rfl | ⟨1, _⟩ => rfl⟩
  have h0 : (((win0_9.blk t).view.emb (ix2 p j : S1024x1024.Idx) : S16384x1024.Idx) 0).val = (grid0.coords t 0).val * 1024 + p.val := by
    blk_simp [idx9 t]
  have h1 : (((win0_9.blk t).view.emb (ix2 p j : S1024x1024.Idx) : S16384x1024.Idx) 1) = j := by
    apply Fin.ext
    blk_simp [idx9 t]
  generalize ((win0_9.blk t).view.emb (ix2 p j : S1024x1024.Idx) : S16384x1024.Idx) = i at h0 h1 ⊢
  rw [out9_eq, blk4, blk5, x_at]
  unfold xA
  subst h1
  simp only [blk0 m c t p (i 0) h0, blk1 m c t p (i 0) h0, blk2 m c t p (i 0) h0, blk3 m c t p (i 0) h0]
/-- The array of a result after the run. -/
theorem final10 (c : Dev nD) : (dats m 0 c).arrAt 10 (cfgs 0).N = qA (V m c main_v10) (V m c main_v12) (V m c main_v14) (V m c main_v16) (V m c main_v1) (V m c main_v3) (V m c main_v5) (V m c main_v7) (V m c main_v9) := by
  refine (dats m 0 c).arrAt_eq_of_covers 10 _ (by decide +kernel) fun t hf y => ?_
  blk_simp
  rw [after0_10]
  obtain ⟨p, j, rfl⟩ : ∃ (p : Fin 1024) (j : Fin 512), y = (ix2 p j : S1024x512.Idx) :=
    ⟨y 0, y 1, by funext a; match a with | ⟨0, _⟩ => rfl | ⟨1, _⟩ => rfl⟩
  have h0 : (((win0_10.blk t).view.emb (ix2 p j : S1024x512.Idx) : S16384x512.Idx) 0).val = (grid0.coords t 0).val * 1024 + p.val := by
    blk_simp [idx10 t]
  have h1 : (((win0_10.blk t).view.emb (ix2 p j : S1024x512.Idx) : S16384x512.Idx) 1) = j := by
    apply Fin.ext
    blk_simp [idx10 t]
  generalize ((win0_10.blk t).view.emb (ix2 p j : S1024x512.Idx) : S16384x512.Idx) = i at h0 h1 ⊢
  rw [out10_eq, blk4, blk5, blk6, blk7, blk8, queriesG_of _ _ _ _ _ _ _ _ _ (ix2 p j) p ⟨j.val / 128, by omega⟩ ⟨j.val % 128, by omega⟩ rfl (by show j.val = 128 * (j.val / 128) + j.val % 128; omega)]
  unfold qA
  subst h1
  simp only [blk0 m c t p (i 0) h0, blk1 m c t p (i 0) h0, blk2 m c t p (i 0) h0, blk3 m c t p (i 0) h0]

/-- The row of a batch entry's position. -/
def rowOf (b : Fin 4) (s : Fin 4096) : Fin 16384 := ⟨4096 * b.val + s.val, by omega⟩
theorem opnd0 (c : Dev nD) : V m c main_v10 = shapeCast S16384x1024 (m ((c : Thread nD τ).loc main_arg0)) shapeCasts_S4x4096x1024_S16384x1024 := by
  unfold V V0 hostOps0
  after_results
  rfl
theorem flat1024 (a : FVec Ideal S4x4096x1024 .f32) (b : Fin 4) (s : Fin 4096) (l : Fin 1024) :
    shapeCast S16384x1024 a shapeCasts_S4x4096x1024_S16384x1024 (ix2 (rowOf b s) l) = a (ix3 b s l) := by
  unfold rowOf
  pointwise
theorem at0 (c : Dev nD) (b : Fin 4) (s : Fin 4096) : (fun l : Fin 1024 => ((V m c main_v10 : FVec Ideal S16384x1024 .f32) (ix2 (rowOf b s) l) : EReal)) = fun l => (m ((c : Thread nD τ).loc main_arg0)) (ix3 b s l) := by
  rw [opnd0]
  exact funext fun l => flat1024 _ b s l
theorem opnd1 (c : Dev nD) : V m c main_v12 = truncf .bf16 (shapeCast S16384x1024 (m ((c : Thread nD τ).loc main_arg1)) shapeCasts_S4x4096x1024_S16384x1024 : FVec Ideal S16384x1024 .f32) bitsLt_bf16_f32 := by
  unfold V V0 hostOps0
  after_results
  rfl
theorem at1 (c : Dev nD) (b : Fin 4) (s : Fin 4096) : (fun l : Fin 1024 => ((V m c main_v12 : FVec Ideal S16384x1024 .bf16) (ix2 (rowOf b s) l) : EReal)) = fun l => (m ((c : Thread nD τ).loc main_arg1)) (ix3 b s l) := by
  rw [opnd1]
  exact funext fun l => flat1024 _ b s l
theorem opnd2 (c : Dev nD) : V m c main_v14 = truncf .bf16 (shapeCast S16384x1024 (m ((c : Thread nD τ).loc main_arg2)) shapeCasts_S4x4096x1024_S16384x1024 : FVec Ideal S16384x1024 .f32) bitsLt_bf16_f32 := by
  unfold V V0 hostOps0
  after_results
  rfl
theorem at2 (c : Dev nD) (b : Fin 4) (s : Fin 4096) : (fun l : Fin 1024 => ((V m c main_v14 : FVec Ideal S16384x1024 .bf16) (ix2 (rowOf b s) l) : EReal)) = fun l => (m ((c : Thread nD τ).loc main_arg2)) (ix3 b s l) := by
  rw [opnd2]
  exact funext fun l => flat1024 _ b s l
theorem opnd3 (c : Dev nD) : V m c main_v16 = truncf .bf16 (shapeCast S16384x1024 (m ((c : Thread nD τ).loc main_arg3)) shapeCasts_S4x4096x1024_S16384x1024 : FVec Ideal S16384x1024 .f32) bitsLt_bf16_f32 := by
  unfold V V0 hostOps0
  after_results
  rfl
theorem at3 (c : Dev nD) (b : Fin 4) (s : Fin 4096) : (fun l : Fin 1024 => ((V m c main_v16 : FVec Ideal S16384x1024 .bf16) (ix2 (rowOf b s) l) : EReal)) = fun l => (m ((c : Thread nD τ).loc main_arg3)) (ix3 b s l) := by
  rw [opnd3]
  exact funext fun l => flat1024 _ b s l
theorem opnd4 (c : Dev nD) : V m c main_v1 = truncf .bf16 (shapeCast S1024x1024 (m ((c : Thread nD τ).loc main_arg4)) shapeCasts_S1x1024x1024_S1024x1024 : FVec Ideal S1024x1024 .f32) bitsLt_bf16_f32 := by
  unfold V V0 hostOps0
  after_results
  rfl
theorem mat1024x1024 (a : FVec Ideal S1x1024x1024 .f32) (k : Fin 1024) (j : Fin 1024) :
    shapeCast S1024x1024 a shapeCasts_S1x1024x1024_S1024x1024 (ix2 k j) = a (ix3 0 k j) := by
  pointwise
theorem at4 (c : Dev nD) : (fun (k : Fin 1024) (j : Fin 1024) => ((V m c main_v1 : FVec Ideal S1024x1024 .bf16) (ix2 k j) : EReal)) = fun k j => (m ((c : Thread nD τ).loc main_arg4)) (ix3 0 k j) := by
  rw [opnd4]
  exact funext fun k => funext fun j => mat1024x1024 _ k j
theorem opnd5 (c : Dev nD) : V m c main_v3 = truncf .bf16 (shapeCast S1024x1024 (m ((c : Thread nD τ).loc main_arg5)) shapeCasts_S1x1024x1024_S1024x1024 : FVec Ideal S1024x1024 .f32) bitsLt_bf16_f32 := by
  unfold V V0 hostOps0
  after_results
  rfl
theorem at5 (c : Dev nD) : (fun (k : Fin 1024) (j : Fin 1024) => ((V m c main_v3 : FVec Ideal S1024x1024 .bf16) (ix2 k j) : EReal)) = fun k j => (m ((c : Thread nD τ).loc main_arg5)) (ix3 0 k j) := by
  rw [opnd5]
  exact funext fun k => funext fun j => mat1024x1024 _ k j
theorem opnd6 (c : Dev nD) : V m c main_v5 = broadcastInDim S1x1024 ![1] bcast_S1024_S1x1024_1 (shapeCast S1024 (m ((c : Thread nD τ).loc main_arg6)) shapeCasts_S1x1024_S1024) := by
  unfold V V0 hostOps0
  after_results
  rfl
theorem gain1024 (a : FVec Ideal S1x1024 .f32) (l : Fin 1024) :
    broadcastInDim S1x1024 ![1] bcast_S1024_S1x1024_1 (shapeCast S1024 a shapeCasts_S1x1024_S1024) (ix2 0 l) = a (ix2 0 l) := by
  pointwise
theorem at6 (c : Dev nD) : (fun l : Fin 1024 => ((V m c main_v5 : FVec Ideal S1x1024 .f32) (ix2 0 l) : EReal)) = fun l => (m ((c : Thread nD τ).loc main_arg6)) (ix2 0 l) := by
  rw [opnd6]
  exact funext fun l => gain1024 _ l
theorem opnd7 (c : Dev nD) : V m c main_v7 = truncf .bf16 (shapeCast S1024x512 (m ((c : Thread nD τ).loc main_arg7)) shapeCasts_S1x1024x512_S1024x512 : FVec Ideal S1024x512 .f32) bitsLt_bf16_f32 := by
  unfold V V0 hostOps0
  after_results
  rfl
theorem mat1024x512 (a : FVec Ideal S1x1024x512 .f32) (k : Fin 1024) (j : Fin 512) :
    shapeCast S1024x512 a shapeCasts_S1x1024x512_S1024x512 (ix2 k j) = a (ix3 0 k j) := by
  pointwise
theorem at7 (c : Dev nD) : (fun (k : Fin 1024) (j : Fin 512) => ((V m c main_v7 : FVec Ideal S1024x512 .bf16) (ix2 k j) : EReal)) = fun k j => (m ((c : Thread nD τ).loc main_arg7)) (ix3 0 k j) := by
  rw [opnd7]
  exact funext fun k => funext fun j => mat1024x512 _ k j
theorem opnd8 (c : Dev nD) : V m c main_v9 = broadcastInDim S1x128 ![1] bcast_S128_S1x128_1 (shapeCast S128 (m ((c : Thread nD τ).loc main_arg8)) shapeCasts_S1x128_S128) := by
  unfold V V0 hostOps0
  after_results
  rfl
theorem gain128 (a : FVec Ideal S1x128 .f32) (l : Fin 128) :
    broadcastInDim S1x128 ![1] bcast_S128_S1x128_1 (shapeCast S128 a shapeCasts_S1x128_S128) (ix2 0 l) = a (ix2 0 l) := by
  pointwise
theorem at8 (c : Dev nD) : (fun l : Fin 128 => ((V m c main_v9 : FVec Ideal S1x128 .f32) (ix2 0 l) : EReal)) = fun l => (m ((c : Thread nD τ).loc main_arg8)) (ix2 0 l) := by
  rw [opnd8]
  exact funext fun l => gain128 _ l
/-- A row of the operands is a row of the arguments. -/
theorem row_eq (c : Dev nD) (b : Fin 4) (s : Fin 4096) : (addRow (fun l => V m c main_v10 (ix2 (rowOf b s) l)) (mixRow (fun l => V m c main_v12 (ix2 (rowOf b s) l)) (fun k j => V m c main_v1 (ix2 k j)) (fun l => V m c main_v14 (ix2 (rowOf b s) l)) (fun l => V m c main_v16 (ix2 (rowOf b s) l))) (fun k j => V m c main_v3 (ix2 k j))) = mergeRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s := by
  rw [at0, at1, at2, at3, at4, at5]
  rfl
theorem unflat1024f32 (X : FVec Ideal S16384x1024 .f32) (b : Fin 4) (s : Fin 4096) (j : Fin 1024) :
    shapeCast S4x4096x1024 X shapeCasts_S16384x1024_S4x4096x1024 (ix3 b s j) = X (ix2 (rowOf b s) j) := by
  pointwise
  exact congrArg X (congrArg₂ ix2 (Fin.ext (by show b.val * 4096 + s.val = 4096 * b.val + s.val; omega)) rfl)
theorem unflatHeads (X : FVec Ideal S16384x512 .bf16) (b : Fin 4) (s : Fin 4096) (h : Fin 4) (d : Fin 128) :
    shapeCast S4x4096x4x128 X shapeCasts_S16384x512_S4x4096x4x128 (ix4 b s h d) = X (ix2 (rowOf b s) (⟨128 * h.val + d.val, by omega⟩ : Fin 512)) := by
  pointwise
  exact congrArg X (congrArg₂ ix2 (Fin.ext (by show b.val * 4096 + s.val = 4096 * b.val + s.val; omega)) (Fin.ext (by show h.val * 128 + d.val = 128 * h.val + d.val; omega)))
theorem tail18 (W : Valuation τ sig (Elt Ideal)) : StableHlo.after [hostOps1].flatten W (Proc.devRef .tc main_v18)
    = shapeCast S4x4096x1024 (W (Proc.devRef .tc main_v17_0)) shapeCasts_S16384x1024_S4x4096x1024 := by
  rfl
/-- A result of the run. -/
theorem res18 (c : Dev nD) : Pipeline.afterTail₀ cfgs (dats m) 0 (V0 m) [hostOps1] c main_v18 = mergeX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  rw [tail18]
  have e : Pipeline.withArrays spec0 c (V0 m c) (fun w => (dats m 0 c).arrAt w (cfgs 0).N) (Proc.devRef .tc main_v17_0) = xA (V m c main_v10) (V m c main_v12) (V m c main_v14) (V m c main_v16) (V m c main_v1) (V m c main_v3) :=
    (Pipeline.withArrays_arr spec0 launch0.win.arr_inj c (V0 m c) (fun w => (dats m 0 c).arrAt w (cfgs 0).N) 9).trans (final9 m c)
  rw [e]
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  refine (unflat1024f32 _ b s j).trans ?_
  exact congrFun (row_eq m c b s) j
theorem tail19 (W : Valuation τ sig (Elt Ideal)) : StableHlo.after [hostOps1].flatten W (Proc.devRef .tc main_v19)
    = shapeCast S4x4096x4x128 (W (Proc.devRef .tc main_v17_1)) shapeCasts_S16384x512_S4x4096x4x128 := by
  rfl
/-- A result of the run. -/
theorem res19 (c : Dev nD) : Pipeline.afterTail₀ cfgs (dats m) 0 (V0 m) [hostOps1] c main_v19 = mergeQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  rw [tail19]
  have e : Pipeline.withArrays spec0 c (V0 m c) (fun w => (dats m 0 c).arrAt w (cfgs 0).N) (Proc.devRef .tc main_v17_1) = qA (V m c main_v10) (V m c main_v12) (V m c main_v14) (V m c main_v16) (V m c main_v1) (V m c main_v3) (V m c main_v5) (V m c main_v7) (V m c main_v9) :=
    (Pipeline.withArrays_arr spec0 launch0.win.arr_inj c (V0 m c) (fun w => (dats m 0 c).arrAt w (cfgs 0).N) 10).trans (final10 m c)
  rw [e]
  funext y
  obtain ⟨b, s, h, d, rfl⟩ : ∃ (b : Fin 4) (s : Fin 4096) (h : Fin 4) (d : Fin 128), y = (ix4 b s h d : S4x4096x4x128.Idx) :=
    ⟨y 0, y 1, y 2, y 3, by funext a; match a with | ⟨0, _⟩ => rfl | ⟨1, _⟩ => rfl | ⟨2, _⟩ => rfl | ⟨3, _⟩ => rfl⟩
  refine (unflatHeads _ b s h d).trans ?_
  have hh : (⟨(128 * h.val + d.val) / 128, by omega⟩ : Fin 4) = h := Fin.ext (by show (128 * h.val + d.val) / 128 = _; omega)
  have hd : (⟨(128 * h.val + d.val) % 128, by omega⟩ : Fin 128) = d := Fin.ext (by show (128 * h.val + d.val) % 128 = _; omega)
  show headAt (addRow (fun l => V m c main_v10 (ix2 (rowOf b s) l)) (mixRow (fun l => V m c main_v12 (ix2 (rowOf b s) l)) (fun k j => V m c main_v1 (ix2 k j)) (fun l => V m c main_v14 (ix2 (rowOf b s) l)) (fun l => V m c main_v16 (ix2 (rowOf b s) l))) (fun k j => V m c main_v3 (ix2 k j))) (fun l => V m c main_v5 (ix2 0 l)) (fun k j => V m c main_v7 (ix2 k j)) (fun l => V m c main_v9 (ix2 0 l)) (⟨(128 * h.val + d.val) / 128, _⟩ : Fin 4) (⟨(128 * h.val + d.val) % 128, _⟩ : Fin 128)
    = headAt (mergeRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s) (fun l => (m ((c : Thread nD τ).loc main_arg6)) (ix2 0 l)) (fun k j => (m ((c : Thread nD τ).loc main_arg7)) (ix3 0 k j)) (fun l => (m ((c : Thread nD τ).loc main_arg8)) (ix2 0 l)) h d
  rw [hh, hd]
  refine (congrArg₂ (fun f f' => headAt f f' (fun k j => V m c main_v7 (ix2 k j)) (fun l => V m c main_v9 (ix2 0 l)) h d) (row_eq m c b s) (at6 m c)).trans ?_
  exact congrArg₂ (fun f f' => headAt (mergeRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s) (fun l => (m ((c : Thread nD τ).loc main_arg6)) (ix2 0 l)) f f' h d) (at7 m c) (at8 m c)

end Cert.MergeKernelIdeal.Body

end
-- ==== Proof.Merge.Claims.lean ====
module

public import proofs.«01_k».proof.Defs
public import proofs.«01_k».proof.Proof.Merge.Final
public import proofs.«01_k».proof.Proof.Gen.MergeReferenceIdeal.Run
public import proofs.«01_k».proof.Proof.Gen.MergeKernel.Frame

/-!
# The reference of the merge call has the program's results, and its claims
-/

@[expose] public section

set_option maxRecDepth 16384

noncomputable section

namespace Cert.MergeReferenceIdeal.Value

open Cert.MergeReferenceIdeal Cert.MergeReferenceIdeal.Gen Cert.Rows Cert.Wide
open Idealize.ShloMosaic Idealize.ShloMosaic.TcCoe Idealize.ShloMosaic.Tactic Idealize.SL.Sem

theorem dot1024x1024 (x : FVec Ideal S4x4096x1024 .f32) (w : FVec Ideal S1024x1024 .f32) (b : Fin 4) (s : Fin 4096) (j : Fin 1024) :
    (Host.dotGeneral dot_S4x4096x1024_S1024x1024_S4x4096x1024_2_0_01_1_n_n none x w (ix3 b s j) : EReal) = ∑ k : Fin 1024, (x (ix3 b s k) * w (ix2 k j) : EReal) := by
  pointwise
theorem flat1024x1024 (a : FVec Ideal S1x1024x1024 .f32) (k : Fin 1024) (j : Fin 1024) : shapeCast S1024x1024 a shapeCasts_S1x1024x1024_S1024x1024 (ix2 k j) = a (ix3 0 k j) := by
  pointwise
theorem dot1024x512 (x : FVec Ideal S4x4096x1024 .f32) (w : FVec Ideal S1024x512 .f32) (b : Fin 4) (s : Fin 4096) (j : Fin 512) :
    (Host.dotGeneral dot_S4x4096x1024_S1024x512_S4x4096x512_2_0_01_1_n_n none x w (ix3 b s j) : EReal) = ∑ k : Fin 1024, (x (ix3 b s k) * w (ix2 k j) : EReal) := by
  pointwise
theorem flat1024x512 (a : FVec Ideal S1x1024x512 .f32) (k : Fin 1024) (j : Fin 512) : shapeCast S1024x512 a shapeCasts_S1x1024x512_S1024x512 (ix2 k j) = a (ix3 0 k j) := by
  pointwise
theorem gain1024 (a : FVec Ideal S1x1024 .f32) (l : Fin 1024) : shapeCast S1024 a shapeCasts_S1x1024_S1024 (ix1 l) = a (ix2 0 l) := by
  pointwise
theorem gain128 (a : FVec Ideal S1x128 .f32) (l : Fin 128) : shapeCast S128 a shapeCasts_S1x128_S128 (ix1 l) = a (ix2 0 l) := by
  pointwise
/-- The reference's rows. -/
def refX (a0 a1 a2 a3 : FVec Ideal S4x4096x1024 .f32) (a4 a5 : FVec Ideal S1x1024x1024 .f32) : FVec Ideal S4x4096x1024 .f32 := addf a0 (Host.dotGeneral dot_S4x4096x1024_S1024x1024_S4x4096x1024_2_0_01_1_n_n none (addf (mulf a2 (Host.dotGeneral dot_S4x4096x1024_S1024x1024_S4x4096x1024_2_0_01_1_n_n none a1 (shapeCast S1024x1024 a4 shapeCasts_S1x1024x1024_S1024x1024))) a3) (shapeCast S1024x1024 a5 shapeCasts_S1x1024x1024_S1024x1024))
/-- The reference's normalized rows. -/
def normR (a0 a1 a2 a3 : FVec Ideal S4x4096x1024 .f32) (a4 a5 : FVec Ideal S1x1024x1024 .f32) (a6 : FVec Ideal S1x1024 .f32) : FVec Ideal S4x4096x1024 .f32 := normH3 (refX a0 a1 a2 a3 a4 a5) (shapeCast S1024 a6 shapeCasts_S1x1024_S1024) 0x44800000#32 0x358637BD#32 reducesTo_S4x4096x1024_S4x4096_d2 h_S_ bcast_S4x4096_S4x4096x1_0_1 bcast_S_S4x4096x1 bcast_S4x4096x1_S4x4096x1024_0_1_2 bcast_S1024_S1x1x1024_2 bcast_S1x1x1024_S4x4096x1024_0_1_2
/-- The reference's projection, by heads. -/
def headsR (a0 a1 a2 a3 : FVec Ideal S4x4096x1024 .f32) (a4 a5 : FVec Ideal S1x1024x1024 .f32) (a6 : FVec Ideal S1x1024 .f32) (a7 : FVec Ideal S1x1024x512 .f32) : FVec Ideal S4x4096x4x128 .f32 := shapeCast S4x4096x4x128 (Host.dotGeneral dot_S4x4096x1024_S1024x512_S4x4096x512_2_0_01_1_n_n none (normR a0 a1 a2 a3 a4 a5 a6) (shapeCast S1024x512 a7 shapeCasts_S1x1024x512_S1024x512) : FVec Ideal S4x4096x512 .f32) shapeCasts_S4x4096x512_S4x4096x4x128
/-- The reference's second result. -/
def refQ (a0 a1 a2 a3 : FVec Ideal S4x4096x1024 .f32) (a4 a5 : FVec Ideal S1x1024x1024 .f32) (a6 : FVec Ideal S1x1024 .f32) (a7 : FVec Ideal S1x1024x512 .f32) (a8 : FVec Ideal S1x128 .f32) : FVec Ideal S4x4096x4x128 .bf16 := truncf .bf16 (normH4 (headsR a0 a1 a2 a3 a4 a5 a6 a7) (shapeCast S128 a8 shapeCasts_S1x128_S128) 0x43000000#32 0x358637BD#32 reducesTo_S4x4096x4x128_S4x4096x4_d3 h_S_ bcast_S4x4096x4_S4x4096x4x1_0_1_2 bcast_S_S4x4096x4x1 bcast_S4x4096x4x1_S4x4096x4x128_0_1_2_3 bcast_S128_S1x1x1x128_3 bcast_S1x1x1x128_S4x4096x4x128_0_1_2_3) bitsLt_bf16_f32

theorem refX_at (a0 a1 a2 a3 : FVec Ideal S4x4096x1024 .f32) (a4 a5 : FVec Ideal S1x1024x1024 .f32) (b : Fin 4) (s : Fin 4096) (j : Fin 1024) : (refX a0 a1 a2 a3 a4 a5 (ix3 b s j) : EReal) = mergeRow a0 a1 a2 a3 a4 a5 b s j := by
  unfold refX mergeRow addRow
  refine congrArg (fun z : EReal => (a0 (ix3 b s j) : EReal) + z) ((dot1024x1024 _ _ b s j).trans ?_)
  unfold dot
  refine Finset.sum_congr rfl fun k _ => ?_
  rw [flat1024x1024]
  refine congrArg (fun z : EReal => z * (a5 (ix3 0 k j) : EReal)) ?_
  unfold mixRow dot
  refine congrArg (fun z : EReal => (a2 (ix3 b s k) : EReal) * z + (a3 (ix3 b s k) : EReal)) ((dot1024x1024 a1 _ b s k).trans ?_)
  exact Finset.sum_congr rfl fun l _ => by rw [flat1024x1024]
theorem normR_at (a0 a1 a2 a3 : FVec Ideal S4x4096x1024 .f32) (a4 a5 : FVec Ideal S1x1024x1024 .f32) (a6 : FVec Ideal S1x1024 .f32) (b : Fin 4) (s : Fin 4096) (j : Fin 1024) :
    (normR a0 a1 a2 a3 a4 a5 a6 (ix3 b s j) : EReal) = rn n1024 eps (mergeRow a0 a1 a2 a3 a4 a5 b s) (fun l => a6 (ix2 0 l)) j := by
  unfold normR
  refine (normH3_at _ _ _ _ _ _ _ _ _ _ _ b s j).trans ?_
  exact congrArg₂ (fun f f' => rn n1024 eps f f' j) (funext fun l => refX_at a0 a1 a2 a3 a4 a5 b s l) (funext fun l => gain1024 a6 l)
theorem split_at (y : FVec Ideal S4x4096x512 .f32) (b : Fin 4) (s : Fin 4096) (h : Fin 4) (d : Fin 128) :
    shapeCast S4x4096x4x128 y shapeCasts_S4x4096x512_S4x4096x4x128 (ix4 b s h d) = y (ix3 b s (⟨128 * h.val + d.val, by omega⟩ : Fin 512)) := by
  pointwise
  exact congrArg y (congrArg (ix3 b s) (Fin.ext (by show h.val * 128 + d.val = 128 * h.val + d.val; omega)))
theorem headsR_at (a0 a1 a2 a3 : FVec Ideal S4x4096x1024 .f32) (a4 a5 : FVec Ideal S1x1024x1024 .f32) (a6 : FVec Ideal S1x1024 .f32) (a7 : FVec Ideal S1x1024x512 .f32) (b : Fin 4) (s : Fin 4096) (h : Fin 4) (d : Fin 128) :
    (headsR a0 a1 a2 a3 a4 a5 a6 a7 (ix4 b s h d) : EReal) = pj (mergeRow a0 a1 a2 a3 a4 a5 b s) (fun l => a6 (ix2 0 l)) (fun k => a7 (ix3 0 k (⟨128 * h.val + d.val, by omega⟩ : Fin 512))) := by
  unfold headsR
  refine (split_at _ b s h d).trans ((dot1024x512 (normR a0 a1 a2 a3 a4 a5 a6) _ b s _).trans ?_)
  unfold pj dot
  exact Finset.sum_congr rfl fun k _ => by rw [normR_at, flat1024x512]
theorem refX_eq (a0 a1 a2 a3 : FVec Ideal S4x4096x1024 .f32) (a4 a5 : FVec Ideal S1x1024x1024 .f32) : refX a0 a1 a2 a3 a4 a5 = mergeX a0 a1 a2 a3 a4 a5 := by
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  exact refX_at a0 a1 a2 a3 a4 a5 b s j
theorem refQ_eq (a0 a1 a2 a3 : FVec Ideal S4x4096x1024 .f32) (a4 a5 : FVec Ideal S1x1024x1024 .f32) (a6 : FVec Ideal S1x1024 .f32) (a7 : FVec Ideal S1x1024x512 .f32) (a8 : FVec Ideal S1x128 .f32) : refQ a0 a1 a2 a3 a4 a5 a6 a7 a8 = mergeQ a0 a1 a2 a3 a4 a5 a6 a7 a8 := by
  funext y
  obtain ⟨b, s, h, d, rfl⟩ : ∃ (b : Fin 4) (s : Fin 4096) (h : Fin 4) (d : Fin 128), y = (ix4 b s h d : S4x4096x4x128.Idx) :=
    ⟨y 0, y 1, y 2, y 3, by funext a; match a with | ⟨0, _⟩ => rfl | ⟨1, _⟩ => rfl | ⟨2, _⟩ => rfl | ⟨3, _⟩ => rfl⟩
  refine (normH4_at (headsR a0 a1 a2 a3 a4 a5 a6 a7) _ _ _ _ _ _ _ _ _ _ b s h d).trans ?_
  show _ = headAt (mergeRow a0 a1 a2 a3 a4 a5 b s) (fun l => a6 (ix2 0 l)) (fun k j => a7 (ix3 0 k j)) (fun l => a8 (ix2 0 l)) h d
  unfold headAt
  refine congrArg₂ (fun f f' => rn n128 eps f f' d) ?_ ?_
  · exact funext fun l => headsR_at a0 a1 a2 a3 a4 a5 a6 a7 b s h l
  · exact funext fun l => gain128 a8 l

end Cert.MergeReferenceIdeal.Value

namespace Cert.Merge

open Idealize.ShloMosaic Idealize.ShloMosaic.TcCoe Idealize.SL.Sem Cert.Wide

/-- The reference of the merge call, a host program, leaves its arguments as they were. -/
theorem frame_reference : Cert.quiescent_MergeReferenceIdeal := fun m ρ _ =>
  (θ_run Cert.MergeReferenceIdeal.defs _ _).mono (fun r h => ⟨fun c => (h c).2.2, sem_eq_zero_of_no_sems (by decide) r.2⟩)
    (Cert.MergeReferenceIdeal.Value.run (F := Ideal) m ρ)

/-- The merge call: kernel and reference, run over the extended reals from the same arguments, end with the same results. -/
theorem algebraic : Cert.algebraic_MergeKernelIdeal_MergeReferenceIdeal := by
  intro m g m' g' hpre hagree
  refine ⟨fun c => mergeX (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)),
    fun c => mergeQ (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)), ?_, ?_⟩
  · exact (θ_run Cert.MergeKernelIdeal.defs _ _).mono (fun r h c => ⟨
        ((h c).2 Cert.MergeKernelIdeal.main_v18 (Pipeline.mem_restRefs_of Cert.MergeKernelIdeal.main_v18 (by decide) (by decide))).trans (Cert.MergeKernelIdeal.Body.res18 m c),
        ((h c).2 Cert.MergeKernelIdeal.main_v19 (Pipeline.mem_restRefs_of Cert.MergeKernelIdeal.main_v19 (by decide) (by decide))).trans (Cert.MergeKernelIdeal.Body.res19 m c),
        ((h c).2 Cert.MergeKernelIdeal.main_arg0 (Pipeline.mem_restRefs_of Cert.MergeKernelIdeal.main_arg0 (by decide) (by decide))).trans (Cert.MergeKernelIdeal.Gen.W_main_arg0 m _ c),
        ((h c).2 Cert.MergeKernelIdeal.main_arg1 (Pipeline.mem_restRefs_of Cert.MergeKernelIdeal.main_arg1 (by decide) (by decide))).trans (Cert.MergeKernelIdeal.Gen.W_main_arg1 m _ c),
        ((h c).2 Cert.MergeKernelIdeal.main_arg2 (Pipeline.mem_restRefs_of Cert.MergeKernelIdeal.main_arg2 (by decide) (by decide))).trans (Cert.MergeKernelIdeal.Gen.W_main_arg2 m _ c),
        ((h c).2 Cert.MergeKernelIdeal.main_arg3 (Pipeline.mem_restRefs_of Cert.MergeKernelIdeal.main_arg3 (by decide) (by decide))).trans (Cert.MergeKernelIdeal.Gen.W_main_arg3 m _ c),
        ((h c).2 Cert.MergeKernelIdeal.main_arg4 (Pipeline.mem_restRefs_of Cert.MergeKernelIdeal.main_arg4 (by decide) (by decide))).trans (Cert.MergeKernelIdeal.Gen.W_main_arg4 m _ c),
        ((h c).2 Cert.MergeKernelIdeal.main_arg5 (Pipeline.mem_restRefs_of Cert.MergeKernelIdeal.main_arg5 (by decide) (by decide))).trans (Cert.MergeKernelIdeal.Gen.W_main_arg5 m _ c),
        ((h c).2 Cert.MergeKernelIdeal.main_arg6 (Pipeline.mem_restRefs_of Cert.MergeKernelIdeal.main_arg6 (by decide) (by decide))).trans (Cert.MergeKernelIdeal.Gen.W_main_arg6 m _ c),
        ((h c).2 Cert.MergeKernelIdeal.main_arg7 (Pipeline.mem_restRefs_of Cert.MergeKernelIdeal.main_arg7 (by decide) (by decide))).trans (Cert.MergeKernelIdeal.Gen.W_main_arg7 m _ c),
        ((h c).2 Cert.MergeKernelIdeal.main_arg8 (Pipeline.mem_restRefs_of Cert.MergeKernelIdeal.main_arg8 (by decide) (by decide))).trans (Cert.MergeKernelIdeal.Gen.W_main_arg8 m _ c)⟩)
      (Cert.MergeKernelIdeal.Gen.run_main m g)
  · refine (θ_run Cert.MergeReferenceIdeal.defs _ _).mono (fun r h c => ⟨(h c).1.trans ?_, (h c).2.1.trans ?_, (h c).2.2⟩) (Cert.MergeReferenceIdeal.Value.run (F := Ideal) m' g')
    · obtain ⟨e0, e1, e2, e3, e4, e5, e6, e7, e8⟩ := hagree c
      refine (Cert.MergeReferenceIdeal.Value.refX_eq (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5))).trans ?_
      rw [e0, e1, e2, e3, e4, e5]
    · obtain ⟨e0, e1, e2, e3, e4, e5, e6, e7, e8⟩ := hagree c
      refine (Cert.MergeReferenceIdeal.Value.refQ_eq (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5)) (m' ((c.tc : Thread Cert.MergeReferenceIdeal.nD Cert.MergeReferenceIdeal.τ).loc Cert.MergeReferenceIdeal.main_arg6)) (m' ((c.tc : Thread Cert.MergeReferenceIdeal.nD Cert.MergeReferenceIdeal.τ).loc Cert.MergeReferenceIdeal.main_arg7)) (m' ((c.tc : Thread Cert.MergeReferenceIdeal.nD Cert.MergeReferenceIdeal.τ).loc Cert.MergeReferenceIdeal.main_arg8))).trans ?_
      rw [e0, e1, e2, e3, e4, e5, e6, e7, e8]

end Cert.Merge

end
-- ==== Proof.Out.Block.lean ====
module

public import proofs.«01_k».proof.Proof.Gen.OutKernelIdeal.Frame
public import proofs.«01_k».proof.Proof.Math.Wide
public import Idealize.ShloMosaic.Lib.Pipeline.ValueKit

/-!
# What one step of the cross_out call computes, at an index
-/

@[expose] public section

set_option maxRecDepth 16384

noncomputable section

namespace Cert.OutKernelIdeal.Body

open Cert.OutKernelIdeal Cert.OutKernelIdeal.Gen Cert.Rows Cert.Wide
open Idealize.ShloMosaic Idealize.ShloMosaic.TcCoe Idealize.ShloMosaic.Tactic

theorem matO (a : FVec Ideal S1024x512 .bf16) (w : FVec Ideal S512x1024 .bf16) (p : Fin 1024) (j : Fin 1024) :
    ((matmul dot_S1024x512_S512x1024_S1024x1024_1_0_0_1_n_n none a w (constant (F := Ideal) S1024x1024 .f32 0x00000000#32) : FVec Ideal S1024x1024 .f32) (ix2 p j) : EReal)
      = ∑ k : Fin 512, (a (ix2 p k) * w (ix2 k j) : EReal) := by
  pointwise
theorem matQ (a : FVec Ideal S1024x1024 .bf16) (w : FVec Ideal S1024x2048 .bf16) (p : Fin 1024) (j : Fin 2048) :
    ((matmul dot_S1024x1024_S1024x2048_S1024x2048_1_0_0_1_n_n none a w (constant (F := Ideal) S1024x2048 .f32 0x00000000#32) : FVec Ideal S1024x2048 .f32) (ix2 p j) : EReal)
      = ∑ k : Fin 1024, (a (ix2 p k) * w (ix2 k j) : EReal) := by
  pointwise

section
variable (x : FVec Ideal S1024x1024 .f32) (o : FVec Ideal S1024x512 .bf16) (w : FVec Ideal S512x1024 .bf16) (g : FVec Ideal S1x1024 .f32) (wq : FVec Ideal S1024x2048 .bf16)
theorem x_at (p : Fin 1024) (j : Fin 1024) : (k0_pay1 (F := Ideal) x o w (ix2 p j) : EReal) = (addRow (fun l => x (ix2 p l)) (fun l => o (ix2 p l)) (fun k j => w (ix2 k j))) j := by
  unfold k0_pay1
  rw [same x, same o, same w, show ∀ (a b : FVec Ideal S1024x1024 .f32) i, addf a b i = (a i + b i : EReal) from fun _ _ _ => rfl, matO]
  rfl
theorem h_at (p : Fin 1024) (j : Fin 1024) : (k0_pay2 (F := Ideal) x o w g (ix2 p j) : EReal) = rn n1024 eps (addRow (fun l => x (ix2 p l)) (fun l => o (ix2 p l)) (fun k j => w (ix2 k j))) (fun l => g (ix2 0 l)) j := by
  unfold k0_pay2
  rw [same g]
  refine (normKW (k0_pay1 (F := Ideal) x o w) g _ _ _ _ _ _ p j).trans ?_
  exact congrArg (fun f => rn n1024 eps f (fun l => g (ix2 0 l)) j) (funext fun l => x_at x o w p l)
theorem q_at (p : Fin 1024) (j : Fin 2048) : (k0_pay3 (F := Ideal) x o w g wq (ix2 p j) : EReal) = pj (addRow (fun l => x (ix2 p l)) (fun l => o (ix2 p l)) (fun k j => w (ix2 k j))) (fun l => g (ix2 0 l)) (fun k => wq (ix2 k j)) := by
  unfold k0_pay3
  rw [same wq]
  refine (matQ (k0_pay2 (F := Ideal) x o w g) wq p j).trans ?_
  unfold pj dot
  exact Finset.sum_congr rfl fun k _ => by rw [h_at]
end
/-- What a step stores. -/
theorem out5_eq (x0 : Vec Ideal S1024x1024 .f32) (x1 : Vec Ideal S1024x512 .bf16) (x2 : Vec Ideal S512x1024 .bf16) (x3 : Vec Ideal S1x1024 .f32) (x4 : Vec Ideal S1024x2048 .bf16) : out0_5 (F := Ideal) x0 x1 x2 x3 x4 = k0_pay1 (F := Ideal) x0 x1 x2 := by
  unfold out0_5
  rw [View.canon_cons_unit_lit _ _ _ (by decide), View.ld_unit_lit _ _ (by decide), View.ld_unit_lit _ _ (by decide), View.ld_unit_lit _ _ (by decide)]
theorem out6_eq (x0 : Vec Ideal S1024x1024 .f32) (x1 : Vec Ideal S1024x512 .bf16) (x2 : Vec Ideal S512x1024 .bf16) (x3 : Vec Ideal S1x1024 .f32) (x4 : Vec Ideal S1024x2048 .bf16) : out0_6 (F := Ideal) x0 x1 x2 x3 x4 = k0_pay2 (F := Ideal) x0 x1 x2 x3 := by
  unfold out0_6
  rw [View.canon_cons_unit_lit _ _ _ (by decide), View.ld_unit_lit _ _ (by decide), View.ld_unit_lit _ _ (by decide), View.ld_unit_lit _ _ (by decide), View.ld_unit_lit _ _ (by decide)]
theorem out7_eq (x0 : Vec Ideal S1024x1024 .f32) (x1 : Vec Ideal S1024x512 .bf16) (x2 : Vec Ideal S512x1024 .bf16) (x3 : Vec Ideal S1x1024 .f32) (x4 : Vec Ideal S1024x2048 .bf16) : out0_7 (F := Ideal) x0 x1 x2 x3 x4 = k0_pay3 (F := Ideal) x0 x1 x2 x3 x4 := by
  unfold out0_7
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]

end Cert.OutKernelIdeal.Body

end
-- ==== Proof.Out.Final.lean ====
module

public import proofs.«01_k».proof.Proof.Out.Block

/-!
# What the run of the cross_out call leaves in its results
-/

@[expose] public section

set_option maxRecDepth 16384

noncomputable section

namespace Cert.OutKernelIdeal.Body

open Cert.OutKernelIdeal Cert.OutKernelIdeal.Gen Cert.Rows Cert.Wide
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-- The rows of all steps. -/
def xA (x : FVec Ideal S16384x1024 .f32) (o : FVec Ideal S16384x512 .bf16) (w : FVec Ideal S512x1024 .bf16) : FVec Ideal S16384x1024 .f32 := fun y => (addRow (fun l => x (ix2 (y 0) l)) (fun l => o (ix2 (y 0) l)) (fun k j => w (ix2 k j))) (y 1)
/-- The normalized rows of all steps. -/
def hA (x : FVec Ideal S16384x1024 .f32) (o : FVec Ideal S16384x512 .bf16) (w : FVec Ideal S512x1024 .bf16) (g : FVec Ideal S1x1024 .f32) : FVec Ideal S16384x1024 .bf16 := fun y => rn n1024 eps (addRow (fun l => x (ix2 (y 0) l)) (fun l => o (ix2 (y 0) l)) (fun k j => w (ix2 k j))) (fun l => g (ix2 0 l)) (y 1)
/-- The experts' queries of all steps. -/
def qA (x : FVec Ideal S16384x1024 .f32) (o : FVec Ideal S16384x512 .bf16) (w : FVec Ideal S512x1024 .bf16) (g : FVec Ideal S1x1024 .f32) (wq : FVec Ideal S1024x2048 .bf16) : FVec Ideal S16384x2048 .bf16 := fun y => pj (addRow (fun l => x (ix2 (y 0) l)) (fun l => o (ix2 (y 0) l)) (fun k j => w (ix2 k j))) (fun l => g (ix2 0 l)) (fun k => wq (ix2 k (y 1)))

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)

theorem blk0 (c : Dev nD) (t : Fin cfg0.N) (p : Fin 1024) (r : Fin 16384) (hr : r.val = (grid0.coords t 0).val * 1024 + p.val) (l : Fin 1024) :
    (iblk m c 0 t : Vec Ideal S1024x1024 .f32) (ix2 p l) = (V m c main_v6 : Vec Ideal S16384x1024 .f32) (ix2 r l) := by
  blk_point [iblk, V, idx0 t]
theorem blk1 (c : Dev nD) (t : Fin cfg0.N) (p : Fin 1024) (r : Fin 16384) (hr : r.val = (grid0.coords t 0).val * 1024 + p.val) (l : Fin 512) :
    (iblk m c 1 t : Vec Ideal S1024x512 .bf16) (ix2 p l) = (V m c main_v8 : Vec Ideal S16384x512 .bf16) (ix2 r l) := by
  blk_point [iblk, V, idx1 t]
theorem blk2 (c : Dev nD) (t : Fin cfg0.N) : (iblk m c 2 t : Vec Ideal S512x1024 .bf16) = V m c main_v1 := by
  funext y
  blk_ext [iblk, V, idx2 t]
theorem blk3 (c : Dev nD) (t : Fin cfg0.N) : (iblk m c 3 t : Vec Ideal S1x1024 .f32) = V m c main_v3 := by
  funext y
  blk_ext [iblk, V, idx3 t]
theorem blk4 (c : Dev nD) (t : Fin cfg0.N) : (iblk m c 4 t : Vec Ideal S1024x2048 .bf16) = V m c main_v5 := by
  funext y
  blk_ext [iblk, V, idx4 t]

/-- The array of a result after the run. -/
theorem final5 (c : Dev nD) : (dats m 0 c).arrAt 5 (cfgs 0).N = xA (V m c main_v6) (V m c main_v8) (V m c main_v1) := by
  refine (dats m 0 c).arrAt_eq_of_covers 5 _ (by decide +kernel) fun t hf y => ?_
  blk_simp
  rw [after0_5]
  obtain ⟨p, j, rfl⟩ : ∃ (p : Fin 1024) (j : Fin 1024), y = (ix2 p j : S1024x1024.Idx) :=
    ⟨y 0, y 1, by funext a; match a with | ⟨0, _⟩ => rfl | ⟨1, _⟩ => rfl⟩
  have h0 : (((win0_5.blk t).view.emb (ix2 p j : S1024x1024.Idx) : S16384x1024.Idx) 0).val = (grid0.coords t 0).val * 1024 + p.val := by
    blk_simp [idx5 t]
  have h1 : (((win0_5.blk t).view.emb (ix2 p j : S1024x1024.Idx) : S16384x1024.Idx) 1) = j := by
    apply Fin.ext
    blk_simp [idx5 t]
  generalize ((win0_5.blk t).view.emb (ix2 p j : S1024x1024.Idx) : S16384x1024.Idx) = i at h0 h1 ⊢
  rw [out5_eq, blk2, x_at]
  unfold xA
  subst h1
  simp only [blk0 m c t p (i 0) h0, blk1 m c t p (i 0) h0]
/-- The array of a result after the run. -/
theorem final6 (c : Dev nD) : (dats m 0 c).arrAt 6 (cfgs 0).N = hA (V m c main_v6) (V m c main_v8) (V m c main_v1) (V m c main_v3) := by
  refine (dats m 0 c).arrAt_eq_of_covers 6 _ (by decide +kernel) fun t hf y => ?_
  blk_simp
  rw [after0_6]
  obtain ⟨p, j, rfl⟩ : ∃ (p : Fin 1024) (j : Fin 1024), y = (ix2 p j : S1024x1024.Idx) :=
    ⟨y 0, y 1, by funext a; match a with | ⟨0, _⟩ => rfl | ⟨1, _⟩ => rfl⟩
  have h0 : (((win0_6.blk t).view.emb (ix2 p j : S1024x1024.Idx) : S16384x1024.Idx) 0).val = (grid0.coords t 0).val * 1024 + p.val := by
    blk_simp [idx6 t]
  have h1 : (((win0_6.blk t).view.emb (ix2 p j : S1024x1024.Idx) : S16384x1024.Idx) 1) = j := by
    apply Fin.ext
    blk_simp [idx6 t]
  generalize ((win0_6.blk t).view.emb (ix2 p j : S1024x1024.Idx) : S16384x1024.Idx) = i at h0 h1 ⊢
  rw [out6_eq, blk2, blk3, h_at]
  unfold hA
  subst h1
  simp only [blk0 m c t p (i 0) h0, blk1 m c t p (i 0) h0]
/-- The array of a result after the run. -/
theorem final7 (c : Dev nD) : (dats m 0 c).arrAt 7 (cfgs 0).N = qA (V m c main_v6) (V m c main_v8) (V m c main_v1) (V m c main_v3) (V m c main_v5) := by
  refine (dats m 0 c).arrAt_eq_of_covers 7 _ (by decide +kernel) fun t hf y => ?_
  blk_simp
  rw [after0_7]
  obtain ⟨p, j, rfl⟩ : ∃ (p : Fin 1024) (j : Fin 2048), y = (ix2 p j : S1024x2048.Idx) :=
    ⟨y 0, y 1, by funext a; match a with | ⟨0, _⟩ => rfl | ⟨1, _⟩ => rfl⟩
  have h0 : (((win0_7.blk t).view.emb (ix2 p j : S1024x2048.Idx) : S16384x2048.Idx) 0).val = (grid0.coords t 0).val * 1024 + p.val := by
    blk_simp [idx7 t]
  have h1 : (((win0_7.blk t).view.emb (ix2 p j : S1024x2048.Idx) : S16384x2048.Idx) 1) = j := by
    apply Fin.ext
    blk_simp [idx7 t]
  generalize ((win0_7.blk t).view.emb (ix2 p j : S1024x2048.Idx) : S16384x2048.Idx) = i at h0 h1 ⊢
  rw [out7_eq, blk2, blk3, blk4, q_at]
  unfold qA
  subst h1
  simp only [blk0 m c t p (i 0) h0, blk1 m c t p (i 0) h0]

/-- The row of a batch entry's position. -/
def rowOf (b : Fin 4) (s : Fin 4096) : Fin 16384 := ⟨4096 * b.val + s.val, by omega⟩
theorem opnd0 (c : Dev nD) : V m c main_v6 = shapeCast S16384x1024 (m ((c : Thread nD τ).loc main_arg0)) shapeCasts_S4x4096x1024_S16384x1024 := by
  unfold V V0 hostOps0
  after_results
  rfl
theorem flat1024 (a : FVec Ideal S4x4096x1024 .f32) (b : Fin 4) (s : Fin 4096) (l : Fin 1024) :
    shapeCast S16384x1024 a shapeCasts_S4x4096x1024_S16384x1024 (ix2 (rowOf b s) l) = a (ix3 b s l) := by
  unfold rowOf
  pointwise
theorem at0 (c : Dev nD) (b : Fin 4) (s : Fin 4096) : (fun l : Fin 1024 => ((V m c main_v6 : FVec Ideal S16384x1024 .f32) (ix2 (rowOf b s) l) : EReal)) = fun l => (m ((c : Thread nD τ).loc main_arg0)) (ix3 b s l) := by
  rw [opnd0]
  exact funext fun l => flat1024 _ b s l
theorem opnd1 (c : Dev nD) : V m c main_v8 = truncf .bf16 (shapeCast S16384x512 (m ((c : Thread nD τ).loc main_arg1)) shapeCasts_S4x4096x512_S16384x512 : FVec Ideal S16384x512 .f32) bitsLt_bf16_f32 := by
  unfold V V0 hostOps0
  after_results
  rfl
theorem flat512 (a : FVec Ideal S4x4096x512 .f32) (b : Fin 4) (s : Fin 4096) (l : Fin 512) :
    shapeCast S16384x512 a shapeCasts_S4x4096x512_S16384x512 (ix2 (rowOf b s) l) = a (ix3 b s l) := by
  unfold rowOf
  pointwise
theorem at1 (c : Dev nD) (b : Fin 4) (s : Fin 4096) : (fun l : Fin 512 => ((V m c main_v8 : FVec Ideal S16384x512 .bf16) (ix2 (rowOf b s) l) : EReal)) = fun l => (m ((c : Thread nD τ).loc main_arg1)) (ix3 b s l) := by
  rw [opnd1]
  exact funext fun l => flat512 _ b s l
theorem opnd2 (c : Dev nD) : V m c main_v1 = truncf .bf16 (shapeCast S512x1024 (m ((c : Thread nD τ).loc main_arg2)) shapeCasts_S1x512x1024_S512x1024 : FVec Ideal S512x1024 .f32) bitsLt_bf16_f32 := by
  unfold V V0 hostOps0
  after_results
  rfl
theorem mat512x1024 (a : FVec Ideal S1x512x1024 .f32) (k : Fin 512) (j : Fin 1024) :
    shapeCast S512x1024 a shapeCasts_S1x512x1024_S512x1024 (ix2 k j) = a (ix3 0 k j) := by
  pointwise
theorem at2 (c : Dev nD) : (fun (k : Fin 512) (j : Fin 1024) => ((V m c main_v1 : FVec Ideal S512x1024 .bf16) (ix2 k j) : EReal)) = fun k j => (m ((c : Thread nD τ).loc main_arg2)) (ix3 0 k j) := by
  rw [opnd2]
  exact funext fun k => funext fun j => mat512x1024 _ k j
theorem opnd3 (c : Dev nD) : V m c main_v3 = broadcastInDim S1x1024 ![1] bcast_S1024_S1x1024_1 (shapeCast S1024 (m ((c : Thread nD τ).loc main_arg3)) shapeCasts_S1x1024_S1024) := by
  unfold V V0 hostOps0
  after_results
  rfl
theorem gain1024 (a : FVec Ideal S1x1024 .f32) (l : Fin 1024) :
    broadcastInDim S1x1024 ![1] bcast_S1024_S1x1024_1 (shapeCast S1024 a shapeCasts_S1x1024_S1024) (ix2 0 l) = a (ix2 0 l) := by
  pointwise
theorem at3 (c : Dev nD) : (fun l : Fin 1024 => ((V m c main_v3 : FVec Ideal S1x1024 .f32) (ix2 0 l) : EReal)) = fun l => (m ((c : Thread nD τ).loc main_arg3)) (ix2 0 l) := by
  rw [opnd3]
  exact funext fun l => gain1024 _ l
theorem opnd4 (c : Dev nD) : V m c main_v5 = truncf .bf16 (shapeCast S1024x2048 (m ((c : Thread nD τ).loc main_arg4)) shapeCasts_S1x1024x2048_S1024x2048 : FVec Ideal S1024x2048 .f32) bitsLt_bf16_f32 := by
  unfold V V0 hostOps0
  after_results
  rfl
theorem mat1024x2048 (a : FVec Ideal S1x1024x2048 .f32) (k : Fin 1024) (j : Fin 2048) :
    shapeCast S1024x2048 a shapeCasts_S1x1024x2048_S1024x2048 (ix2 k j) = a (ix3 0 k j) := by
  pointwise
theorem at4 (c : Dev nD) : (fun (k : Fin 1024) (j : Fin 2048) => ((V m c main_v5 : FVec Ideal S1024x2048 .bf16) (ix2 k j) : EReal)) = fun k j => (m ((c : Thread nD τ).loc main_arg4)) (ix3 0 k j) := by
  rw [opnd4]
  exact funext fun k => funext fun j => mat1024x2048 _ k j
/-- A row of the operands is a row of the arguments. -/
theorem row_eq (c : Dev nD) (b : Fin 4) (s : Fin 4096) : (addRow (fun l => V m c main_v6 (ix2 (rowOf b s) l)) (fun l => V m c main_v8 (ix2 (rowOf b s) l)) (fun k j => V m c main_v1 (ix2 k j))) = outRow (m ((c : Thread nD τ).loc main_arg0)) (m ((c : Thread nD τ).loc main_arg1)) (m ((c : Thread nD τ).loc main_arg2)) b s := by
  rw [at0, at1, at2]
  rfl
theorem unflat1024f32 (X : FVec Ideal S16384x1024 .f32) (b : Fin 4) (s : Fin 4096) (j : Fin 1024) :
    shapeCast S4x4096x1024 X shapeCasts_S16384x1024_S4x4096x1024 (ix3 b s j) = X (ix2 (rowOf b s) j) := by
  pointwise
  exact congrArg X (congrArg₂ ix2 (Fin.ext (by show b.val * 4096 + s.val = 4096 * b.val + s.val; omega)) rfl)
theorem unflat1024bf16 (X : FVec Ideal S16384x1024 .bf16) (b : Fin 4) (s : Fin 4096) (j : Fin 1024) :
    shapeCast S4x4096x1024 X shapeCasts_S16384x1024_S4x4096x1024 (ix3 b s j) = X (ix2 (rowOf b s) j) := by
  pointwise
  exact congrArg X (congrArg₂ ix2 (Fin.ext (by show b.val * 4096 + s.val = 4096 * b.val + s.val; omega)) rfl)
theorem unflat2048bf16 (X : FVec Ideal S16384x2048 .bf16) (b : Fin 4) (s : Fin 4096) (j : Fin 2048) :
    shapeCast S4x4096x2048 X shapeCasts_S16384x2048_S4x4096x2048 (ix3 b s j) = X (ix2 (rowOf b s) j) := by
  pointwise
  exact congrArg X (congrArg₂ ix2 (Fin.ext (by show b.val * 4096 + s.val = 4096 * b.val + s.val; omega)) rfl)
theorem tail10 (W : Valuation τ sig (Elt Ideal)) : StableHlo.after [hostOps1].flatten W (Proc.devRef .tc main_v10)
    = shapeCast S4x4096x1024 (W (Proc.devRef .tc main_v9_0)) shapeCasts_S16384x1024_S4x4096x1024 := by
  rfl
/-- A result of the run. -/
theorem res10 (c : Dev nD) : Pipeline.afterTail₀ cfgs (dats m) 0 (V0 m) [hostOps1] c main_v10 = outX (m ((c : Thread nD τ).loc main_arg0)) (m ((c : Thread nD τ).loc main_arg1)) (m ((c : Thread nD τ).loc main_arg2)) := by
  unfold Pipeline.afterTail₀
  rw [tail10]
  have e : Pipeline.withArrays spec0 c (V0 m c) (fun w => (dats m 0 c).arrAt w (cfgs 0).N) (Proc.devRef .tc main_v9_0) = xA (V m c main_v6) (V m c main_v8) (V m c main_v1) :=
    (Pipeline.withArrays_arr spec0 launch0.win.arr_inj c (V0 m c) (fun w => (dats m 0 c).arrAt w (cfgs 0).N) 5).trans (final5 m c)
  rw [e]
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  refine (unflat1024f32 _ b s j).trans ?_
  exact congrFun (row_eq m c b s) j
theorem tail11 (W : Valuation τ sig (Elt Ideal)) : StableHlo.after [hostOps1].flatten W (Proc.devRef .tc main_v11)
    = shapeCast S4x4096x1024 (W (Proc.devRef .tc main_v9_1)) shapeCasts_S16384x1024_S4x4096x1024 := by
  rfl
/-- A result of the run. -/
theorem res11 (c : Dev nD) : Pipeline.afterTail₀ cfgs (dats m) 0 (V0 m) [hostOps1] c main_v11 = outH (m ((c : Thread nD τ).loc main_arg0)) (m ((c : Thread nD τ).loc main_arg1)) (m ((c : Thread nD τ).loc main_arg2)) (m ((c : Thread nD τ).loc main_arg3)) := by
  unfold Pipeline.afterTail₀
  rw [tail11]
  have e : Pipeline.withArrays spec0 c (V0 m c) (fun w => (dats m 0 c).arrAt w (cfgs 0).N) (Proc.devRef .tc main_v9_1) = hA (V m c main_v6) (V m c main_v8) (V m c main_v1) (V m c main_v3) :=
    (Pipeline.withArrays_arr spec0 launch0.win.arr_inj c (V0 m c) (fun w => (dats m 0 c).arrAt w (cfgs 0).N) 6).trans (final6 m c)
  rw [e]
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  refine (unflat1024bf16 _ b s j).trans ?_
  exact congrArg₂ (fun f f' => rn n1024 eps f f' j) (row_eq m c b s) (at3 m c)
theorem tail12 (W : Valuation τ sig (Elt Ideal)) : StableHlo.after [hostOps1].flatten W (Proc.devRef .tc main_v12)
    = shapeCast S4x4096x2048 (W (Proc.devRef .tc main_v9_2)) shapeCasts_S16384x2048_S4x4096x2048 := by
  rfl
/-- A result of the run. -/
theorem res12 (c : Dev nD) : Pipeline.afterTail₀ cfgs (dats m) 0 (V0 m) [hostOps1] c main_v12 = outQ (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  rw [tail12]
  have e : Pipeline.withArrays spec0 c (V0 m c) (fun w => (dats m 0 c).arrAt w (cfgs 0).N) (Proc.devRef .tc main_v9_2) = qA (V m c main_v6) (V m c main_v8) (V m c main_v1) (V m c main_v3) (V m c main_v5) :=
    (Pipeline.withArrays_arr spec0 launch0.win.arr_inj c (V0 m c) (fun w => (dats m 0 c).arrAt w (cfgs 0).N) 7).trans (final7 m c)
  rw [e]
  funext y
  obtain ⟨b, s, j, rfl⟩ : ∃ (b : Fin 4) (s : Fin 4096) (j : Fin 2048), y = (ix3 b s j : S4x4096x2048.Idx) :=
    ⟨y 0, y 1, y 2, by funext a; match a with | ⟨0, _⟩ => rfl | ⟨1, _⟩ => rfl | ⟨2, _⟩ => rfl⟩
  refine (unflat2048bf16 _ b s j).trans ?_
  show pj (addRow (fun l => V m c main_v6 (ix2 (rowOf b s) l)) (fun l => V m c main_v8 (ix2 (rowOf b s) l)) (fun k j => V m c main_v1 (ix2 k j))) (fun l => V m c main_v3 (ix2 0 l)) (fun k => V m c main_v5 (ix2 k j)) = pj (outRow (m ((c : Thread nD τ).loc main_arg0)) (m ((c : Thread nD τ).loc main_arg1)) (m ((c : Thread nD τ).loc main_arg2)) b s) (fun l => (m ((c : Thread nD τ).loc main_arg3)) (ix2 0 l)) (fun k => (m ((c : Thread nD τ).loc main_arg4)) (ix3 0 k j))
  rw [row_eq, at3]
  exact congrArg (pj _ _) (funext fun k => congrFun (congrFun (at4 m c) k) j)

end Cert.OutKernelIdeal.Body

end
-- ==== Proof.Out.Claims.lean ====
module

public import proofs.«01_k».proof.Defs
public import proofs.«01_k».proof.Proof.Out.Final
public import proofs.«01_k».proof.Proof.Gen.OutReferenceIdeal.Run
public import proofs.«01_k».proof.Proof.Gen.OutKernel.Frame

/-!
# The reference of the cross_out call has the program's results, and its claims
-/

@[expose] public section

set_option maxRecDepth 16384

noncomputable section

namespace Cert.OutReferenceIdeal.Value

open Cert.OutReferenceIdeal Cert.OutReferenceIdeal.Gen Cert.Rows Cert.Wide
open Idealize.ShloMosaic Idealize.ShloMosaic.TcCoe Idealize.ShloMosaic.Tactic Idealize.SL.Sem

theorem dot512x1024 (x : FVec Ideal S4x4096x512 .f32) (w : FVec Ideal S512x1024 .f32) (b : Fin 4) (s : Fin 4096) (j : Fin 1024) :
    (Host.dotGeneral dot_S4x4096x512_S512x1024_S4x4096x1024_2_0_01_1_n_n none x w (ix3 b s j) : EReal) = ∑ k : Fin 512, (x (ix3 b s k) * w (ix2 k j) : EReal) := by
  pointwise
theorem flat512x1024 (a : FVec Ideal S1x512x1024 .f32) (k : Fin 512) (j : Fin 1024) : shapeCast S512x1024 a shapeCasts_S1x512x1024_S512x1024 (ix2 k j) = a (ix3 0 k j) := by
  pointwise
theorem dot1024x2048 (x : FVec Ideal S4x4096x1024 .f32) (w : FVec Ideal S1024x2048 .f32) (b : Fin 4) (s : Fin 4096) (j : Fin 2048) :
    (Host.dotGeneral dot_S4x4096x1024_S1024x2048_S4x4096x2048_2_0_01_1_n_n none x w (ix3 b s j) : EReal) = ∑ k : Fin 1024, (x (ix3 b s k) * w (ix2 k j) : EReal) := by
  pointwise
theorem flat1024x2048 (a : FVec Ideal S1x1024x2048 .f32) (k : Fin 1024) (j : Fin 2048) : shapeCast S1024x2048 a shapeCasts_S1x1024x2048_S1024x2048 (ix2 k j) = a (ix3 0 k j) := by
  pointwise
theorem gain1024 (a : FVec Ideal S1x1024 .f32) (l : Fin 1024) : shapeCast S1024 a shapeCasts_S1x1024_S1024 (ix1 l) = a (ix2 0 l) := by
  pointwise
/-- The reference's rows. -/
def refX (a0 : FVec Ideal S4x4096x1024 .f32) (a1 : FVec Ideal S4x4096x512 .f32) (a2 : FVec Ideal S1x512x1024 .f32) : FVec Ideal S4x4096x1024 .f32 := addf a0 (Host.dotGeneral dot_S4x4096x512_S512x1024_S4x4096x1024_2_0_01_1_n_n none a1 (shapeCast S512x1024 a2 shapeCasts_S1x512x1024_S512x1024))
/-- The reference's normalized rows. -/
def normR (a0 : FVec Ideal S4x4096x1024 .f32) (a1 : FVec Ideal S4x4096x512 .f32) (a2 : FVec Ideal S1x512x1024 .f32) (a3 : FVec Ideal S1x1024 .f32) : FVec Ideal S4x4096x1024 .f32 := normH3 (refX a0 a1 a2) (shapeCast S1024 a3 shapeCasts_S1x1024_S1024) 0x44800000#32 0x358637BD#32 reducesTo_S4x4096x1024_S4x4096_d2 h_S_ bcast_S4x4096_S4x4096x1_0_1 bcast_S_S4x4096x1 bcast_S4x4096x1_S4x4096x1024_0_1_2 bcast_S1024_S1x1x1024_2 bcast_S1x1x1024_S4x4096x1024_0_1_2
/-- The reference's second result. -/
def refH (a0 : FVec Ideal S4x4096x1024 .f32) (a1 : FVec Ideal S4x4096x512 .f32) (a2 : FVec Ideal S1x512x1024 .f32) (a3 : FVec Ideal S1x1024 .f32) : FVec Ideal S4x4096x1024 .bf16 := truncf .bf16 (normR a0 a1 a2 a3) bitsLt_bf16_f32
/-- The reference's third result. -/
def refQ (a0 : FVec Ideal S4x4096x1024 .f32) (a1 : FVec Ideal S4x4096x512 .f32) (a2 : FVec Ideal S1x512x1024 .f32) (a3 : FVec Ideal S1x1024 .f32) (a4 : FVec Ideal S1x1024x2048 .f32) : FVec Ideal S4x4096x2048 .bf16 := truncf .bf16 (Host.dotGeneral dot_S4x4096x1024_S1024x2048_S4x4096x2048_2_0_01_1_n_n none (normR a0 a1 a2 a3) (shapeCast S1024x2048 a4 shapeCasts_S1x1024x2048_S1024x2048) : FVec Ideal S4x4096x2048 .f32) bitsLt_bf16_f32

theorem refX_at (a0 : FVec Ideal S4x4096x1024 .f32) (a1 : FVec Ideal S4x4096x512 .f32) (a2 : FVec Ideal S1x512x1024 .f32) (b : Fin 4) (s : Fin 4096) (j : Fin 1024) : (refX a0 a1 a2 (ix3 b s j) : EReal) = outRow a0 a1 a2 b s j := by
  unfold refX outRow addRow dot
  refine congrArg (fun z : EReal => (a0 (ix3 b s j) : EReal) + z) ((dot512x1024 a1 _ b s j).trans ?_)
  exact Finset.sum_congr rfl fun k _ => by rw [flat512x1024]
theorem normR_at (a0 : FVec Ideal S4x4096x1024 .f32) (a1 : FVec Ideal S4x4096x512 .f32) (a2 : FVec Ideal S1x512x1024 .f32) (a3 : FVec Ideal S1x1024 .f32) (b : Fin 4) (s : Fin 4096) (j : Fin 1024) :
    (normR a0 a1 a2 a3 (ix3 b s j) : EReal) = rn n1024 eps (outRow a0 a1 a2 b s) (fun l => a3 (ix2 0 l)) j := by
  unfold normR
  refine (normH3_at _ _ _ _ _ _ _ _ _ _ _ b s j).trans ?_
  exact congrArg₂ (fun f f' => rn n1024 eps f f' j) (funext fun l => refX_at a0 a1 a2 b s l) (funext fun l => gain1024 a3 l)
theorem refX_eq (a0 : FVec Ideal S4x4096x1024 .f32) (a1 : FVec Ideal S4x4096x512 .f32) (a2 : FVec Ideal S1x512x1024 .f32) : refX a0 a1 a2 = outX a0 a1 a2 := by
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  exact refX_at a0 a1 a2 b s j
theorem refH_eq (a0 : FVec Ideal S4x4096x1024 .f32) (a1 : FVec Ideal S4x4096x512 .f32) (a2 : FVec Ideal S1x512x1024 .f32) (a3 : FVec Ideal S1x1024 .f32) : refH a0 a1 a2 a3 = outH a0 a1 a2 a3 := by
  funext y
  obtain ⟨b, s, j, rfl⟩ : ∃ (b : Fin 4) (s : Fin 4096) (j : Fin 1024), y = (ix3 b s j : S4x4096x1024.Idx) :=
    ⟨y 0, y 1, y 2, by funext a; match a with | ⟨0, _⟩ => rfl | ⟨1, _⟩ => rfl | ⟨2, _⟩ => rfl⟩
  exact normR_at a0 a1 a2 a3 b s j
theorem refQ_eq (a0 : FVec Ideal S4x4096x1024 .f32) (a1 : FVec Ideal S4x4096x512 .f32) (a2 : FVec Ideal S1x512x1024 .f32) (a3 : FVec Ideal S1x1024 .f32) (a4 : FVec Ideal S1x1024x2048 .f32) : refQ a0 a1 a2 a3 a4 = outQ a0 a1 a2 a3 a4 := by
  funext y
  obtain ⟨b, s, j, rfl⟩ : ∃ (b : Fin 4) (s : Fin 4096) (j : Fin 2048), y = (ix3 b s j : S4x4096x2048.Idx) :=
    ⟨y 0, y 1, y 2, by funext a; match a with | ⟨0, _⟩ => rfl | ⟨1, _⟩ => rfl | ⟨2, _⟩ => rfl⟩
  refine (dot1024x2048 (normR a0 a1 a2 a3) _ b s j).trans ?_
  show _ = pj (outRow a0 a1 a2 b s) (fun l => a3 (ix2 0 l)) (fun k => a4 (ix3 0 k j))
  unfold pj dot
  exact Finset.sum_congr rfl fun k _ => by rw [normR_at, flat1024x2048]

end Cert.OutReferenceIdeal.Value

namespace Cert.Out

open Idealize.ShloMosaic Idealize.ShloMosaic.TcCoe Idealize.SL.Sem Cert.Wide

/-- The reference of the cross_out call, a host program, leaves its arguments as they were. -/
theorem frame_reference : Cert.quiescent_OutReferenceIdeal := fun m ρ _ =>
  (θ_run Cert.OutReferenceIdeal.defs _ _).mono (fun r h => ⟨fun c => (h c).2.2.2, sem_eq_zero_of_no_sems (by decide) r.2⟩)
    (Cert.OutReferenceIdeal.Value.run (F := Ideal) m ρ)

/-- The cross_out call: kernel and reference, run over the extended reals from the same arguments, end with the same results. -/
theorem algebraic : Cert.algebraic_OutKernelIdeal_OutReferenceIdeal := by
  intro m g m' g' hpre hagree
  refine ⟨fun c => outX (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)),
    fun c => outH (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)),
    fun c => outQ (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)), ?_, ?_⟩
  · exact (θ_run Cert.OutKernelIdeal.defs _ _).mono (fun r h c => ⟨
        ((h c).2 Cert.OutKernelIdeal.main_v10 (Pipeline.mem_restRefs_of Cert.OutKernelIdeal.main_v10 (by decide) (by decide))).trans (Cert.OutKernelIdeal.Body.res10 m c),
        ((h c).2 Cert.OutKernelIdeal.main_v11 (Pipeline.mem_restRefs_of Cert.OutKernelIdeal.main_v11 (by decide) (by decide))).trans (Cert.OutKernelIdeal.Body.res11 m c),
        ((h c).2 Cert.OutKernelIdeal.main_v12 (Pipeline.mem_restRefs_of Cert.OutKernelIdeal.main_v12 (by decide) (by decide))).trans (Cert.OutKernelIdeal.Body.res12 m c),
        ((h c).2 Cert.OutKernelIdeal.main_arg0 (Pipeline.mem_restRefs_of Cert.OutKernelIdeal.main_arg0 (by decide) (by decide))).trans (Cert.OutKernelIdeal.Gen.W_main_arg0 m _ c),
        ((h c).2 Cert.OutKernelIdeal.main_arg1 (Pipeline.mem_restRefs_of Cert.OutKernelIdeal.main_arg1 (by decide) (by decide))).trans (Cert.OutKernelIdeal.Gen.W_main_arg1 m _ c),
        ((h c).2 Cert.OutKernelIdeal.main_arg2 (Pipeline.mem_restRefs_of Cert.OutKernelIdeal.main_arg2 (by decide) (by decide))).trans (Cert.OutKernelIdeal.Gen.W_main_arg2 m _ c),
        ((h c).2 Cert.OutKernelIdeal.main_arg3 (Pipeline.mem_restRefs_of Cert.OutKernelIdeal.main_arg3 (by decide) (by decide))).trans (Cert.OutKernelIdeal.Gen.W_main_arg3 m _ c),
        ((h c).2 Cert.OutKernelIdeal.main_arg4 (Pipeline.mem_restRefs_of Cert.OutKernelIdeal.main_arg4 (by decide) (by decide))).trans (Cert.OutKernelIdeal.Gen.W_main_arg4 m _ c)⟩)
      (Cert.OutKernelIdeal.Gen.run_main m g)
  · refine (θ_run Cert.OutReferenceIdeal.defs _ _).mono (fun r h c => ⟨(h c).1.trans ?_, (h c).2.1.trans ?_, (h c).2.2.1.trans ?_, (h c).2.2.2⟩) (Cert.OutReferenceIdeal.Value.run (F := Ideal) m' g')
    · obtain ⟨e0, e1, e2, e3, e4⟩ := hagree c
      refine (Cert.OutReferenceIdeal.Value.refX_eq (m' ((c.tc : Thread Cert.OutReferenceIdeal.nD Cert.OutReferenceIdeal.τ).loc Cert.OutReferenceIdeal.main_arg0)) (m' ((c.tc : Thread Cert.OutReferenceIdeal.nD Cert.OutReferenceIdeal.τ).loc Cert.OutReferenceIdeal.main_arg1)) (m' ((c.tc : Thread Cert.OutReferenceIdeal.nD Cert.OutReferenceIdeal.τ).loc Cert.OutReferenceIdeal.main_arg2))).trans ?_
      rw [e0, e1, e2]
    · obtain ⟨e0, e1, e2, e3, e4⟩ := hagree c
      refine (Cert.OutReferenceIdeal.Value.refH_eq (m' ((c.tc : Thread Cert.OutReferenceIdeal.nD Cert.OutReferenceIdeal.τ).loc Cert.OutReferenceIdeal.main_arg0)) (m' ((c.tc : Thread Cert.OutReferenceIdeal.nD Cert.OutReferenceIdeal.τ).loc Cert.OutReferenceIdeal.main_arg1)) (m' ((c.tc : Thread Cert.OutReferenceIdeal.nD Cert.OutReferenceIdeal.τ).loc Cert.OutReferenceIdeal.main_arg2)) (m' ((c.tc : Thread Cert.OutReferenceIdeal.nD Cert.OutReferenceIdeal.τ).loc Cert.OutReferenceIdeal.main_arg3))).trans ?_
      rw [e0, e1, e2, e3]
    · obtain ⟨e0, e1, e2, e3, e4⟩ := hagree c
      refine (Cert.OutReferenceIdeal.Value.refQ_eq (m' ((c.tc : Thread Cert.OutReferenceIdeal.nD Cert.OutReferenceIdeal.τ).loc Cert.OutReferenceIdeal.main_arg0)) (m' ((c.tc : Thread Cert.OutReferenceIdeal.nD Cert.OutReferenceIdeal.τ).loc Cert.OutReferenceIdeal.main_arg1)) (m' ((c.tc : Thread Cert.OutReferenceIdeal.nD Cert.OutReferenceIdeal.τ).loc Cert.OutReferenceIdeal.main_arg2)) (m' ((c.tc : Thread Cert.OutReferenceIdeal.nD Cert.OutReferenceIdeal.τ).loc Cert.OutReferenceIdeal.main_arg3)) (m' ((c.tc : Thread Cert.OutReferenceIdeal.nD Cert.OutReferenceIdeal.τ).loc Cert.OutReferenceIdeal.main_arg4))).trans ?_
      rw [e0, e1, e2, e3, e4]

end Cert.Out

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Forget
public import proofs.«01_k».proof.Proof.KI.Forget
public import proofs.«01_k».proof.Proof.KI.Final
public import proofs.«01_k».proof.Proof.KI.Operands
public import proofs.«01_k».proof.Proof.Value
public import proofs.«01_k».proof.Proof.Finite
public import proofs.«01_k».proof.Proof.Gen.MemKernel.Frame
public import proofs.«01_k».proof.Proof.Mem.Claims
public import proofs.«01_k».proof.Proof.In.Claims
public import proofs.«01_k».proof.Proof.Merge.Claims
public import proofs.«01_k».proof.Proof.Out.Claims

/-!
# The claims

The frames of the programs of the five calls, their named constants, and the equality of each kernel's results with its reference's: the prompt
attention here, the memory's keys and values in `Mem.Claims`, the input projection in `In.Claims`, the merge in `Merge.Claims`, the output of the
memory attention in `Out.Claims`.
-/

@[expose] public section

noncomputable section

namespace Cert.Proof

open Idealize.ShloMosaic Idealize.ShloMosaic.TcCoe Idealize.SL.Sem

/-- The reference, a host program, leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two constants the idealization names: the scale times the logarithm of e to base 2, and minus infinity. -/
theorem preserves : Cert.preserves_Kernel_KernelIdeal :=
  ⟨IdealRules.named_const.statement Cert.KernelIdeal.κ "scale_log2e" .f32 0x3E16C740#32 ((((Real.sqrt 96) * (Real.log 2))⁻¹ : ℝ) : EReal) rfl,
    IdealRules.named_const.statement Cert.KernelIdeal.κ "mask" .f32 0xF149F2CA#32 ⊥ rfl⟩

/-- Under the precondition, what the call leaves in its result is the reference of the arguments. -/
theorem outcome (m : (ℓ : Loc Cert.KernelIdeal.nD Cert.KernelIdeal.τ Cert.KernelIdeal.sig) → Buf (Elt Ideal) ℓ)
    (h : Cert.Pre_KernelIdeal_finite (hPre_finite := Cert.Finite.facts) m) (c : Dev Cert.KernelIdeal.nD) :
    (Cert.KernelIdeal.Body.datsE m 0 c).arrAt 4 (Cert.KernelIdeal.cfgs 0).N
      = Cert.ReferenceIdeal.Value.ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  obtain ⟨h0, h1, h2, h3, h4, h5, h6, h7, h8⟩ := Cert.Finite.args (hPre_finite := Cert.Finite.facts) m h c
  obtain ⟨i, j, k, l, hb⟩ := Cert.KernelIdeal.Body.V_bound m c
  obtain ⟨β, hβ⟩ := Cert.KernelIdeal.Body.boundG_real _ _ _ (Cert.KernelIdeal.Body.slotG_real i j _ _ h5 h6)
    (Cert.KernelIdeal.Body.slotG1_real k _ h7) (Cert.KernelIdeal.Body.slotG2_real l _ h8)
  refine (Cert.KernelIdeal.Body.finalE m c).trans ?_
  rw [hb, Cert.KernelIdeal.Body.V_q m c, Cert.KernelIdeal.Body.V_k m c, Cert.KernelIdeal.Body.V_v m c]
  exact Cert.KernelIdeal.Body.value_eq _ β hβ _ _ _ _ _ h0 h1 h2 h3 h4

/-- The kernel and the reference, run over the extended reals from the same finite arguments, end with the same result. -/
theorem algebraic : Cert.algebraic_KernelIdeal_ReferenceIdeal_pre_finite (hPre_finite := Cert.Finite.facts) := by
  intro m g m' g' hpre hagree
  refine ⟨fun c => Cert.ReferenceIdeal.Value.ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨((h.1 c).1 4).trans (outcome m hpre c),
        ((h.1 c).2 Cert.KernelIdeal.main_arg0 (Pipeline.mem_restRefs_of Cert.KernelIdeal.main_arg0 (by decide) (by decide))).trans (Cert.KernelIdeal.Gen.V_main_arg0 m c),
        ((h.1 c).2 Cert.KernelIdeal.main_arg1 (Pipeline.mem_restRefs_of Cert.KernelIdeal.main_arg1 (by decide) (by decide))).trans (Cert.KernelIdeal.Gen.V_main_arg1 m c),
        ((h.1 c).2 Cert.KernelIdeal.main_arg2 (Pipeline.mem_restRefs_of Cert.KernelIdeal.main_arg2 (by decide) (by decide))).trans (Cert.KernelIdeal.Gen.V_main_arg2 m c),
        ((h.1 c).2 Cert.KernelIdeal.main_arg3 (Pipeline.mem_restRefs_of Cert.KernelIdeal.main_arg3 (by decide) (by decide))).trans (Cert.KernelIdeal.Gen.V_main_arg3 m c),
        ((h.1 c).2 Cert.KernelIdeal.main_arg4 (Pipeline.mem_restRefs_of Cert.KernelIdeal.main_arg4 (by decide) (by decide))).trans (Cert.KernelIdeal.Gen.V_main_arg4 m c),
        ((h.1 c).2 Cert.KernelIdeal.main_arg5 (Pipeline.mem_restRefs_of Cert.KernelIdeal.main_arg5 (by decide) (by decide))).trans (Cert.KernelIdeal.Gen.V_main_arg5 m c),
        ((h.1 c).2 Cert.KernelIdeal.main_arg6 (Pipeline.mem_restRefs_of Cert.KernelIdeal.main_arg6 (by decide) (by decide))).trans (Cert.KernelIdeal.Gen.V_main_arg6 m c),
        ((h.1 c).2 Cert.KernelIdeal.main_arg7 (Pipeline.mem_restRefs_of Cert.KernelIdeal.main_arg7 (by decide) (by decide))).trans (Cert.KernelIdeal.Gen.V_main_arg7 m c),
        ((h.1 c).2 Cert.KernelIdeal.main_arg8 (Pipeline.mem_restRefs_of Cert.KernelIdeal.main_arg8 (by decide) (by decide))).trans (Cert.KernelIdeal.Gen.V_main_arg8 m c)⟩)
      (Cert.KernelIdeal.Body.runE m g)
  · refine (θ_run Cert.ReferenceIdeal.defs _ _).mono (fun r h c => ⟨(h c).1.trans ?_, (h c).2⟩) (Cert.ReferenceIdeal.Value.run (F := Ideal) m' g')
    obtain ⟨e0, e1, e2, e3, e4, -⟩ := hagree c
    rw [Cert.ReferenceIdeal.Value.res_ref, e0, e1, e2, e3, e4]

theorem claim : Cert.Claim :=
  ⟨Cert.Kernel.Gen.facts, Cert.KernelIdeal.Gen.facts, Cert.ReferenceIdeal.Gen.facts, Cert.MemKernel.Gen.facts, Cert.MemKernelIdeal.Gen.facts, Cert.MemReferenceIdeal.Gen.facts,
    Cert.InKernel.Gen.facts, Cert.InKernelIdeal.Gen.facts, Cert.InReferenceIdeal.Gen.facts,
    Cert.MergeKernel.Gen.facts, Cert.MergeKernelIdeal.Gen.facts, Cert.MergeReferenceIdeal.Gen.facts, Cert.OutKernel.Gen.facts, Cert.OutKernelIdeal.Gen.facts, Cert.OutReferenceIdeal.Gen.facts, Cert.Finite.facts,
    fun m g _ => Cert.Kernel.Body.frame_claim m g, fun m g _ => Cert.KernelIdeal.Body.frame_claim m g,
    fun m g _ => Cert.KernelIdeal.Body.frame_claim m g, frame_reference, fun m g _ => frame_reference m g trivial,
    fun m g _ => Cert.MemKernel.Gen.frame m g, fun m g _ => Cert.MemKernelIdeal.Gen.frame m g, Cert.Mem.frame_reference,
    fun m g _ => Cert.InKernel.Gen.frame m g, fun m g _ => Cert.InKernelIdeal.Gen.frame m g, Cert.In.frame_reference,
    fun m g _ => Cert.MergeKernel.Gen.frame m g, fun m g _ => Cert.MergeKernelIdeal.Gen.frame m g, Cert.Merge.frame_reference,
    fun m g _ => Cert.OutKernel.Gen.frame m g, fun m g _ => Cert.OutKernelIdeal.Gen.frame m g, Cert.Out.frame_reference,
    preserves, algebraic, trivial, Cert.Mem.algebraic, Cert.In.preserves, Cert.In.algebraic,
    trivial, Cert.Merge.algebraic, trivial, Cert.Out.algebraic⟩

end Cert.Proof

end
